-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_drawn [hPre_drawn : Cert.Pre_drawn.Facts] (m : (ℓ : Loc Cert.KernelIdeal.nD Cert.KernelIdeal.τ Cert.KernelIdeal.sig) → Buf (Elt Ideal) ℓ) : Prop :=
  ∀ c : Dev Cert.KernelIdeal.nD,
    (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_drawn [hPre_drawn : Cert.Pre_drawn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_drawn [hKernelIdeal : Cert.KernelIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_drawn m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_drawn [hReferenceIdeal : Cert.ReferenceIdeal.Facts] [hPre_drawn : Cert.Pre_drawn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_drawn m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_drawn [hKernelIdeal : Cert.KernelIdeal.Facts] [hReferenceIdeal : Cert.ReferenceIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_drawn m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v188) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_drawn : Cert.Pre_drawn.Facts),
    quiescent_Kernel (hKernel := hKernel)
    ∧ quiescent_KernelIdeal (hKernelIdeal := hKernelIdeal)
    ∧ quiescent_KernelIdeal_pre_drawn (hKernelIdeal := hKernelIdeal) (hPre_drawn := hPre_drawn)
    ∧ quiescent_ReferenceIdeal (hReferenceIdeal := hReferenceIdeal)
    ∧ quiescent_ReferenceIdeal_pre_drawn (hReferenceIdeal := hReferenceIdeal) (hPre_drawn := hPre_drawn)
    ∧ preserves_Kernel_KernelIdeal
    ∧ algebraic_KernelIdeal_ReferenceIdeal_pre_drawn (hKernelIdeal := hKernelIdeal) (hReferenceIdeal := hReferenceIdeal) (hPre_drawn := hPre_drawn)
-- ==== Pre_drawn.lean ====
abbrev S16x25000x81 : Shape := ⟨3, ![16, 25000, 81]⟩
abbrev S16x25000x4 : Shape := ⟨3, ![16, 25000, 4]⟩
abbrev S25000x4 : Shape := ⟨2, ![25000, 4]⟩
abbrev S16x32x4 : Shape := ⟨3, ![16, 32, 4]⟩
abbrev S16x32 : Shape := ⟨2, ![16, 32]⟩
abbrev S_ : Shape := ⟨0, ![]⟩

class Facts : Prop where
  bcast_S_S16x25000x81 : S_.BroadcastsInDim S16x25000x81 (![] : Fin 0 → Fin S16x25000x81.rank)
  reducesTo_S16x25000x81_S_d0_1_2 : S16x25000x81.ReducesTo [0, 1, 2] S_
  h_S_ : 0 < S_.numel
  bcast_S_S16x32 : S_.BroadcastsInDim S16x32 (![] : Fin 0 → Fin S16x32.rank)
  reducesTo_S16x32_S_d0_1 : S16x32.ReducesTo [0, 1] S_

variable [Facts]

def fn {F : FTy → Type} [FloatOps F] (main_arg0 : FVec F S16x25000x81 .f32) (main_arg1 : FVec F S16x25000x4 .f32) (main_arg2 : FVec F S25000x4 .f32) (main_arg3 : FVec F S16x32x4 .f32) (main_arg4 : IVec S16x32 32) : IVec S_ 1 :=
  let main_v0 : FVec F S16x25000x81 .f32 := Host.absf main_arg0
  let main_cst : FVec F S_ .f32 := constant S_ .f32 0x7F800000#32
  let main_v1 : FVec F S16x25000x81 .f32 := broadcastInDim S16x25000x81 ![] bcast_S_S16x25000x81 main_cst
  let main_v2 : IVec S16x25000x81 1 := cmpf .olt main_v0 main_v1
  let main_c : IVec S_ 1 := constantI S_ 1 1#1
  let main_v3 : IVec S_ 1 := (fun x v => Host.reduce IntOp.andi x v reducesTo_S16x25000x81_S_d0_1_2 h_S_) main_v2 main_c
  let main_c_0 : IVec S_ 32 := constantI S_ 32 1#32
  let main_v4 : IVec S16x32 32 := broadcastInDim S16x32 ![] bcast_S_S16x32 main_c_0
  let main_v5 : IVec S16x32 1 := cmpi .sge main_arg4 main_v4
  let main_c_1 : IVec S_ 32 := constantI S_ 32 81#32
  let main_v6 : IVec S16x32 32 := broadcastInDim S16x32 ![] bcast_S_S16x32 main_c_1
  let main_v7 : IVec S16x32 1 := cmpi .slt main_arg4 main_v6
  let main_v8 : IVec S16x32 1 := andi main_v5 main_v7
  let main_c_2 : IVec S_ 1 := constantI S_ 1 1#1
  let main_v9 : IVec S_ 1 := (fun x v => Host.reduce IntOp.andi x v reducesTo_S16x32_S_d0_1 h_S_) main_v8 main_c_2
  let main_v10 : IVec S_ 1 := andi main_v3 main_v9
  main_v10
-- ==== Kernel.lean ====
abbrev S16x25000x81 : Shape := ⟨3, ![16, 25000, 81]⟩
abbrev S16x25000x4 : Shape := ⟨3, ![16, 25000, 4]⟩
abbrev S25000x4 : Shape := ⟨2, ![25000, 4]⟩
abbrev S16x32x4 : Shape := ⟨3, ![16, 32, 4]⟩
abbrev S16x32 : Shape := ⟨2, ![16, 32]⟩
abbrev S1x4 : Shape := ⟨2, ![1, 4]⟩
abbrev S600x4 : Shape := ⟨2, ![600, 4]⟩
abbrev S25600x4 : Shape := ⟨2, ![25600, 4]⟩
abbrev S4x25600 : Shape := ⟨2, ![4, 25600]⟩
abbrev S4x200x128 : Shape := ⟨3, ![4, 200, 128]⟩
abbrev S_ : Shape := ⟨0, ![]⟩
abbrev S16x25600x4 : Shape := ⟨3, ![16, 25600, 4]⟩
abbrev S16x4x25600 : Shape := ⟨3, ![16, 4, 25600]⟩
abbrev S16x4x200x128 : Shape := ⟨4, ![16, 4, 200, 128]⟩
abbrev S16x1x32 : Shape := ⟨3, ![16, 1, 32]⟩
abbrev S16x200x128 : Shape := ⟨3, ![16, 200, 128]⟩
abbrev S16x1x128 : Shape := ⟨3, ![16, 1, 128]⟩
abbrev S16x5x1x5120 : Shape := ⟨4, ![16, 5, 1, 5120]⟩
abbrev S1x1 : Shape := ⟨2, ![1, 1]⟩
abbrev S1x4x200x128 : Shape := ⟨4, ![1, 4, 200, 128]⟩
abbrev S1x32x4 : Shape := ⟨3, ![1, 32, 4]⟩
abbrev S1x1x32 : Shape := ⟨3, ![1, 1, 32]⟩
abbrev S1x200x128 : Shape := ⟨3, ![1, 200, 128]⟩
abbrev S1x1x128 : Shape := ⟨3, ![1, 1, 128]⟩
abbrev S200x128 : Shape := ⟨2, ![200, 128]⟩
abbrev S1x1x1 : Shape := ⟨3, ![1, 1, 1]⟩
abbrev S1x1x200x128 : Shape := ⟨4, ![1, 1, 200, 128]⟩
abbrev S128 : Shape := ⟨1, ![128]⟩
abbrev S1x128 : Shape := ⟨2, ![1, 128]⟩
abbrev S1x5120x81 : Shape := ⟨3, ![1, 5120, 81]⟩
abbrev S1x1x1x5120 : Shape := ⟨4, ![1, 1, 1, 5120]⟩
abbrev S5120x1 : Shape := ⟨2, ![5120, 1]⟩
abbrev S5120x81 : Shape := ⟨2, ![5120, 81]⟩
abbrev S5120 : Shape := ⟨1, ![5120]⟩
abbrev S1x5120 : Shape := ⟨2, ![1, 5120]⟩
abbrev S1x5120x1 : Shape := ⟨3, ![1, 5120, 1]⟩
abbrev S1 : Shape := ⟨1, ![1]⟩

abbrev nBuf : Space → Nat
  | .hbm => 23
  | .vmem => 23
  | .smem => 4
  | _ => 0

abbrev bufTy : (tb : Table) → Fin (tcTables nBuf tb) → BufTy
  | .hbm, ⟨0, _⟩ => ⟨S16x25000x81, .f32⟩
  | .hbm, ⟨1, _⟩ => ⟨S16x25000x4, .f32⟩
  | .hbm, ⟨2, _⟩ => ⟨S25000x4, .f32⟩
  | .hbm, ⟨3, _⟩ => ⟨S16x32x4, .f32⟩
  | .hbm, ⟨4, _⟩ => ⟨S16x32, .i32⟩
  | .hbm, ⟨5, _⟩ => ⟨S1x4, .f32⟩
  | .hbm, ⟨6, _⟩ => ⟨S600x4, .f32⟩
  | .hbm, ⟨7, _⟩ => ⟨S25600x4, .f32⟩
  | .hbm, ⟨8, _⟩ => ⟨S4x25600, .f32⟩
  | .hbm, ⟨9, _⟩ => ⟨S4x200x128, .f32⟩
  | .hbm, ⟨10, _⟩ => ⟨S_, .i32⟩
  | .hbm, ⟨11, _⟩ => ⟨S_, .f32⟩
  | .hbm, ⟨12, _⟩ => ⟨S16x25600x4, .f32⟩
  | .hbm, ⟨13, _⟩ => ⟨S16x4x25600, .f32⟩
  | .hbm, ⟨14, _⟩ => ⟨S16x4x200x128, .f32⟩
  | .hbm, ⟨15, _⟩ => ⟨S16x1x32, .i32⟩
  | .hbm, ⟨16, _⟩ => ⟨S16x200x128, .i32⟩
  | .hbm, ⟨17, _⟩ => ⟨S16x1x128, .f32⟩
  | .hbm, ⟨18, _⟩ => ⟨S16x1x128, .f32⟩
  | .hbm, ⟨19, _⟩ => ⟨S16x1x128, .f32⟩
  | .hbm, ⟨20, _⟩ => ⟨S16x5x1x5120, .i32⟩
  | .hbm, ⟨21, _⟩ => ⟨S1x1, .f32⟩
  | .hbm, ⟨22, _⟩ => ⟨S_, .f32⟩
  | .local _ .vmem, ⟨0, _⟩ => ⟨S4x200x128, .f32⟩
  | .local _ .vmem, ⟨1, _⟩ => ⟨S1x4x200x128, .f32⟩
  | .local _ .vmem, ⟨2, _⟩ => ⟨S1x4x200x128, .f32⟩
  | .local _ .vmem, ⟨3, _⟩ => ⟨S1x200x128, .i32⟩
  | .local _ .vmem, ⟨4, _⟩ => ⟨S1x200x128, .i32⟩
  | .local _ .vmem, ⟨5, _⟩ => ⟨S1x1x128, .f32⟩
  | .local _ .vmem, ⟨6, _⟩ => ⟨S1x1x128, .f32⟩
  | .local _ .vmem, ⟨7, _⟩ => ⟨S1x1x128, .f32⟩
  | .local _ .vmem, ⟨8, _⟩ => ⟨S1x1x128, .f32⟩
  | .local _ .vmem, ⟨9, _⟩ => ⟨S1x1x128, .f32⟩
  | .local _ .vmem, ⟨10, _⟩ => ⟨S1x1x128, .f32⟩
  | .local _ .vmem, ⟨11, _⟩ => ⟨S1x5120x81, .f32⟩
  | .local _ .vmem, ⟨12, _⟩ => ⟨S1x5120x81, .f32⟩
  | .local _ .vmem, ⟨13, _⟩ => ⟨S1x1x1x5120, .i32⟩
  | .local _ .vmem, ⟨14, _⟩ => ⟨S1x1x1x5120, .i32⟩
  | .local _ .vmem, ⟨15, _⟩ => ⟨S1x1x128, .f32⟩
  | .local _ .vmem, ⟨16, _⟩ => ⟨S1x1x128, .f32⟩
  | .local _ .vmem, ⟨17, _⟩ => ⟨S1x1x128, .f32⟩
  | .local _ .vmem, ⟨18, _⟩ => ⟨S1x1x128, .f32⟩
  | .local _ .vmem, ⟨19, _⟩ => ⟨S1x1x128, .f32⟩
  | .local _ .vmem, ⟨20, _⟩ => ⟨S1x1x128, .f32⟩
  | .local _ .vmem, ⟨21, _⟩ => ⟨S1x1, .f32⟩
  | .local _ .vmem, ⟨22, _⟩ => ⟨S5120x1, .f32⟩
  | .local _ .smem, ⟨0, _⟩ => ⟨S1x32x4, .f32⟩
  | .local _ .smem, ⟨1, _⟩ => ⟨S1x32x4, .f32⟩
  | .local _ .smem, ⟨2, _⟩ => ⟨S1x1x32, .i32⟩
  | .local _ .smem, ⟨3, _⟩ => ⟨S1x1x32, .i32⟩
  | _, _ => ⟨S16x25000x81, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_cst : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_c : Ref sig .tc := ⟨.hbm, 10, rfl⟩
abbrev main_call0_call0_v0 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8_0 : Ref sig .tc := ⟨.hbm, 16, rfl⟩
abbrev main_call0_v8_1 : Ref sig .tc := ⟨.hbm, 17, rfl⟩
abbrev main_call0_v8_2 : Ref sig .tc := ⟨.hbm, 18, rfl⟩
abbrev main_call0_v8_3 : Ref sig .tc := ⟨.hbm, 19, rfl⟩
abbrev main_call0_v9 : Ref sig .tc := ⟨.hbm, 20, rfl⟩
abbrev main_call0_v10 : Ref sig .tc := ⟨.hbm, 21, rfl⟩
abbrev main_v0 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg4_0 : Ref sig .tc := ⟨.vmem, 3, rfl⟩
abbrev cc0_stg4_1 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg4_1 : Ref sig .tc := ⟨.vmem, 20, rfl⟩
abbrev cc1_stg5_0 : Ref sig .tc := ⟨.vmem, 21, rfl⟩
abbrev cc1_scratch0 : Ref sig .tc := ⟨.vmem, 22, rfl⟩
abbrev cc0_stg2_0 : Ref sig .tc := ⟨.smem, 0, rfl⟩
abbrev cc0_stg2_1 : Ref sig .tc := ⟨.smem, 1, rfl⟩
abbrev cc0_stg3_0 : Ref sig .tc := ⟨.smem, 2, rfl⟩
abbrev cc0_stg3_1 : Ref sig .tc := ⟨.smem, 3, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc1_sem0_0 : DmaSem sig := 15
abbrev cc1_sem0_1 : DmaSem sig := 16
abbrev cc1_sem1_0 : DmaSem sig := 17
abbrev cc1_sem1_1 : DmaSem sig := 18
abbrev cc1_sem2_0 : DmaSem sig := 19
abbrev cc1_sem2_1 : DmaSem sig := 20
abbrev cc1_sem3_0 : DmaSem sig := 21
abbrev cc1_sem3_1 : DmaSem sig := 22
abbrev cc1_sem4_0 : DmaSem sig := 23
abbrev cc1_sem4_1 : DmaSem sig := 24
abbrev cc1_sem5_0 : DmaSem sig := 25

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S4x200x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x4x200x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .smem S1x32x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .smem S1x1x32 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x200x128 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨2, ![16, 5], ![false, false]⟩

def k1_cond1 (i : grid1.Coords) : BitVec 1 :=
  let arg1 : BitVec 32 := BitVec.ofNat 32 (i 1).val
  let c4_i32 : BitVec 32 := 4#32
  let v31 : BitVec 1 := Scalar.cmpi .eq arg1 c4_i32
  let v32 : BitVec 32 := Scalar.extui v31
  let c0_i32_16 : BitVec 32 := 0#32
  let v33 : BitVec 1 := Scalar.cmpi .ne v32 c0_i32_16
  v33

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1x5120x81 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1x1x5120 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x1x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 1 → Memref sig .tc .vmem S1x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]
-- ==== ReferenceIdeal.lean ====
abbrev S16x25000x81 : Shape := ⟨3, ![16, 25000, 81]⟩
abbrev S16x25000x4 : Shape := ⟨3, ![16, 25000, 4]⟩
abbrev S25000x4 : Shape := ⟨2, ![25000, 4]⟩
abbrev S16x32x4 : Shape := ⟨3, ![16, 32, 4]⟩
abbrev S16x32 : Shape := ⟨2, ![16, 32]⟩
abbrev S25000x1 : Shape := ⟨2, ![25000, 1]⟩
abbrev S25000 : Shape := ⟨1, ![25000]⟩
abbrev S16x32x1 : Shape := ⟨3, ![16, 32, 1]⟩
abbrev S_ : Shape := ⟨0, ![]⟩
abbrev S1x25000x1 : Shape := ⟨3, ![1, 25000, 1]⟩
abbrev S16x1x32 : Shape := ⟨3, ![16, 1, 32]⟩
abbrev S16x25000x32 : Shape := ⟨3, ![16, 25000, 32]⟩
abbrev S16x25000 : Shape := ⟨2, ![16, 25000]⟩
abbrev S16x25000x1 : Shape := ⟨3, ![16, 25000, 1]⟩
abbrev S1 : Shape := ⟨1, ![1]⟩
abbrev S1x1x1 : Shape := ⟨3, ![1, 1, 1]⟩
abbrev S1x25000 : Shape := ⟨2, ![1, 25000]⟩
abbrev S16x25000x1x1 : Shape := ⟨4, ![16, 25000, 1, 1]⟩
abbrev S1x1x1x1 : Shape := ⟨4, ![1, 1, 1, 1]⟩
abbrev S16 : Shape := ⟨1, ![16]⟩

abbrev nBuf : Space → Nat
  | .hbm => 392
  | .vmem => 0
  | .smem => 0
  | _ => 0

abbrev hbmTy0_0 (i : Nat) : BufTy := match i % 128 with
  | 0 => ⟨S16x25000x81, .f32⟩
  | 1 => ⟨S16x25000x4, .f32⟩
  | 2 => ⟨S25000x4, .f32⟩
  | 3 => ⟨S16x32x4, .f32⟩
  | 4 => ⟨S16x32, .i32⟩
  | 5 => ⟨S25000x1, .f32⟩
  | 6 => ⟨S25000, .f32⟩
  | 7 => ⟨S25000x1, .f32⟩
  | 8 => ⟨S25000, .f32⟩
  | 9 => ⟨S25000x1, .f32⟩
  | 10 => ⟨S25000, .f32⟩
  | 11 => ⟨S25000x1, .f32⟩
  | 12 => ⟨S25000, .f32⟩
  | 13 => ⟨S16x32x1, .f32⟩
  | 14 => ⟨S16x32, .f32⟩
  | 15 => ⟨S16x32x1, .f32⟩
  | 16 => ⟨S16x32, .f32⟩
  | 17 => ⟨S16x32x1, .f32⟩
  | 18 => ⟨S16x32, .f32⟩
  | 19 => ⟨S16x32x1, .f32⟩
  | 20 => ⟨S16x32, .f32⟩
  | 21 => ⟨S_, .f32⟩
  | 22 => ⟨S25000, .f32⟩
  | 23 => ⟨S25000, .f32⟩
  | 24 => ⟨S25000, .f32⟩
  | 25 => ⟨S_, .f32⟩
  | 26 => ⟨S25000, .f32⟩
  | 27 => ⟨S25000, .f32⟩
  | 28 => ⟨S25000, .f32⟩
  | 29 => ⟨S_, .f32⟩
  | 30 => ⟨S25000, .f32⟩
  | 31 => ⟨S25000, .f32⟩
  | 32 => ⟨S25000, .f32⟩
  | 33 => ⟨S_, .f32⟩
  | 34 => ⟨S25000, .f32⟩
  | 35 => ⟨S25000, .f32⟩
  | 36 => ⟨S25000, .f32⟩
  | 37 => ⟨S1x25000x1, .f32⟩
  | 38 => ⟨S1x25000x1, .f32⟩
  | 39 => ⟨S1x25000x1, .f32⟩
  | 40 => ⟨S1x25000x1, .f32⟩
  | 41 => ⟨S16x1x32, .f32⟩
  | 42 => ⟨S16x1x32, .f32⟩
  | 43 => ⟨S16x1x32, .f32⟩
  | 44 => ⟨S16x1x32, .f32⟩
  | 45 => ⟨S16x25000x32, .f32⟩
  | 46 => ⟨S16x25000x32, .f32⟩
  | 47 => ⟨S16x25000x32, .f32⟩
  | 48 => ⟨S16x25000x32, .f32⟩
  | 49 => ⟨S16x25000x32, .f32⟩
  | 50 => ⟨S16x25000x32, .f32⟩
  | 51 => ⟨S16x25000x32, .f32⟩
  | 52 => ⟨S_, .f32⟩
  | 53 => ⟨S16x25000x32, .f32⟩
  | 54 => ⟨S16x25000x32, .f32⟩
  | 55 => ⟨S16x25000x32, .f32⟩
  | 56 => ⟨S16x25000x32, .f32⟩
  | 57 => ⟨S16x25000x32, .f32⟩
  | 58 => ⟨S16x25000x32, .f32⟩
  | 59 => ⟨S16x25000x32, .f32⟩
  | 60 => ⟨S16x25000x32, .f32⟩
  | 61 => ⟨S16x25000x32, .f32⟩
  | 62 => ⟨S_, .f32⟩
  | 63 => ⟨S16x25000x32, .f32⟩
  | 64 => ⟨S16x25000x32, .f32⟩
  | 65 => ⟨S16x25000x32, .f32⟩
  | 66 => ⟨S1x25000x1, .f32⟩
  | 67 => ⟨S_, .f32⟩
  | 68 => ⟨S1x25000x1, .f32⟩
  | 69 => ⟨S1x25000x1, .f32⟩
  | 70 => ⟨S1x25000x1, .f32⟩
  | 71 => ⟨S_, .f32⟩
  | 72 => ⟨S1x25000x1, .f32⟩
  | 73 => ⟨S1x25000x1, .f32⟩
  | 74 => ⟨S1x25000x1, .f32⟩
  | 75 => ⟨S16x1x32, .f32⟩
  | 76 => ⟨S_, .f32⟩
  | 77 => ⟨S16x1x32, .f32⟩
  | 78 => ⟨S16x1x32, .f32⟩
  | 79 => ⟨S16x1x32, .f32⟩
  | 80 => ⟨S_, .f32⟩
  | 81 => ⟨S16x1x32, .f32⟩
  | 82 => ⟨S16x1x32, .f32⟩
  | 83 => ⟨S16x1x32, .f32⟩
  | 84 => ⟨S16x25000x32, .f32⟩
  | 85 => ⟨S16x25000x32, .f32⟩
  | 86 => ⟨S16x25000x32, .f32⟩
  | 87 => ⟨S16x25000x32, .f32⟩
  | 88 => ⟨S_, .f32⟩
  | 89 => ⟨S16x25000x32, .f32⟩
  | 90 => ⟨S16x25000x32, .f32⟩
  | 91 => ⟨S16x25000x32, .f32⟩
  | 92 => ⟨S_, .f32⟩
  | 93 => ⟨S16x25000, .f32⟩
  | 94 => ⟨S16x25000x32, .i32⟩
  | 95 => ⟨S_, .f32⟩
  | 96 => ⟨S_, .i32⟩
  | 97 => ⟨S16x25000, .f32⟩
  | 98 => ⟨S16x25000, .i32⟩
  | 99 => ⟨S_, .f32⟩
  | 100 => ⟨S16x25000, .f32⟩
  | 101 => ⟨S16x25000, .i1⟩
  | 102 => ⟨S_, .f32⟩
  | 103 => ⟨S16x25000, .f32⟩
  | 104 => ⟨S16x25000, .i1⟩
  | 105 => ⟨S16x25000, .i1⟩
  | 106 => ⟨S16x25000, .i1⟩
  | 107 => ⟨S_, .i32⟩
  | 108 => ⟨S16x25000, .i32⟩
  | 109 => ⟨S16x25000, .i1⟩
  | 110 => ⟨S_, .i32⟩
  | 111 => ⟨S16x25000, .i32⟩
  | 112 => ⟨S16x25000, .i32⟩
  | 113 => ⟨S16x25000, .i32⟩
  | 114 => ⟨S16x25000x1, .i32⟩
  | 115 => ⟨S1, .i32⟩
  | 116 => ⟨S_, .i32⟩
  | 117 => ⟨S16x25000x1, .i32⟩
  | 118 => ⟨S16x25000x1, .i1⟩
  | 119 => ⟨S1x1x1, .i32⟩
  | 120 => ⟨S16x25000x1, .i32⟩
  | 121 => ⟨S16x25000x1, .i1⟩
  | 122 => ⟨S16x25000x1, .i1⟩
  | 123 => ⟨S_, .i1⟩
  | 124 => ⟨S16x25000, .i1⟩
  | 125 => ⟨S16x25000, .f32⟩
  | 126 => ⟨S_, .f32⟩
  | 127 => ⟨S16x25000, .f32⟩
  | _ => ⟨S16x25000x81, .f32⟩

abbrev hbmTy0_1 (i : Nat) : BufTy := match i % 128 with
  | 0 => ⟨S16x25000, .f32⟩
  | 1 => ⟨S_, .i32⟩
  | 2 => ⟨S16x25000, .i32⟩
  | 3 => ⟨S16x25000, .i1⟩
  | 4 => ⟨S_, .i32⟩
  | 5 => ⟨S16x25000, .i32⟩
  | 6 => ⟨S16x25000, .i32⟩
  | 7 => ⟨S16x25000, .i32⟩
  | 8 => ⟨S16x25000x1, .i32⟩
  | 9 => ⟨S1, .i32⟩
  | 10 => ⟨S_, .i32⟩
  | 11 => ⟨S16x25000x1, .i32⟩
  | 12 => ⟨S16x25000x1, .i1⟩
  | 13 => ⟨S1x1x1, .i32⟩
  | 14 => ⟨S16x25000x1, .i32⟩
  | 15 => ⟨S16x25000x1, .i1⟩
  | 16 => ⟨S16x25000x1, .i1⟩
  | 17 => ⟨S_, .i1⟩
  | 18 => ⟨S16x25000, .i1⟩
  | 19 => ⟨S16x25000, .f32⟩
  | 20 => ⟨S_, .f32⟩
  | 21 => ⟨S16x25000, .f32⟩
  | 22 => ⟨S16x25000, .f32⟩
  | 23 => ⟨S_, .i32⟩
  | 24 => ⟨S16x25000, .i32⟩
  | 25 => ⟨S16x25000, .i1⟩
  | 26 => ⟨S_, .i32⟩
  | 27 => ⟨S16x25000, .i32⟩
  | 28 => ⟨S16x25000, .i32⟩
  | 29 => ⟨S16x25000, .i32⟩
  | 30 => ⟨S16x25000x1, .i32⟩
  | 31 => ⟨S1, .i32⟩
  | 32 => ⟨S_, .i32⟩
  | 33 => ⟨S16x25000x1, .i32⟩
  | 34 => ⟨S16x25000x1, .i1⟩
  | 35 => ⟨S1x1x1, .i32⟩
  | 36 => ⟨S16x25000x1, .i32⟩
  | 37 => ⟨S16x25000x1, .i1⟩
  | 38 => ⟨S16x25000x1, .i1⟩
  | 39 => ⟨S_, .i1⟩
  | 40 => ⟨S16x25000, .i1⟩
  | 41 => ⟨S16x25000, .f32⟩
  | 42 => ⟨S_, .f32⟩
  | 43 => ⟨S16x25000, .f32⟩
  | 44 => ⟨S16x25000, .f32⟩
  | 45 => ⟨S_, .i32⟩
  | 46 => ⟨S16x25000, .i32⟩
  | 47 => ⟨S16x25000, .i1⟩
  | 48 => ⟨S_, .i32⟩
  | 49 => ⟨S16x25000, .i32⟩
  | 50 => ⟨S16x25000, .i32⟩
  | 51 => ⟨S16x25000, .i32⟩
  | 52 => ⟨S16x25000x1, .i32⟩
  | 53 => ⟨S1, .i32⟩
  | 54 => ⟨S_, .i32⟩
  | 55 => ⟨S16x25000x1, .i32⟩
  | 56 => ⟨S16x25000x1, .i1⟩
  | 57 => ⟨S1x1x1, .i32⟩
  | 58 => ⟨S16x25000x1, .i32⟩
  | 59 => ⟨S16x25000x1, .i1⟩
  | 60 => ⟨S16x25000x1, .i1⟩
  | 61 => ⟨S_, .i1⟩
  | 62 => ⟨S16x25000, .i1⟩
  | 63 => ⟨S16x25000, .f32⟩
  | 64 => ⟨S_, .f32⟩
  | 65 => ⟨S16x25000, .f32⟩
  | 66 => ⟨S16x25000, .f32⟩
  | 67 => ⟨S_, .i32⟩
  | 68 => ⟨S16x25000, .i32⟩
  | 69 => ⟨S16x25000, .i1⟩
  | 70 => ⟨S_, .i32⟩
  | 71 => ⟨S16x25000, .i32⟩
  | 72 => ⟨S16x25000, .i32⟩
  | 73 => ⟨S16x25000, .i32⟩
  | 74 => ⟨S16x25000x1, .i32⟩
  | 75 => ⟨S1, .i32⟩
  | 76 => ⟨S_, .i32⟩
  | 77 => ⟨S16x25000x1, .i32⟩
  | 78 => ⟨S16x25000x1, .i1⟩
  | 79 => ⟨S1x1x1, .i32⟩
  | 80 => ⟨S16x25000x1, .i32⟩
  | 81 => ⟨S16x25000x1, .i1⟩
  | 82 => ⟨S16x25000x1, .i1⟩
  | 83 => ⟨S_, .i1⟩
  | 84 => ⟨S16x25000, .i1⟩
  | 85 => ⟨S16x25000, .i32⟩
  | 86 => ⟨S_, .i32⟩
  | 87 => ⟨S16x25000, .i32⟩
  | 88 => ⟨S16x25000, .i32⟩
  | 89 => ⟨S16x25000, .f32⟩
  | 90 => ⟨S_, .f32⟩
  | 91 => ⟨S16x25000, .f32⟩
  | 92 => ⟨S16x25000, .f32⟩
  | 93 => ⟨S16x25000, .f32⟩
  | 94 => ⟨S_, .f32⟩
  | 95 => ⟨S16x25000, .f32⟩
  | 96 => ⟨S16x25000, .f32⟩
  | 97 => ⟨S16x25000, .f32⟩
  | 98 => ⟨S_, .f32⟩
  | 99 => ⟨S16x25000, .f32⟩
  | 100 => ⟨S16x25000, .f32⟩
  | 101 => ⟨S16x25000, .f32⟩
  | 102 => ⟨S_, .f32⟩
  | 103 => ⟨S16x25000, .f32⟩
  | 104 => ⟨S16x25000, .f32⟩
  | 105 => ⟨S1x25000, .f32⟩
  | 106 => ⟨S16x25000, .f32⟩
  | 107 => ⟨S16x25000, .f32⟩
  | 108 => ⟨S_, .f32⟩
  | 109 => ⟨S25000, .f32⟩
  | 110 => ⟨S25000, .f32⟩
  | 111 => ⟨S1x25000, .f32⟩
  | 112 => ⟨S16x25000, .f32⟩
  | 113 => ⟨S16x25000, .f32⟩
  | 114 => ⟨S1x25000, .f32⟩
  | 115 => ⟨S16x25000, .f32⟩
  | 116 => ⟨S16x25000, .f32⟩
  | 117 => ⟨S_, .f32⟩
  | 118 => ⟨S25000, .f32⟩
  | 119 => ⟨S25000, .f32⟩
  | 120 => ⟨S1x25000, .f32⟩
  | 121 => ⟨S16x25000, .f32⟩
  | 122 => ⟨S16x25000, .f32⟩
  | 123 => ⟨S1x25000, .f32⟩
  | 124 => ⟨S16x25000, .f32⟩
  | 125 => ⟨S16x25000, .f32⟩
  | 126 => ⟨S16x25000, .f32⟩
  | 127 => ⟨S_, .f32⟩
  | _ => ⟨S16x25000x81, .f32⟩

abbrev hbmTy0_2 (i : Nat) : BufTy := match i % 128 with
  | 0 => ⟨S16x25000, .f32⟩
  | 1 => ⟨S16x25000, .f32⟩
  | 2 => ⟨S1x25000, .f32⟩
  | 3 => ⟨S16x25000, .f32⟩
  | 4 => ⟨S16x25000, .f32⟩
  | 5 => ⟨S16x25000, .f32⟩
  | 6 => ⟨S_, .f32⟩
  | 7 => ⟨S16x25000, .f32⟩
  | 8 => ⟨S16x25000, .f32⟩
  | 9 => ⟨S16x25000x1, .f32⟩
  | 10 => ⟨S16x25000x1, .f32⟩
  | 11 => ⟨S16x25000x1, .f32⟩
  | 12 => ⟨S16x25000x1, .f32⟩
  | 13 => ⟨S16x25000x4, .f32⟩
  | 14 => ⟨S_, .i32⟩
  | 15 => ⟨S_, .i32⟩
  | 16 => ⟨S16x25000, .i32⟩
  | 17 => ⟨S16x25000, .i32⟩
  | 18 => ⟨S16x25000, .i32⟩
  | 19 => ⟨S16x25000, .i32⟩
  | 20 => ⟨S16x25000, .i32⟩
  | 21 => ⟨S16x25000x1, .i1⟩
  | 22 => ⟨S_, .f32⟩
  | 23 => ⟨S_, .f32⟩
  | 24 => ⟨S16x25000x4, .i1⟩
  | 25 => ⟨S16x25000x4, .f32⟩
  | 26 => ⟨S16x25000x4, .f32⟩
  | 27 => ⟨S_, .i32⟩
  | 28 => ⟨S16x25000, .i32⟩
  | 29 => ⟨S16x25000, .i1⟩
  | 30 => ⟨S_, .f32⟩
  | 31 => ⟨S16x25000, .f32⟩
  | 32 => ⟨S_, .f32⟩
  | 33 => ⟨S16x25000, .f32⟩
  | 34 => ⟨S16x25000, .f32⟩
  | 35 => ⟨S16x25000x1, .f32⟩
  | 36 => ⟨S16x25000x81, .f32⟩
  | 37 => ⟨S16x25000x81, .f32⟩
  | 38 => ⟨S16x25000x81, .f32⟩
  | 39 => ⟨S_, .f32⟩
  | 40 => ⟨S16x25000, .f32⟩
  | 41 => ⟨S16x25000x1, .f32⟩
  | 42 => ⟨S16x25000x1, .f32⟩
  | 43 => ⟨S16x25000x81, .f32⟩
  | 44 => ⟨S16x25000x81, .f32⟩
  | 45 => ⟨S_, .i32⟩
  | 46 => ⟨S16x25000, .i32⟩
  | 47 => ⟨S16x25000, .i32⟩
  | 48 => ⟨S16x25000x1, .i32⟩
  | 49 => ⟨S_, .i32⟩
  | 50 => ⟨S16x25000x1, .i32⟩
  | 51 => ⟨S16x25000x1, .i1⟩
  | 52 => ⟨S_, .i32⟩
  | 53 => ⟨S16x25000x1, .i32⟩
  | 54 => ⟨S16x25000x1, .i32⟩
  | 55 => ⟨S16x25000x1, .i32⟩
  | 56 => ⟨S16x25000x1x1, .i32⟩
  | 57 => ⟨S1, .i32⟩
  | 58 => ⟨S_, .i32⟩
  | 59 => ⟨S16x25000x1x1, .i32⟩
  | 60 => ⟨S16x25000x1x1, .i1⟩
  | 61 => ⟨S1x1x1x1, .i32⟩
  | 62 => ⟨S16x25000x1x1, .i32⟩
  | 63 => ⟨S16x25000x1x1, .i1⟩
  | 64 => ⟨S16x25000x1x1, .i1⟩
  | 65 => ⟨S_, .i1⟩
  | 66 => ⟨S16x25000x1, .i1⟩
  | 67 => ⟨S16x25000x1, .f32⟩
  | 68 => ⟨S_, .f32⟩
  | 69 => ⟨S16x25000x1, .f32⟩
  | 70 => ⟨S16x25000x1, .f32⟩
  | 71 => ⟨S16x25000, .f32⟩
  | 72 => ⟨S16x25000, .f32⟩
  | 73 => ⟨S16x25000, .i32⟩
  | 74 => ⟨S_, .i32⟩
  | 75 => ⟨S16, .i32⟩
  | 76 => ⟨S16, .f32⟩
  | 77 => ⟨S_, .f32⟩
  | 78 => ⟨S16, .f32⟩
  | 79 => ⟨S16, .i1⟩
  | 80 => ⟨S16x25000, .f32⟩
  | 81 => ⟨S16x25000, .f32⟩
  | 82 => ⟨S_, .f32⟩
  | 83 => ⟨S16, .f32⟩
  | 84 => ⟨S_, .f32⟩
  | 85 => ⟨S16, .f32⟩
  | 86 => ⟨S16, .f32⟩
  | 87 => ⟨S16, .f32⟩
  | 88 => ⟨S_, .f32⟩
  | 89 => ⟨S_, .f32⟩
  | 90 => ⟨S16, .f32⟩
  | 91 => ⟨S16, .f32⟩
  | 92 => ⟨S16x25000x4, .f32⟩
  | 93 => ⟨S16x25000x4, .f32⟩
  | 94 => ⟨S_, .f32⟩
  | 95 => ⟨S16x25000x4, .f32⟩
  | 96 => ⟨S16x25000x4, .i1⟩
  | 97 => ⟨S_, .f32⟩
  | 98 => ⟨S16x25000x4, .f32⟩
  | 99 => ⟨S16x25000x4, .f32⟩
  | 100 => ⟨S16x25000x4, .f32⟩
  | 101 => ⟨S_, .f32⟩
  | 102 => ⟨S16x25000x4, .f32⟩
  | 103 => ⟨S16x25000x4, .f32⟩
  | 104 => ⟨S16x25000x4, .f32⟩
  | 105 => ⟨S16x25000x1, .i1⟩
  | 106 => ⟨S16x25000x1, .f32⟩
  | 107 => ⟨S16x25000x4, .f32⟩
  | 108 => ⟨S16x25000x4, .f32⟩
  | 109 => ⟨S16x25000, .i32⟩
  | 110 => ⟨S_, .i32⟩
  | 111 => ⟨S16, .i32⟩
  | 112 => ⟨S16, .f32⟩
  | 113 => ⟨S_, .f32⟩
  | 114 => ⟨S16, .f32⟩
  | 115 => ⟨S16, .i1⟩
  | 116 => ⟨S_, .f32⟩
  | 117 => ⟨S16, .f32⟩
  | 118 => ⟨S_, .f32⟩
  | 119 => ⟨S16, .f32⟩
  | 120 => ⟨S16, .f32⟩
  | 121 => ⟨S_, .f32⟩
  | 122 => ⟨S16, .f32⟩
  | 123 => ⟨S16, .f32⟩
  | 124 => ⟨S16, .f32⟩
  | 125 => ⟨S_, .f32⟩
  | 126 => ⟨S_, .f32⟩
  | 127 => ⟨S16, .f32⟩
  | _ => ⟨S16x25000x81, .f32⟩

abbrev hbmTy0_3 (i : Nat) : BufTy := match i % 128 with
  | 0 => ⟨S16, .f32⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | _ => ⟨S16x25000x81, .f32⟩

abbrev hbmTy (i : Nat) : BufTy := match i / 128 with
  | 0 => hbmTy0_0 i
  | 1 => hbmTy0_1 i
  | 2 => hbmTy0_2 i
  | 3 => hbmTy0_3 i
  | _ => ⟨S16x25000x81, .f32⟩

abbrev bufTy : (tb : Table) → Fin (tcTables nBuf tb) → BufTy
  | .hbm, ⟨i, _⟩ => hbmTy i
  | _, _ => ⟨S16x25000x81, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_0 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_1 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_2 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_cst_3 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_cst_4 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_cst_5 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_cst_6 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_cst_7 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_cst_8 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_cst_9 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_cst_10 : Ref sig .tc := ⟨.hbm, 92, rfl⟩
abbrev main_v76 : Ref sig .tc := ⟨.hbm, 93, rfl⟩
abbrev main_call0_v0 : Ref sig .tc := ⟨.hbm, 94, rfl⟩
abbrev main_call0_cst : Ref sig .tc := ⟨.hbm, 95, rfl⟩
abbrev main_call0_c : Ref sig .tc := ⟨.hbm, 96, rfl⟩
abbrev main_call0_v1_0 : Ref sig .tc := ⟨.hbm, 97, rfl⟩
abbrev main_v77 : Ref sig .tc := ⟨.hbm, 98, rfl⟩
abbrev main_cst_11 : Ref sig .tc := ⟨.hbm, 99, rfl⟩
abbrev main_v78 : Ref sig .tc := ⟨.hbm, 100, rfl⟩
abbrev main_v79 : Ref sig .tc := ⟨.hbm, 101, rfl⟩
abbrev main_cst_12 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_call1_c : Ref sig .tc := ⟨.hbm, 107, rfl⟩
abbrev main_call1_v0 : Ref sig .tc := ⟨.hbm, 108, rfl⟩
abbrev main_call1_v1 : Ref sig .tc := ⟨.hbm, 109, rfl⟩
abbrev main_call1_c_0 : Ref sig .tc := ⟨.hbm, 110, rfl⟩
abbrev main_call1_v2 : Ref sig .tc := ⟨.hbm, 111, rfl⟩
abbrev main_call1_v3 : Ref sig .tc := ⟨.hbm, 112, rfl⟩
abbrev main_call1_v4 : Ref sig .tc := ⟨.hbm, 113, rfl⟩
abbrev main_call1_v5 : Ref sig .tc := ⟨.hbm, 114, rfl⟩
abbrev main_call1_c_1 : Ref sig .tc := ⟨.hbm, 115, rfl⟩
abbrev main_call1_c_2 : Ref sig .tc := ⟨.hbm, 116, rfl⟩
abbrev main_call1_v6 : Ref sig .tc := ⟨.hbm, 117, rfl⟩
abbrev main_call1_v7 : Ref sig .tc := ⟨.hbm, 118, rfl⟩
abbrev main_call1_v8 : Ref sig .tc := ⟨.hbm, 119, rfl⟩
abbrev main_call1_v9 : Ref sig .tc := ⟨.hbm, 120, rfl⟩
abbrev main_call1_v10 : Ref sig .tc := ⟨.hbm, 121, rfl⟩
abbrev main_call1_v11 : Ref sig .tc := ⟨.hbm, 122, rfl⟩
abbrev main_call1_c_3 : Ref sig .tc := ⟨.hbm, 123, rfl⟩
abbrev main_call1_v12 : Ref sig .tc := ⟨.hbm, 124, rfl⟩
abbrev main_call1_v13 : Ref sig .tc := ⟨.hbm, 125, rfl⟩
abbrev main_call1_cst : Ref sig .tc := ⟨.hbm, 126, rfl⟩
abbrev main_call1_v14 : Ref sig .tc := ⟨.hbm, 127, rfl⟩
abbrev main_v84 : Ref sig .tc := ⟨.hbm, 128, rfl⟩
abbrev main_call2_c : Ref sig .tc := ⟨.hbm, 129, rfl⟩
abbrev main_call2_v0 : Ref sig .tc := ⟨.hbm, 130, rfl⟩
abbrev main_call2_v1 : Ref sig .tc := ⟨.hbm, 131, rfl⟩
abbrev main_call2_c_0 : Ref sig .tc := ⟨.hbm, 132, rfl⟩
abbrev main_call2_v2 : Ref sig .tc := ⟨.hbm, 133, rfl⟩
abbrev main_call2_v3 : Ref sig .tc := ⟨.hbm, 134, rfl⟩
abbrev main_call2_v4 : Ref sig .tc := ⟨.hbm, 135, rfl⟩
abbrev main_call2_v5 : Ref sig .tc := ⟨.hbm, 136, rfl⟩
abbrev main_call2_c_1 : Ref sig .tc := ⟨.hbm, 137, rfl⟩
abbrev main_call2_c_2 : Ref sig .tc := ⟨.hbm, 138, rfl⟩
abbrev main_call2_v6 : Ref sig .tc := ⟨.hbm, 139, rfl⟩
abbrev main_call2_v7 : Ref sig .tc := ⟨.hbm, 140, rfl⟩
abbrev main_call2_v8 : Ref sig .tc := ⟨.hbm, 141, rfl⟩
abbrev main_call2_v9 : Ref sig .tc := ⟨.hbm, 142, rfl⟩
abbrev main_call2_v10 : Ref sig .tc := ⟨.hbm, 143, rfl⟩
abbrev main_call2_v11 : Ref sig .tc := ⟨.hbm, 144, rfl⟩
abbrev main_call2_c_3 : Ref sig .tc := ⟨.hbm, 145, rfl⟩
abbrev main_call2_v12 : Ref sig .tc := ⟨.hbm, 146, rfl⟩
abbrev main_call2_v13 : Ref sig .tc := ⟨.hbm, 147, rfl⟩
abbrev main_call2_cst : Ref sig .tc := ⟨.hbm, 148, rfl⟩
abbrev main_call2_v14 : Ref sig .tc := ⟨.hbm, 149, rfl⟩
abbrev main_v85 : Ref sig .tc := ⟨.hbm, 150, rfl⟩
abbrev main_call3_c : Ref sig .tc := ⟨.hbm, 151, rfl⟩
abbrev main_call3_v0 : Ref sig .tc := ⟨.hbm, 152, rfl⟩
abbrev main_call3_v1 : Ref sig .tc := ⟨.hbm, 153, rfl⟩
abbrev main_call3_c_0 : Ref sig .tc := ⟨.hbm, 154, rfl⟩
abbrev main_call3_v2 : Ref sig .tc := ⟨.hbm, 155, rfl⟩
abbrev main_call3_v3 : Ref sig .tc := ⟨.hbm, 156, rfl⟩
abbrev main_call3_v4 : Ref sig .tc := ⟨.hbm, 157, rfl⟩
abbrev main_call3_v5 : Ref sig .tc := ⟨.hbm, 158, rfl⟩
abbrev main_call3_c_1 : Ref sig .tc := ⟨.hbm, 159, rfl⟩
abbrev main_call3_c_2 : Ref sig .tc := ⟨.hbm, 160, rfl⟩
abbrev main_call3_v6 : Ref sig .tc := ⟨.hbm, 161, rfl⟩
abbrev main_call3_v7 : Ref sig .tc := ⟨.hbm, 162, rfl⟩
abbrev main_call3_v8 : Ref sig .tc := ⟨.hbm, 163, rfl⟩
abbrev main_call3_v9 : Ref sig .tc := ⟨.hbm, 164, rfl⟩
abbrev main_call3_v10 : Ref sig .tc := ⟨.hbm, 165, rfl⟩
abbrev main_call3_v11 : Ref sig .tc := ⟨.hbm, 166, rfl⟩
abbrev main_call3_c_3 : Ref sig .tc := ⟨.hbm, 167, rfl⟩
abbrev main_call3_v12 : Ref sig .tc := ⟨.hbm, 168, rfl⟩
abbrev main_call3_v13 : Ref sig .tc := ⟨.hbm, 169, rfl⟩
abbrev main_call3_cst : Ref sig .tc := ⟨.hbm, 170, rfl⟩
abbrev main_call3_v14 : Ref sig .tc := ⟨.hbm, 171, rfl⟩
abbrev main_v86 : Ref sig .tc := ⟨.hbm, 172, rfl⟩
abbrev main_call4_c : Ref sig .tc := ⟨.hbm, 173, rfl⟩
abbrev main_call4_v0 : Ref sig .tc := ⟨.hbm, 174, rfl⟩
abbrev main_call4_v1 : Ref sig .tc := ⟨.hbm, 175, rfl⟩
abbrev main_call4_c_0 : Ref sig .tc := ⟨.hbm, 176, rfl⟩
abbrev main_call4_v2 : Ref sig .tc := ⟨.hbm, 177, rfl⟩
abbrev main_call4_v3 : Ref sig .tc := ⟨.hbm, 178, rfl⟩
abbrev main_call4_v4 : Ref sig .tc := ⟨.hbm, 179, rfl⟩
abbrev main_call4_v5 : Ref sig .tc := ⟨.hbm, 180, rfl⟩
abbrev main_call4_c_1 : Ref sig .tc := ⟨.hbm, 181, rfl⟩
abbrev main_call4_c_2 : Ref sig .tc := ⟨.hbm, 182, rfl⟩
abbrev main_call4_v6 : Ref sig .tc := ⟨.hbm, 183, rfl⟩
abbrev main_call4_v7 : Ref sig .tc := ⟨.hbm, 184, rfl⟩
abbrev main_call4_v8 : Ref sig .tc := ⟨.hbm, 185, rfl⟩
abbrev main_call4_v9 : Ref sig .tc := ⟨.hbm, 186, rfl⟩
abbrev main_call4_v10 : Ref sig .tc := ⟨.hbm, 187, rfl⟩
abbrev main_call4_v11 : Ref sig .tc := ⟨.hbm, 188, rfl⟩
abbrev main_call4_c_3 : Ref sig .tc := ⟨.hbm, 189, rfl⟩
abbrev main_call4_v12 : Ref sig .tc := ⟨.hbm, 190, rfl⟩
abbrev main_call4_v13 : Ref sig .tc := ⟨.hbm, 191, rfl⟩
abbrev main_call4_cst : Ref sig .tc := ⟨.hbm, 192, rfl⟩
abbrev main_call4_v14 : Ref sig .tc := ⟨.hbm, 193, rfl⟩
abbrev main_v87 : Ref sig .tc := ⟨.hbm, 194, rfl⟩
abbrev main_call5_c : Ref sig .tc := ⟨.hbm, 195, rfl⟩
abbrev main_call5_v0 : Ref sig .tc := ⟨.hbm, 196, rfl⟩
abbrev main_call5_v1 : Ref sig .tc := ⟨.hbm, 197, rfl⟩
abbrev main_call5_c_0 : Ref sig .tc := ⟨.hbm, 198, rfl⟩
abbrev main_call5_v2 : Ref sig .tc := ⟨.hbm, 199, rfl⟩
abbrev main_call5_v3 : Ref sig .tc := ⟨.hbm, 200, rfl⟩
abbrev main_call5_v4 : Ref sig .tc := ⟨.hbm, 201, rfl⟩
abbrev main_call5_v5 : Ref sig .tc := ⟨.hbm, 202, rfl⟩
abbrev main_call5_c_1 : Ref sig .tc := ⟨.hbm, 203, rfl⟩
abbrev main_call5_c_2 : Ref sig .tc := ⟨.hbm, 204, rfl⟩
abbrev main_call5_v6 : Ref sig .tc := ⟨.hbm, 205, rfl⟩
abbrev main_call5_v7 : Ref sig .tc := ⟨.hbm, 206, rfl⟩
abbrev main_call5_v8 : Ref sig .tc := ⟨.hbm, 207, rfl⟩
abbrev main_call5_v9 : Ref sig .tc := ⟨.hbm, 208, rfl⟩
abbrev main_call5_v10 : Ref sig .tc := ⟨.hbm, 209, rfl⟩
abbrev main_call5_v11 : Ref sig .tc := ⟨.hbm, 210, rfl⟩
abbrev main_call5_c_3 : Ref sig .tc := ⟨.hbm, 211, rfl⟩
abbrev main_call5_v12 : Ref sig .tc := ⟨.hbm, 212, rfl⟩
abbrev main_call5_v13 : Ref sig .tc := ⟨.hbm, 213, rfl⟩
abbrev main_call5_c_4 : Ref sig .tc := ⟨.hbm, 214, rfl⟩
abbrev main_call5_v14 : Ref sig .tc := ⟨.hbm, 215, rfl⟩
abbrev main_v88 : Ref sig .tc := ⟨.hbm, 216, rfl⟩
abbrev main_v89 : Ref sig .tc := ⟨.hbm, 217, rfl⟩
abbrev main_cst_13 : Ref sig .tc := ⟨.hbm, 218, rfl⟩
abbrev main_v90 : Ref sig .tc := ⟨.hbm, 219, rfl⟩
abbrev main_v91 : Ref sig .tc := ⟨.hbm, 220, rfl⟩
abbrev main_v92 : Ref sig .tc := ⟨.hbm, 221, rfl⟩
abbrev main_cst_14 : Ref sig .tc := ⟨.hbm, 222, rfl⟩
abbrev main_v93 : Ref sig .tc := ⟨.hbm, 223, rfl⟩
abbrev main_v94 : Ref sig .tc := ⟨.hbm, 224, rfl⟩
abbrev main_v95 : Ref sig .tc := ⟨.hbm, 225, rfl⟩
abbrev main_cst_15 : Ref sig .tc := ⟨.hbm, 226, rfl⟩
abbrev main_v96 : Ref sig .tc := ⟨.hbm, 227, rfl⟩
abbrev main_v97 : Ref sig .tc := ⟨.hbm, 228, rfl⟩
abbrev main_v98 : Ref sig .tc := ⟨.hbm, 229, rfl⟩
abbrev main_cst_16 : Ref sig .tc := ⟨.hbm, 230, rfl⟩
abbrev main_v99 : Ref sig .tc := ⟨.hbm, 231, rfl⟩
abbrev main_v100 : Ref sig .tc := ⟨.hbm, 232, rfl⟩
abbrev main_v101 : Ref sig .tc := ⟨.hbm, 233, rfl⟩
abbrev main_v102 : Ref sig .tc := ⟨.hbm, 234, rfl⟩
abbrev main_v103 : Ref sig .tc := ⟨.hbm, 235, rfl⟩
abbrev main_cst_17 : Ref sig .tc := ⟨.hbm, 236, rfl⟩
abbrev main_v104 : Ref sig .tc := ⟨.hbm, 237, rfl⟩
abbrev main_v105 : Ref sig .tc := ⟨.hbm, 238, rfl⟩
abbrev main_v106 : Ref sig .tc := ⟨.hbm, 239, rfl⟩
abbrev main_v107 : Ref sig .tc := ⟨.hbm, 240, rfl⟩
abbrev main_v108 : Ref sig .tc := ⟨.hbm, 241, rfl⟩
abbrev main_v109 : Ref sig .tc := ⟨.hbm, 242, rfl⟩
abbrev main_v110 : Ref sig .tc := ⟨.hbm, 243, rfl⟩
abbrev main_v111 : Ref sig .tc := ⟨.hbm, 244, rfl⟩
abbrev main_cst_18 : Ref sig .tc := ⟨.hbm, 245, rfl⟩
abbrev main_v112 : Ref sig .tc := ⟨.hbm, 246, rfl⟩
abbrev main_v113 : Ref sig .tc := ⟨.hbm, 247, rfl⟩
abbrev main_v114 : Ref sig .tc := ⟨.hbm, 248, rfl⟩
abbrev main_v115 : Ref sig .tc := ⟨.hbm, 249, rfl⟩
abbrev main_v116 : Ref sig .tc := ⟨.hbm, 250, rfl⟩
abbrev main_v117 : Ref sig .tc := ⟨.hbm, 251, rfl⟩
abbrev main_v118 : Ref sig .tc := ⟨.hbm, 252, rfl⟩
abbrev main_v119 : Ref sig .tc := ⟨.hbm, 253, rfl⟩
abbrev main_v120 : Ref sig .tc := ⟨.hbm, 254, rfl⟩
abbrev main_cst_19 : Ref sig .tc := ⟨.hbm, 255, rfl⟩
abbrev main_v121 : Ref sig .tc := ⟨.hbm, 256, rfl⟩
abbrev main_v122 : Ref sig .tc := ⟨.hbm, 257, rfl⟩
abbrev main_v123 : Ref sig .tc := ⟨.hbm, 258, rfl⟩
abbrev main_v124 : Ref sig .tc := ⟨.hbm, 259, rfl⟩
abbrev main_v125 : Ref sig .tc := ⟨.hbm, 260, rfl⟩
abbrev main_v126 : Ref sig .tc := ⟨.hbm, 261, rfl⟩
abbrev main_cst_20 : Ref sig .tc := ⟨.hbm, 262, rfl⟩
abbrev main_v127 : Ref sig .tc := ⟨.hbm, 263, rfl⟩
abbrev main_v128 : Ref sig .tc := ⟨.hbm, 264, rfl⟩
abbrev main_v129 : Ref sig .tc := ⟨.hbm, 265, rfl⟩
abbrev main_v130 : Ref sig .tc := ⟨.hbm, 266, rfl⟩
abbrev main_v131 : Ref sig .tc := ⟨.hbm, 267, rfl⟩
abbrev main_v132 : Ref sig .tc := ⟨.hbm, 268, rfl⟩
abbrev main_v133 : Ref sig .tc := ⟨.hbm, 269, rfl⟩
abbrev main_c : Ref sig .tc := ⟨.hbm, 270, rfl⟩
abbrev main_c_21 : Ref sig .tc := ⟨.hbm, 271, rfl⟩
abbrev main_call6_v0 : Ref sig .tc := ⟨.hbm, 272, rfl⟩
abbrev main_call6_v1 : Ref sig .tc := ⟨.hbm, 273, rfl⟩
abbrev main_v134 : Ref sig .tc := ⟨.hbm, 274, rfl⟩
abbrev main_call7_v0 : Ref sig .tc := ⟨.hbm, 275, rfl⟩
abbrev main_v135 : Ref sig .tc := ⟨.hbm, 276, rfl⟩
abbrev main_v136 : Ref sig .tc := ⟨.hbm, 277, rfl⟩
abbrev main_cst_22 : Ref sig .tc := ⟨.hbm, 278, rfl⟩
abbrev main_call8_v0 : Ref sig .tc := ⟨.hbm, 279, rfl⟩
abbrev main_call8_v1 : Ref sig .tc := ⟨.hbm, 280, rfl⟩
abbrev main_call8_v2 : Ref sig .tc := ⟨.hbm, 281, rfl⟩
abbrev main_v137 : Ref sig .tc := ⟨.hbm, 282, rfl⟩
abbrev main_c_23 : Ref sig .tc := ⟨.hbm, 283, rfl⟩
abbrev main_v138 : Ref sig .tc := ⟨.hbm, 284, rfl⟩
abbrev main_v139 : Ref sig .tc := ⟨.hbm, 285, rfl⟩
abbrev main_call9_cst : Ref sig .tc := ⟨.hbm, 286, rfl⟩
abbrev main_call9_v0 : Ref sig .tc := ⟨.hbm, 287, rfl⟩
abbrev main_call9_cst_0 : Ref sig .tc := ⟨.hbm, 288, rfl⟩
abbrev main_call9_v1 : Ref sig .tc := ⟨.hbm, 289, rfl⟩
abbrev main_call9_v2 : Ref sig .tc := ⟨.hbm, 290, rfl⟩
abbrev main_call9_v3 : Ref sig .tc := ⟨.hbm, 291, rfl⟩
abbrev main_call9_v4 : Ref sig .tc := ⟨.hbm, 292, rfl⟩
abbrev main_call9_v5 : Ref sig .tc := ⟨.hbm, 293, rfl⟩
abbrev main_call9_v6 : Ref sig .tc := ⟨.hbm, 294, rfl⟩
abbrev main_call9_cst_1 : Ref sig .tc := ⟨.hbm, 295, rfl⟩
abbrev main_call9_v7 : Ref sig .tc := ⟨.hbm, 296, rfl⟩
abbrev main_call9_v8 : Ref sig .tc := ⟨.hbm, 297, rfl⟩
abbrev main_call9_v9 : Ref sig .tc := ⟨.hbm, 298, rfl⟩
abbrev main_call9_v10 : Ref sig .tc := ⟨.hbm, 299, rfl⟩
abbrev main_v140 : Ref sig .tc := ⟨.hbm, 300, rfl⟩
abbrev main_c_24 : Ref sig .tc := ⟨.hbm, 301, rfl⟩
abbrev main_v141 : Ref sig .tc := ⟨.hbm, 302, rfl⟩
abbrev main_v142 : Ref sig .tc := ⟨.hbm, 303, rfl⟩
abbrev main_v143 : Ref sig .tc := ⟨.hbm, 304, rfl⟩
abbrev main_call10_c : Ref sig .tc := ⟨.hbm, 305, rfl⟩
abbrev main_call10_v0 : Ref sig .tc := ⟨.hbm, 306, rfl⟩
abbrev main_call10_v1 : Ref sig .tc := ⟨.hbm, 307, rfl⟩
abbrev main_call10_c_0 : Ref sig .tc := ⟨.hbm, 308, rfl⟩
abbrev main_call10_v2 : Ref sig .tc := ⟨.hbm, 309, rfl⟩
abbrev main_call10_v3 : Ref sig .tc := ⟨.hbm, 310, rfl⟩
abbrev main_call10_v4 : Ref sig .tc := ⟨.hbm, 311, rfl⟩
abbrev main_call10_v5 : Ref sig .tc := ⟨.hbm, 312, rfl⟩
abbrev main_call10_c_1 : Ref sig .tc := ⟨.hbm, 313, rfl⟩
abbrev main_call10_c_2 : Ref sig .tc := ⟨.hbm, 314, rfl⟩
abbrev main_call10_v6 : Ref sig .tc := ⟨.hbm, 315, rfl⟩
abbrev main_call10_v7 : Ref sig .tc := ⟨.hbm, 316, rfl⟩
abbrev main_call10_v8 : Ref sig .tc := ⟨.hbm, 317, rfl⟩
abbrev main_call10_v9 : Ref sig .tc := ⟨.hbm, 318, rfl⟩
abbrev main_call10_v10 : Ref sig .tc := ⟨.hbm, 319, rfl⟩
abbrev main_call10_v11 : Ref sig .tc := ⟨.hbm, 320, rfl⟩
abbrev main_call10_c_3 : Ref sig .tc := ⟨.hbm, 321, rfl⟩
abbrev main_call10_v12 : Ref sig .tc := ⟨.hbm, 322, rfl⟩
abbrev main_call10_v13 : Ref sig .tc := ⟨.hbm, 323, rfl⟩
abbrev main_call10_cst : Ref sig .tc := ⟨.hbm, 324, rfl⟩
abbrev main_call10_v14 : Ref sig .tc := ⟨.hbm, 325, rfl⟩
abbrev main_v144 : Ref sig .tc := ⟨.hbm, 326, rfl⟩
abbrev main_v145 : Ref sig .tc := ⟨.hbm, 327, rfl⟩
abbrev main_v146 : Ref sig .tc := ⟨.hbm, 328, rfl⟩
abbrev main_v147 : Ref sig .tc := ⟨.hbm, 329, rfl⟩
abbrev main_c_25 : Ref sig .tc := ⟨.hbm, 330, rfl⟩
abbrev main_v148 : Ref sig .tc := ⟨.hbm, 331, rfl⟩
abbrev main_v149 : Ref sig .tc := ⟨.hbm, 332, rfl⟩
abbrev main_cst_26 : Ref sig .tc := ⟨.hbm, 333, rfl⟩
abbrev main_v150 : Ref sig .tc := ⟨.hbm, 334, rfl⟩
abbrev main_v151 : Ref sig .tc := ⟨.hbm, 335, rfl⟩
abbrev main_v152 : Ref sig .tc := ⟨.hbm, 336, rfl⟩
abbrev main_v153 : Ref sig .tc := ⟨.hbm, 337, rfl⟩
abbrev main_cst_27 : Ref sig .tc := ⟨.hbm, 338, rfl⟩
abbrev main_v154 : Ref sig .tc := ⟨.hbm, 339, rfl⟩
abbrev main_cst_28 : Ref sig .tc := ⟨.hbm, 340, rfl⟩
abbrev main_v155 : Ref sig .tc := ⟨.hbm, 341, rfl⟩
abbrev main_v156 : Ref sig .tc := ⟨.hbm, 342, rfl⟩
abbrev main_v157 : Ref sig .tc := ⟨.hbm, 343, rfl⟩
abbrev main_cst_29 : Ref sig .tc := ⟨.hbm, 344, rfl⟩
abbrev main_call11_v0 : Ref sig .tc := ⟨.hbm, 345, rfl⟩
abbrev main_call11_v1 : Ref sig .tc := ⟨.hbm, 346, rfl⟩
abbrev main_v158 : Ref sig .tc := ⟨.hbm, 347, rfl⟩
abbrev main_v159 : Ref sig .tc := ⟨.hbm, 348, rfl⟩
abbrev main_v160 : Ref sig .tc := ⟨.hbm, 349, rfl⟩
abbrev main_cst_30 : Ref sig .tc := ⟨.hbm, 350, rfl⟩
abbrev main_v161 : Ref sig .tc := ⟨.hbm, 351, rfl⟩
abbrev main_v162 : Ref sig .tc := ⟨.hbm, 352, rfl⟩
abbrev main_cst_31 : Ref sig .tc := ⟨.hbm, 353, rfl⟩
abbrev main_v163 : Ref sig .tc := ⟨.hbm, 354, rfl⟩
abbrev main_v164 : Ref sig .tc := ⟨.hbm, 355, rfl⟩
abbrev main_v165 : Ref sig .tc := ⟨.hbm, 356, rfl⟩
abbrev main_cst_32 : Ref sig .tc := ⟨.hbm, 357, rfl⟩
abbrev main_v166 : Ref sig .tc := ⟨.hbm, 358, rfl⟩
abbrev main_v167 : Ref sig .tc := ⟨.hbm, 359, rfl⟩
abbrev main_v168 : Ref sig .tc := ⟨.hbm, 360, rfl⟩
abbrev main_v169 : Ref sig .tc := ⟨.hbm, 361, rfl⟩
abbrev main_v170 : Ref sig .tc := ⟨.hbm, 362, rfl⟩
abbrev main_v171 : Ref sig .tc := ⟨.hbm, 363, rfl⟩
abbrev main_v172 : Ref sig .tc := ⟨.hbm, 364, rfl⟩
abbrev main_v173 : Ref sig .tc := ⟨.hbm, 365, rfl⟩
abbrev main_c_33 : Ref sig .tc := ⟨.hbm, 366, rfl⟩
abbrev main_v174 : Ref sig .tc := ⟨.hbm, 367, rfl⟩
abbrev main_v175 : Ref sig .tc := ⟨.hbm, 368, rfl⟩
abbrev main_cst_34 : Ref sig .tc := ⟨.hbm, 369, rfl⟩
abbrev main_v176 : Ref sig .tc := ⟨.hbm, 370, rfl⟩
abbrev main_v177 : Ref sig .tc := ⟨.hbm, 371, rfl⟩
abbrev main_cst_35 : Ref sig .tc := ⟨.hbm, 372, rfl⟩
abbrev main_v178 : Ref sig .tc := ⟨.hbm, 373, rfl⟩
abbrev main_cst_36 : Ref sig .tc := ⟨.hbm, 374, rfl⟩
abbrev main_v179 : Ref sig .tc := ⟨.hbm, 375, rfl⟩
abbrev main_v180 : Ref sig .tc := ⟨.hbm, 376, rfl⟩
abbrev main_cst_37 : Ref sig .tc := ⟨.hbm, 377, rfl⟩
abbrev main_v181 : Ref sig .tc := ⟨.hbm, 378, rfl⟩
abbrev main_v182 : Ref sig .tc := ⟨.hbm, 379, rfl⟩
abbrev main_v183 : Ref sig .tc := ⟨.hbm, 380, rfl⟩
abbrev main_cst_38 : Ref sig .tc := ⟨.hbm, 381, rfl⟩
abbrev main_call13_v0 : Ref sig .tc := ⟨.hbm, 382, rfl⟩
abbrev main_call13_v1 : Ref sig .tc := ⟨.hbm, 383, rfl⟩
abbrev main_v184 : Ref sig .tc := ⟨.hbm, 384, rfl⟩
abbrev main_cst_39 : Ref sig .tc := ⟨.hbm, 385, rfl⟩
abbrev main_v185 : Ref sig .tc := ⟨.hbm, 386, rfl⟩
abbrev main_cst_40 : Ref sig .tc := ⟨.hbm, 387, rfl⟩
abbrev main_v186 : Ref sig .tc := ⟨.hbm, 388, rfl⟩
abbrev main_cst_41 : Ref sig .tc := ⟨.hbm, 389, rfl⟩
abbrev main_v187 : Ref sig .tc := ⟨.hbm, 390, rfl⟩
abbrev main_v188 : Ref sig .tc := ⟨.hbm, 391, rfl⟩

abbrev nD : Nat := 1
abbrev τ : Topo := Topo.v7x

variable {F : FTy → Type} [FloatOps F]
-- ==== Proof.Basic.lean ====
/-
  Two facts about a buffer held whole that both kernel bodies use: a store of the whole block leaves exactly its
  payload, and a load of the whole block of a memref held at given contents reads those contents.
-/
module

public import Idealize.ShloMosaic.Lib.Pipeline.FrameBody
public import Idealize.ShloMosaic.Lib.Pipeline.Value
public import Idealize.ShloMosaic.Lib.WholeRead

@[expose] public section

namespace Cert.Hand

open Idealize.ShloMosaic

variable {sig : RefSig} {κ : Kind} {sp : Space} {S : Shape} {e : EltTy} {Val : EltTy → Type}

/-- After one store over the whole block, the view reads the payload. -/
theorem read_store_whole (v : View sig κ sp S e) (f : v.ty.Contents Val)
    {off : Fin S.rank → Nat} (h : off = fun _ => 0) (inb : ∀ a, off a + S.size a ≤ S.size a) (w : S.Idx → Val e) :
    v.read Val (v.writes Val f [(⟨Rect.unit off S.size inb, w⟩ : View.Piece Val S e)]) = w := by
  subst h
  funext y
  have e := View.read_writes_cons_emb v f (Rect.whole S) w [] y
  rw [Rect.emb_whole_apply] at e
  exact e

/-- A load of the whole block of a whole memref held at the contents reading `X` reads `X`. -/
theorem load_whole {m : Memref sig κ sp S e} (hm : m.IsWhole) (X : S.Idx → Val e)
    {off : Fin S.rank → Nat} (h : off = fun _ => 0) (inb : ∀ a, off a + S.size a ≤ S.size a) :
    View.readAt Val m.view (Rect.unit off S.size inb).toLoadRect (hm.unread X) = X := by
  funext x
  rw [hm.readAt_unread]
  exact congrFun (View.ld_unit_zero h inb X) x

end Cert.Hand

end
-- ==== Proof.AssignRun.lean ====
/-
  The first kernel's body (matching anchors to boxes), run symbolically once at any grid point and any float semantics.
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Basic
public import Idealize.ShloMosaic.Lib.Pipeline.DatRel
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen Cert.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)

variable {F : FTy → Type} [FloatOps F]

local notation "𝕄" => MT nD τ sig Unit (Elt F) ℕ (UR sig nD τ) ℕ

set_option maxHeartbeats 2000000 in
/-- The first kernel's body, run once at any grid point from whole staging buffers: the four input blocks are as they
    were, and each output buffer holds one whole-block store. The contents are the run's own; `AssignValue.lean` says
    what they are. -/
def assignRun (c : Dev nD) (i : grid0.Coords) (arg1 : Memref sig .tc .vmem S4x200x128 .f32) (harg1 : arg1.IsWhole) (arg2 : Memref sig .tc .vmem S1x4x200x128 .f32) (harg2 : arg2.IsWhole) (arg3 : Memref sig .tc .smem S1x32x4 .f32) (harg3 : arg3.IsWhole) (arg4 : Memref sig .tc .smem S1x1x32 .i32) (harg4 : arg4.IsWhole) (arg5 : Memref sig .tc .vmem S1x200x128 .i32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole)
    (x0 : Vec F S4x200x128 .f32) (x1 : Vec F S1x4x200x128 .f32) (x2 : Vec F S1x32x4 .f32) (x3 : Vec F S1x1x32 .i32) :
    Σ' (cls : Vec F S1x200x128 .i32) (v : Vec F S1x1x128 .f32) (p : Vec F S1x1x128 .f32), { sl : Vec F S1x1x128 .f32 // ∀ (E : Set ℕ) (K : PUnit → sProp 𝕄),
      iprop(owns (c : Thread nD τ) arg1 fullShare x0 ∗ owns (c : Thread nD τ) arg2 fullShare x1 ∗ owns (c : Thread nD τ) arg3 fullShare x2 ∗ owns (c : Thread nD τ) arg4 fullShare x3
          ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
          ∗ (iprop(owns (c : Thread nD τ) arg1 fullShare x0 ∗ owns (c : Thread nD τ) arg2 fullShare x1 ∗ owns (c : Thread nD τ) arg3 fullShare x2 ∗ owns (c : Thread nD τ) arg4 fullShare x3
              ∗ (∃ f, arg5.view.loc (c : Thread nD τ) ↦[arg5.view.set]{fullShare} arg5.view.writes (Elt F) f [⟨Rect.unit ![0, 0, 0] S1x200x128.size inb_S1x200x128_S1x200x128_0_0_0, cls⟩]) ∗ (∃ f, arg6.view.loc (c : Thread nD τ) ↦[arg6.view.set]{fullShare} arg6.view.writes (Elt F) f [⟨Rect.unit ![0, 0, 0] S1x1x128.size inb_S1x1x128_S1x1x128_0_0_0, v⟩]) ∗ (∃ f, arg7.view.loc (c : Thread nD τ) ↦[arg7.view.set]{fullShare} arg7.view.writes (Elt F) f [⟨Rect.unit ![0, 0, 0] S1x1x128.size inb_S1x1x128_S1x1x128_0_0_0, p⟩]) ∗ (∃ f, arg8.view.loc (c : Thread nD τ) ↦[arg8.view.set]{fullShare} arg8.view.writes (Elt F) f [⟨Rect.unit ![0, 0, 0] S1x1x128.size inb_S1x1x128_S1x1x128_0_0_0, sl⟩])) -∗ K ⟨⟩))
        ⊢ wp frame (wpE (defs₀ (F := F)) Variants.none c none) E
            (cc0__assign_body i arg1 harg1 arg2 harg2 arg3 harg3 arg4 harg4 arg5 harg5 arg6 harg6 arg7 harg7 arg8 harg8) K } := by
  refine ⟨?_, ?_, ?_, ?_, fun E K => ?run⟩
  case run =>
    simp only [cc0__assign_body_eq_skeleton]; unfold cc0__assign_body_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, Hk⟩
    obtain rfl := harg1.eq_unread hf0; obtain rfl := harg2.eq_unread hf1; obtain rfl := harg3.eq_unread hf2; obtain rfl := harg4.eq_unread hf3
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    iexists _; iexact H7

end Cert.KernelIdeal.Hand

end
-- ==== Proof.AssignData.lean ====
/-
The first region's proof data: what each staging buffer holds at each point, and the body's obligation there.
-/
module

public import Idealize.ShloMosaic.Lib.Pipeline.DatRel
public import proofs.«01_k».proof.Proof.Gen.KernelIdeal.Launch
public import proofs.«01_k».proof.Proof.Gen.KernelIdeal.Skeleton
public import proofs.«01_k».proof.Proof.Gen.KernelIdeal.Points
public import proofs.«01_k».proof.Proof.Basic
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import proofs.«01_k».proof.Proof.AssignRun

@[expose] public section

set_option maxRecDepth 16384

noncomputable section

namespace Cert.KernelIdeal.Hand

open Cert.KernelIdeal Cert.KernelIdeal.Gen Cert.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t` of the first kernel, read off its array as the region finds it. -/
def blkA (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Window 0's staging memref at point `t`, and that it is whole. -/
abbrev stA0 (t : Fin cfg0.N) : Memref sig .tc .vmem S4x200x128 .f32 := win0_0.stage (cfg0.slots t 0)
abbrev whA0 (t : Fin cfg0.N) : (stA0 t).IsWhole := hstage0_0 ((cfg0.slots t 0).cast nbuf0_0)
/-- Window 1's staging memref at point `t`, and that it is whole. -/
abbrev stA1 (t : Fin cfg0.N) : Memref sig .tc .vmem S1x4x200x128 .f32 := win0_1.stage (cfg0.slots t 1)
abbrev whA1 (t : Fin cfg0.N) : (stA1 t).IsWhole := hstage0_1 ((cfg0.slots t 1).cast nbuf0_1)
/-- Window 2's staging memref at point `t`, and that it is whole. -/
abbrev stA2 (t : Fin cfg0.N) : Memref sig .tc .smem S1x32x4 .f32 := win0_2.stage (cfg0.slots t 2)
abbrev whA2 (t : Fin cfg0.N) : (stA2 t).IsWhole := hstage0_2 ((cfg0.slots t 2).cast nbuf0_2)
/-- Window 3's staging memref at point `t`, and that it is whole. -/
abbrev stA3 (t : Fin cfg0.N) : Memref sig .tc .smem S1x1x32 .i32 := win0_3.stage (cfg0.slots t 3)
abbrev whA3 (t : Fin cfg0.N) : (stA3 t).IsWhole := hstage0_3 ((cfg0.slots t 3).cast nbuf0_3)
/-- Window 4's staging memref at point `t`, and that it is whole. -/
abbrev stA4 (t : Fin cfg0.N) : Memref sig .tc .vmem S1x200x128 .i32 := win0_4.stage (cfg0.slots t 4)
abbrev whA4 (t : Fin cfg0.N) : (stA4 t).IsWhole := hstage0_4 ((cfg0.slots t 4).cast nbuf0_4)
/-- Window 5's staging memref at point `t`, and that it is whole. -/
abbrev stA5 (t : Fin cfg0.N) : Memref sig .tc .vmem S1x1x128 .f32 := win0_5.stage (cfg0.slots t 5)
abbrev whA5 (t : Fin cfg0.N) : (stA5 t).IsWhole := hstage0_5 ((cfg0.slots t 5).cast nbuf0_5)
/-- Window 6's staging memref at point `t`, and that it is whole. -/
abbrev stA6 (t : Fin cfg0.N) : Memref sig .tc .vmem S1x1x128 .f32 := win0_6.stage (cfg0.slots t 6)
abbrev whA6 (t : Fin cfg0.N) : (stA6 t).IsWhole := hstage0_6 ((cfg0.slots t 6).cast nbuf0_6)
/-- Window 7's staging memref at point `t`, and that it is whole. -/
abbrev stA7 (t : Fin cfg0.N) : Memref sig .tc .vmem S1x1x128 .f32 := win0_7.stage (cfg0.slots t 7)
abbrev whA7 (t : Fin cfg0.N) : (stA7 t).IsWhole := hstage0_7 ((cfg0.slots t 7).cast nbuf0_7)

/-- The first kernel's run at point `t`, from the blocks there. -/
abbrev assignAt (c : Dev nD) (t : Fin cfg0.N) :=
  assignRun (F := F) c (grid0.coords t) (stA0 t) (whA0 t) (stA1 t) (whA1 t) (stA2 t) (whA2 t) (stA3 t) (whA3 t) (stA4 t) (whA4 t) (stA5 t) (whA5 t) (stA6 t) (whA6 t) (stA7 t) (whA7 t) (blkA V c 0 t) (blkA V c 1 t) (blkA V c 2 t) (blkA V c 3 t)

/-- The first region's proof data: inputs stay at their blocks, each output's buffer is left at what the run stores. -/
def datA (c : Dev nD) : Dat τ (Elt F) Unit ℕ (UR sig nD τ) ℕ cfg0 c where
  A w := V c (Pipeline.arrRef spec0 w)
  after w t := match w with
    | 0 => blkA V c 0 t
    | 1 => blkA V c 1 t
    | 2 => blkA V c 2 t
    | 3 => blkA V c 3 t
    | 4 => (assignAt V c t).1
    | 5 => (assignAt V c t).2.1
    | 6 => (assignAt V c t).2.2.1
    | 7 => (assignAt V c t).2.2.2.1
    | ⟨_ + 8, h⟩ => absurd h (Nat.not_lt.2 (Nat.le_add_left _ _))
  Φ _ := Pipeline.ΦA spec0 c
  q _ := fullShare
  owed _ := 0

theorem datA_A (c : Dev nD) (w : Fin cfg0.W) : (datA V c).A w = V c (Pipeline.arrRef spec0 w) := rfl

theorem datA_after0 (c : Dev nD) (t : Fin cfg0.N) : (datA V c).after 0 t = blkA V c 0 t := by dsimp only [datA]
theorem datA_after1 (c : Dev nD) (t : Fin cfg0.N) : (datA V c).after 1 t = blkA V c 1 t := by dsimp only [datA]
theorem datA_after2 (c : Dev nD) (t : Fin cfg0.N) : (datA V c).after 2 t = blkA V c 2 t := by dsimp only [datA]
theorem datA_after3 (c : Dev nD) (t : Fin cfg0.N) : (datA V c).after 3 t = blkA V c 3 t := by dsimp only [datA]
theorem datA_after4 (c : Dev nD) (t : Fin cfg0.N) : (datA V c).after 4 t = (assignAt V c t).1 := by dsimp only [datA]
theorem datA_after5 (c : Dev nD) (t : Fin cfg0.N) : (datA V c).after 5 t = (assignAt V c t).2.1 := by dsimp only [datA]
theorem datA_after6 (c : Dev nD) (t : Fin cfg0.N) : (datA V c).after 6 t = (assignAt V c t).2.2.1 := by dsimp only [datA]
theorem datA_after7 (c : Dev nD) (t : Fin cfg0.N) : (datA V c).after 7 t = (assignAt V c t).2.2.2.1 := by dsimp only [datA]
theorem datA_before0 (c : Dev nD) (t : Fin cfg0.N) (d) : (datA V c).before 0 t d = blkA V c 0 t :=
  ((datA V c).before_in_eq_fetched 0 rfl (fun _ => rfl) (fun _ _ _ => rfl) (fun t => by rw [datA_after0]; unfold Dat.blockOf blkA; rw [datA_A]; try rfl) t d).trans
    (by unfold Dat.fetched Dat.blockOf blkA; rw [datA_A]; try rfl)
theorem datA_before1 (c : Dev nD) (t : Fin cfg0.N) (d) : (datA V c).before 1 t d = blkA V c 1 t :=
  ((datA V c).before_in_eq_fetched 1 rfl (fun _ => rfl) (fun _ _ _ => rfl) (fun t => by rw [datA_after1]; unfold Dat.blockOf blkA; rw [datA_A]; try rfl) t d).trans
    (by unfold Dat.fetched Dat.blockOf blkA; rw [datA_A]; try rfl)
theorem datA_before2 (c : Dev nD) (t : Fin cfg0.N) (d) : (datA V c).before 2 t d = blkA V c 2 t :=
  ((datA V c).before_in_eq_fetched 2 rfl (fun _ => rfl) (fun _ _ _ => rfl) (fun t => by rw [datA_after2]; unfold Dat.blockOf blkA; rw [datA_A]; try rfl) t d).trans
    (by unfold Dat.fetched Dat.blockOf blkA; rw [datA_A]; try rfl)
theorem datA_before3 (c : Dev nD) (t : Fin cfg0.N) (d) : (datA V c).before 3 t d = blkA V c 3 t :=
  ((datA V c).before_in_eq_fetched 3 rfl (fun _ => rfl) (fun _ _ _ => rfl) (fun t => by rw [datA_after3]; unfold Dat.blockOf blkA; rw [datA_A]; try rfl) t d).trans
    (by unfold Dat.fetched Dat.blockOf blkA; rw [datA_A]; try rfl)

/-- What the body is called with at point `t`. -/
def preA (c : Dev nD) (t : Fin cfg0.N) : sProp 𝕄 :=
  iprop((datA V c).Φ t.castSucc ∗ (datA V c).owesAt () t.castSucc
    ∗ (∃ d, owns (c : Thread nD τ) (stA0 t) fullShare ((datA V c).before 0 t d))
    ∗ (∃ d, owns (c : Thread nD τ) (stA1 t) fullShare ((datA V c).before 1 t d))
    ∗ (∃ d, owns (c : Thread nD τ) (stA2 t) fullShare ((datA V c).before 2 t d))
    ∗ (∃ d, owns (c : Thread nD τ) (stA3 t) fullShare ((datA V c).before 3 t d))
    ∗ (∃ d, owns (c : Thread nD τ) (stA4 t) fullShare ((datA V c).before 4 t d))
    ∗ (∃ d, owns (c : Thread nD τ) (stA5 t) fullShare ((datA V c).before 5 t d))
    ∗ (∃ d, owns (c : Thread nD τ) (stA6 t) fullShare ((datA V c).before 6 t d))
    ∗ (∃ d, owns (c : Thread nD τ) (stA7 t) fullShare ((datA V c).before 7 t d)))

/-- What the body returns at point `t`. -/
def postA (c : Dev nD) (t : Fin cfg0.N) : sProp 𝕄 :=
  iprop((datA V c).Φ t.succ ∗ (datA V c).owesAt () t.succ
    ∗ owns (c : Thread nD τ) (stA0 t) fullShare ((datA V c).after 0 t)
    ∗ owns (c : Thread nD τ) (stA1 t) fullShare ((datA V c).after 1 t)
    ∗ owns (c : Thread nD τ) (stA2 t) fullShare ((datA V c).after 2 t)
    ∗ owns (c : Thread nD τ) (stA3 t) fullShare ((datA V c).after 3 t)
    ∗ owns (c : Thread nD τ) (stA4 t) fullShare ((datA V c).after 4 t)
    ∗ owns (c : Thread nD τ) (stA5 t) fullShare ((datA V c).after 5 t)
    ∗ owns (c : Thread nD τ) (stA6 t) fullShare ((datA V c).after 6 t)
    ∗ owns (c : Thread nD τ) (stA7 t) fullShare ((datA V c).after 7 t))

set_option maxHeartbeats 800000 in
/-- The body's triple at any point, by the run. -/
theorem soundA (c : Dev nD) (t : Fin cfg0.N) :
    preA V c t ⊢ wp frame (wpE (defs₀ (F := F)) Variants.none c none) Set.univ (bodyAt0 t) (fun _ => postA V c t) := by
  unfold preA postA bodyAt0
  simp only [datA_before0, datA_before1, datA_before2, datA_before3]
  rw [show (datA V c).Φ t.succ = (datA V c).Φ t.castSucc from rfl,
    show (datA V c).owesAt () t.succ = (datA V c).owesAt () t.castSucc from rfl,
    datA_after0, datA_after1, datA_after2, datA_after3, datA_after4, datA_after5, datA_after6, datA_after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((assignAt V c t).2.2.2.2 Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [H7]; · iexists _; iexact H7
  iintro ⟨H0, H1, H2, H3, ⟨%e4, H4⟩, ⟨%e5, H5⟩, ⟨%e6, H6⟩, ⟨%e7, H7⟩⟩
  isplitl [HΦ]; · iexact HΦ
  isplitl [Ho]; · iexact Ho
  isplitl [H0]; · iexact H0
  isplitl [H1]; · iexact H1
  isplitl [H2]; · iexact H2
  isplitl [H3]; · iexact H3
  isplitl [H4]
  · unfold owns; iexists _; isplitr
    swap; · iexact H4
    ipureintro; exact read_store_whole _ _ (by decide) _ _
  isplitl [H5]
  · unfold owns; iexists _; isplitr
    swap; · iexact H5
    ipureintro; exact read_store_whole _ _ (by decide) _ _
  isplitl [H6]
  · unfold owns; iexists _; isplitr
    swap; · iexact H6
    ipureintro; exact read_store_whole _ _ (by decide) _ _
  · unfold owns; iexists _; isplitr
    swap; · iexact H7
    ipureintro; exact read_store_whole _ _ (by decide) _ _

/-- The body table's row at point `t` is the body as `bodyAt0` spells it. -/
theorem rowA (t : Fin cfg0.N) :
    defs₀ (F := F) .tc cfg0.body (cfg0.bodyArgs t (cfg0.slots t)) = bodyAt0 t := by
  unfold defs₀; rw [Defs.onTc_tc]

/-- The first region's body obligation. -/
theorem obligationA (c : Dev nD) : BodyObligation (datA (F := F) V c) (defs₀ (F := F)) Variants.none () Set.univ := fun t => by
  rw [bigSep_W0, bigSep_W0, rowA]
  exact triple_restated (soundA V c t) rfl .rfl fun _ => .rfl

end Cert.KernelIdeal.Hand

end
-- ==== Proof.CeRun.lean ====
/-
The second kernel's body, run at a grid point: what one point leaves in the accumulator and in the output buffer.
-/
module

public import Idealize.ShloMosaic.Lib.Pipeline.DatRel
public import proofs.«01_k».proof.Proof.Gen.KernelIdeal.Launch
public import proofs.«01_k».proof.Proof.Gen.KernelIdeal.Skeleton
public import proofs.«01_k».proof.Proof.Gen.KernelIdeal.Points
public import proofs.«01_k».proof.Proof.Basic
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.KernelIdeal.Hand

open Cert.KernelIdeal Cert.KernelIdeal.Gen Cert.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)

variable {F : FTy → Type} [FloatOps F]

local notation "𝕄" => MT nD τ sig Unit (Elt F) ℕ (UR sig nD τ) ℕ

set_option maxHeartbeats 2000000 in
/-- The second kernel's body at a point that is not a batch's last: the accumulator is rewritten, everything else is as
    it was. -/
def ceRunStep (c : Dev nD) (i : grid1.Coords) (arg2 : Memref sig .tc .vmem S1x5120x81 .f32) (harg2 : arg2.IsWhole) (arg3 : Memref sig .tc .vmem S1x1x1x5120 .i32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1 .f32) (harg7 : arg7.IsWhole) (arg8 : Memref sig .tc .vmem S5120x1 .f32) (harg8 : arg8.IsWhole) (hc : ¬ k1_cond1 i = 1#1)
    (x0 : Vec F S1x5120x81 .f32) (x1 : Vec F S1x1x1x5120 .i32) (x2 : Vec F S1x1x128 .f32) (x3 : Vec F S1x1x128 .f32) (x4 : Vec F S1x1x128 .f32) (o : Vec F S1x1 .f32) (a : Vec F S5120x1 .f32) :
    { a' : Vec F S5120x1 .f32 // ∀ (E : Set ℕ) (K : PUnit → sProp 𝕄),
      iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare o ∗ owns (c : Thread nD τ) arg8 fullShare a
          ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare o ∗ (∃ f, arg8.view.loc (c : Thread nD τ) ↦[arg8.view.set]{fullShare} arg8.view.writes (Elt F) f [⟨Rect.unit ![0, 0] S5120x1.size inb_S5120x1_S5120x1_0_0, a'⟩])) -∗ K ⟨⟩))
        ⊢ wp frame (wpE (defs₀ (F := F)) Variants.none c none) E (cc1__ce_body i arg2 harg2 arg3 harg3 arg4 harg4 arg5 harg5 arg6 harg6 arg7 harg7 arg8 harg8) K } := by
  refine ⟨?_, fun E K => ?run⟩
  case run =>
    simp only [cc1__ce_body_eq_skeleton]; unfold cc1__ce_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := harg2.eq_unread hf0
    obtain rfl := harg3.eq_unread hf1
    obtain rfl := harg4.eq_unread hf2
    obtain rfl := harg5.eq_unread hf3
    obtain rfl := harg6.eq_unread hf4
    obtain rfl := harg7.eq_unread hf5
    obtain rfl := harg8.eq_unread hf6
    sl_exec (disch := first | sl_exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact H6

set_option maxHeartbeats 2000000 in
/-- The second kernel's body at a batch's last point: the accumulator is rewritten and the batch's loss is added to the
    output buffer. -/
def ceRunLast (c : Dev nD) (i : grid1.Coords) (arg2 : Memref sig .tc .vmem S1x5120x81 .f32) (harg2 : arg2.IsWhole) (arg3 : Memref sig .tc .vmem S1x1x1x5120 .i32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1 .f32) (harg7 : arg7.IsWhole) (arg8 : Memref sig .tc .vmem S5120x1 .f32) (harg8 : arg8.IsWhole) (hc : k1_cond1 i = 1#1)
    (x0 : Vec F S1x5120x81 .f32) (x1 : Vec F S1x1x1x5120 .i32) (x2 : Vec F S1x1x128 .f32) (x3 : Vec F S1x1x128 .f32) (x4 : Vec F S1x1x128 .f32) (o : Vec F S1x1 .f32) (a : Vec F S5120x1 .f32) :
    Σ' (L : List (View.Piece (Elt F) S5120x1 .f32)), { o' : Vec F S1x1 .f32 // ∀ (E : Set ℕ) (K : PUnit → sProp 𝕄),
      iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare o ∗ owns (c : Thread nD τ) arg8 fullShare a
          ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f [⟨Rect.unit ![0, 0] S1x1.size inb_S1x1_S1x1_0_0, o'⟩]) ∗ (∃ f, arg8.view.loc (c : Thread nD τ) ↦[arg8.view.set]{fullShare} arg8.view.writes (Elt F) f L)) -∗ K ⟨⟩))
        ⊢ wp frame (wpE (defs₀ (F := F)) Variants.none c none) E (cc1__ce_body i arg2 harg2 arg3 harg3 arg4 harg4 arg5 harg5 arg6 harg6 arg7 harg7 arg8 harg8) K } := by
  refine ⟨?_, ?_, fun E K => ?run⟩
  case run =>
    simp only [cc1__ce_body_eq_skeleton]; unfold cc1__ce_body_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := harg2.eq_unread hf0
    obtain rfl := harg3.eq_unread hf1
    obtain rfl := harg4.eq_unread hf2
    obtain rfl := harg5.eq_unread hf3
    obtain rfl := harg6.eq_unread hf4
    obtain rfl := harg7.eq_unread hf5
    obtain rfl := harg8.eq_unread hf6
    sl_exec (disch := first | sl_exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact H6

/-- What the output buffer holds after a batch's last point. -/
def ceOut (i : grid1.Coords) (x2 x3 x4 : Vec F S1x1x128 .f32) (o : Vec F S1x1 .f32) (a : Vec F S5120x1 .f32) : Vec F S1x1 .f32 :=
  k1_pay2 i (k1_pay4 x4) (k1_pay5 a x2) (k1_pay6 x3) (k1_pay7 x3) k1_pay8 o

/-- The accumulator the step leaves. -/
theorem ceRunStep_val (c : Dev nD) (i : grid1.Coords) (arg2 : Memref sig .tc .vmem S1x5120x81 .f32) (harg2 : arg2.IsWhole) (arg3 : Memref sig .tc .vmem S1x1x1x5120 .i32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1 .f32) (harg7 : arg7.IsWhole) (arg8 : Memref sig .tc .vmem S5120x1 .f32) (harg8 : arg8.IsWhole) (hc : ¬ k1_cond1 i = 1#1)
    (x0 : Vec F S1x5120x81 .f32) (x1 : Vec F S1x1x1x5120 .i32) (x2 : Vec F S1x1x128 .f32) (x3 : Vec F S1x1x128 .f32) (x4 : Vec F S1x1x128 .f32) (o : Vec F S1x1 .f32) (a : Vec F S5120x1 .f32) :
    (ceRunStep c i arg2 harg2 arg3 harg3 arg4 harg4 arg5 harg5 arg6 harg6 arg7 harg7 arg8 harg8 hc x0 x1 x2 x3 x4 o a).1 = k1_pay1 i x0 x1 a := by
  show k1_pay1 i (View.readAt (Elt F) arg2.view (Rect.unit ![0, 0, 0] S1x5120x81.size inb_S1x5120x81_S1x5120x81_0_0_0).toLoadRect (harg2.unread x0)) (View.readAt (Elt F) arg3.view (Rect.unit ![0, 0, 0, 0] S1x1x1x5120.size inb_S1x1x1x5120_S1x1x1x5120_0_0_0_0).toLoadRect (harg3.unread x1)) (View.readAt (Elt F) arg8.view (Rect.unit ![0, 0] S5120x1.size inb_S5120x1_S5120x1_0_0).toLoadRect (harg8.unread a)) = _
  rw [load_whole harg2 x0 (by decide), load_whole harg3 x1 (by decide), load_whole harg8 a (by decide)]

/-- The accumulator a batch's last point leaves. -/
theorem ceRunLast_acc (c : Dev nD) (i : grid1.Coords) (arg2 : Memref sig .tc .vmem S1x5120x81 .f32) (harg2 : arg2.IsWhole) (arg3 : Memref sig .tc .vmem S1x1x1x5120 .i32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1 .f32) (harg7 : arg7.IsWhole) (arg8 : Memref sig .tc .vmem S5120x1 .f32) (harg8 : arg8.IsWhole) (hc : k1_cond1 i = 1#1)
    (x0 : Vec F S1x5120x81 .f32) (x1 : Vec F S1x1x1x5120 .i32) (x2 : Vec F S1x1x128 .f32) (x3 : Vec F S1x1x128 .f32) (x4 : Vec F S1x1x128 .f32) (o : Vec F S1x1 .f32) (a : Vec F S5120x1 .f32) :
    (ceRunLast c i arg2 harg2 arg3 harg3 arg4 harg4 arg5 harg5 arg6 harg6 arg7 harg7 arg8 harg8 hc x0 x1 x2 x3 x4 o a).1 = [⟨Rect.unit ![0, 0] S5120x1.size inb_S5120x1_S5120x1_0_0, k1_pay1 i x0 x1 a⟩] := by
  show [(⟨Rect.unit ![0, 0] S5120x1.size inb_S5120x1_S5120x1_0_0, k1_pay1 i (View.readAt (Elt F) arg2.view (Rect.unit ![0, 0, 0] S1x5120x81.size inb_S1x5120x81_S1x5120x81_0_0_0).toLoadRect (harg2.unread x0)) (View.readAt (Elt F) arg3.view (Rect.unit ![0, 0, 0, 0] S1x1x1x5120.size inb_S1x1x1x5120_S1x1x1x5120_0_0_0_0).toLoadRect (harg3.unread x1)) (View.readAt (Elt F) arg8.view (Rect.unit ![0, 0] S5120x1.size inb_S5120x1_S5120x1_0_0).toLoadRect (harg8.unread a))⟩ : View.Piece (Elt F) S5120x1 .f32)] = _
  rw [load_whole harg2 x0 (by decide), load_whole harg3 x1 (by decide), load_whole harg8 a (by decide)]

/-- The output block a batch's last point leaves. -/
theorem ceRunLast_out (c : Dev nD) (i : grid1.Coords) (arg2 : Memref sig .tc .vmem S1x5120x81 .f32) (harg2 : arg2.IsWhole) (arg3 : Memref sig .tc .vmem S1x1x1x5120 .i32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1 .f32) (harg7 : arg7.IsWhole) (arg8 : Memref sig .tc .vmem S5120x1 .f32) (harg8 : arg8.IsWhole) (hc : k1_cond1 i = 1#1)
    (x0 : Vec F S1x5120x81 .f32) (x1 : Vec F S1x1x1x5120 .i32) (x2 : Vec F S1x1x128 .f32) (x3 : Vec F S1x1x128 .f32) (x4 : Vec F S1x1x128 .f32) (o : Vec F S1x1 .f32) (a : Vec F S5120x1 .f32) :
    (ceRunLast c i arg2 harg2 arg3 harg3 arg4 harg4 arg5 harg5 arg6 harg6 arg7 harg7 arg8 harg8 hc x0 x1 x2 x3 x4 o a).2.1 = ceOut i x2 x3 x4 o (k1_pay1 i x0 x1 a) := by
  have hH : ceRunLast.sl.H6_1 c i arg2 harg2 arg3 harg3 arg8 harg8 x0 x1 a = _ := ceRunLast_acc c i arg2 harg2 arg3 harg3 arg4 harg4 arg5 harg5 arg6 harg6 arg7 harg7 arg8 harg8 hc x0 x1 x2 x3 x4 o a
  have hv : ceRunLast.sl.v34 c i arg2 harg2 arg3 harg3 arg8 harg8 x0 x1 a = k1_pay1 i x0 x1 a := by
    unfold ceRunLast.sl.v34; rw [hH]; exact View.readCov_full _ _ _ _ _
  show k1_pay2 i (ceRunLast.sl.r c arg6 harg6 x4)
            (ceRunLast.sl.r_1 c i arg2 harg2 arg3 harg3 arg4 harg4 arg8 harg8 x0 x1 x2 a)
            (ceRunLast.sl.r_2 c arg5 harg5 x3) (ceRunLast.sl.r_3 c arg5 harg5 x3) k1_pay8
            (View.readAt (Elt F) arg7.view (Rect.unit ![0, 0] S1x1.size inb_S1x1_S1x1_0_0).toLoadRect (harg7.unread o)) = _
  unfold ceRunLast.sl.r ceRunLast.sl.r_1 ceRunLast.sl.r_2 ceRunLast.sl.r_3 ceOut
  rw [hv, load_whole harg4 x2 (by decide), load_whole harg5 x3 (by decide), load_whole harg6 x4 (by decide), load_whole harg7 o (by decide)]

end Cert.KernelIdeal.Hand

end
-- ==== Proof.CeData.lean ====
/-
The second region's proof data: what is known of the accumulator and of the output buffer at each point, and the
  body's obligation there.
-/
module

public import Idealize.ShloMosaic.Lib.Pipeline.DatRel
public import proofs.«01_k».proof.Proof.Gen.KernelIdeal.Launch
public import proofs.«01_k».proof.Proof.Gen.KernelIdeal.Skeleton
public import proofs.«01_k».proof.Proof.Gen.KernelIdeal.Points
public import proofs.«01_k».proof.Proof.Basic
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import proofs.«01_k».proof.Proof.CeRun

@[expose] public section

set_option maxRecDepth 16384

noncomputable section

namespace Cert.KernelIdeal.Hand

open Cert.KernelIdeal Cert.KernelIdeal.Gen Cert.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t` of the second kernel, read off its array as the region finds it. -/
def blkC (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The logits' staging buffer at point `t`: the block on the rows that are there, `d` on the rest. -/
def logitsC (c : Dev nD) (t : Fin cfg1.N) (d : Vec F S1x5120x81 .f32) : Vec F S1x5120x81 .f32 :=
  (cfg1.win 0).fill (cfg1.grid.coords t) d (blkC V c 0 t)

/-- What is known of the accumulator and of the output buffer before each point of the second kernel: `acc t` and
    `out t` before point `t`, kept by every point whatever the logits' missing rows hold. -/
structure Known (c : Dev nD) where
  acc : ℕ → Vec F S5120x1 .f32 → Prop
  out : ℕ → Vec F S1x1 .f32 → Prop
  acc_zero : ∀ a, acc 0 a
  out_zero : ∀ o, out 0 o
  step : ∀ (t : Fin cfg1.N) d a, acc t.val a → acc (t.val + 1) (k1_pay1 (grid1.coords t) (logitsC V c t d) (blkC V c 1 t) a)
  keep : ∀ (t : Fin cfg1.N) o, ¬ k1_cond1 (grid1.coords t) = 1#1 → out t.val o → out (t.val + 1) o
  last : ∀ (t : Fin cfg1.N) a o, k1_cond1 (grid1.coords t) = 1#1 → acc (t.val + 1) a → out t.val o →
    out (t.val + 1) (ceOut (grid1.coords t) (blkC V c 2 t) (blkC V c 3 t) (blkC V c 4 t) o a)

variable {V} in
/-- Nothing known: what a claim that reads no result takes. -/
def Known.trivial (c : Dev nD) : Known V c := ⟨fun _ _ => True, fun _ _ => True, fun _ => ⟨⟩, fun _ => ⟨⟩, fun _ _ _ _ => ⟨⟩, fun _ _ _ _ => ⟨⟩, fun _ _ _ _ _ _ => ⟨⟩⟩

variable (Z : (c : Dev nD) → Known V c)

/-- Window 0's staging memref at point `t`, and that it is whole. -/
abbrev stC0 (t : Fin cfg1.N) : Memref sig .tc .vmem S1x5120x81 .f32 := win1_0.stage (cfg1.slots t 0)
abbrev whC0 (t : Fin cfg1.N) : (stC0 t).IsWhole := hstage1_0 ((cfg1.slots t 0).cast nbuf1_0)
/-- Window 1's staging memref at point `t`, and that it is whole. -/
abbrev stC1 (t : Fin cfg1.N) : Memref sig .tc .vmem S1x1x1x5120 .i32 := win1_1.stage (cfg1.slots t 1)
abbrev whC1 (t : Fin cfg1.N) : (stC1 t).IsWhole := hstage1_1 ((cfg1.slots t 1).cast nbuf1_1)
/-- Window 2's staging memref at point `t`, and that it is whole. -/
abbrev stC2 (t : Fin cfg1.N) : Memref sig .tc .vmem S1x1x128 .f32 := win1_2.stage (cfg1.slots t 2)
abbrev whC2 (t : Fin cfg1.N) : (stC2 t).IsWhole := hstage1_2 ((cfg1.slots t 2).cast nbuf1_2)
/-- Window 3's staging memref at point `t`, and that it is whole. -/
abbrev stC3 (t : Fin cfg1.N) : Memref sig .tc .vmem S1x1x128 .f32 := win1_3.stage (cfg1.slots t 3)
abbrev whC3 (t : Fin cfg1.N) : (stC3 t).IsWhole := hstage1_3 ((cfg1.slots t 3).cast nbuf1_3)
/-- Window 4's staging memref at point `t`, and that it is whole. -/
abbrev stC4 (t : Fin cfg1.N) : Memref sig .tc .vmem S1x1x128 .f32 := win1_4.stage (cfg1.slots t 4)
abbrev whC4 (t : Fin cfg1.N) : (stC4 t).IsWhole := hstage1_4 ((cfg1.slots t 4).cast nbuf1_4)
/-- Window 5's staging memref at point `t`, and that it is whole. -/
abbrev stC5 (t : Fin cfg1.N) : Memref sig .tc .vmem S1x1 .f32 := win1_5.stage (cfg1.slots t 5)
abbrev whC5 (t : Fin cfg1.N) : (stC5 t).IsWhole := hstage1_5 ((cfg1.slots t 5).cast nbuf1_5)

/-- The buffers the second region holds and never touches. -/
def othersC (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f))

/-- The second region's invariant before point `t`: the accumulator at contents of which `acc t` holds, the untouched
    buffers, the generator register. -/
def invC (c : Dev nD) (t : ℕ) : sProp 𝕄 :=
  iprop((∃ a, ⌜(Z c).acc t a⌝ ∗ owns (c : Thread nD τ) (Memref.whole cc1_scratch0) fullShare a) ∗ othersC c ∗ ∃ r, prngReg c r)

/-- The second region's proof data: the fully staged inputs stay at their blocks. The logits' and the output's buffers
    are held to `relC` instead. -/
def datC (c : Dev nD) : Dat τ (Elt F) Unit ℕ (UR sig nD τ) ℕ cfg1 c where
  A w := V c (Pipeline.arrRef spec1 w)
  after w t := match w with
    | 0 => fun _ => FloatOps.ofBits .f32 0
    | 1 => blkC V c 1 t
    | 2 => blkC V c 2 t
    | 3 => blkC V c 3 t
    | 4 => blkC V c 4 t
    | 5 => fun _ => FloatOps.ofBits .f32 0
    | ⟨_ + 6, h⟩ => absurd h (Nat.not_lt.2 (Nat.le_add_left _ _))
  Φ t := invC V Z c t.val
  q _ := fullShare
  owed _ := 0

/-- The windows held to `relC`. -/
def markC : Fin cfg1.W → Bool := fun
  | 0 => true | 1 => false | 2 => false | 3 => false | 4 => false | 5 => true
  | ⟨_ + 6, h⟩ => absurd h (Nat.not_lt.2 (Nat.le_add_left _ _))

/-- What the marked windows' buffers are left at: the output's at contents of which `out` holds. -/
def relC (c : Dev nD) : (w : Fin cfg1.W) → Fin cfg1.N → ((cfg1.win w).block.Idx → Elt F (cfg1.win w).elt) → Prop
  | 5 => fun t X => (Z c).out (t.val + 1) X
  | _ => fun _ _ => True

/-- The second region's proof data with the marked windows held to `relC`. -/
def rdatC (c : Dev nD) : RDat τ (Elt F) Unit ℕ (UR sig nD τ) ℕ cfg1 c := (datC V Z c).toRRel markC (relC V Z c)

theorem datC_A (c : Dev nD) (w : Fin cfg1.W) : (datC V Z c).A w = V c (Pipeline.arrRef spec1 w) := rfl
theorem datC_after1 (c : Dev nD) (t : Fin cfg1.N) : (datC V Z c).after 1 t = blkC V c 1 t := by dsimp only [datC]
theorem datC_before1 (c : Dev nD) (t : Fin cfg1.N) (d) : (datC V Z c).before 1 t d = blkC V c 1 t :=
  ((datC V Z c).before_in_eq_fetched 1 rfl (fun _ => rfl) (fun _ _ _ => rfl) (fun t => by rw [datC_after1]; unfold Dat.blockOf blkC; rw [datC_A]; try rfl) t d).trans
    (by unfold Dat.fetched Dat.blockOf blkC; rw [datC_A]; try rfl)
theorem datC_after2 (c : Dev nD) (t : Fin cfg1.N) : (datC V Z c).after 2 t = blkC V c 2 t := by dsimp only [datC]
theorem datC_before2 (c : Dev nD) (t : Fin cfg1.N) (d) : (datC V Z c).before 2 t d = blkC V c 2 t :=
  ((datC V Z c).before_in_eq_fetched 2 rfl (fun _ => rfl) (fun _ _ _ => rfl) (fun t => by rw [datC_after2]; unfold Dat.blockOf blkC; rw [datC_A]; try rfl) t d).trans
    (by unfold Dat.fetched Dat.blockOf blkC; rw [datC_A]; try rfl)
theorem datC_after3 (c : Dev nD) (t : Fin cfg1.N) : (datC V Z c).after 3 t = blkC V c 3 t := by dsimp only [datC]
theorem datC_before3 (c : Dev nD) (t : Fin cfg1.N) (d) : (datC V Z c).before 3 t d = blkC V c 3 t :=
  ((datC V Z c).before_in_eq_fetched 3 rfl (fun _ => rfl) (fun _ _ _ => rfl) (fun t => by rw [datC_after3]; unfold Dat.blockOf blkC; rw [datC_A]; try rfl) t d).trans
    (by unfold Dat.fetched Dat.blockOf blkC; rw [datC_A]; try rfl)
theorem datC_after4 (c : Dev nD) (t : Fin cfg1.N) : (datC V Z c).after 4 t = blkC V c 4 t := by dsimp only [datC]
theorem datC_before4 (c : Dev nD) (t : Fin cfg1.N) (d) : (datC V Z c).before 4 t d = blkC V c 4 t :=
  ((datC V Z c).before_in_eq_fetched 4 rfl (fun _ => rfl) (fun _ _ _ => rfl) (fun t => by rw [datC_after4]; unfold Dat.blockOf blkC; rw [datC_A]; try rfl) t d).trans
    (by unfold Dat.fetched Dat.blockOf blkC; rw [datC_A]; try rfl)

/-- What the logits' buffer holds when the body runs. -/
theorem findsC0 (c : Dev nD) (t : Fin cfg1.N) (Y) (h : ((datC V Z c).toRRel markC (relC V Z c)).Finds 0 t Y) : ∃ d, Y = logitsC V c t d :=
  ((RDat.finds_of_fetch _ (fetch1_0 t) Y).mp h).imp fun d e => e.trans (by
    unfold logitsC blkC; rfl)

/-- What is known of the output's buffer when the body runs. -/
theorem findsC5 (c : Dev nD) (t : Fin cfg1.N) (Y) (h : ((datC V Z c).toRRel markC (relC V Z c)).Finds 5 t Y) : (Z c).out t.val Y := by
  by_cases h0 : t.val = 0
  · rw [h0]; exact (Z c).out_zero Y
  · have hN : t.val < 80 := lt_of_lt_of_eq t.isLt (show cfg1.N = 80 from N_1)
    rcases (RDat.finds_of_pos _ ((cfg1.win 5).fetch_out rfl t) h0 Y).mp h with hf | hl
    · have := (flush1_5 _).mp hf
      dsimp only at this
      omega
    · have hl' := (datC V Z c).toRRel_leaves (show markC 5 = true from rfl) hl
      have e : t.val - 1 + 1 = t.val := by omega
      have h2 : (Z c).out (t.val - 1 + 1) Y := hl'
      rwa [e] at h2

/-- What the body is called with at point `t`. -/
def preC (c : Dev nD) (t : Fin cfg1.N) : sProp 𝕄 :=
  iprop(invC V Z c t.val ∗ (datC V Z c).owesAt () t.castSucc
    ∗ (∃ Y, ⌜((datC V Z c).toRRel markC (relC V Z c)).Finds 0 t Y⌝ ∗ owns (c : Thread nD τ) (stC0 t) fullShare Y)
    ∗ (∃ d, owns (c : Thread nD τ) (stC1 t) fullShare ((datC V Z c).before 1 t d))
    ∗ (∃ d, owns (c : Thread nD τ) (stC2 t) fullShare ((datC V Z c).before 2 t d))
    ∗ (∃ d, owns (c : Thread nD τ) (stC3 t) fullShare ((datC V Z c).before 3 t d))
    ∗ (∃ d, owns (c : Thread nD τ) (stC4 t) fullShare ((datC V Z c).before 4 t d))
    ∗ (∃ Y, ⌜((datC V Z c).toRRel markC (relC V Z c)).Finds 5 t Y⌝ ∗ owns (c : Thread nD τ) (stC5 t) fullShare Y))

/-- What the body returns at point `t`. -/
def postC (c : Dev nD) (t : Fin cfg1.N) : sProp 𝕄 :=
  iprop(invC V Z c (t.val + 1) ∗ (datC V Z c).owesAt () t.castSucc
    ∗ (∃ X, ⌜True⌝ ∗ owns (c : Thread nD τ) (stC0 t) fullShare X)
    ∗ owns (c : Thread nD τ) (stC1 t) fullShare ((datC V Z c).after 1 t)
    ∗ owns (c : Thread nD τ) (stC2 t) fullShare ((datC V Z c).after 2 t)
    ∗ owns (c : Thread nD τ) (stC3 t) fullShare ((datC V Z c).after 3 t)
    ∗ owns (c : Thread nD τ) (stC4 t) fullShare ((datC V Z c).after 4 t)
    ∗ (∃ X, ⌜(Z c).out (t.val + 1) X⌝ ∗ owns (c : Thread nD τ) (stC5 t) fullShare X))

set_option maxHeartbeats 1600000 in
/-- The body's triple at any point, by the run of its case. -/
theorem soundC (c : Dev nD) (t : Fin cfg1.N) :
    preC V Z c t ⊢ wp frame (wpE (defs₀ (F := F)) Variants.none c none) Set.univ (bodyAt1 t) (fun _ => postC V Z c t) := by
  unfold preC postC bodyAt1
  simp only [datC_before1, datC_before2, datC_before3, datC_before4]
  rw [datC_after1, datC_after2, datC_after3, datC_after4]
  conv => lhs; unfold invC
  iintro ⟨⟨⟨%a, %ha, Ha⟩, Hr, Hp⟩, Ho, ⟨%Y0, %hY0, H0⟩, ⟨%d1, H1⟩, ⟨%d2, H2⟩, ⟨%d3, H3⟩, ⟨%d4, H4⟩, ⟨%o, %ho, H5⟩⟩
  obtain ⟨d0, rfl⟩ := findsC0 V Z c t Y0 hY0
  have ho' := findsC5 V Z c t o ho
  by_cases hc : k1_cond1 (grid1.coords t) = 1#1
  · iapply ((ceRunLast c (grid1.coords t) (stC0 t) (whC0 t) (stC1 t) (whC1 t) (stC2 t) (whC2 t) (stC3 t) (whC3 t) (stC4 t) (whC4 t) (stC5 t) (whC5 t) (Memref.whole cc1_scratch0) (Memref.isWhole_whole _) hc (logitsC V c t d0) (blkC V c 1 t) (blkC V c 2 t) (blkC V c 3 t) (blkC V c 4 t) o a).2.2 Set.univ _)
    isplitl [H0]; · iexact H0
    isplitl [H1]; · iexact H1
    isplitl [H2]; · iexact H2
    isplitl [H3]; · iexact H3
    isplitl [H4]; · iexact H4
    isplitl [H5]; · iexact H5
    isplitl [Ha]; · iexact Ha
    iintro ⟨H0, H1, H2, H3, H4, ⟨%e5, H5⟩, ⟨%e6, Ha⟩⟩
    isplitl [Ha Hr Hp]
    · unfold invC
      isplitl [Ha]
      · iexists (k1_pay1 (grid1.coords t) (logitsC V c t d0) (blkC V c 1 t) a)
        isplitr
        · ipureintro; exact (Z c).step t d0 a ha
        unfold owns; iexists _; isplitr
        swap; · iexact Ha
        ipureintro; rw [ceRunLast_acc]; exact read_store_whole _ _ (by decide) _ _
      isplitl [Hr]; · iexact Hr
      iexact Hp
    isplitl [Ho]; · iexact Ho
    isplitl [H0]
    · iexists _; isplitr
      swap; · iexact H0
      ipureintro; exact ⟨⟩
    isplitl [H1]; · iexact H1
    isplitl [H2]; · iexact H2
    isplitl [H3]; · iexact H3
    isplitl [H4]; · iexact H4
    iexists (ceOut (grid1.coords t) (blkC V c 2 t) (blkC V c 3 t) (blkC V c 4 t) o (k1_pay1 (grid1.coords t) (logitsC V c t d0) (blkC V c 1 t) a))
    isplitr
    · ipureintro; exact (Z c).last t _ o hc ((Z c).step t d0 a ha) ho'
    unfold owns; iexists _; isplitr
    swap; · iexact H5
    ipureintro; rw [← ceRunLast_out c (grid1.coords t) (stC0 t) (whC0 t) (stC1 t) (whC1 t) (stC2 t) (whC2 t) (stC3 t) (whC3 t) (stC4 t) (whC4 t) (stC5 t) (whC5 t) (Memref.whole cc1_scratch0) (Memref.isWhole_whole _) hc (logitsC V c t d0) (blkC V c 1 t) (blkC V c 2 t) (blkC V c 3 t) (blkC V c 4 t) o a]; exact read_store_whole _ _ (by decide) _ _
  · iapply ((ceRunStep c (grid1.coords t) (stC0 t) (whC0 t) (stC1 t) (whC1 t) (stC2 t) (whC2 t) (stC3 t) (whC3 t) (stC4 t) (whC4 t) (stC5 t) (whC5 t) (Memref.whole cc1_scratch0) (Memref.isWhole_whole _) hc (logitsC V c t d0) (blkC V c 1 t) (blkC V c 2 t) (blkC V c 3 t) (blkC V c 4 t) o a).2 Set.univ _)
    isplitl [H0]; · iexact H0
    isplitl [H1]; · iexact H1
    isplitl [H2]; · iexact H2
    isplitl [H3]; · iexact H3
    isplitl [H4]; · iexact H4
    isplitl [H5]; · iexact H5
    isplitl [Ha]; · iexact Ha
    iintro ⟨H0, H1, H2, H3, H4, H5, ⟨%e6, Ha⟩⟩
    isplitl [Ha Hr Hp]
    · unfold invC
      isplitl [Ha]
      · iexists (k1_pay1 (grid1.coords t) (logitsC V c t d0) (blkC V c 1 t) a)
        isplitr
        · ipureintro; exact (Z c).step t d0 a ha
        unfold owns; iexists _; isplitr
        swap; · iexact Ha
        ipureintro; rw [ceRunStep_val]; exact read_store_whole _ _ (by decide) _ _
      isplitl [Hr]; · iexact Hr
      iexact Hp
    isplitl [Ho]; · iexact Ho
    isplitl [H0]
    · iexists _; isplitr
      swap; · iexact H0
      ipureintro; exact ⟨⟩
    isplitl [H1]; · iexact H1
    isplitl [H2]; · iexact H2
    isplitl [H3]; · iexact H3
    isplitl [H4]; · iexact H4
    iexists o
    isplitr
    · ipureintro; exact (Z c).keep t o hc ho'
    iexact H5

/-- The body table's row at point `t` is the body as `bodyAt1` spells it. -/
theorem rowC (t : Fin cfg1.N) :
    defs₀ (F := F) .tc cfg1.body (cfg1.bodyArgs t (cfg1.slots t)) = bodyAt1 t := by
  unfold defs₀; rw [Defs.onTc_tc]

/-- The second region's body obligation. -/
theorem obligationC (c : Dev nD) : BodyObligationRel (datC V Z c) (defs₀ (F := F)) Variants.none () Set.univ markC (relC V Z c) := fun t => by
  rw [bigSep_W1, bigSep_W1, rowC]
  exact triple_restated (soundC V Z c t) rfl .rfl fun _ => .rfl

end Cert.KernelIdeal.Hand

end
-- ==== Proof.Run.lean ====
/-
The whole program's run: @main as host stretches and the two kernels, from the launch to the return.
-/
module

public import Idealize.ShloMosaic.Lib.Pipeline.DatRel
public import proofs.«01_k».proof.Proof.Gen.KernelIdeal.Launch
public import proofs.«01_k».proof.Proof.Gen.KernelIdeal.Skeleton
public import proofs.«01_k».proof.Proof.Gen.KernelIdeal.Points
public import proofs.«01_k».proof.Proof.Basic
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import proofs.«01_k».proof.Proof.AssignData
public import proofs.«01_k».proof.Proof.CeData
public import proofs.«01_k».proof.Proof.Gen.KernelIdeal.Regions
public import Idealize.ShloMosaic.Lib.Pipeline.ArrRel
public import Idealize.ShloMosaic.Lib.Pipeline.RegionArraysF

@[expose] public section

set_option maxRecDepth 16384

noncomputable section

namespace Cert.KernelIdeal.Hand

open Cert.KernelIdeal Cert.KernelIdeal.Gen Cert.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The argument arrays. -/
abbrev argRefs : List (Ref sig .tc) := [main_arg0, main_arg1, main_arg2, main_arg3, main_arg4]

theorem hostOps0_args : ∀ a ∈ argRefs, a ∉ hostOps0_W := ListAll.forall_mem_of_all_decide (by decide +kernel)
theorem hostOps1_args : ∀ a ∈ argRefs, a ∉ hostOps1_W := ListAll.forall_mem_of_all_decide (by decide +kernel)
theorem hostOps2_args : ∀ a ∈ argRefs, a ∉ hostOps2_W := ListAll.forall_mem_of_all_decide (by decide +kernel)
/-- Every argument among a region's arrays is an input window's. -/
theorem argsIn0 : ∀ a ∈ argRefs, ∀ w : Fin cfg0.W, Pipeline.arrRef spec0 w = a → (cfg0.win w).isOut = false :=
  ListAll.forall_mem_of_all_decide (by decide +kernel)
theorem argsIn1 : ∀ a ∈ argRefs, ∀ w : Fin cfg1.W, Pipeline.arrRef spec1 w = a → (cfg1.win w).isOut = false :=
  ListAll.forall_mem_of_all_decide (by decide +kernel)

/-! ## The buffers' contents at each boundary of @main -/

/-- At the launch, and after the first host stretch. -/
abbrev E0 : Dev nD → Valuation τ sig (Elt F) := fun c b => m ((c : Dev nD), b)
abbrev E1 : Dev nD → Valuation τ sig (Elt F) := fun c => StableHlo.after hostOps0 (E0 m c)
/-- The same read at the TensorCore's references. -/
abbrev B1 : (c : Dev nD) → (b : Ref sig .tc) → Buf (Elt F) ((c : Thread nD τ).loc b) := fun c b => E1 m c b
/-- After the first kernel. -/
def E2 (c : Dev nD) : Valuation τ sig (Elt F) :=
  Pipeline.withArrays spec0 c (E1 m c) fun w => (datA (B1 m) c).arrAt w cfg0.N
abbrev B2 : (c : Dev nD) → (b : Ref sig .tc) → Buf (Elt F) ((c : Thread nD τ).loc b) := fun c b => E2 m c b
/-- After the second host stretch. -/
abbrev E3 : Dev nD → Valuation τ sig (Elt F) := fun c => StableHlo.after hostOps1 (E2 m c)
abbrev B3 : (c : Dev nD) → (b : Ref sig .tc) → Buf (Elt F) ((c : Thread nD τ).loc b) := fun c b => E3 m c b

theorem E1_of (c : Dev nD) (r : Ref sig .tc) (h : r ∉ hostOps0_W) : E1 m c (Proc.devRef .tc r) = E0 m c (Proc.devRef .tc r) :=
  StableHlo.after_of_writes_sub hostOps0 _ hostOps0_writes h
theorem E2_arr (c : Dev nD) (w : Fin cfg0.W) :
    E2 m c (Proc.devRef .tc (Pipeline.arrRef spec0 w)) = (datA (B1 m) c).arrAt w cfg0.N := by
  unfold E2; exact Pipeline.withArrays_arr spec0 launch0.win.arr_inj c _ _ w
theorem E2_of_ne (c : Dev nD) (b : Ref sig .tc) (hb : ∀ w, Pipeline.arrRef spec0 w ≠ b) :
    E2 m c (Proc.devRef .tc b) = E1 m c (Proc.devRef .tc b) := by
  unfold E2; exact Pipeline.withArrays_of_ne spec0 c _ _ b hb
theorem E2_of (c : Dev nD) (r : Ref sig .tc) (h : ∀ w : Fin cfg0.W, Pipeline.arrRef spec0 w = r → (cfg0.win w).isOut = false) :
    E2 m c (Proc.devRef .tc r) = E1 m c (Proc.devRef .tc r) := by
  by_cases hw : ∃ w : Fin cfg0.W, Pipeline.arrRef spec0 w = r
  · obtain ⟨w, rfl⟩ := hw
    exact (E2_arr m c w).trans (((datA (B1 m) c).arrAt_in w (h w rfl) _).trans (datA_A (B1 m) c w))
  · exact E2_of_ne m c r fun w e => hw ⟨w, e⟩
theorem E3_of (c : Dev nD) (r : Ref sig .tc) (h : r ∉ hostOps1_W) : E3 m c (Proc.devRef .tc r) = E2 m c (Proc.devRef .tc r) :=
  StableHlo.after_of_writes_sub hostOps1 _ hostOps1_writes h
/-- Each argument still holds what it was launched with when the second kernel starts. -/
theorem E3_args (c : Dev nD) : ∀ a ∈ argRefs, E3 m c (Proc.devRef .tc a) = m ((c : Thread nD τ).loc a) :=
  fun a ha => (E3_of m c a (hostOps1_args a ha)).trans ((E2_of m c a (argsIn0 a ha)).trans (E1_of m c a (hostOps0_args a ha)))

variable (Z : (c : Dev nD) → Known (B3 m) c)

/-- What is left of the second kernel's arrays. -/
abbrev Arrays1 (c : Dev nD) := (w : Fin cfg1.W) → Buf (Elt F) ((cfg1.win w).arr.view.loc (c.tc : Thread nD τ))
/-- That the second kernel may have left them so. -/
abbrev Left1 (c : Dev nD) (G : Arrays1 (F := F) c) : Prop := ∀ w, (rdatC (B3 m) Z c).ArrAt w cfg1.N (G w)
/-- After the second kernel, its arrays at `G`, and after the last host stretch. -/
def E4 (c : Dev nD) (G : Arrays1 (F := F) c) : Valuation τ sig (Elt F) := Pipeline.withArrays spec1 c (E3 m c) G
abbrev B4 (c : Dev nD) (G : Arrays1 (F := F) c) : (b : Ref sig .tc) → Buf (Elt F) ((c : Thread nD τ).loc b) := fun b => E4 m c G b
abbrev E5 (c : Dev nD) (G : Arrays1 (F := F) c) : Valuation τ sig (Elt F) := StableHlo.after hostOps2 (E4 m c G)

theorem E4_arr (c : Dev nD) (G : Arrays1 (F := F) c) (w : Fin cfg1.W) : E4 m c G (Proc.devRef .tc (Pipeline.arrRef spec1 w)) = G w := by
  unfold E4; exact Pipeline.withArrays_arr spec1 launch1.win.arr_inj c _ _ w
theorem E4_of_ne (c : Dev nD) (G : Arrays1 (F := F) c) (b : Ref sig .tc) (hb : ∀ w, Pipeline.arrRef spec1 w ≠ b) :
    E4 m c G (Proc.devRef .tc b) = E3 m c (Proc.devRef .tc b) := by
  unfold E4; exact Pipeline.withArrays_of_ne spec1 c _ _ b hb
theorem E5_args (c : Dev nD) (G : Arrays1 (F := F) c) (hG : Left1 m Z c G) :
    ∀ a ∈ argRefs, E5 m c G (Proc.devRef .tc a) = m ((c : Thread nD τ).loc a) := fun a ha => by
  refine (StableHlo.after_of_writes_sub hostOps2 _ hostOps2_writes (hostOps2_args a ha)).trans (Eq.trans ?_ (E3_args m c a ha))
  by_cases hw : ∃ w : Fin cfg1.W, Pipeline.arrRef spec1 w = a
  · obtain ⟨w, rfl⟩ := hw
    have h := hG w
    rw [RDat.ArrAt_in _ w (argsIn1 _ ha w rfl)] at h
    exact (E4_arr m c G w).trans h
  · exact E4_of_ne m c G a fun w e => hw ⟨w, e⟩

theorem lastPoint : 79 < cfg1.N := by rw [show cfg1.N = 80 from N_1]; decide
theorem wholeLast : (cfg1.win 5).WholeAt ⟨79, lastPoint⟩ := by decide +kernel

/-- The second kernel's result: one write-back, at the last point, of contents of which `out` holds. -/
theorem left_out (c : Dev nD) (G : Arrays1 (F := F) c) (hG : Left1 m Z c G) :
    ∃ X : Vec F S1x1 .f32, (Z c).out 80 X ∧ E4 m c G (Proc.devRef .tc main_call0_v10) = X := by
  obtain ⟨X, hX, hj⟩ := RDat.ArrAt.emb_eq_of_wholeAt (hG 5) wholeLast
  refine ⟨X, (datC (B3 m) Z c).toRRel_leaves (show markC 5 = true from rfl) hX, ?_⟩
  refine (E4_arr m c G 5).trans (funext fun j => ?_)
  exact hj j

/-- The result array after the last host stretch. -/
theorem E5_result (c : Dev nD) (G : Arrays1 (F := F) c) :
    E5 m c G (Proc.devRef .tc main_v0) = shapeCast S_ (E4 m c G (Proc.devRef .tc main_call0_v10)) shapeCasts_S1x1_S_ := rfl

/-! ## The proof data of both regions and the thread states -/

/-- No pipeline has a table. -/
abbrev noTables : (p : Fin 2) → (pcfgs (F := F) p).Adm := fun p => (cfgs p).toPCfg_adm
/-- Each pipeline's exact data, from which its arrays are split and joined. -/
def exacts : (p : Fin 2) → (c : Dev nD) → Dat τ (Elt F) Unit ℕ (UR sig nD τ) ℕ (Pipeline.pin (pcfgs (F := F)) noTables p) c
  | ⟨0, _⟩ => fun c => datA (B1 m) c
  | ⟨1, _⟩ => fun c => datC (B3 m) Z c
/-- Each pipeline's relational data. -/
def rdats : (p : Fin 2) → (c : Dev nD) → RDat τ (Elt F) Unit ℕ (UR sig nD τ) ℕ (Pipeline.pin (pcfgs (F := F)) noTables p) c
  | ⟨0, _⟩ => fun c => (datA (B1 m) c).toR
  | ⟨1, _⟩ => fun c => rdatC (B3 m) Z c
abbrev noVar : Variants := Variants.none
abbrev noLev : GSem nD τ sig → Finset Unit := fun _ => ∅
abbrev lev : GSem nD τ sig → Unit → ℕ := fun _ _ => 0
/-- What rides beside the buffers: the generator register and the core's `owes`, at nothing. -/
abbrev Rides (c : Dev nD) : sProp 𝕄 := iprop((∃ r, prngReg c r) ∗ ∃ W, owes (c : Thread nD τ) (0 : CellTallies nD τ sig Unit) W)
/-- A host stretch from the contents `W`. -/
abbrev hostAt (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ noVar noLev lev :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rides

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The thread state after the second kernel: every unscoped buffer at the contents of some arrays it may have left. -/
abbrev Mid (c : Dev nD) : sProp 𝕄 :=
  iprop(∃ G : Arrays1 (F := F) c, ⌜Left1 m Z c G⌝ ∗ StableHlo.held (c : Thread nD τ) (Pipeline.ucRefs τ sig) (E4 m c G) ∗ Rides c)
/-- The last thread state. -/
abbrev Fin' (c : Dev nD) : sProp 𝕄 :=
  iprop((∃ G : Arrays1 (F := F) c, ⌜Left1 m Z c G⌝ ∗ StableHlo.held (c : Thread nD τ) (Pipeline.ucRefs τ sig) (E5 m c G)) ∗ ∃ r, prngReg c r)

set_option backward.isDefEq.respectTransparency.types false in
/-- The last host stretch, from whatever the second kernel left. -/
def lastHost : Pipeline.HostSeg (Name := ℕ) (U := UR sig nD τ) (pcfgs (F := F)) defs₀ noVar noLev lev where
  prog := StableHlo.seq hostOps2
  pre := Mid m Z
  post c := iprop(∃ G : Arrays1 (F := F) c, ⌜Left1 m Z c G⌝ ∗ StableHlo.held (c : Thread nD τ) (Pipeline.ucRefs τ sig) (E5 m c G) ∗ Rides c)
  run c {β} k K := by
    iintro ⟨Hk, Hbd, ⟨%G, %hG, Hh, HR⟩, -⟩
    have hseq := StableHlo.wp_seq (defs := Pipeline.defs (pcfgs (F := F)) defs₀) (Variants.lift noVar) none Set.univ c (Pipeline.ucRefs τ sig) k (K := K)
      hostOps2 (fun op h => Pipeline.sub_ucRefs op ((List.forall_iff_forall_mem.mp hostOps2_sub) op h))
      (fun op h => (List.forall_iff_forall_mem.mp hostOps2_fresh) op h) (E4 m c G)
    iapply hseq $$ [Hbd Hh]
    · isplitl [Hbd] <;> iassumption
    iintro ⟨Hbd, Hh⟩
    iapply Hk
    isplitl [Hbd]; · iexact Hbd
    iexists G
    isplitr; · ipureintro; exact hG
    isplitl [Hh] <;> iassumption

set_option backward.isDefEq.respectTransparency.types false in
/-- The first kernel as a segment. -/
def segA : Pipeline.RDat.RegionSeg (pcfgs (F := F)) noTables (rdats m Z) () defs₀ noVar noLev lev 0 where
  win := launch0.win.to₀
  block_pos := launch0.block_pos
  stage_whole := launch0.stage_whole
  K := PEmpty
  osem k := k.elim
  ho := Pipeline.OwnSemFacts.none _
  hbody c := (obligationA (B1 m) c).toR
  hwaits := Pipeline.RDat.hwaits_of_owed_zero _ _ _ _ noLev lev 0 fun _ _ => rfl
  pre c := iprop(StableHlo.held (c : Thread nD τ) (Pipeline.ucRefs τ sig) (E1 m c) ∗ Rides c)
  post c := iprop(StableHlo.held (c : Thread nD τ) (Pipeline.ucRefs τ sig) (E2 m c) ∗ Rides c)
  X c := iprop(∃ r, prngReg c r)
  Y c := iprop(∃ r, prngReg c r)
  Z c := Pipeline.unscopedRest (Ix := Unit) (Name := ℕ) (U := UR sig nD τ) (Lvl := ℕ) spec0 c (B1 m c)
  hentry c := by
    rw [Pipeline.ownSems0_none]
    have hsplit := Pipeline.arrays_of_unscopedBufs (p := 0) (pcfgs (F := F)) noTables (exacts m Z) launch0.win launch0.arr_whole c
      ((exacts m Z 0 c).share_full fun _ => rfl) (B1 m c) (fun _ => rfl)
    rw [Pipeline.unscopedBufs_held] at hsplit
    iintro ⟨⟨Hub, Hp, HO⟩, -, -⟩
    ihave H := hsplit $$ Hub
    icases H with ⟨Ha, Hrest⟩
    ihave Ha := (show ((exacts m Z 0 c).arrays (fun w => (exacts m Z 0 c).arrAt w 0) : sProp 𝕄)
      ⊢ (rdats m Z 0 c).arrays (rdats m Z 0 c).A from .rfl) $$ Ha
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m Z 0 c).Φ 0 = Pipeline.ΦA spec0 c from rfl]; unfold Pipeline.ΦA
    iintro ⟨Hp, -, Hr⟩
    isplitl [Hr]; · iexact Hr
    iexact Hp
  hout c := by
    rw [Pipeline.ownSems0_none, show (rdats m Z 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) noTables (Ix := Unit) (Name := ℕ) (U := UR sig nD τ) (Lvl := ℕ)
      launch0.win launch0.arr_whole c (exacts m Z) ((exacts m Z 0 c).share_full fun _ => rfl)
      (B1 m c) (B2 m c) ((exacts m Z 0 c).arrAt · cfg0.N) (fun w => (E2_arr m c w).symm)
      (fun b hb => E2_of_ne m c b fun w e => hb (Finset.mem_image.mpr ⟨w, Finset.mem_univ _, e⟩))
    rw [Pipeline.unscopedBufs_held] at hjoin
    have hpost : ((rdats m Z 0 c).arraysAt (Pipeline.pin (pcfgs (F := F)) noTables 0).N : sProp 𝕄)
        ⊢ (exacts m Z 0 c).arrays ((exacts m Z 0 c).arrAt · cfg0.N) := (datA (B1 m) c).toR_arraysAt_post cfg0.N
    iintro ⟨Ha, HO, HY, Hrest⟩
    ihave Ha' := hpost $$ Ha
    imodintro
    isplitl [Ha' Hrest]
    · iapply hjoin
      isplitl [Ha']
      · iexact Ha'
      iexact Hrest
    isplitl [HY]; · iexact HY
    unfold Pipeline.RDat.owesAt Pipeline.owesWithin
    icases HO with ⟨%W, -, HO⟩; iexists W; iexact HO

/-- What the second region's arrays are left at: some contents it may have left. -/
theorem left_some (c : Dev nD) :
    ((rdatC (B3 m) Z c).arraysAt cfg1.N : sProp 𝕄) ⊢ iprop(∃ G : Arrays1 (F := F) c, ⌜Left1 m Z c G⌝ ∗ (datC (B3 m) Z c).arrays G) := by
  unfold RDat.arraysAt Dat.arrays
  refine (BI.bigSep_exists_pi Finset.univ _).trans ?_
  iintro ⟨%G, H⟩
  ihave H' := (BI.bigSep_pure_sep Finset.univ (fun w => (rdatC (B3 m) Z c).ArrAt w cfg1.N (G w)) _) $$ H
  icases H' with ⟨%hG, H⟩
  iexists G
  isplitr
  · ipureintro; exact fun w => hG w (Finset.mem_univ w)
  iexact H

set_option backward.isDefEq.respectTransparency.types false in
/-- The second kernel as a segment. -/
def segC : Pipeline.RDat.RegionSeg (pcfgs (F := F)) noTables (rdats m Z) () defs₀ noVar noLev lev 1 where
  win := launch1.win.to₀
  block_pos := launch1.block_pos
  stage_whole := launch1.stage_whole
  K := PEmpty
  osem k := k.elim
  ho := Pipeline.OwnSemFacts.none _
  hbody c := (obligationC (B3 m) Z c).toRRel
  hwaits := Pipeline.RDat.hwaits_of_owed_zero _ _ _ _ noLev lev 1 fun _ _ => rfl
  pre c := iprop(StableHlo.held (c : Thread nD τ) (Pipeline.ucRefs τ sig) (E3 m c) ∗ Rides c)
  post := Mid m Z
  X c := iprop(∃ r, prngReg c r)
  Y c := iprop(∃ r, prngReg c r)
  Z c := Pipeline.unscopedRest (Ix := Unit) (Name := ℕ) (U := UR sig nD τ) (Lvl := ℕ) spec1 c (B3 m c)
  hentry c := by
    rw [Pipeline.ownSems0_none]
    have hsplit := Pipeline.arrays_of_unscopedBufs (p := 1) (pcfgs (F := F)) noTables (exacts m Z) launch1.win launch1.arr_whole c
      ((exacts m Z 1 c).share_full fun _ => rfl) (B3 m c) (fun _ => rfl)
    rw [Pipeline.unscopedBufs_held] at hsplit
    iintro ⟨⟨Hub, Hp, HO⟩, -, -⟩
    ihave H := hsplit $$ Hub
    icases H with ⟨Ha, Hrest⟩
    ihave Ha := (show ((exacts m Z 1 c).arrays (fun w => (exacts m Z 1 c).arrAt w 0) : sProp 𝕄)
      ⊢ (rdats m Z 1 c).arrays (rdats m Z 1 c).A from .rfl) $$ Ha
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m Z 1 c).Φ 0 = invC (B3 m) Z c 0 from rfl]; unfold invC othersC
    rw [show Pipeline.scopedRest (Pipeline.pin (pcfgs (F := F)) noTables 1).spec c = _ from scopedRest1_eq c]
    iintro ⟨Hp, -, ⟨S0, S1, S2, S3, S4, S5, S6, S7, S8, S9, S10, S11, S12, S13, S14, S15⟩⟩
    isplitl [S11]
    · icases S11 with ⟨%f, S11⟩
      iexists f
      isplitr; · ipureintro; exact (Z c).acc_zero f
      rw [owns_whole]; iexact S11
    isplitr [Hp]
    · isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      isplitl [S8]; · iexact S8
      isplitl [S9]; · iexact S9
      isplitl [S10]; · iexact S10
      isplitl [S12]; · iexact S12
      isplitl [S13]; · iexact S13
      isplitl [S14]; · iexact S14
      iexact S15
    iexact Hp
  hout c := by
    rw [Pipeline.ownSems0_none, show (rdats m Z 1 c).Φ (Fin.last _) = invC (B3 m) Z c cfg1.N from rfl]; unfold invC othersC
    rw [show Pipeline.scopedRest (Pipeline.pin (pcfgs (F := F)) noTables 1).spec c = _ from scopedRest1_eq c]
    iintro ⟨⟨%a, -, Ha⟩, ⟨S0, S1, S2, S3, S4, S5, S6, S7, S8, S9, S10, S12, S13, S14, S15⟩, Hp⟩
    isplitl [Hp]; · iexact Hp
    isplitr; · iempintro
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [Ha]
    · iexists a
      iapply (show owns (c : Thread nD τ) (Memref.whole cc1_scratch0) fullShare a ⊢ ((c : Thread nD τ).loc cc1_scratch0 ↦{fullShare} a : sProp 𝕄) from
        by rw [owns_whole])
      iexact Ha
    isplitl [S12]; · iexact S12
    isplitl [S13]; · iexact S13
    isplitl [S14]; · iexact S14
    iexact S15
  hexit c := by
    have hl : ((rdats m Z 1 c).arraysAt (Pipeline.pin (pcfgs (F := F)) noTables 1).N : sProp 𝕄)
        ⊢ iprop(∃ G : Arrays1 (F := F) c, ⌜Left1 m Z c G⌝ ∗ (exacts m Z 1 c).arrays G) := left_some m Z c
    iintro ⟨Ha, HO, HY, Hrest⟩
    ihave Ha' := hl $$ Ha
    icases Ha' with ⟨%G, %hG, Ha⟩
    have hjoin := Pipeline.unscopedBufs_of_arrays (p := 1) (pcfgs (F := F)) noTables (Ix := Unit) (Name := ℕ) (U := UR sig nD τ) (Lvl := ℕ)
      launch1.win launch1.arr_whole c (exacts m Z) ((exacts m Z 1 c).share_full fun _ => rfl)
      (B3 m c) (B4 m c G) G (fun w => (E4_arr m c G w).symm)
      (fun b hb => E4_of_ne m c G b fun w e => hb (Finset.mem_image.mpr ⟨w, Finset.mem_univ _, e⟩))
    rw [Pipeline.unscopedBufs_held] at hjoin
    imodintro
    iexists G
    isplitr; · ipureintro; exact hG
    isplitl [Ha Hrest]
    · iapply hjoin
      isplitl [Ha]
      · iexact Ha
      iexact Hrest
    isplitl [HY]; · iexact HY
    unfold Pipeline.RDat.owesAt Pipeline.owesWithin
    icases HO with ⟨%W, -, HO⟩; iexists W; iexact HO

/-! ## @main as segments, and the launch -/

abbrev segs : List (Pipeline.RDat.Seg (pcfgs (F := F)) noTables (rdats m Z) () defs₀ noVar noLev lev) :=
  [ .host (hostAt hostOps0 hostOps0_sub hostOps0_fresh (E0 m)),
    .region (segA m Z),
    .host (hostAt hostOps1 hostOps1_sub hostOps1_fresh (E2 m)),
    .region (segC m Z),
    .host (lastHost m Z) ]

theorem main_run (c : Dev nD) : main (F := F) c = Pipeline.RDat.Seg.run (segs m Z) := (main_chain c).trans (by chain_rfl)

theorem no_unscoped : ∀ sm : SemLoc sig, sm.isScoped .tc = true := by decide

set_option backward.isDefEq.respectTransparency.types false in
/-- From any memory with zero counters every execution of @main ends, nothing faulting, with the arguments as launched,
    every counter at zero, and the result the second kernel's one word, of which `out 80` holds. -/
theorem run : θ_run defs (onTc (τ := τ) (main (F := F))) ⟨m, fun _ => 0, ρ⟩ (fun r => (∀ c : Dev nD,
      (∃ X : Vec F S1x1 .f32, (Z c).out 80 X ∧ r.2.mem ((c.tc : Thread nD τ).loc main_v0) = shapeCast S_ X shapeCasts_S1x1_S_)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  Pipeline.RDat.θ_run_regions_kit_sems (pcfgs (F := F)) noTables (rdats m Z) () cellOf_inj emb₁ defs₀ noVar noLev lev m ρ main (segs m Z)
    (fun c Q => by rw [main_run m Z c])
    (by simp only [segs, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (E0 m c) ∗ Rides c)) (Tₙ := Fin' m Z)
    (hch := ⟨fun _ => .rfl, fun _ => .rfl, fun _ => .rfl, fun _ => .rfl, fun _ => .rfl, fun c => by
      dsimp only [Pipeline.RDat.Seg.post, lastHost]
      iintro ⟨%G, %hG, Hh, Hp, HO⟩
      isplitl [Hh Hp]
      · isplitl [Hh]
        · iexists G
          isplitr; · ipureintro; exact hG
          iexact Hh
        iexact Hp
      iexact HO⟩)
    (hinit := by
      refine Pipeline.initEach noLev lev fun c => ?_
      rw [show unscopedBufs c (fun b => m ((c : Thread nD τ).loc b)) = StableHlo.held (c : Thread nD τ) (Pipeline.ucRefs τ sig) (E0 m c)
        from Pipeline.unscopedBufs_held c (E0 m c)]
      iintro ⟨⟨Hh, -, HO, -, Hp, -⟩, -⟩
      imodintro
      isplitl [Hh]; · iexact Hh
      isplitl [Hp]; · iexists _; iexact Hp
      iexists ∅; iexact HO)
    (QY := fun c s => ∃ G : Arrays1 (F := F) c, Left1 m Z c G ∧ ∀ b ∈ Pipeline.ucRefs τ sig, s.mem (((c : Thread nD τ)).1, b) = E5 m c G b)
    (hfin := fun c s' => by
      iintro ⟨⟨⟨%G, %hG, Hh⟩, -⟩, HSI⟩
      unfold StableHlo.held
      ihave H := (pointsTo_read_all (Pipeline.ucRefs τ sig) (fun b => (((c : Thread nD τ)).1, b)) (E5 m c G) s') $$ [Hh HSI]
      · isplitl [Hh] <;> iassumption
      icases H with ⟨%hr, HSI⟩
      imodintro
      isplitr
      · ipureintro; exact ⟨G, hG, hr⟩
      iexact HSI)
    (hQ := fun s h hz => ⟨(fun c => by
      obtain ⟨G, hG, hr⟩ := h c
      obtain ⟨X, hX, hv⟩ := left_out m Z c G hG
      have ha := E5_args m Z c G hG
      exact ⟨⟨X, hX, (hr _ (mem_uc main_v0 (by decide))).trans ((E5_result m c G).trans (by rw [hv]))⟩,
        (hr _ (mem_uc main_arg0 (by decide))).trans (ha main_arg0 (by decide)),
        (hr _ (mem_uc main_arg1 (by decide))).trans (ha main_arg1 (by decide)),
        (hr _ (mem_uc main_arg2 (by decide))).trans (ha main_arg2 (by decide)),
        (hr _ (mem_uc main_arg3 (by decide))).trans (ha main_arg3 (by decide)),
        (hr _ (mem_uc main_arg4 (by decide))).trans (ha main_arg4 (by decide))⟩), funext fun g => hz g (.inr (no_unscoped g.2))⟩)

/-- The frame: the arguments end as launched and every counter at zero. -/
theorem quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => (h.1 c).2, h.2⟩) (run m ρ fun c => Known.trivial c)

end Cert.KernelIdeal.Hand

end
-- ==== Proof.KernelFrame.lean ====
/-
The kernel as compiled: the same program as the idealized one, so its run is the run proved there.
-/
module

public import proofs.«01_k».proof.Proof.Run
public import proofs.«01_k».proof.Proof.Gen.Kernel
public import proofs.«01_k».proof.Defs

@[expose] public section

set_option maxRecDepth 16384

noncomputable section

namespace Cert.Kernel.Hand

open Idealize.ShloMosaic Idealize.ShloMosaic.TcCoe

set_option maxHeartbeats 8000000 in
/-- The two programs are the same program. -/
theorem main_same : (@Cert.Kernel.main Bits _ Cert.Kernel.Gen.facts) = (@Cert.KernelIdeal.main Bits _ Cert.KernelIdeal.Gen.facts) := by
  rfl

set_option maxHeartbeats 4000000 in
theorem assign_same : @Cert.Kernel.cc0__assign_body Bits _ Cert.Kernel.Gen.facts
    = @Cert.KernelIdeal.cc0__assign_body Bits _ Cert.KernelIdeal.Gen.facts := by
  rfl

set_option maxHeartbeats 4000000 in
theorem ce_same : @Cert.Kernel.cc1__ce_body Bits _ Cert.Kernel.Gen.facts
    = @Cert.KernelIdeal.cc1__ce_body Bits _ Cert.KernelIdeal.Gen.facts := by
  rfl

set_option maxHeartbeats 4000000 in
theorem pcfgs_same : (Cert.Kernel.pcfgs (F := Bits)) = Cert.KernelIdeal.pcfgs (F := Bits) := by
  rfl

set_option maxHeartbeats 4000000 in
theorem bodies_same : (@Cert.Kernel.defs₀ Bits _ Cert.Kernel.Gen.facts) = (@Cert.KernelIdeal.defs₀ Bits _ Cert.KernelIdeal.Gen.facts) := by
  unfold Cert.Kernel.defs₀ Cert.KernelIdeal.defs₀
  rw [assign_same, ce_same]
  refine congrArg Defs.onTc (funext fun ℓ => funext fun a => ?_)
  match ℓ, a with
  | 0, (t, s) => rfl
  | 1, (t, s) => rfl

set_option maxHeartbeats 4000000 in
theorem defs_same : (@Cert.Kernel.defs Bits _ Cert.Kernel.Gen.facts) = (@Cert.KernelIdeal.defs Bits _ Cert.KernelIdeal.Gen.facts) := by
  unfold Cert.Kernel.defs Cert.KernelIdeal.defs
  rw [bodies_same]
  rfl

set_option maxHeartbeats 4000000 in
/-- The compiled kernel runs, leaves its arguments as they were, and ends quiet. -/
theorem frame : @Cert.quiescent_Kernel Cert.Kernel.Gen.facts := by
  intro m g _
  have h := Cert.KernelIdeal.Hand.quiet (F := Bits) m g
  rw [defs_same, main_same]
  exact h

end Cert.Kernel.Hand

end
-- ==== Proof.RefVals.lean ====
/-
The reference's intermediate arrays, one definition per operation of its program, as functions of the five arguments.
-/
module

public import proofs.«01_k».proof.Proof.Gen.ReferenceIdeal
public import Idealize.ShloMosaic.Lib.StableHlo.Run

@[expose] public section

set_option maxRecDepth 16384

noncomputable section

namespace Cert.ReferenceIdeal.Hand

open Cert.ReferenceIdeal Cert.ReferenceIdeal.Gen
open Idealize.ShloMosaic Idealize.ShloMosaic.TcCoe
open Idealize.SL.Sem

variable {F : FTy → Type} [FloatOps F]

/-- The reference's five arguments. -/
structure Args (F : FTy → Type) where
  /-- The class logits. -/
  arg0 : Vec F S16x25000x81 .f32
  /-- The box predictions. -/
  arg1 : Vec F S16x25000x4 .f32
  /-- The anchors. -/
  arg2 : Vec F S25000x4 .f32
  /-- The ground truth boxes. -/
  arg3 : Vec F S16x32x4 .f32
  /-- The ground truth labels. -/
  arg4 : Vec F S16x32 .i32

namespace Val

def v0 (A : Args F) : Vec F S25000x1 .f32 := ((extractStridedSlice S25000x1 ![0, 0] · slices_S25000x4_S25000x1_0_0) : (⟨S25000x4, .f32⟩ : BufTy).Contents (Elt F) → (⟨S25000x1, .f32⟩ : BufTy).Contents (Elt F)) A.arg2
def v1 (A : Args F) : Vec F S25000 .f32 := shapeCast S25000 (v0 A) shapeCasts_S25000x1_S25000
def v2 (A : Args F) : Vec F S25000x1 .f32 := ((extractStridedSlice S25000x1 ![0, 1] · slices_S25000x4_S25000x1_0_1) : (⟨S25000x4, .f32⟩ : BufTy).Contents (Elt F) → (⟨S25000x1, .f32⟩ : BufTy).Contents (Elt F)) A.arg2
def v3 (A : Args F) : Vec F S25000 .f32 := shapeCast S25000 (v2 A) shapeCasts_S25000x1_S25000
def v4 (A : Args F) : Vec F S25000x1 .f32 := ((extractStridedSlice S25000x1 ![0, 2] · slices_S25000x4_S25000x1_0_2) : (⟨S25000x4, .f32⟩ : BufTy).Contents (Elt F) → (⟨S25000x1, .f32⟩ : BufTy).Contents (Elt F)) A.arg2
def v5 (A : Args F) : Vec F S25000 .f32 := shapeCast S25000 (v4 A) shapeCasts_S25000x1_S25000
def v6 (A : Args F) : Vec F S25000x1 .f32 := ((extractStridedSlice S25000x1 ![0, 3] · slices_S25000x4_S25000x1_0_3) : (⟨S25000x4, .f32⟩ : BufTy).Contents (Elt F) → (⟨S25000x1, .f32⟩ : BufTy).Contents (Elt F)) A.arg2
def v7 (A : Args F) : Vec F S25000 .f32 := shapeCast S25000 (v6 A) shapeCasts_S25000x1_S25000
def v8 (A : Args F) : Vec F S16x32x1 .f32 := ((extractStridedSlice S16x32x1 ![0, 0, 0] · slices_S16x32x4_S16x32x1_0_0_0) : (⟨S16x32x4, .f32⟩ : BufTy).Contents (Elt F) → (⟨S16x32x1, .f32⟩ : BufTy).Contents (Elt F)) A.arg3
def v9 (A : Args F) : Vec F S16x32 .f32 := shapeCast S16x32 (v8 A) shapeCasts_S16x32x1_S16x32
def v10 (A : Args F) : Vec F S16x32x1 .f32 := ((extractStridedSlice S16x32x1 ![0, 0, 1] · slices_S16x32x4_S16x32x1_0_0_1) : (⟨S16x32x4, .f32⟩ : BufTy).Contents (Elt F) → (⟨S16x32x1, .f32⟩ : BufTy).Contents (Elt F)) A.arg3
def v11 (A : Args F) : Vec F S16x32 .f32 := shapeCast S16x32 (v10 A) shapeCasts_S16x32x1_S16x32
def v12 (A : Args F) : Vec F S16x32x1 .f32 := ((extractStridedSlice S16x32x1 ![0, 0, 2] · slices_S16x32x4_S16x32x1_0_0_2) : (⟨S16x32x4, .f32⟩ : BufTy).Contents (Elt F) → (⟨S16x32x1, .f32⟩ : BufTy).Contents (Elt F)) A.arg3
def v13 (A : Args F) : Vec F S16x32 .f32 := shapeCast S16x32 (v12 A) shapeCasts_S16x32x1_S16x32
def v14 (A : Args F) : Vec F S16x32x1 .f32 := ((extractStridedSlice S16x32x1 ![0, 0, 3] · slices_S16x32x4_S16x32x1_0_0_3) : (⟨S16x32x4, .f32⟩ : BufTy).Contents (Elt F) → (⟨S16x32x1, .f32⟩ : BufTy).Contents (Elt F)) A.arg3
def v15 (A : Args F) : Vec F S16x32 .f32 := shapeCast S16x32 (v14 A) shapeCasts_S16x32x1_S16x32
def cst (A : Args F) : Vec F S_ .f32 := (constant S_ .f32 0x40000000#32)
def v16 (A : Args F) : Vec F S25000 .f32 := (broadcastInDim S25000 ![] bcast_S_S25000 : (⟨S_, .f32⟩ : BufTy).Contents (Elt F) → (⟨S25000, .f32⟩ : BufTy).Contents (Elt F)) (cst A)
def v17 (A : Args F) : Vec F S25000 .f32 := (Host.divf : (⟨S25000, .f32⟩ : BufTy).Contents (Elt F) → (⟨S25000, .f32⟩ : BufTy).Contents (Elt F) → (⟨S25000, .f32⟩ : BufTy).Contents (Elt F)) (v5 A) (v16 A)
def v18 (A : Args F) : Vec F S25000 .f32 := (subf : (⟨S25000, .f32⟩ : BufTy).Contents (Elt F) → (⟨S25000, .f32⟩ : BufTy).Contents (Elt F) → (⟨S25000, .f32⟩ : BufTy).Contents (Elt F)) (v1 A) (v17 A)
def cst_0 (A : Args F) : Vec F S_ .f32 := (constant S_ .f32 0x40000000#32)
def v19 (A : Args F) : Vec F S25000 .f32 := (broadcastInDim S25000 ![] bcast_S_S25000 : (⟨S_, .f32⟩ : BufTy).Contents (Elt F) → (⟨S25000, .f32⟩ : BufTy).Contents (Elt F)) (cst_0 A)
def v20 (A : Args F) : Vec F S25000 .f32 := (Host.divf : (⟨S25000, .f32⟩ : BufTy).Contents (Elt F) → (⟨S25000, .f32⟩ : BufTy).Contents (Elt F) → (⟨S25000, .f32⟩ : BufTy).Contents (Elt F)) (v7 A) (v19 A)
def v21 (A : Args F) : Vec F S25000 .f32 := (subf : (⟨S25000, .f32⟩ : BufTy).Contents (Elt F) → (⟨S25000, .f32⟩ : BufTy).Contents (Elt F) → (⟨S25000, .f32⟩ : BufTy).Contents (Elt F)) (v3 A) (v20 A)
def cst_1 (A : Args F) : Vec F S_ .f32 := (constant S_ .f32 0x40000000#32)
def v22 (A : Args F) : Vec F S25000 .f32 := (broadcastInDim S25000 ![] bcast_S_S25000 : (⟨S_, .f32⟩ : BufTy).Contents (Elt F) → (⟨S25000, .f32⟩ : BufTy).Contents (Elt F)) (cst_1 A)
def v23 (A : Args F) : Vec F S25000 .f32 := (Host.divf : (⟨S25000, .f32⟩ : BufTy).Contents (Elt F) → (⟨S25000, .f32⟩ : BufTy).Contents (Elt F) → (⟨S25000, .f32⟩ : BufTy).Contents (Elt F)) (v5 A) (v22 A)
def v24 (A : Args F) : Vec F S25000 .f32 := (addf : (⟨S25000, .f32⟩ : BufTy).Contents (Elt F) → (⟨S25000, .f32⟩ : BufTy).Contents (Elt F) → (⟨S25000, .f32⟩ : BufTy).Contents (Elt F)) (v1 A) (v23 A)
def cst_2 (A : Args F) : Vec F S_ .f32 := (constant S_ .f32 0x40000000#32)
def v25 (A : Args F) : Vec F S25000 .f32 := (broadcastInDim S25000 ![] bcast_S_S25000 : (⟨S_, .f32⟩ : BufTy).Contents (Elt F) → (⟨S25000, .f32⟩ : BufTy).Contents (Elt F)) (cst_2 A)
def v26 (A : Args F) : Vec F S25000 .f32 := (Host.divf : (⟨S25000, .f32⟩ : BufTy).Contents (Elt F) → (⟨S25000, .f32⟩ : BufTy).Contents (Elt F) → (⟨S25000, .f32⟩ : BufTy).Contents (Elt F)) (v7 A) (v25 A)
def v27 (A : Args F) : Vec F S25000 .f32 := (addf : (⟨S25000, .f32⟩ : BufTy).Contents (Elt F) → (⟨S25000, .f32⟩ : BufTy).Contents (Elt F) → (⟨S25000, .f32⟩ : BufTy).Contents (Elt F)) (v3 A) (v26 A)
def v28 (A : Args F) : Vec F S1x25000x1 .f32 := (broadcastInDim S1x25000x1 ![1] bcast_S25000_S1x25000x1_1 : (⟨S25000, .f32⟩ : BufTy).Contents (Elt F) → (⟨S1x25000x1, .f32⟩ : BufTy).Contents (Elt F)) (v18 A)
def v29 (A : Args F) : Vec F S1x25000x1 .f32 := (broadcastInDim S1x25000x1 ![1] bcast_S25000_S1x25000x1_1 : (⟨S25000, .f32⟩ : BufTy).Contents (Elt F) → (⟨S1x25000x1, .f32⟩ : BufTy).Contents (Elt F)) (v21 A)
def v30 (A : Args F) : Vec F S1x25000x1 .f32 := (broadcastInDim S1x25000x1 ![1] bcast_S25000_S1x25000x1_1 : (⟨S25000, .f32⟩ : BufTy).Contents (Elt F) → (⟨S1x25000x1, .f32⟩ : BufTy).Contents (Elt F)) (v24 A)
def v31 (A : Args F) : Vec F S1x25000x1 .f32 := (broadcastInDim S1x25000x1 ![1] bcast_S25000_S1x25000x1_1 : (⟨S25000, .f32⟩ : BufTy).Contents (Elt F) → (⟨S1x25000x1, .f32⟩ : BufTy).Contents (Elt F)) (v27 A)
def v32 (A : Args F) : Vec F S16x1x32 .f32 := (broadcastInDim S16x1x32 ![0, 2] bcast_S16x32_S16x1x32_0_2 : (⟨S16x32, .f32⟩ : BufTy).Contents (Elt F) → (⟨S16x1x32, .f32⟩ : BufTy).Contents (Elt F)) (v9 A)
def v33 (A : Args F) : Vec F S16x1x32 .f32 := (broadcastInDim S16x1x32 ![0, 2] bcast_S16x32_S16x1x32_0_2 : (⟨S16x32, .f32⟩ : BufTy).Contents (Elt F) → (⟨S16x1x32, .f32⟩ : BufTy).Contents (Elt F)) (v11 A)
def v34 (A : Args F) : Vec F S16x1x32 .f32 := (broadcastInDim S16x1x32 ![0, 2] bcast_S16x32_S16x1x32_0_2 : (⟨S16x32, .f32⟩ : BufTy).Contents (Elt F) → (⟨S16x1x32, .f32⟩ : BufTy).Contents (Elt F)) (v13 A)
def v35 (A : Args F) : Vec F S16x1x32 .f32 := (broadcastInDim S16x1x32 ![0, 2] bcast_S16x32_S16x1x32_0_2 : (⟨S16x32, .f32⟩ : BufTy).Contents (Elt F) → (⟨S16x1x32, .f32⟩ : BufTy).Contents (Elt F)) (v15 A)
def v36 (A : Args F) : Vec F S16x25000x32 .f32 := (broadcastInDim S16x25000x32 ![0, 1, 2] bcast_S1x25000x1_S16x25000x32_0_1_2 : (⟨S1x25000x1, .f32⟩ : BufTy).Contents (Elt F) → (⟨S16x25000x32, .f32⟩ : BufTy).Contents (Elt F)) (v30 A)
def v37 (A : Args F) : Vec F S16x25000x32 .f32 := (broadcastInDim S16x25000x32 ![0, 1, 2] bcast_S16x1x32_S16x25000x32_0_1_2 : (⟨S16x1x32, .f32⟩ : BufTy).Contents (Elt F) → (⟨S16x25000x32, .f32⟩ : BufTy).Contents (Elt F)) (v34 A)
def v38 (A : Args F) : Vec F S16x25000x32 .f32 := (minimumf : (⟨S16x25000x32, .f32⟩ : BufTy).Contents (Elt F) → (⟨S16x25000x32, .f32⟩ : BufTy).Contents (Elt F) → (⟨S16x25000x32, .f32⟩ : BufTy).Contents (Elt F)) (v36 A) (v37 A)
def v39 (A : Args F) : Vec F S16x25000x32 .f32 := (broadcastInDim S16x25000x32 ![0, 1, 2] bcast_S1x25000x1_S16x25000x32_0_1_2 : (⟨S1x25000x1, .f32⟩ : BufTy).Contents (Elt F) → (⟨S16x25000x32, .f32⟩ : BufTy).Contents (Elt F)) (v28 A)
def v40 (A : Args F) : Vec F S16x25000x32 .f32 := (broadcastInDim S16x25000x32 ![0, 1, 2] bcast_S16x1x32_S16x25000x32_0_1_2 : (⟨S16x1x32, .f32⟩ : BufTy).Contents (Elt F) → (⟨S16x25000x32, .f32⟩ : BufTy).Contents (Elt F)) (v32 A)
def v41 (A : Args F) : Vec F S16x25000x32 .f32 := (maximumf : (⟨S16x25000x32, .f32⟩ : BufTy).Contents (Elt F) → (⟨S16x25000x32, .f32⟩ : BufTy).Contents (Elt F) → (⟨S16x25000x32, .f32⟩ : BufTy).Contents (Elt F)) (v39 A) (v40 A)
def v42 (A : Args F) : Vec F S16x25000x32 .f32 := (subf : (⟨S16x25000x32, .f32⟩ : BufTy).Contents (Elt F) → (⟨S16x25000x32, .f32⟩ : BufTy).Contents (Elt F) → (⟨S16x25000x32, .f32⟩ : BufTy).Contents (Elt F)) (v38 A) (v41 A)
def cst_3 (A : Args F) : Vec F S_ .f32 := (constant S_ .f32 0x00000000#32)
def v43 (A : Args F) : Vec F S16x25000x32 .f32 := (broadcastInDim S16x25000x32 ![] bcast_S_S16x25000x32 : (⟨S_, .f32⟩ : BufTy).Contents (Elt F) → (⟨S16x25000x32, .f32⟩ : BufTy).Contents (Elt F)) (cst_3 A)
def v44 (A : Args F) : Vec F S16x25000x32 .f32 := (maximumf : (⟨S16x25000x32, .f32⟩ : BufTy).Contents (Elt F) → (⟨S16x25000x32, .f32⟩ : BufTy).Contents (Elt F) → (⟨S16x25000x32, .f32⟩ : BufTy).Contents (Elt F)) (v42 A) (v43 A)
def v45 (A : Args F) : Vec F S16x25000x32 .f32 := (broadcastInDim S16x25000x32 ![0, 1, 2] bcast_S1x25000x1_S16x25000x32_0_1_2 : (⟨S1x25000x1, .f32⟩ : BufTy).Contents (Elt F) → (⟨S16x25000x32, .f32⟩ : BufTy).Contents (Elt F)) (v31 A)
def v46 (A : Args F) : Vec F S16x25000x32 .f32 := (broadcastInDim S16x25000x32 ![0, 1, 2] bcast_S16x1x32_S16x25000x32_0_1_2 : (⟨S16x1x32, .f32⟩ : BufTy).Contents (Elt F) → (⟨S16x25000x32, .f32⟩ : BufTy).Contents (Elt F)) (v35 A)
def v47 (A : Args F) : Vec F S16x25000x32 .f32 := (minimumf : (⟨S16x25000x32, .f32⟩ : BufTy).Contents (Elt F) → (⟨S16x25000x32, .f32⟩ : BufTy).Contents (Elt F) → (⟨S16x25000x32, .f32⟩ : BufTy).Contents (Elt F)) (v45 A) (v46 A)
def v48 (A : Args F) : Vec F S16x25000x32 .f32 := (broadcastInDim S16x25000x32 ![0, 1, 2] bcast_S1x25000x1_S16x25000x32_0_1_2 : (⟨S1x25000x1, .f32⟩ : BufTy).Contents (Elt F) → (⟨S16x25000x32, .f32⟩ : BufTy).Contents (Elt F)) (v29 A)
def v49 (A : Args F) : Vec F S16x25000x32 .f32 := (broadcastInDim S16x25000x32 ![0, 1, 2] bcast_S16x1x32_S16x25000x32_0_1_2 : (⟨S16x1x32, .f32⟩ : BufTy).Contents (Elt F) → (⟨S16x25000x32, .f32⟩ : BufTy).Contents (Elt F)) (v33 A)
def v50 (A : Args F) : Vec F S16x25000x32 .f32 := (maximumf : (⟨S16x25000x32, .f32⟩ : BufTy).Contents (Elt F) → (⟨S16x25000x32, .f32⟩ : BufTy).Contents (Elt F) → (⟨S16x25000x32, .f32⟩ : BufTy).Contents (Elt F)) (v48 A) (v49 A)
def v51 (A : Args F) : Vec F S16x25000x32 .f32 := (subf : (⟨S16x25000x32, .f32⟩ : BufTy).Contents (Elt F) → (⟨S16x25000x32, .f32⟩ : BufTy).Contents (Elt F) → (⟨S16x25000x32, .f32⟩ : BufTy).Contents (Elt F)) (v47 A) (v50 A)
def cst_4 (A : Args F) : Vec F S_ .f32 := (constant S_ .f32 0x00000000#32)
def v52 (A : Args F) : Vec F S16x25000x32 .f32 := (broadcastInDim S16x25000x32 ![] bcast_S_S16x25000x32 : (⟨S_, .f32⟩ : BufTy).Contents (Elt F) → (⟨S16x25000x32, .f32⟩ : BufTy).Contents (Elt F)) (cst_4 A)
def v53 (A : Args F) : Vec F S16x25000x32 .f32 := (maximumf : (⟨S16x25000x32, .f32⟩ : BufTy).Contents (Elt F) → (⟨S16x25000x32, .f32⟩ : BufTy).Contents (Elt F) → (⟨S16x25000x32, .f32⟩ : BufTy).Contents (Elt F)) (v51 A) (v52 A)
def v54 (A : Args F) : Vec F S16x25000x32 .f32 := (mulf : (⟨S16x25000x32, .f32⟩ : BufTy).Contents (Elt F) → (⟨S16x25000x32, .f32⟩ : BufTy).Contents (Elt F) → (⟨S16x25000x32, .f32⟩ : BufTy).Contents (Elt F)) (v44 A) (v53 A)
def v55 (A : Args F) : Vec F S1x25000x1 .f32 := (subf : (⟨S1x25000x1, .f32⟩ : BufTy).Contents (Elt F) → (⟨S1x25000x1, .f32⟩ : BufTy).Contents (Elt F) → (⟨S1x25000x1, .f32⟩ : BufTy).Contents (Elt F)) (v30 A) (v28 A)
def cst_5 (A : Args F) : Vec F S_ .f32 := (constant S_ .f32 0x00000000#32)
def v56 (A : Args F) : Vec F S1x25000x1 .f32 := (broadcastInDim S1x25000x1 ![] bcast_S_S1x25000x1 : (⟨S_, .f32⟩ : BufTy).Contents (Elt F) → (⟨S1x25000x1, .f32⟩ : BufTy).Contents (Elt F)) (cst_5 A)
def v57 (A : Args F) : Vec F S1x25000x1 .f32 := (maximumf : (⟨S1x25000x1, .f32⟩ : BufTy).Contents (Elt F) → (⟨S1x25000x1, .f32⟩ : BufTy).Contents (Elt F) → (⟨S1x25000x1, .f32⟩ : BufTy).Contents (Elt F)) (v55 A) (v56 A)
def v58 (A : Args F) : Vec F S1x25000x1 .f32 := (subf : (⟨S1x25000x1, .f32⟩ : BufTy).Contents (Elt F) → (⟨S1x25000x1, .f32⟩ : BufTy).Contents (Elt F) → (⟨S1x25000x1, .f32⟩ : BufTy).Contents (Elt F)) (v31 A) (v29 A)
def cst_6 (A : Args F) : Vec F S_ .f32 := (constant S_ .f32 0x00000000#32)
def v59 (A : Args F) : Vec F S1x25000x1 .f32 := (broadcastInDim S1x25000x1 ![] bcast_S_S1x25000x1 : (⟨S_, .f32⟩ : BufTy).Contents (Elt F) → (⟨S1x25000x1, .f32⟩ : BufTy).Contents (Elt F)) (cst_6 A)
def v60 (A : Args F) : Vec F S1x25000x1 .f32 := (maximumf : (⟨S1x25000x1, .f32⟩ : BufTy).Contents (Elt F) → (⟨S1x25000x1, .f32⟩ : BufTy).Contents (Elt F) → (⟨S1x25000x1, .f32⟩ : BufTy).Contents (Elt F)) (v58 A) (v59 A)
def v61 (A : Args F) : Vec F S1x25000x1 .f32 := (mulf : (⟨S1x25000x1, .f32⟩ : BufTy).Contents (Elt F) → (⟨S1x25000x1, .f32⟩ : BufTy).Contents (Elt F) → (⟨S1x25000x1, .f32⟩ : BufTy).Contents (Elt F)) (v57 A) (v60 A)
def v62 (A : Args F) : Vec F S16x1x32 .f32 := (subf : (⟨S16x1x32, .f32⟩ : BufTy).Contents (Elt F) → (⟨S16x1x32, .f32⟩ : BufTy).Contents (Elt F) → (⟨S16x1x32, .f32⟩ : BufTy).Contents (Elt F)) (v34 A) (v32 A)
def cst_7 (A : Args F) : Vec F S_ .f32 := (constant S_ .f32 0x00000000#32)
def v63 (A : Args F) : Vec F S16x1x32 .f32 := (broadcastInDim S16x1x32 ![] bcast_S_S16x1x32 : (⟨S_, .f32⟩ : BufTy).Contents (Elt F) → (⟨S16x1x32, .f32⟩ : BufTy).Contents (Elt F)) (cst_7 A)
def v64 (A : Args F) : Vec F S16x1x32 .f32 := (maximumf : (⟨S16x1x32, .f32⟩ : BufTy).Contents (Elt F) → (⟨S16x1x32, .f32⟩ : BufTy).Contents (Elt F) → (⟨S16x1x32, .f32⟩ : BufTy).Contents (Elt F)) (v62 A) (v63 A)
def v65 (A : Args F) : Vec F S16x1x32 .f32 := (subf : (⟨S16x1x32, .f32⟩ : BufTy).Contents (Elt F) → (⟨S16x1x32, .f32⟩ : BufTy).Contents (Elt F) → (⟨S16x1x32, .f32⟩ : BufTy).Contents (Elt F)) (v35 A) (v33 A)
def cst_8 (A : Args F) : Vec F S_ .f32 := (constant S_ .f32 0x00000000#32)
def v66 (A : Args F) : Vec F S16x1x32 .f32 := (broadcastInDim S16x1x32 ![] bcast_S_S16x1x32 : (⟨S_, .f32⟩ : BufTy).Contents (Elt F) → (⟨S16x1x32, .f32⟩ : BufTy).Contents (Elt F)) (cst_8 A)
def v67 (A : Args F) : Vec F S16x1x32 .f32 := (maximumf : (⟨S16x1x32, .f32⟩ : BufTy).Contents (Elt F) → (⟨S16x1x32, .f32⟩ : BufTy).Contents (Elt F) → (⟨S16x1x32, .f32⟩ : BufTy).Contents (Elt F)) (v65 A) (v66 A)
def v68 (A : Args F) : Vec F S16x1x32 .f32 := (mulf : (⟨S16x1x32, .f32⟩ : BufTy).Contents (Elt F) → (⟨S16x1x32, .f32⟩ : BufTy).Contents (Elt F) → (⟨S16x1x32, .f32⟩ : BufTy).Contents (Elt F)) (v64 A) (v67 A)
def v69 (A : Args F) : Vec F S16x25000x32 .f32 := (broadcastInDim S16x25000x32 ![0, 1, 2] bcast_S1x25000x1_S16x25000x32_0_1_2 : (⟨S1x25000x1, .f32⟩ : BufTy).Contents (Elt F) → (⟨S16x25000x32, .f32⟩ : BufTy).Contents (Elt F)) (v61 A)
def v70 (A : Args F) : Vec F S16x25000x32 .f32 := (broadcastInDim S16x25000x32 ![0, 1, 2] bcast_S16x1x32_S16x25000x32_0_1_2 : (⟨S16x1x32, .f32⟩ : BufTy).Contents (Elt F) → (⟨S16x25000x32, .f32⟩ : BufTy).Contents (Elt F)) (v68 A)
def v71 (A : Args F) : Vec F S16x25000x32 .f32 := (addf : (⟨S16x25000x32, .f32⟩ : BufTy).Contents (Elt F) → (⟨S16x25000x32, .f32⟩ : BufTy).Contents (Elt F) → (⟨S16x25000x32, .f32⟩ : BufTy).Contents (Elt F)) (v69 A) (v70 A)
def v72 (A : Args F) : Vec F S16x25000x32 .f32 := (subf : (⟨S16x25000x32, .f32⟩ : BufTy).Contents (Elt F) → (⟨S16x25000x32, .f32⟩ : BufTy).Contents (Elt F) → (⟨S16x25000x32, .f32⟩ : BufTy).Contents (Elt F)) (v71 A) (v54 A)
def cst_9 (A : Args F) : Vec F S_ .f32 := (constant S_ .f32 0x3089705F#32)
def v73 (A : Args F) : Vec F S16x25000x32 .f32 := (broadcastInDim S16x25000x32 ![] bcast_S_S16x25000x32 : (⟨S_, .f32⟩ : BufTy).Contents (Elt F) → (⟨S16x25000x32, .f32⟩ : BufTy).Contents (Elt F)) (cst_9 A)
def v74 (A : Args F) : Vec F S16x25000x32 .f32 := (addf : (⟨S16x25000x32, .f32⟩ : BufTy).Contents (Elt F) → (⟨S16x25000x32, .f32⟩ : BufTy).Contents (Elt F) → (⟨S16x25000x32, .f32⟩ : BufTy).Contents (Elt F)) (v72 A) (v73 A)
def v75 (A : Args F) : Vec F S16x25000x32 .f32 := (Host.divf : (⟨S16x25000x32, .f32⟩ : BufTy).Contents (Elt F) → (⟨S16x25000x32, .f32⟩ : BufTy).Contents (Elt F) → (⟨S16x25000x32, .f32⟩ : BufTy).Contents (Elt F)) (v54 A) (v74 A)
def cst_10 (A : Args F) : Vec F S_ .f32 := (constant S_ .f32 0xFF800000#32)
def v76 (A : Args F) : Vec F S16x25000 .f32 := ((fun x v => Host.reduce FloatOps.maximumf x v reducesTo_S16x25000x32_S16x25000_d2 h_S_) : (⟨S16x25000x32, .f32⟩ : BufTy).Contents (Elt F) → (⟨S_, .f32⟩ : BufTy).Contents (Elt F) → (⟨S16x25000, .f32⟩ : BufTy).Contents (Elt F)) (v75 A) (cst_10 A)
def call0_v0 (A : Args F) : Vec F S16x25000x32 .i32 := (iotaInDim S16x25000x32 32 2)
def call0_cst (A : Args F) : Vec F S_ .f32 := (constant S_ .f32 0xFF800000#32)
def call0_c (A : Args F) : Vec F S_ .i32 := (constantI S_ 32 0#32)
def call0_v1_0 (A : Args F) : Vec F S16x25000 .f32 := (fun x y u v j => (Host.argReduce reducer_argmax_f32_i32 x y u v reducesTo_S16x25000x32_S16x25000_d2 h_S_ j).1) (v75 A) (call0_v0 A) (call0_cst A) (call0_c A)
def v77 (A : Args F) : Vec F S16x25000 .i32 := (fun x y u v j => (Host.argReduce reducer_argmax_f32_i32 x y u v reducesTo_S16x25000x32_S16x25000_d2 h_S_ j).2) (v75 A) (call0_v0 A) (call0_cst A) (call0_c A)
def cst_11 (A : Args F) : Vec F S_ .f32 := (constant S_ .f32 0x3F000000#32)
def v78 (A : Args F) : Vec F S16x25000 .f32 := (broadcastInDim S16x25000 ![] bcast_S_S16x25000 : (⟨S_, .f32⟩ : BufTy).Contents (Elt F) → (⟨S16x25000, .f32⟩ : BufTy).Contents (Elt F)) (cst_11 A)
def v79 (A : Args F) : Vec F S16x25000 .i1 := (cmpf .oge : (⟨S16x25000, .f32⟩ : BufTy).Contents (Elt F) → (⟨S16x25000, .f32⟩ : BufTy).Contents (Elt F) → (⟨S16x25000, .i1⟩ : BufTy).Contents (Elt F)) (v76 A) (v78 A)
def cst_12 (A : Args F) : Vec F S_ .f32 := (constant S_ .f32 0x3ECCCCCD#32)
def v80 (A : Args F) : Vec F S16x25000 .f32 := (broadcastInDim S16x25000 ![] bcast_S_S16x25000 : (⟨S_, .f32⟩ : BufTy).Contents (Elt F) → (⟨S16x25000, .f32⟩ : BufTy).Contents (Elt F)) (cst_12 A)
def v81 (A : Args F) : Vec F S16x25000 .i1 := (cmpf .ogt : (⟨S16x25000, .f32⟩ : BufTy).Contents (Elt F) → (⟨S16x25000, .f32⟩ : BufTy).Contents (Elt F) → (⟨S16x25000, .i1⟩ : BufTy).Contents (Elt F)) (v76 A) (v80 A)
def v82 (A : Args F) : Vec F S16x25000 .i1 := (noti : (⟨S16x25000, .i1⟩ : BufTy).Contents (Elt F) → (⟨S16x25000, .i1⟩ : BufTy).Contents (Elt F)) (v79 A)
def v83 (A : Args F) : Vec F S16x25000 .i1 := (andi : (⟨S16x25000, .i1⟩ : BufTy).Contents (Elt F) → (⟨S16x25000, .i1⟩ : BufTy).Contents (Elt F) → (⟨S16x25000, .i1⟩ : BufTy).Contents (Elt F)) (v81 A) (v82 A)
def call1_c (A : Args F) : Vec F S_ .i32 := (constantI S_ 32 0#32)
def call1_v0 (A : Args F) : Vec F S16x25000 .i32 := (broadcastInDim S16x25000 ![] bcast_S_S16x25000) (call1_c A)
def call1_v1 (A : Args F) : Vec F S16x25000 .i1 := (cmpi .slt) (v77 A) (call1_v0 A)
def call1_c_0 (A : Args F) : Vec F S_ .i32 := (constantI S_ 32 32#32)
def call1_v2 (A : Args F) : Vec F S16x25000 .i32 := (broadcastInDim S16x25000 ![] bcast_S_S16x25000) (call1_c_0 A)
def call1_v3 (A : Args F) : Vec F S16x25000 .i32 := addi (v77 A) (call1_v2 A)
def call1_v4 (A : Args F) : Vec F S16x25000 .i32 := select (call1_v1 A) (call1_v3 A) (v77 A)
def call1_v5 (A : Args F) : Vec F S16x25000x1 .i32 := shapeCast S16x25000x1 (call1_v4 A) shapeCasts_S16x25000_S16x25000x1
def call1_c_1 (A : Args F) : Vec F S1 .i32 := (constantI S1 32 31#32)
def call1_c_2 (A : Args F) : Vec F S_ .i32 := (constantI S_ 32 0#32)
def call1_v6 (A : Args F) : Vec F S16x25000x1 .i32 := (broadcastInDim S16x25000x1 ![] bcast_S_S16x25000x1) (call1_c_2 A)
def call1_v7 (A : Args F) : Vec F S16x25000x1 .i1 := (cmpi .sge) (call1_v5 A) (call1_v6 A)
def call1_v8 (A : Args F) : Vec F S1x1x1 .i32 := (broadcastInDim S1x1x1 ![2] bcast_S1_S1x1x1_2) (call1_c_1 A)
def call1_v9 (A : Args F) : Vec F S16x25000x1 .i32 := (broadcastInDim S16x25000x1 ![0, 1, 2] bcast_S1x1x1_S16x25000x1_0_1_2) (call1_v8 A)
def call1_v10 (A : Args F) : Vec F S16x25000x1 .i1 := (cmpi .sle) (call1_v5 A) (call1_v9 A)
def call1_v11 (A : Args F) : Vec F S16x25000x1 .i1 := andi (call1_v7 A) (call1_v10 A)
def call1_c_3 (A : Args F) : Vec F S_ .i1 := (constantI S_ 1 1#1)
def call1_v12 (A : Args F) : Vec F S16x25000 .i1 := (fun x v => Host.reduce IntOp.andi x v reducesTo_S16x25000x1_S16x25000_d2 h_S_) (call1_v11 A) (call1_c_3 A)
def call1_v13 (A : Args F) : Vec F S16x25000 .f32 := (fun x i => Host.gather gather_S16x32_S16x25000x1_S16x25000_n_1_0_0_1_2_11 x i) (v9 A) (call1_v5 A)
def call1_cst (A : Args F) : Vec F S_ .f32 := (constant S_ .f32 0x7FC00000#32)
def call1_v14 (A : Args F) : Vec F S16x25000 .f32 := (broadcastInDim S16x25000 ![] bcast_S_S16x25000) (call1_cst A)
def v84 (A : Args F) : Vec F S16x25000 .f32 := select (call1_v12 A) (call1_v13 A) (call1_v14 A)
def call2_c (A : Args F) : Vec F S_ .i32 := (constantI S_ 32 0#32)
def call2_v0 (A : Args F) : Vec F S16x25000 .i32 := (broadcastInDim S16x25000 ![] bcast_S_S16x25000) (call2_c A)
def call2_v1 (A : Args F) : Vec F S16x25000 .i1 := (cmpi .slt) (v77 A) (call2_v0 A)
def call2_c_0 (A : Args F) : Vec F S_ .i32 := (constantI S_ 32 32#32)
def call2_v2 (A : Args F) : Vec F S16x25000 .i32 := (broadcastInDim S16x25000 ![] bcast_S_S16x25000) (call2_c_0 A)
def call2_v3 (A : Args F) : Vec F S16x25000 .i32 := addi (v77 A) (call2_v2 A)
def call2_v4 (A : Args F) : Vec F S16x25000 .i32 := select (call2_v1 A) (call2_v3 A) (v77 A)
def call2_v5 (A : Args F) : Vec F S16x25000x1 .i32 := shapeCast S16x25000x1 (call2_v4 A) shapeCasts_S16x25000_S16x25000x1
def call2_c_1 (A : Args F) : Vec F S1 .i32 := (constantI S1 32 31#32)
def call2_c_2 (A : Args F) : Vec F S_ .i32 := (constantI S_ 32 0#32)
def call2_v6 (A : Args F) : Vec F S16x25000x1 .i32 := (broadcastInDim S16x25000x1 ![] bcast_S_S16x25000x1) (call2_c_2 A)
def call2_v7 (A : Args F) : Vec F S16x25000x1 .i1 := (cmpi .sge) (call2_v5 A) (call2_v6 A)
def call2_v8 (A : Args F) : Vec F S1x1x1 .i32 := (broadcastInDim S1x1x1 ![2] bcast_S1_S1x1x1_2) (call2_c_1 A)
def call2_v9 (A : Args F) : Vec F S16x25000x1 .i32 := (broadcastInDim S16x25000x1 ![0, 1, 2] bcast_S1x1x1_S16x25000x1_0_1_2) (call2_v8 A)
def call2_v10 (A : Args F) : Vec F S16x25000x1 .i1 := (cmpi .sle) (call2_v5 A) (call2_v9 A)
def call2_v11 (A : Args F) : Vec F S16x25000x1 .i1 := andi (call2_v7 A) (call2_v10 A)
def call2_c_3 (A : Args F) : Vec F S_ .i1 := (constantI S_ 1 1#1)
def call2_v12 (A : Args F) : Vec F S16x25000 .i1 := (fun x v => Host.reduce IntOp.andi x v reducesTo_S16x25000x1_S16x25000_d2 h_S_) (call2_v11 A) (call2_c_3 A)
def call2_v13 (A : Args F) : Vec F S16x25000 .f32 := (fun x i => Host.gather gather_S16x32_S16x25000x1_S16x25000_n_1_0_0_1_2_11 x i) (v11 A) (call2_v5 A)
def call2_cst (A : Args F) : Vec F S_ .f32 := (constant S_ .f32 0x7FC00000#32)
def call2_v14 (A : Args F) : Vec F S16x25000 .f32 := (broadcastInDim S16x25000 ![] bcast_S_S16x25000) (call2_cst A)
def v85 (A : Args F) : Vec F S16x25000 .f32 := select (call2_v12 A) (call2_v13 A) (call2_v14 A)
def call3_c (A : Args F) : Vec F S_ .i32 := (constantI S_ 32 0#32)
def call3_v0 (A : Args F) : Vec F S16x25000 .i32 := (broadcastInDim S16x25000 ![] bcast_S_S16x25000) (call3_c A)
def call3_v1 (A : Args F) : Vec F S16x25000 .i1 := (cmpi .slt) (v77 A) (call3_v0 A)
def call3_c_0 (A : Args F) : Vec F S_ .i32 := (constantI S_ 32 32#32)
def call3_v2 (A : Args F) : Vec F S16x25000 .i32 := (broadcastInDim S16x25000 ![] bcast_S_S16x25000) (call3_c_0 A)
def call3_v3 (A : Args F) : Vec F S16x25000 .i32 := addi (v77 A) (call3_v2 A)
def call3_v4 (A : Args F) : Vec F S16x25000 .i32 := select (call3_v1 A) (call3_v3 A) (v77 A)
def call3_v5 (A : Args F) : Vec F S16x25000x1 .i32 := shapeCast S16x25000x1 (call3_v4 A) shapeCasts_S16x25000_S16x25000x1
def call3_c_1 (A : Args F) : Vec F S1 .i32 := (constantI S1 32 31#32)
def call3_c_2 (A : Args F) : Vec F S_ .i32 := (constantI S_ 32 0#32)
def call3_v6 (A : Args F) : Vec F S16x25000x1 .i32 := (broadcastInDim S16x25000x1 ![] bcast_S_S16x25000x1) (call3_c_2 A)
def call3_v7 (A : Args F) : Vec F S16x25000x1 .i1 := (cmpi .sge) (call3_v5 A) (call3_v6 A)
def call3_v8 (A : Args F) : Vec F S1x1x1 .i32 := (broadcastInDim S1x1x1 ![2] bcast_S1_S1x1x1_2) (call3_c_1 A)
def call3_v9 (A : Args F) : Vec F S16x25000x1 .i32 := (broadcastInDim S16x25000x1 ![0, 1, 2] bcast_S1x1x1_S16x25000x1_0_1_2) (call3_v8 A)
def call3_v10 (A : Args F) : Vec F S16x25000x1 .i1 := (cmpi .sle) (call3_v5 A) (call3_v9 A)
def call3_v11 (A : Args F) : Vec F S16x25000x1 .i1 := andi (call3_v7 A) (call3_v10 A)
def call3_c_3 (A : Args F) : Vec F S_ .i1 := (constantI S_ 1 1#1)
def call3_v12 (A : Args F) : Vec F S16x25000 .i1 := (fun x v => Host.reduce IntOp.andi x v reducesTo_S16x25000x1_S16x25000_d2 h_S_) (call3_v11 A) (call3_c_3 A)
def call3_v13 (A : Args F) : Vec F S16x25000 .f32 := (fun x i => Host.gather gather_S16x32_S16x25000x1_S16x25000_n_1_0_0_1_2_11 x i) (v13 A) (call3_v5 A)
def call3_cst (A : Args F) : Vec F S_ .f32 := (constant S_ .f32 0x7FC00000#32)
def call3_v14 (A : Args F) : Vec F S16x25000 .f32 := (broadcastInDim S16x25000 ![] bcast_S_S16x25000) (call3_cst A)
def v86 (A : Args F) : Vec F S16x25000 .f32 := select (call3_v12 A) (call3_v13 A) (call3_v14 A)
def call4_c (A : Args F) : Vec F S_ .i32 := (constantI S_ 32 0#32)
def call4_v0 (A : Args F) : Vec F S16x25000 .i32 := (broadcastInDim S16x25000 ![] bcast_S_S16x25000) (call4_c A)
def call4_v1 (A : Args F) : Vec F S16x25000 .i1 := (cmpi .slt) (v77 A) (call4_v0 A)
def call4_c_0 (A : Args F) : Vec F S_ .i32 := (constantI S_ 32 32#32)
def call4_v2 (A : Args F) : Vec F S16x25000 .i32 := (broadcastInDim S16x25000 ![] bcast_S_S16x25000) (call4_c_0 A)
def call4_v3 (A : Args F) : Vec F S16x25000 .i32 := addi (v77 A) (call4_v2 A)
def call4_v4 (A : Args F) : Vec F S16x25000 .i32 := select (call4_v1 A) (call4_v3 A) (v77 A)
def call4_v5 (A : Args F) : Vec F S16x25000x1 .i32 := shapeCast S16x25000x1 (call4_v4 A) shapeCasts_S16x25000_S16x25000x1
def call4_c_1 (A : Args F) : Vec F S1 .i32 := (constantI S1 32 31#32)
def call4_c_2 (A : Args F) : Vec F S_ .i32 := (constantI S_ 32 0#32)
def call4_v6 (A : Args F) : Vec F S16x25000x1 .i32 := (broadcastInDim S16x25000x1 ![] bcast_S_S16x25000x1) (call4_c_2 A)
def call4_v7 (A : Args F) : Vec F S16x25000x1 .i1 := (cmpi .sge) (call4_v5 A) (call4_v6 A)
def call4_v8 (A : Args F) : Vec F S1x1x1 .i32 := (broadcastInDim S1x1x1 ![2] bcast_S1_S1x1x1_2) (call4_c_1 A)
def call4_v9 (A : Args F) : Vec F S16x25000x1 .i32 := (broadcastInDim S16x25000x1 ![0, 1, 2] bcast_S1x1x1_S16x25000x1_0_1_2) (call4_v8 A)
def call4_v10 (A : Args F) : Vec F S16x25000x1 .i1 := (cmpi .sle) (call4_v5 A) (call4_v9 A)
def call4_v11 (A : Args F) : Vec F S16x25000x1 .i1 := andi (call4_v7 A) (call4_v10 A)
def call4_c_3 (A : Args F) : Vec F S_ .i1 := (constantI S_ 1 1#1)
def call4_v12 (A : Args F) : Vec F S16x25000 .i1 := (fun x v => Host.reduce IntOp.andi x v reducesTo_S16x25000x1_S16x25000_d2 h_S_) (call4_v11 A) (call4_c_3 A)
def call4_v13 (A : Args F) : Vec F S16x25000 .f32 := (fun x i => Host.gather gather_S16x32_S16x25000x1_S16x25000_n_1_0_0_1_2_11 x i) (v15 A) (call4_v5 A)
def call4_cst (A : Args F) : Vec F S_ .f32 := (constant S_ .f32 0x7FC00000#32)
def call4_v14 (A : Args F) : Vec F S16x25000 .f32 := (broadcastInDim S16x25000 ![] bcast_S_S16x25000) (call4_cst A)
def v87 (A : Args F) : Vec F S16x25000 .f32 := select (call4_v12 A) (call4_v13 A) (call4_v14 A)
def call5_c (A : Args F) : Vec F S_ .i32 := (constantI S_ 32 0#32)
def call5_v0 (A : Args F) : Vec F S16x25000 .i32 := (broadcastInDim S16x25000 ![] bcast_S_S16x25000) (call5_c A)
def call5_v1 (A : Args F) : Vec F S16x25000 .i1 := (cmpi .slt) (v77 A) (call5_v0 A)
def call5_c_0 (A : Args F) : Vec F S_ .i32 := (constantI S_ 32 32#32)
def call5_v2 (A : Args F) : Vec F S16x25000 .i32 := (broadcastInDim S16x25000 ![] bcast_S_S16x25000) (call5_c_0 A)
def call5_v3 (A : Args F) : Vec F S16x25000 .i32 := addi (v77 A) (call5_v2 A)
def call5_v4 (A : Args F) : Vec F S16x25000 .i32 := select (call5_v1 A) (call5_v3 A) (v77 A)
def call5_v5 (A : Args F) : Vec F S16x25000x1 .i32 := shapeCast S16x25000x1 (call5_v4 A) shapeCasts_S16x25000_S16x25000x1
def call5_c_1 (A : Args F) : Vec F S1 .i32 := (constantI S1 32 31#32)
def call5_c_2 (A : Args F) : Vec F S_ .i32 := (constantI S_ 32 0#32)
def call5_v6 (A : Args F) : Vec F S16x25000x1 .i32 := (broadcastInDim S16x25000x1 ![] bcast_S_S16x25000x1) (call5_c_2 A)
def call5_v7 (A : Args F) : Vec F S16x25000x1 .i1 := (cmpi .sge) (call5_v5 A) (call5_v6 A)
def call5_v8 (A : Args F) : Vec F S1x1x1 .i32 := (broadcastInDim S1x1x1 ![2] bcast_S1_S1x1x1_2) (call5_c_1 A)
def call5_v9 (A : Args F) : Vec F S16x25000x1 .i32 := (broadcastInDim S16x25000x1 ![0, 1, 2] bcast_S1x1x1_S16x25000x1_0_1_2) (call5_v8 A)
def call5_v10 (A : Args F) : Vec F S16x25000x1 .i1 := (cmpi .sle) (call5_v5 A) (call5_v9 A)
def call5_v11 (A : Args F) : Vec F S16x25000x1 .i1 := andi (call5_v7 A) (call5_v10 A)
def call5_c_3 (A : Args F) : Vec F S_ .i1 := (constantI S_ 1 1#1)
def call5_v12 (A : Args F) : Vec F S16x25000 .i1 := (fun x v => Host.reduce IntOp.andi x v reducesTo_S16x25000x1_S16x25000_d2 h_S_) (call5_v11 A) (call5_c_3 A)
def call5_v13 (A : Args F) : Vec F S16x25000 .i32 := (fun x i => Host.gather gather_S16x32_S16x25000x1_S16x25000_n_1_0_0_1_2_11 x i) A.arg4 (call5_v5 A)
def call5_c_4 (A : Args F) : Vec F S_ .i32 := (constantI S_ 32 2147483648#32)
def call5_v14 (A : Args F) : Vec F S16x25000 .i32 := (broadcastInDim S16x25000 ![] bcast_S_S16x25000) (call5_c_4 A)
def v88 (A : Args F) : Vec F S16x25000 .i32 := select (call5_v12 A) (call5_v13 A) (call5_v14 A)
def v89 (A : Args F) : Vec F S16x25000 .f32 := (addf : (⟨S16x25000, .f32⟩ : BufTy).Contents (Elt F) → (⟨S16x25000, .f32⟩ : BufTy).Contents (Elt F) → (⟨S16x25000, .f32⟩ : BufTy).Contents (Elt F)) (v84 A) (v86 A)
def cst_13 (A : Args F) : Vec F S_ .f32 := (constant S_ .f32 0x40000000#32)
def v90 (A : Args F) : Vec F S16x25000 .f32 := (broadcastInDim S16x25000 ![] bcast_S_S16x25000 : (⟨S_, .f32⟩ : BufTy).Contents (Elt F) → (⟨S16x25000, .f32⟩ : BufTy).Contents (Elt F)) (cst_13 A)
def v91 (A : Args F) : Vec F S16x25000 .f32 := (Host.divf : (⟨S16x25000, .f32⟩ : BufTy).Contents (Elt F) → (⟨S16x25000, .f32⟩ : BufTy).Contents (Elt F) → (⟨S16x25000, .f32⟩ : BufTy).Contents (Elt F)) (v89 A) (v90 A)
def v92 (A : Args F) : Vec F S16x25000 .f32 := (addf : (⟨S16x25000, .f32⟩ : BufTy).Contents (Elt F) → (⟨S16x25000, .f32⟩ : BufTy).Contents (Elt F) → (⟨S16x25000, .f32⟩ : BufTy).Contents (Elt F)) (v85 A) (v87 A)
def cst_14 (A : Args F) : Vec F S_ .f32 := (constant S_ .f32 0x40000000#32)
def v93 (A : Args F) : Vec F S16x25000 .f32 := (broadcastInDim S16x25000 ![] bcast_S_S16x25000 : (⟨S_, .f32⟩ : BufTy).Contents (Elt F) → (⟨S16x25000, .f32⟩ : BufTy).Contents (Elt F)) (cst_14 A)
def v94 (A : Args F) : Vec F S16x25000 .f32 := (Host.divf : (⟨S16x25000, .f32⟩ : BufTy).Contents (Elt F) → (⟨S16x25000, .f32⟩ : BufTy).Contents (Elt F) → (⟨S16x25000, .f32⟩ : BufTy).Contents (Elt F)) (v92 A) (v93 A)
def v95 (A : Args F) : Vec F S16x25000 .f32 := (subf : (⟨S16x25000, .f32⟩ : BufTy).Contents (Elt F) → (⟨S16x25000, .f32⟩ : BufTy).Contents (Elt F) → (⟨S16x25000, .f32⟩ : BufTy).Contents (Elt F)) (v86 A) (v84 A)
def cst_15 (A : Args F) : Vec F S_ .f32 := (constant S_ .f32 0x358637BD#32)
def v96 (A : Args F) : Vec F S16x25000 .f32 := (broadcastInDim S16x25000 ![] bcast_S_S16x25000 : (⟨S_, .f32⟩ : BufTy).Contents (Elt F) → (⟨S16x25000, .f32⟩ : BufTy).Contents (Elt F)) (cst_15 A)
def v97 (A : Args F) : Vec F S16x25000 .f32 := (maximumf : (⟨S16x25000, .f32⟩ : BufTy).Contents (Elt F) → (⟨S16x25000, .f32⟩ : BufTy).Contents (Elt F) → (⟨S16x25000, .f32⟩ : BufTy).Contents (Elt F)) (v95 A) (v96 A)
def v98 (A : Args F) : Vec F S16x25000 .f32 := (subf : (⟨S16x25000, .f32⟩ : BufTy).Contents (Elt F) → (⟨S16x25000, .f32⟩ : BufTy).Contents (Elt F) → (⟨S16x25000, .f32⟩ : BufTy).Contents (Elt F)) (v87 A) (v85 A)
def cst_16 (A : Args F) : Vec F S_ .f32 := (constant S_ .f32 0x358637BD#32)
def v99 (A : Args F) : Vec F S16x25000 .f32 := (broadcastInDim S16x25000 ![] bcast_S_S16x25000 : (⟨S_, .f32⟩ : BufTy).Contents (Elt F) → (⟨S16x25000, .f32⟩ : BufTy).Contents (Elt F)) (cst_16 A)
def v100 (A : Args F) : Vec F S16x25000 .f32 := (maximumf : (⟨S16x25000, .f32⟩ : BufTy).Contents (Elt F) → (⟨S16x25000, .f32⟩ : BufTy).Contents (Elt F) → (⟨S16x25000, .f32⟩ : BufTy).Contents (Elt F)) (v98 A) (v99 A)
def v101 (A : Args F) : Vec F S1x25000 .f32 := (broadcastInDim S1x25000 ![1] bcast_S25000_S1x25000_1 : (⟨S25000, .f32⟩ : BufTy).Contents (Elt F) → (⟨S1x25000, .f32⟩ : BufTy).Contents (Elt F)) (v1 A)
def v102 (A : Args F) : Vec F S16x25000 .f32 := (broadcastInDim S16x25000 ![0, 1] bcast_S1x25000_S16x25000_0_1 : (⟨S1x25000, .f32⟩ : BufTy).Contents (Elt F) → (⟨S16x25000, .f32⟩ : BufTy).Contents (Elt F)) (v101 A)
def v103 (A : Args F) : Vec F S16x25000 .f32 := (subf : (⟨S16x25000, .f32⟩ : BufTy).Contents (Elt F) → (⟨S16x25000, .f32⟩ : BufTy).Contents (Elt F) → (⟨S16x25000, .f32⟩ : BufTy).Contents (Elt F)) (v91 A) (v102 A)
def cst_17 (A : Args F) : Vec F S_ .f32 := (constant S_ .f32 0x3DCCCCCD#32)
def v104 (A : Args F) : Vec F S25000 .f32 := (broadcastInDim S25000 ![] bcast_S_S25000 : (⟨S_, .f32⟩ : BufTy).Contents (Elt F) → (⟨S25000, .f32⟩ : BufTy).Contents (Elt F)) (cst_17 A)
def v105 (A : Args F) : Vec F S25000 .f32 := (mulf : (⟨S25000, .f32⟩ : BufTy).Contents (Elt F) → (⟨S25000, .f32⟩ : BufTy).Contents (Elt F) → (⟨S25000, .f32⟩ : BufTy).Contents (Elt F)) (v5 A) (v104 A)
def v106 (A : Args F) : Vec F S1x25000 .f32 := (broadcastInDim S1x25000 ![1] bcast_S25000_S1x25000_1 : (⟨S25000, .f32⟩ : BufTy).Contents (Elt F) → (⟨S1x25000, .f32⟩ : BufTy).Contents (Elt F)) (v105 A)
def v107 (A : Args F) : Vec F S16x25000 .f32 := (broadcastInDim S16x25000 ![0, 1] bcast_S1x25000_S16x25000_0_1 : (⟨S1x25000, .f32⟩ : BufTy).Contents (Elt F) → (⟨S16x25000, .f32⟩ : BufTy).Contents (Elt F)) (v106 A)
def v108 (A : Args F) : Vec F S16x25000 .f32 := (Host.divf : (⟨S16x25000, .f32⟩ : BufTy).Contents (Elt F) → (⟨S16x25000, .f32⟩ : BufTy).Contents (Elt F) → (⟨S16x25000, .f32⟩ : BufTy).Contents (Elt F)) (v103 A) (v107 A)
def v109 (A : Args F) : Vec F S1x25000 .f32 := (broadcastInDim S1x25000 ![1] bcast_S25000_S1x25000_1 : (⟨S25000, .f32⟩ : BufTy).Contents (Elt F) → (⟨S1x25000, .f32⟩ : BufTy).Contents (Elt F)) (v3 A)
def v110 (A : Args F) : Vec F S16x25000 .f32 := (broadcastInDim S16x25000 ![0, 1] bcast_S1x25000_S16x25000_0_1 : (⟨S1x25000, .f32⟩ : BufTy).Contents (Elt F) → (⟨S16x25000, .f32⟩ : BufTy).Contents (Elt F)) (v109 A)
def v111 (A : Args F) : Vec F S16x25000 .f32 := (subf : (⟨S16x25000, .f32⟩ : BufTy).Contents (Elt F) → (⟨S16x25000, .f32⟩ : BufTy).Contents (Elt F) → (⟨S16x25000, .f32⟩ : BufTy).Contents (Elt F)) (v94 A) (v110 A)
def cst_18 (A : Args F) : Vec F S_ .f32 := (constant S_ .f32 0x3DCCCCCD#32)
def v112 (A : Args F) : Vec F S25000 .f32 := (broadcastInDim S25000 ![] bcast_S_S25000 : (⟨S_, .f32⟩ : BufTy).Contents (Elt F) → (⟨S25000, .f32⟩ : BufTy).Contents (Elt F)) (cst_18 A)
def v113 (A : Args F) : Vec F S25000 .f32 := (mulf : (⟨S25000, .f32⟩ : BufTy).Contents (Elt F) → (⟨S25000, .f32⟩ : BufTy).Contents (Elt F) → (⟨S25000, .f32⟩ : BufTy).Contents (Elt F)) (v7 A) (v112 A)
def v114 (A : Args F) : Vec F S1x25000 .f32 := (broadcastInDim S1x25000 ![1] bcast_S25000_S1x25000_1 : (⟨S25000, .f32⟩ : BufTy).Contents (Elt F) → (⟨S1x25000, .f32⟩ : BufTy).Contents (Elt F)) (v113 A)
def v115 (A : Args F) : Vec F S16x25000 .f32 := (broadcastInDim S16x25000 ![0, 1] bcast_S1x25000_S16x25000_0_1 : (⟨S1x25000, .f32⟩ : BufTy).Contents (Elt F) → (⟨S16x25000, .f32⟩ : BufTy).Contents (Elt F)) (v114 A)
def v116 (A : Args F) : Vec F S16x25000 .f32 := (Host.divf : (⟨S16x25000, .f32⟩ : BufTy).Contents (Elt F) → (⟨S16x25000, .f32⟩ : BufTy).Contents (Elt F) → (⟨S16x25000, .f32⟩ : BufTy).Contents (Elt F)) (v111 A) (v115 A)
def v117 (A : Args F) : Vec F S1x25000 .f32 := (broadcastInDim S1x25000 ![1] bcast_S25000_S1x25000_1 : (⟨S25000, .f32⟩ : BufTy).Contents (Elt F) → (⟨S1x25000, .f32⟩ : BufTy).Contents (Elt F)) (v5 A)
def v118 (A : Args F) : Vec F S16x25000 .f32 := (broadcastInDim S16x25000 ![0, 1] bcast_S1x25000_S16x25000_0_1 : (⟨S1x25000, .f32⟩ : BufTy).Contents (Elt F) → (⟨S16x25000, .f32⟩ : BufTy).Contents (Elt F)) (v117 A)
def v119 (A : Args F) : Vec F S16x25000 .f32 := (Host.divf : (⟨S16x25000, .f32⟩ : BufTy).Contents (Elt F) → (⟨S16x25000, .f32⟩ : BufTy).Contents (Elt F) → (⟨S16x25000, .f32⟩ : BufTy).Contents (Elt F)) (v97 A) (v118 A)
def v120 (A : Args F) : Vec F S16x25000 .f32 := (Host.log : (⟨S16x25000, .f32⟩ : BufTy).Contents (Elt F) → (⟨S16x25000, .f32⟩ : BufTy).Contents (Elt F)) (v119 A)
def cst_19 (A : Args F) : Vec F S_ .f32 := (constant S_ .f32 0x3E4CCCCD#32)
def v121 (A : Args F) : Vec F S16x25000 .f32 := (broadcastInDim S16x25000 ![] bcast_S_S16x25000 : (⟨S_, .f32⟩ : BufTy).Contents (Elt F) → (⟨S16x25000, .f32⟩ : BufTy).Contents (Elt F)) (cst_19 A)
def v122 (A : Args F) : Vec F S16x25000 .f32 := (Host.divf : (⟨S16x25000, .f32⟩ : BufTy).Contents (Elt F) → (⟨S16x25000, .f32⟩ : BufTy).Contents (Elt F) → (⟨S16x25000, .f32⟩ : BufTy).Contents (Elt F)) (v120 A) (v121 A)
def v123 (A : Args F) : Vec F S1x25000 .f32 := (broadcastInDim S1x25000 ![1] bcast_S25000_S1x25000_1 : (⟨S25000, .f32⟩ : BufTy).Contents (Elt F) → (⟨S1x25000, .f32⟩ : BufTy).Contents (Elt F)) (v7 A)
def v124 (A : Args F) : Vec F S16x25000 .f32 := (broadcastInDim S16x25000 ![0, 1] bcast_S1x25000_S16x25000_0_1 : (⟨S1x25000, .f32⟩ : BufTy).Contents (Elt F) → (⟨S16x25000, .f32⟩ : BufTy).Contents (Elt F)) (v123 A)
def v125 (A : Args F) : Vec F S16x25000 .f32 := (Host.divf : (⟨S16x25000, .f32⟩ : BufTy).Contents (Elt F) → (⟨S16x25000, .f32⟩ : BufTy).Contents (Elt F) → (⟨S16x25000, .f32⟩ : BufTy).Contents (Elt F)) (v100 A) (v124 A)
def v126 (A : Args F) : Vec F S16x25000 .f32 := (Host.log : (⟨S16x25000, .f32⟩ : BufTy).Contents (Elt F) → (⟨S16x25000, .f32⟩ : BufTy).Contents (Elt F)) (v125 A)
def cst_20 (A : Args F) : Vec F S_ .f32 := (constant S_ .f32 0x3E4CCCCD#32)
def v127 (A : Args F) : Vec F S16x25000 .f32 := (broadcastInDim S16x25000 ![] bcast_S_S16x25000 : (⟨S_, .f32⟩ : BufTy).Contents (Elt F) → (⟨S16x25000, .f32⟩ : BufTy).Contents (Elt F)) (cst_20 A)
def v128 (A : Args F) : Vec F S16x25000 .f32 := (Host.divf : (⟨S16x25000, .f32⟩ : BufTy).Contents (Elt F) → (⟨S16x25000, .f32⟩ : BufTy).Contents (Elt F) → (⟨S16x25000, .f32⟩ : BufTy).Contents (Elt F)) (v126 A) (v127 A)
def v129 (A : Args F) : Vec F S16x25000x1 .f32 := (broadcastInDim S16x25000x1 ![0, 1] bcast_S16x25000_S16x25000x1_0_1 : (⟨S16x25000, .f32⟩ : BufTy).Contents (Elt F) → (⟨S16x25000x1, .f32⟩ : BufTy).Contents (Elt F)) (v108 A)
def v130 (A : Args F) : Vec F S16x25000x1 .f32 := (broadcastInDim S16x25000x1 ![0, 1] bcast_S16x25000_S16x25000x1_0_1 : (⟨S16x25000, .f32⟩ : BufTy).Contents (Elt F) → (⟨S16x25000x1, .f32⟩ : BufTy).Contents (Elt F)) (v116 A)
def v131 (A : Args F) : Vec F S16x25000x1 .f32 := (broadcastInDim S16x25000x1 ![0, 1] bcast_S16x25000_S16x25000x1_0_1 : (⟨S16x25000, .f32⟩ : BufTy).Contents (Elt F) → (⟨S16x25000x1, .f32⟩ : BufTy).Contents (Elt F)) (v122 A)
def v132 (A : Args F) : Vec F S16x25000x1 .f32 := (broadcastInDim S16x25000x1 ![0, 1] bcast_S16x25000_S16x25000x1_0_1 : (⟨S16x25000, .f32⟩ : BufTy).Contents (Elt F) → (⟨S16x25000x1, .f32⟩ : BufTy).Contents (Elt F)) (v128 A)
def v133 (A : Args F) : Vec F S16x25000x4 .f32 := concatenate S16x25000x4 2 [⟨S16x25000x1, (v129 A)⟩, ⟨S16x25000x1, (v130 A)⟩, ⟨S16x25000x1, (v131 A)⟩, ⟨S16x25000x1, (v132 A)⟩] concatenates_S16x25000x1_S16x25000x1_S16x25000x1_S16x25000x1_S16x25000x4_d2
def c (A : Args F) : Vec F S_ .i32 := (constantI S_ 32 4294967295#32)
def c_21 (A : Args F) : Vec F S_ .i32 := (constantI S_ 32 0#32)
def call6_v0 (A : Args F) : Vec F S16x25000 .i32 := (broadcastInDim S16x25000 ![] bcast_S_S16x25000) (c A)
def call6_v1 (A : Args F) : Vec F S16x25000 .i32 := (broadcastInDim S16x25000 ![] bcast_S_S16x25000) (c_21 A)
def v134 (A : Args F) : Vec F S16x25000 .i32 := select (v83 A) (call6_v0 A) (call6_v1 A)
def call7_v0 (A : Args F) : Vec F S16x25000 .i32 := id (v134 A)
def v135 (A : Args F) : Vec F S16x25000 .i32 := select (v79 A) (v88 A) (call7_v0 A)
def v136 (A : Args F) : Vec F S16x25000x1 .i1 := (broadcastInDim S16x25000x1 ![0, 1] bcast_S16x25000_S16x25000x1_0_1 : (⟨S16x25000, .i1⟩ : BufTy).Contents (Elt F) → (⟨S16x25000x1, .i1⟩ : BufTy).Contents (Elt F)) (v79 A)
def cst_22 (A : Args F) : Vec F S_ .f32 := (constant S_ .f32 0x00000000#32)
def call8_v0 (A : Args F) : Vec F S_ .f32 := id (cst_22 A)
def call8_v1 (A : Args F) : Vec F S16x25000x4 .i1 := (broadcastInDim S16x25000x4 ![0, 1, 2] bcast_S16x25000x1_S16x25000x4_0_1_2) (v136 A)
def call8_v2 (A : Args F) : Vec F S16x25000x4 .f32 := (broadcastInDim S16x25000x4 ![] bcast_S_S16x25000x4) (call8_v0 A)
def v137 (A : Args F) : Vec F S16x25000x4 .f32 := select (call8_v1 A) (v133 A) (call8_v2 A)
def c_23 (A : Args F) : Vec F S_ .i32 := (constantI S_ 32 0#32)
def v138 (A : Args F) : Vec F S16x25000 .i32 := (broadcastInDim S16x25000 ![] bcast_S_S16x25000 : (⟨S_, .i32⟩ : BufTy).Contents (Elt F) → (⟨S16x25000, .i32⟩ : BufTy).Contents (Elt F)) (c_23 A)
def v139 (A : Args F) : Vec F S16x25000 .i1 := (cmpi .sge : (⟨S16x25000, .i32⟩ : BufTy).Contents (Elt F) → (⟨S16x25000, .i32⟩ : BufTy).Contents (Elt F) → (⟨S16x25000, .i1⟩ : BufTy).Contents (Elt F)) (v135 A) (v138 A)
def call9_cst (A : Args F) : Vec F S_ .f32 := (constant S_ .f32 0xFF800000#32)
def call9_v0 (A : Args F) : Vec F S16x25000 .f32 := (fun x v => Host.reduce FloatOps.maximumf x v reducesTo_S16x25000x81_S16x25000_d2 h_S_) A.arg0 (call9_cst A)
def call9_cst_0 (A : Args F) : Vec F S_ .f32 := (constant S_ .f32 0xFF800000#32)
def call9_v1 (A : Args F) : Vec F S16x25000 .f32 := (broadcastInDim S16x25000 ![] bcast_S_S16x25000) (call9_cst_0 A)
def call9_v2 (A : Args F) : Vec F S16x25000 .f32 := maximumf (call9_v1 A) (call9_v0 A)
def call9_v3 (A : Args F) : Vec F S16x25000x1 .f32 := (broadcastInDim S16x25000x1 ![0, 1] bcast_S16x25000_S16x25000x1_0_1) (call9_v2 A)
def call9_v4 (A : Args F) : Vec F S16x25000x81 .f32 := (broadcastInDim S16x25000x81 ![0, 1, 2] bcast_S16x25000x1_S16x25000x81_0_1_2) (call9_v3 A)
def call9_v5 (A : Args F) : Vec F S16x25000x81 .f32 := subf A.arg0 (call9_v4 A)
def call9_v6 (A : Args F) : Vec F S16x25000x81 .f32 := Host.exp (call9_v5 A)
def call9_cst_1 (A : Args F) : Vec F S_ .f32 := (constant S_ .f32 0x00000000#32)
def call9_v7 (A : Args F) : Vec F S16x25000 .f32 := (fun x v => Host.reduceAdd x v reducesTo_S16x25000x81_S16x25000_d2 h_S_) (call9_v6 A) (call9_cst_1 A)
def call9_v8 (A : Args F) : Vec F S16x25000x1 .f32 := (broadcastInDim S16x25000x1 ![0, 1] bcast_S16x25000_S16x25000x1_0_1) (call9_v7 A)
def call9_v9 (A : Args F) : Vec F S16x25000x1 .f32 := Host.log (call9_v8 A)
def call9_v10 (A : Args F) : Vec F S16x25000x81 .f32 := (broadcastInDim S16x25000x81 ![0, 1, 2] bcast_S16x25000x1_S16x25000x81_0_1_2) (call9_v9 A)
def v140 (A : Args F) : Vec F S16x25000x81 .f32 := subf (call9_v5 A) (call9_v10 A)
def c_24 (A : Args F) : Vec F S_ .i32 := (constantI S_ 32 0#32)
def v141 (A : Args F) : Vec F S16x25000 .i32 := (broadcastInDim S16x25000 ![] bcast_S_S16x25000 : (⟨S_, .i32⟩ : BufTy).Contents (Elt F) → (⟨S16x25000, .i32⟩ : BufTy).Contents (Elt F)) (c_24 A)
def v142 (A : Args F) : Vec F S16x25000 .i32 := (maxsi : (⟨S16x25000, .i32⟩ : BufTy).Contents (Elt F) → (⟨S16x25000, .i32⟩ : BufTy).Contents (Elt F) → (⟨S16x25000, .i32⟩ : BufTy).Contents (Elt F)) (v135 A) (v141 A)
def v143 (A : Args F) : Vec F S16x25000x1 .i32 := (broadcastInDim S16x25000x1 ![0, 1] bcast_S16x25000_S16x25000x1_0_1 : (⟨S16x25000, .i32⟩ : BufTy).Contents (Elt F) → (⟨S16x25000x1, .i32⟩ : BufTy).Contents (Elt F)) (v142 A)
def call10_c (A : Args F) : Vec F S_ .i32 := (constantI S_ 32 0#32)
def call10_v0 (A : Args F) : Vec F S16x25000x1 .i32 := (broadcastInDim S16x25000x1 ![] bcast_S_S16x25000x1) (call10_c A)
def call10_v1 (A : Args F) : Vec F S16x25000x1 .i1 := (cmpi .slt) (v143 A) (call10_v0 A)
def call10_c_0 (A : Args F) : Vec F S_ .i32 := (constantI S_ 32 81#32)
def call10_v2 (A : Args F) : Vec F S16x25000x1 .i32 := (broadcastInDim S16x25000x1 ![] bcast_S_S16x25000x1) (call10_c_0 A)
def call10_v3 (A : Args F) : Vec F S16x25000x1 .i32 := addi (v143 A) (call10_v2 A)
def call10_v4 (A : Args F) : Vec F S16x25000x1 .i32 := select (call10_v1 A) (call10_v3 A) (v143 A)
def call10_v5 (A : Args F) : Vec F S16x25000x1x1 .i32 := shapeCast S16x25000x1x1 (call10_v4 A) shapeCasts_S16x25000x1_S16x25000x1x1
def call10_c_1 (A : Args F) : Vec F S1 .i32 := (constantI S1 32 80#32)
def call10_c_2 (A : Args F) : Vec F S_ .i32 := (constantI S_ 32 0#32)
def call10_v6 (A : Args F) : Vec F S16x25000x1x1 .i32 := (broadcastInDim S16x25000x1x1 ![] bcast_S_S16x25000x1x1) (call10_c_2 A)
def call10_v7 (A : Args F) : Vec F S16x25000x1x1 .i1 := (cmpi .sge) (call10_v5 A) (call10_v6 A)
def call10_v8 (A : Args F) : Vec F S1x1x1x1 .i32 := (broadcastInDim S1x1x1x1 ![3] bcast_S1_S1x1x1x1_3) (call10_c_1 A)
def call10_v9 (A : Args F) : Vec F S16x25000x1x1 .i32 := (broadcastInDim S16x25000x1x1 ![0, 1, 2, 3] bcast_S1x1x1x1_S16x25000x1x1_0_1_2_3) (call10_v8 A)
def call10_v10 (A : Args F) : Vec F S16x25000x1x1 .i1 := (cmpi .sle) (call10_v5 A) (call10_v9 A)
def call10_v11 (A : Args F) : Vec F S16x25000x1x1 .i1 := andi (call10_v7 A) (call10_v10 A)
def call10_c_3 (A : Args F) : Vec F S_ .i1 := (constantI S_ 1 1#1)
def call10_v12 (A : Args F) : Vec F S16x25000x1 .i1 := (fun x v => Host.reduce IntOp.andi x v reducesTo_S16x25000x1x1_S16x25000x1_d3 h_S_) (call10_v11 A) (call10_c_3 A)
def call10_v13 (A : Args F) : Vec F S16x25000x1 .f32 := (fun x i => Host.gather gather_S16x25000x81_S16x25000x1x1_S16x25000x1_n_2_01_01_2_3_111 x i) (v140 A) (call10_v5 A)
def call10_cst (A : Args F) : Vec F S_ .f32 := (constant S_ .f32 0x7FC00000#32)
def call10_v14 (A : Args F) : Vec F S16x25000x1 .f32 := (broadcastInDim S16x25000x1 ![] bcast_S_S16x25000x1) (call10_cst A)
def v144 (A : Args F) : Vec F S16x25000x1 .f32 := select (call10_v12 A) (call10_v13 A) (call10_v14 A)
def v145 (A : Args F) : Vec F S16x25000 .f32 := shapeCast S16x25000 (v144 A) shapeCasts_S16x25000x1_S16x25000
def v146 (A : Args F) : Vec F S16x25000 .f32 := (Host.negf : (⟨S16x25000, .f32⟩ : BufTy).Contents (Elt F) → (⟨S16x25000, .f32⟩ : BufTy).Contents (Elt F)) (v145 A)
def v147 (A : Args F) : Vec F S16x25000 .i32 := ((extui 32 · natLt_1_32) : (⟨S16x25000, .i1⟩ : BufTy).Contents (Elt F) → (⟨S16x25000, .i32⟩ : BufTy).Contents (Elt F)) (v139 A)
def c_25 (A : Args F) : Vec F S_ .i32 := (constantI S_ 32 0#32)
def v148 (A : Args F) : Vec F S16 .i32 := ((fun x v => Host.reduce IntOp.addi x v reducesTo_S16x25000_S16_d1 h_S_) : (⟨S16x25000, .i32⟩ : BufTy).Contents (Elt F) → (⟨S_, .i32⟩ : BufTy).Contents (Elt F) → (⟨S16, .i32⟩ : BufTy).Contents (Elt F)) (v147 A) (c_25 A)
def v149 (A : Args F) : Vec F S16 .f32 := (sitofp .f32 : (⟨S16, .i32⟩ : BufTy).Contents (Elt F) → (⟨S16, .f32⟩ : BufTy).Contents (Elt F)) (v148 A)
def cst_26 (A : Args F) : Vec F S_ .f32 := (constant S_ .f32 0x00000000#32)
def v150 (A : Args F) : Vec F S16 .f32 := (broadcastInDim S16 ![] bcast_S_S16 : (⟨S_, .f32⟩ : BufTy).Contents (Elt F) → (⟨S16, .f32⟩ : BufTy).Contents (Elt F)) (cst_26 A)
def v151 (A : Args F) : Vec F S16 .i1 := (cmpf .ogt : (⟨S16, .f32⟩ : BufTy).Contents (Elt F) → (⟨S16, .f32⟩ : BufTy).Contents (Elt F) → (⟨S16, .i1⟩ : BufTy).Contents (Elt F)) (v149 A) (v150 A)
def v152 (A : Args F) : Vec F S16x25000 .f32 := (uitofp .f32 : (⟨S16x25000, .i1⟩ : BufTy).Contents (Elt F) → (⟨S16x25000, .f32⟩ : BufTy).Contents (Elt F)) (v139 A)
def v153 (A : Args F) : Vec F S16x25000 .f32 := (mulf : (⟨S16x25000, .f32⟩ : BufTy).Contents (Elt F) → (⟨S16x25000, .f32⟩ : BufTy).Contents (Elt F) → (⟨S16x25000, .f32⟩ : BufTy).Contents (Elt F)) (v146 A) (v152 A)
def cst_27 (A : Args F) : Vec F S_ .f32 := (constant S_ .f32 0x00000000#32)
def v154 (A : Args F) : Vec F S16 .f32 := ((fun x v => Host.reduceAdd x v reducesTo_S16x25000_S16_d1 h_S_) : (⟨S16x25000, .f32⟩ : BufTy).Contents (Elt F) → (⟨S_, .f32⟩ : BufTy).Contents (Elt F) → (⟨S16, .f32⟩ : BufTy).Contents (Elt F)) (v153 A) (cst_27 A)
def cst_28 (A : Args F) : Vec F S_ .f32 := (constant S_ .f32 0x3F800000#32)
def v155 (A : Args F) : Vec F S16 .f32 := (broadcastInDim S16 ![] bcast_S_S16 : (⟨S_, .f32⟩ : BufTy).Contents (Elt F) → (⟨S16, .f32⟩ : BufTy).Contents (Elt F)) (cst_28 A)
def v156 (A : Args F) : Vec F S16 .f32 := (maximumf : (⟨S16, .f32⟩ : BufTy).Contents (Elt F) → (⟨S16, .f32⟩ : BufTy).Contents (Elt F) → (⟨S16, .f32⟩ : BufTy).Contents (Elt F)) (v149 A) (v155 A)
def v157 (A : Args F) : Vec F S16 .f32 := (Host.divf : (⟨S16, .f32⟩ : BufTy).Contents (Elt F) → (⟨S16, .f32⟩ : BufTy).Contents (Elt F) → (⟨S16, .f32⟩ : BufTy).Contents (Elt F)) (v154 A) (v156 A)
def cst_29 (A : Args F) : Vec F S_ .f32 := (constant S_ .f32 0x00000000#32)
def call11_v0 (A : Args F) : Vec F S_ .f32 := id (cst_29 A)
def call11_v1 (A : Args F) : Vec F S16 .f32 := (broadcastInDim S16 ![] bcast_S_S16) (call11_v0 A)
def v158 (A : Args F) : Vec F S16 .f32 := select (v151 A) (v157 A) (call11_v1 A)
def v159 (A : Args F) : Vec F S16x25000x4 .f32 := (subf : (⟨S16x25000x4, .f32⟩ : BufTy).Contents (Elt F) → (⟨S16x25000x4, .f32⟩ : BufTy).Contents (Elt F) → (⟨S16x25000x4, .f32⟩ : BufTy).Contents (Elt F)) A.arg1 (v137 A)
def v160 (A : Args F) : Vec F S16x25000x4 .f32 := (Host.absf : (⟨S16x25000x4, .f32⟩ : BufTy).Contents (Elt F) → (⟨S16x25000x4, .f32⟩ : BufTy).Contents (Elt F)) (v159 A)
def cst_30 (A : Args F) : Vec F S_ .f32 := (constant S_ .f32 0x3F800000#32)
def v161 (A : Args F) : Vec F S16x25000x4 .f32 := (broadcastInDim S16x25000x4 ![] bcast_S_S16x25000x4 : (⟨S_, .f32⟩ : BufTy).Contents (Elt F) → (⟨S16x25000x4, .f32⟩ : BufTy).Contents (Elt F)) (cst_30 A)
def v162 (A : Args F) : Vec F S16x25000x4 .i1 := (cmpf .olt : (⟨S16x25000x4, .f32⟩ : BufTy).Contents (Elt F) → (⟨S16x25000x4, .f32⟩ : BufTy).Contents (Elt F) → (⟨S16x25000x4, .i1⟩ : BufTy).Contents (Elt F)) (v160 A) (v161 A)
def cst_31 (A : Args F) : Vec F S_ .f32 := (constant S_ .f32 0x3F000000#32)
def v163 (A : Args F) : Vec F S16x25000x4 .f32 := (broadcastInDim S16x25000x4 ![] bcast_S_S16x25000x4 : (⟨S_, .f32⟩ : BufTy).Contents (Elt F) → (⟨S16x25000x4, .f32⟩ : BufTy).Contents (Elt F)) (cst_31 A)
def v164 (A : Args F) : Vec F S16x25000x4 .f32 := (mulf : (⟨S16x25000x4, .f32⟩ : BufTy).Contents (Elt F) → (⟨S16x25000x4, .f32⟩ : BufTy).Contents (Elt F) → (⟨S16x25000x4, .f32⟩ : BufTy).Contents (Elt F)) (v163 A) (v159 A)
def v165 (A : Args F) : Vec F S16x25000x4 .f32 := (mulf : (⟨S16x25000x4, .f32⟩ : BufTy).Contents (Elt F) → (⟨S16x25000x4, .f32⟩ : BufTy).Contents (Elt F) → (⟨S16x25000x4, .f32⟩ : BufTy).Contents (Elt F)) (v164 A) (v159 A)
def cst_32 (A : Args F) : Vec F S_ .f32 := (constant S_ .f32 0x3F000000#32)
def v166 (A : Args F) : Vec F S16x25000x4 .f32 := (broadcastInDim S16x25000x4 ![] bcast_S_S16x25000x4 : (⟨S_, .f32⟩ : BufTy).Contents (Elt F) → (⟨S16x25000x4, .f32⟩ : BufTy).Contents (Elt F)) (cst_32 A)
def v167 (A : Args F) : Vec F S16x25000x4 .f32 := (subf : (⟨S16x25000x4, .f32⟩ : BufTy).Contents (Elt F) → (⟨S16x25000x4, .f32⟩ : BufTy).Contents (Elt F) → (⟨S16x25000x4, .f32⟩ : BufTy).Contents (Elt F)) (v160 A) (v166 A)
def v168 (A : Args F) : Vec F S16x25000x4 .f32 := select (v162 A) (v165 A) (v167 A)
def v169 (A : Args F) : Vec F S16x25000x1 .i1 := (broadcastInDim S16x25000x1 ![0, 1] bcast_S16x25000_S16x25000x1_0_1 : (⟨S16x25000, .i1⟩ : BufTy).Contents (Elt F) → (⟨S16x25000x1, .i1⟩ : BufTy).Contents (Elt F)) (v79 A)
def v170 (A : Args F) : Vec F S16x25000x1 .f32 := (uitofp .f32 : (⟨S16x25000x1, .i1⟩ : BufTy).Contents (Elt F) → (⟨S16x25000x1, .f32⟩ : BufTy).Contents (Elt F)) (v169 A)
def v171 (A : Args F) : Vec F S16x25000x4 .f32 := (broadcastInDim S16x25000x4 ![0, 1, 2] bcast_S16x25000x1_S16x25000x4_0_1_2 : (⟨S16x25000x1, .f32⟩ : BufTy).Contents (Elt F) → (⟨S16x25000x4, .f32⟩ : BufTy).Contents (Elt F)) (v170 A)
def v172 (A : Args F) : Vec F S16x25000x4 .f32 := (mulf : (⟨S16x25000x4, .f32⟩ : BufTy).Contents (Elt F) → (⟨S16x25000x4, .f32⟩ : BufTy).Contents (Elt F) → (⟨S16x25000x4, .f32⟩ : BufTy).Contents (Elt F)) (v168 A) (v171 A)
def v173 (A : Args F) : Vec F S16x25000 .i32 := ((extui 32 · natLt_1_32) : (⟨S16x25000, .i1⟩ : BufTy).Contents (Elt F) → (⟨S16x25000, .i32⟩ : BufTy).Contents (Elt F)) (v79 A)
def c_33 (A : Args F) : Vec F S_ .i32 := (constantI S_ 32 0#32)
def v174 (A : Args F) : Vec F S16 .i32 := ((fun x v => Host.reduce IntOp.addi x v reducesTo_S16x25000_S16_d1 h_S_) : (⟨S16x25000, .i32⟩ : BufTy).Contents (Elt F) → (⟨S_, .i32⟩ : BufTy).Contents (Elt F) → (⟨S16, .i32⟩ : BufTy).Contents (Elt F)) (v173 A) (c_33 A)
def v175 (A : Args F) : Vec F S16 .f32 := (sitofp .f32 : (⟨S16, .i32⟩ : BufTy).Contents (Elt F) → (⟨S16, .f32⟩ : BufTy).Contents (Elt F)) (v174 A)
def cst_34 (A : Args F) : Vec F S_ .f32 := (constant S_ .f32 0x00000000#32)
def v176 (A : Args F) : Vec F S16 .f32 := (broadcastInDim S16 ![] bcast_S_S16 : (⟨S_, .f32⟩ : BufTy).Contents (Elt F) → (⟨S16, .f32⟩ : BufTy).Contents (Elt F)) (cst_34 A)
def v177 (A : Args F) : Vec F S16 .i1 := (cmpf .ogt : (⟨S16, .f32⟩ : BufTy).Contents (Elt F) → (⟨S16, .f32⟩ : BufTy).Contents (Elt F) → (⟨S16, .i1⟩ : BufTy).Contents (Elt F)) (v175 A) (v176 A)
def cst_35 (A : Args F) : Vec F S_ .f32 := (constant S_ .f32 0x00000000#32)
def v178 (A : Args F) : Vec F S16 .f32 := ((fun x v => Host.reduceAdd x v reducesTo_S16x25000x4_S16_d1_2 h_S_) : (⟨S16x25000x4, .f32⟩ : BufTy).Contents (Elt F) → (⟨S_, .f32⟩ : BufTy).Contents (Elt F) → (⟨S16, .f32⟩ : BufTy).Contents (Elt F)) (v172 A) (cst_35 A)
def cst_36 (A : Args F) : Vec F S_ .f32 := (constant S_ .f32 0x40800000#32)
def v179 (A : Args F) : Vec F S16 .f32 := (broadcastInDim S16 ![] bcast_S_S16 : (⟨S_, .f32⟩ : BufTy).Contents (Elt F) → (⟨S16, .f32⟩ : BufTy).Contents (Elt F)) (cst_36 A)
def v180 (A : Args F) : Vec F S16 .f32 := (mulf : (⟨S16, .f32⟩ : BufTy).Contents (Elt F) → (⟨S16, .f32⟩ : BufTy).Contents (Elt F) → (⟨S16, .f32⟩ : BufTy).Contents (Elt F)) (v175 A) (v179 A)
def cst_37 (A : Args F) : Vec F S_ .f32 := (constant S_ .f32 0x3F800000#32)
def v181 (A : Args F) : Vec F S16 .f32 := (broadcastInDim S16 ![] bcast_S_S16 : (⟨S_, .f32⟩ : BufTy).Contents (Elt F) → (⟨S16, .f32⟩ : BufTy).Contents (Elt F)) (cst_37 A)
def v182 (A : Args F) : Vec F S16 .f32 := (maximumf : (⟨S16, .f32⟩ : BufTy).Contents (Elt F) → (⟨S16, .f32⟩ : BufTy).Contents (Elt F) → (⟨S16, .f32⟩ : BufTy).Contents (Elt F)) (v180 A) (v181 A)
def v183 (A : Args F) : Vec F S16 .f32 := (Host.divf : (⟨S16, .f32⟩ : BufTy).Contents (Elt F) → (⟨S16, .f32⟩ : BufTy).Contents (Elt F) → (⟨S16, .f32⟩ : BufTy).Contents (Elt F)) (v178 A) (v182 A)
def cst_38 (A : Args F) : Vec F S_ .f32 := (constant S_ .f32 0x00000000#32)
def call13_v0 (A : Args F) : Vec F S_ .f32 := id (cst_38 A)
def call13_v1 (A : Args F) : Vec F S16 .f32 := (broadcastInDim S16 ![] bcast_S_S16) (call13_v0 A)
def v184 (A : Args F) : Vec F S16 .f32 := select (v177 A) (v183 A) (call13_v1 A)
def cst_39 (A : Args F) : Vec F S_ .f32 := (constant S_ .f32 0x00000000#32)
def v185 (A : Args F) : Vec F S_ .f32 := ((fun x v => Host.reduceAdd x v reducesTo_S16_S_d0 h_S_) : (⟨S16, .f32⟩ : BufTy).Contents (Elt F) → (⟨S_, .f32⟩ : BufTy).Contents (Elt F) → (⟨S_, .f32⟩ : BufTy).Contents (Elt F)) (v158 A) (cst_39 A)
def cst_40 (A : Args F) : Vec F S_ .f32 := (constant S_ .f32 0x00000000#32)
def v186 (A : Args F) : Vec F S_ .f32 := ((fun x v => Host.reduceAdd x v reducesTo_S16_S_d0 h_S_) : (⟨S16, .f32⟩ : BufTy).Contents (Elt F) → (⟨S_, .f32⟩ : BufTy).Contents (Elt F) → (⟨S_, .f32⟩ : BufTy).Contents (Elt F)) (v184 A) (cst_40 A)
def cst_41 (A : Args F) : Vec F S_ .f32 := (constant S_ .f32 0x3F800000#32)
def v187 (A : Args F) : Vec F S_ .f32 := (mulf : (⟨S_, .f32⟩ : BufTy).Contents (Elt F) → (⟨S_, .f32⟩ : BufTy).Contents (Elt F) → (⟨S_, .f32⟩ : BufTy).Contents (Elt F)) (cst_41 A) (v186 A)
def v188 (A : Args F) : Vec F S_ .f32 := (addf : (⟨S_, .f32⟩ : BufTy).Contents (Elt F) → (⟨S_, .f32⟩ : BufTy).Contents (Elt F) → (⟨S_, .f32⟩ : BufTy).Contents (Elt F)) (v185 A) (v187 A)

end Val

end Cert.ReferenceIdeal.Hand

end
-- ==== Proof.RefOps.lean ====
/-
The reference's program as a list of operations, cut into stretches, and its run.
-/
module

public import proofs.«01_k».proof.Proof.Gen.ReferenceIdeal
public import Idealize.ShloMosaic.Lib.StableHlo.Run
public import Idealize.ShloMosaic.Lib.Tactic
public import Idealize.ShloMosaic.Lib.Pipeline.Regions

@[expose] public section

set_option maxRecDepth 16384

noncomputable section

namespace Cert.ReferenceIdeal.Hand

open Cert.ReferenceIdeal Cert.ReferenceIdeal.Gen
open Idealize.ShloMosaic Idealize.ShloMosaic.TcCoe
open Idealize.SL.Sem

variable {F : FTy → Type} [FloatOps F]

/-- Operations up to `main_v19`. -/
abbrev ops0 : List (HloOp τ sig (Elt F)) :=
  [ StableHlo.unary main_arg2 main_v0 ((extractStridedSlice S25000x1 ![0, 0] · slices_S25000x4_S25000x1_0_0) : (⟨S25000x4, .f32⟩ : BufTy).Contents (Elt F) → (⟨S25000x1, .f32⟩ : BufTy).Contents (Elt F)),
    StableHlo.reshape main_v0 main_v1 (rfl : (.f32 : EltTy) = .f32) shapeCasts_S25000x1_S25000,
    StableHlo.unary main_arg2 main_v2 ((extractStridedSlice S25000x1 ![0, 1] · slices_S25000x4_S25000x1_0_1) : (⟨S25000x4, .f32⟩ : BufTy).Contents (Elt F) → (⟨S25000x1, .f32⟩ : BufTy).Contents (Elt F)),
    StableHlo.reshape main_v2 main_v3 (rfl : (.f32 : EltTy) = .f32) shapeCasts_S25000x1_S25000,
    StableHlo.unary main_arg2 main_v4 ((extractStridedSlice S25000x1 ![0, 2] · slices_S25000x4_S25000x1_0_2) : (⟨S25000x4, .f32⟩ : BufTy).Contents (Elt F) → (⟨S25000x1, .f32⟩ : BufTy).Contents (Elt F)),
    StableHlo.reshape main_v4 main_v5 (rfl : (.f32 : EltTy) = .f32) shapeCasts_S25000x1_S25000,
    StableHlo.unary main_arg2 main_v6 ((extractStridedSlice S25000x1 ![0, 3] · slices_S25000x4_S25000x1_0_3) : (⟨S25000x4, .f32⟩ : BufTy).Contents (Elt F) → (⟨S25000x1, .f32⟩ : BufTy).Contents (Elt F)),
    StableHlo.reshape main_v6 main_v7 (rfl : (.f32 : EltTy) = .f32) shapeCasts_S25000x1_S25000,
    StableHlo.unary main_arg3 main_v8 ((extractStridedSlice S16x32x1 ![0, 0, 0] · slices_S16x32x4_S16x32x1_0_0_0) : (⟨S16x32x4, .f32⟩ : BufTy).Contents (Elt F) → (⟨S16x32x1, .f32⟩ : BufTy).Contents (Elt F)),
    StableHlo.reshape main_v8 main_v9 (rfl : (.f32 : EltTy) = .f32) shapeCasts_S16x32x1_S16x32,
    StableHlo.unary main_arg3 main_v10 ((extractStridedSlice S16x32x1 ![0, 0, 1] · slices_S16x32x4_S16x32x1_0_0_1) : (⟨S16x32x4, .f32⟩ : BufTy).Contents (Elt F) → (⟨S16x32x1, .f32⟩ : BufTy).Contents (Elt F)),
    StableHlo.reshape main_v10 main_v11 (rfl : (.f32 : EltTy) = .f32) shapeCasts_S16x32x1_S16x32,
    StableHlo.unary main_arg3 main_v12 ((extractStridedSlice S16x32x1 ![0, 0, 2] · slices_S16x32x4_S16x32x1_0_0_2) : (⟨S16x32x4, .f32⟩ : BufTy).Contents (Elt F) → (⟨S16x32x1, .f32⟩ : BufTy).Contents (Elt F)),
    StableHlo.reshape main_v12 main_v13 (rfl : (.f32 : EltTy) = .f32) shapeCasts_S16x32x1_S16x32,
    StableHlo.unary main_arg3 main_v14 ((extractStridedSlice S16x32x1 ![0, 0, 3] · slices_S16x32x4_S16x32x1_0_0_3) : (⟨S16x32x4, .f32⟩ : BufTy).Contents (Elt F) → (⟨S16x32x1, .f32⟩ : BufTy).Contents (Elt F)),
    StableHlo.reshape main_v14 main_v15 (rfl : (.f32 : EltTy) = .f32) shapeCasts_S16x32x1_S16x32,
    StableHlo.nullary main_cst (constant S_ .f32 0x40000000#32),
    StableHlo.unary main_cst main_v16 (broadcastInDim S25000 ![] bcast_S_S25000 : (⟨S_, .f32⟩ : BufTy).Contents (Elt F) → (⟨S25000, .f32⟩ : BufTy).Contents (Elt F)),
    StableHlo.binary main_v5 main_v16 main_v17 (Host.divf : (⟨S25000, .f32⟩ : BufTy).Contents (Elt F) → (⟨S25000, .f32⟩ : BufTy).Contents (Elt F) → (⟨S25000, .f32⟩ : BufTy).Contents (Elt F)),
    StableHlo.binary main_v1 main_v17 main_v18 (subf : (⟨S25000, .f32⟩ : BufTy).Contents (Elt F) → (⟨S25000, .f32⟩ : BufTy).Contents (Elt F) → (⟨S25000, .f32⟩ : BufTy).Contents (Elt F)),
    StableHlo.nullary main_cst_0 (constant S_ .f32 0x40000000#32),
    StableHlo.unary main_cst_0 main_v19 (broadcastInDim S25000 ![] bcast_S_S25000 : (⟨S_, .f32⟩ : BufTy).Contents (Elt F) → (⟨S25000, .f32⟩ : BufTy).Contents (Elt F)) ]
theorem ops0_sub : (ops0 : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.nullary_bufs_sub .., StableHlo.unary_bufs_sub .., StableHlo.binary_bufs_sub .., StableHlo.binary_bufs_sub .., StableHlo.nullary_bufs_sub .., StableHlo.unary_bufs_sub ..⟩
theorem ops0_fresh : (ops0 : List (HloOp τ sig (Elt F))).Forall fun op => op.fresh = ∅ :=
  StableHlo.forall_fresh_of_map rfl

/-- Operations up to `main_v39`. -/
abbrev ops1 : List (HloOp τ sig (Elt F)) :=
  [ StableHlo.binary main_v7 main_v19 main_v20 (Host.divf : (⟨S25000, .f32⟩ : BufTy).Contents (Elt F) → (⟨S25000, .f32⟩ : BufTy).Contents (Elt F) → (⟨S25000, .f32⟩ : BufTy).Contents (Elt F)),
    StableHlo.binary main_v3 main_v20 main_v21 (subf : (⟨S25000, .f32⟩ : BufTy).Contents (Elt F) → (⟨S25000, .f32⟩ : BufTy).Contents (Elt F) → (⟨S25000, .f32⟩ : BufTy).Contents (Elt F)),
    StableHlo.nullary main_cst_1 (constant S_ .f32 0x40000000#32),
    StableHlo.unary main_cst_1 main_v22 (broadcastInDim S25000 ![] bcast_S_S25000 : (⟨S_, .f32⟩ : BufTy).Contents (Elt F) → (⟨S25000, .f32⟩ : BufTy).Contents (Elt F)),
    StableHlo.binary main_v5 main_v22 main_v23 (Host.divf : (⟨S25000, .f32⟩ : BufTy).Contents (Elt F) → (⟨S25000, .f32⟩ : BufTy).Contents (Elt F) → (⟨S25000, .f32⟩ : BufTy).Contents (Elt F)),
    StableHlo.binary main_v1 main_v23 main_v24 (addf : (⟨S25000, .f32⟩ : BufTy).Contents (Elt F) → (⟨S25000, .f32⟩ : BufTy).Contents (Elt F) → (⟨S25000, .f32⟩ : BufTy).Contents (Elt F)),
    StableHlo.nullary main_cst_2 (constant S_ .f32 0x40000000#32),
    StableHlo.unary main_cst_2 main_v25 (broadcastInDim S25000 ![] bcast_S_S25000 : (⟨S_, .f32⟩ : BufTy).Contents (Elt F) → (⟨S25000, .f32⟩ : BufTy).Contents (Elt F)),
    StableHlo.binary main_v7 main_v25 main_v26 (Host.divf : (⟨S25000, .f32⟩ : BufTy).Contents (Elt F) → (⟨S25000, .f32⟩ : BufTy).Contents (Elt F) → (⟨S25000, .f32⟩ : BufTy).Contents (Elt F)),
    StableHlo.binary main_v3 main_v26 main_v27 (addf : (⟨S25000, .f32⟩ : BufTy).Contents (Elt F) → (⟨S25000, .f32⟩ : BufTy).Contents (Elt F) → (⟨S25000, .f32⟩ : BufTy).Contents (Elt F)),
    StableHlo.unary main_v18 main_v28 (broadcastInDim S1x25000x1 ![1] bcast_S25000_S1x25000x1_1 : (⟨S25000, .f32⟩ : BufTy).Contents (Elt F) → (⟨S1x25000x1, .f32⟩ : BufTy).Contents (Elt F)),
    StableHlo.unary main_v21 main_v29 (broadcastInDim S1x25000x1 ![1] bcast_S25000_S1x25000x1_1 : (⟨S25000, .f32⟩ : BufTy).Contents (Elt F) → (⟨S1x25000x1, .f32⟩ : BufTy).Contents (Elt F)),
    StableHlo.unary main_v24 main_v30 (broadcastInDim S1x25000x1 ![1] bcast_S25000_S1x25000x1_1 : (⟨S25000, .f32⟩ : BufTy).Contents (Elt F) → (⟨S1x25000x1, .f32⟩ : BufTy).Contents (Elt F)),
    StableHlo.unary main_v27 main_v31 (broadcastInDim S1x25000x1 ![1] bcast_S25000_S1x25000x1_1 : (⟨S25000, .f32⟩ : BufTy).Contents (Elt F) → (⟨S1x25000x1, .f32⟩ : BufTy).Contents (Elt F)),
    StableHlo.unary main_v9 main_v32 (broadcastInDim S16x1x32 ![0, 2] bcast_S16x32_S16x1x32_0_2 : (⟨S16x32, .f32⟩ : BufTy).Contents (Elt F) → (⟨S16x1x32, .f32⟩ : BufTy).Contents (Elt F)),
    StableHlo.unary main_v11 main_v33 (broadcastInDim S16x1x32 ![0, 2] bcast_S16x32_S16x1x32_0_2 : (⟨S16x32, .f32⟩ : BufTy).Contents (Elt F) → (⟨S16x1x32, .f32⟩ : BufTy).Contents (Elt F)),
    StableHlo.unary main_v13 main_v34 (broadcastInDim S16x1x32 ![0, 2] bcast_S16x32_S16x1x32_0_2 : (⟨S16x32, .f32⟩ : BufTy).Contents (Elt F) → (⟨S16x1x32, .f32⟩ : BufTy).Contents (Elt F)),
    StableHlo.unary main_v15 main_v35 (broadcastInDim S16x1x32 ![0, 2] bcast_S16x32_S16x1x32_0_2 : (⟨S16x32, .f32⟩ : BufTy).Contents (Elt F) → (⟨S16x1x32, .f32⟩ : BufTy).Contents (Elt F)),
    StableHlo.unary main_v30 main_v36 (broadcastInDim S16x25000x32 ![0, 1, 2] bcast_S1x25000x1_S16x25000x32_0_1_2 : (⟨S1x25000x1, .f32⟩ : BufTy).Contents (Elt F) → (⟨S16x25000x32, .f32⟩ : BufTy).Contents (Elt F)),
    StableHlo.unary main_v34 main_v37 (broadcastInDim S16x25000x32 ![0, 1, 2] bcast_S16x1x32_S16x25000x32_0_1_2 : (⟨S16x1x32, .f32⟩ : BufTy).Contents (Elt F) → (⟨S16x25000x32, .f32⟩ : BufTy).Contents (Elt F)),
    StableHlo.binary main_v36 main_v37 main_v38 (minimumf : (⟨S16x25000x32, .f32⟩ : BufTy).Contents (Elt F) → (⟨S16x25000x32, .f32⟩ : BufTy).Contents (Elt F) → (⟨S16x25000x32, .f32⟩ : BufTy).Contents (Elt F)),
    StableHlo.unary main_v28 main_v39 (broadcastInDim S16x25000x32 ![0, 1, 2] bcast_S1x25000x1_S16x25000x32_0_1_2 : (⟨S1x25000x1, .f32⟩ : BufTy).Contents (Elt F) → (⟨S16x25000x32, .f32⟩ : BufTy).Contents (Elt F)) ]
theorem ops1_sub : (ops1 : List (HloOp τ sig (Elt F))).Forall fun op => op.bufs ⊆ StableHlo.tcRefs τ sig :=
  ⟨StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.binary_bufs_sub .., StableHlo.unary_bufs_sub ..⟩
theorem ops1_fresh : (ops1 : List (HloOp τ sig (Elt F))).Forall fun op => op.fresh = ∅ :=
  StableHlo.forall_fresh_of_map rfl

/-- Operations up to `main_v53`. -/
abbrev ops2 : List (HloOp τ sig (Elt F)) :=
  [ StableHlo.unary main_v32 main_v40 (broadcastInDim S16x25000x32 ![0, 1, 2] bcast_S16x1x32_S16x25000x32_0_1_2 : (⟨S16x1x32, .f32⟩ : BufTy).Contents (Elt F) → (⟨S16x25000x32, .f32⟩ : BufTy).Contents (Elt F)),
    StableHlo.binary main_v39 main_v40 main_v41 (maximumf : (⟨S16x25000x32, .f32⟩ : BufTy).Contents (Elt F) → (⟨S16x25000x32, .f32⟩ : BufTy).Contents (Elt F) → (⟨S16x25000x32, .f32⟩ : BufTy).Contents (Elt F)),
    StableHlo.binary main_v38 main_v41 main_v42 (subf : (⟨S16x25000x32, .f32⟩ : BufTy).Contents (Elt F) → (⟨S16x25000x32, .f32⟩ : BufTy).Contents (Elt F) → (⟨S16x25000x32, .f32⟩ : BufTy).Contents (Elt F)),
    StableHlo.nullary main_cst_3 (constant S_ .f32 0x00000000#32),
    StableHlo.unary main_cst_3 main_v43 (broadcastInDim S16x25000x32 ![] bcast_S_S16x25000x32 : (⟨S_, .f32⟩ : BufTy).Contents (Elt F) → (⟨S16x25000x32, .f32⟩ : BufTy).Contents (Elt F)),
    StableHlo.binary main_v42 main_v43 main_v44 (maximumf : (⟨S16x25000x32, .f32⟩ : BufTy).Contents (Elt F) → (⟨S16x25000x32, .f32⟩ : BufTy).Contents (Elt F) → (⟨S16x25000x32, .f32⟩ : BufTy).Contents (Elt F)),
    StableHlo.unary main_v31 main_v45 (broadcastInDim S16x25000x32 ![0, 1, 2] bcast_S1x25000x1_S16x25000x32_0_1_2 : (⟨S1x25000x1, .f32⟩ : BufTy).Contents (Elt F) → (⟨S16x25000x32, .f32⟩ : BufTy).Contents (Elt F)),
    StableHlo.unary main_v35 main_v46 (broadcastInDim S16x25000x32 ![0, 1, 2] bcast_S16x1x32_S16x25000x32_0_1_2 : (⟨S16x1x32, .f32⟩ : BufTy).Contents (Elt F) → (⟨S16x25000x32, .f32⟩ : BufTy).Contents (Elt F)),
    StableHlo.binary main_v45 main_v46 main_v47 (minimumf : (⟨S16x25000x32, .f32⟩ : BufTy).Contents (Elt F) → (⟨S16x25000x32, .f32⟩ : BufTy).Contents (Elt F) → (⟨S16x25000x32, .f32⟩ : BufTy).Contents (Elt F)),
    StableHlo.unary main_v29 main_v48 (broadcastInDim S16x25000x32 ![0, 1, 2] bcast_S1x25000x1_S16x25000x32_0_1_2 : (⟨S1x25000x1, .f32⟩ : BufTy).Contents (Elt F) → (⟨S16x25000x32, .f32⟩ : BufTy).Contents (Elt F)),
    StableHlo.unary main_v33 main_v49 (broadcastInDim S16x25000x32 ![0, 1, 2] bcast_S16x1x32_S16x25000x32_0_1_2 : (⟨S16x1x32, .f32⟩ : BufTy).Contents (Elt F) → (⟨S16x25000x32, .f32⟩ : BufTy).Contents (Elt F)),
    StableHlo.binary main_v48 main_v49 main_v50 (maximumf : (⟨S16x25000x32, .f32⟩ : BufTy).Contents (Elt F) → (⟨S16x25000x32, .f32⟩ : BufTy).Contents (Elt F) → (⟨S16x25000x32, .f32⟩ : BufTy).Contents (Elt F)),
    StableHlo.binary main_v47 main_v50 main_v51 (subf : (⟨S16x25000x32, .f32⟩ : BufTy).Contents (Elt F) → (⟨S16x25000x32, .f32⟩ : BufTy).Contents (Elt F) → (⟨S16x25000x32, .f32⟩ : BufTy).Contents (Elt F)),
    StableHlo.nullary main_cst_4 (constant S_ .f32 0x00000000#32),
    StableHlo.unary main_cst_4 main_v52 (broadcastInDim S16x25000x32 ![] bcast_S_S16x25000x32 : (⟨S_, .f32⟩ : BufTy).Contents (Elt F) → (⟨S16x25000x32, .f32⟩ : BufTy).Contents (Elt F)),
    StableHlo.binary main_v51 main_v52 main_v53 (maximumf : (⟨S16x25000x32, .f32⟩ : BufTy).Contents (Elt F) → (⟨S16x25000x32, .f32⟩ : BufTy).Contents (Elt F) → (⟨S16x25000x32, .f32⟩ : BufTy).Contents (Elt F)) ]
theorem ops2_sub : (ops2 : List (HloOp τ sig (Elt F))).Forall fun op => op.bufs ⊆ StableHlo.tcRefs τ sig :=
  ⟨StableHlo.unary_bufs_sub .., StableHlo.binary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub ..⟩
theorem ops2_fresh : (ops2 : List (HloOp τ sig (Elt F))).Forall fun op => op.fresh = ∅ :=
  StableHlo.forall_fresh_of_map rfl

/-- Operations up to `main_v71`. -/
abbrev ops3 : List (HloOp τ sig (Elt F)) :=
  [ StableHlo.binary main_v44 main_v53 main_v54 (mulf : (⟨S16x25000x32, .f32⟩ : BufTy).Contents (Elt F) → (⟨S16x25000x32, .f32⟩ : BufTy).Contents (Elt F) → (⟨S16x25000x32, .f32⟩ : BufTy).Contents (Elt F)),
    StableHlo.binary main_v30 main_v28 main_v55 (subf : (⟨S1x25000x1, .f32⟩ : BufTy).Contents (Elt F) → (⟨S1x25000x1, .f32⟩ : BufTy).Contents (Elt F) → (⟨S1x25000x1, .f32⟩ : BufTy).Contents (Elt F)),
    StableHlo.nullary main_cst_5 (constant S_ .f32 0x00000000#32),
    StableHlo.unary main_cst_5 main_v56 (broadcastInDim S1x25000x1 ![] bcast_S_S1x25000x1 : (⟨S_, .f32⟩ : BufTy).Contents (Elt F) → (⟨S1x25000x1, .f32⟩ : BufTy).Contents (Elt F)),
    StableHlo.binary main_v55 main_v56 main_v57 (maximumf : (⟨S1x25000x1, .f32⟩ : BufTy).Contents (Elt F) → (⟨S1x25000x1, .f32⟩ : BufTy).Contents (Elt F) → (⟨S1x25000x1, .f32⟩ : BufTy).Contents (Elt F)),
    StableHlo.binary main_v31 main_v29 main_v58 (subf : (⟨S1x25000x1, .f32⟩ : BufTy).Contents (Elt F) → (⟨S1x25000x1, .f32⟩ : BufTy).Contents (Elt F) → (⟨S1x25000x1, .f32⟩ : BufTy).Contents (Elt F)),
    StableHlo.nullary main_cst_6 (constant S_ .f32 0x00000000#32),
    StableHlo.unary main_cst_6 main_v59 (broadcastInDim S1x25000x1 ![] bcast_S_S1x25000x1 : (⟨S_, .f32⟩ : BufTy).Contents (Elt F) → (⟨S1x25000x1, .f32⟩ : BufTy).Contents (Elt F)),
    StableHlo.binary main_v58 main_v59 main_v60 (maximumf : (⟨S1x25000x1, .f32⟩ : BufTy).Contents (Elt F) → (⟨S1x25000x1, .f32⟩ : BufTy).Contents (Elt F) → (⟨S1x25000x1, .f32⟩ : BufTy).Contents (Elt F)),
    StableHlo.binary main_v57 main_v60 main_v61 (mulf : (⟨S1x25000x1, .f32⟩ : BufTy).Contents (Elt F) → (⟨S1x25000x1, .f32⟩ : BufTy).Contents (Elt F) → (⟨S1x25000x1, .f32⟩ : BufTy).Contents (Elt F)),
    StableHlo.binary main_v34 main_v32 main_v62 (subf : (⟨S16x1x32, .f32⟩ : BufTy).Contents (Elt F) → (⟨S16x1x32, .f32⟩ : BufTy).Contents (Elt F) → (⟨S16x1x32, .f32⟩ : BufTy).Contents (Elt F)),
    StableHlo.nullary main_cst_7 (constant S_ .f32 0x00000000#32),
    StableHlo.unary main_cst_7 main_v63 (broadcastInDim S16x1x32 ![] bcast_S_S16x1x32 : (⟨S_, .f32⟩ : BufTy).Contents (Elt F) → (⟨S16x1x32, .f32⟩ : BufTy).Contents (Elt F)),
    StableHlo.binary main_v62 main_v63 main_v64 (maximumf : (⟨S16x1x32, .f32⟩ : BufTy).Contents (Elt F) → (⟨S16x1x32, .f32⟩ : BufTy).Contents (Elt F) → (⟨S16x1x32, .f32⟩ : BufTy).Contents (Elt F)),
    StableHlo.binary main_v35 main_v33 main_v65 (subf : (⟨S16x1x32, .f32⟩ : BufTy).Contents (Elt F) → (⟨S16x1x32, .f32⟩ : BufTy).Contents (Elt F) → (⟨S16x1x32, .f32⟩ : BufTy).Contents (Elt F)),
    StableHlo.nullary main_cst_8 (constant S_ .f32 0x00000000#32),
    StableHlo.unary main_cst_8 main_v66 (broadcastInDim S16x1x32 ![] bcast_S_S16x1x32 : (⟨S_, .f32⟩ : BufTy).Contents (Elt F) → (⟨S16x1x32, .f32⟩ : BufTy).Contents (Elt F)),
    StableHlo.binary main_v65 main_v66 main_v67 (maximumf : (⟨S16x1x32, .f32⟩ : BufTy).Contents (Elt F) → (⟨S16x1x32, .f32⟩ : BufTy).Contents (Elt F) → (⟨S16x1x32, .f32⟩ : BufTy).Contents (Elt F)),
    StableHlo.binary main_v64 main_v67 main_v68 (mulf : (⟨S16x1x32, .f32⟩ : BufTy).Contents (Elt F) → (⟨S16x1x32, .f32⟩ : BufTy).Contents (Elt F) → (⟨S16x1x32, .f32⟩ : BufTy).Contents (Elt F)),
    StableHlo.unary main_v61 main_v69 (broadcastInDim S16x25000x32 ![0, 1, 2] bcast_S1x25000x1_S16x25000x32_0_1_2 : (⟨S1x25000x1, .f32⟩ : BufTy).Contents (Elt F) → (⟨S16x25000x32, .f32⟩ : BufTy).Contents (Elt F)),
    StableHlo.unary main_v68 main_v70 (broadcastInDim S16x25000x32 ![0, 1, 2] bcast_S16x1x32_S16x25000x32_0_1_2 : (⟨S16x1x32, .f32⟩ : BufTy).Contents (Elt F) → (⟨S16x25000x32, .f32⟩ : BufTy).Contents (Elt F)),
    StableHlo.binary main_v69 main_v70 main_v71 (addf : (⟨S16x25000x32, .f32⟩ : BufTy).Contents (Elt F) → (⟨S16x25000x32, .f32⟩ : BufTy).Contents (Elt F) → (⟨S16x25000x32, .f32⟩ : BufTy).Contents (Elt F)) ]
theorem ops3_sub : (ops3 : List (HloOp τ sig (Elt F))).Forall fun op => op.bufs ⊆ StableHlo.tcRefs τ sig :=
  ⟨StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.binary_bufs_sub ..⟩
theorem ops3_fresh : (ops3 : List (HloOp τ sig (Elt F))).Forall fun op => op.fresh = ∅ :=
  StableHlo.forall_fresh_of_map rfl

/-- Operations up to `main_v83`. -/
abbrev ops4 : List (HloOp τ sig (Elt F)) :=
  [ StableHlo.binary main_v71 main_v54 main_v72 (subf : (⟨S16x25000x32, .f32⟩ : BufTy).Contents (Elt F) → (⟨S16x25000x32, .f32⟩ : BufTy).Contents (Elt F) → (⟨S16x25000x32, .f32⟩ : BufTy).Contents (Elt F)),
    StableHlo.nullary main_cst_9 (constant S_ .f32 0x3089705F#32),
    StableHlo.unary main_cst_9 main_v73 (broadcastInDim S16x25000x32 ![] bcast_S_S16x25000x32 : (⟨S_, .f32⟩ : BufTy).Contents (Elt F) → (⟨S16x25000x32, .f32⟩ : BufTy).Contents (Elt F)),
    StableHlo.binary main_v72 main_v73 main_v74 (addf : (⟨S16x25000x32, .f32⟩ : BufTy).Contents (Elt F) → (⟨S16x25000x32, .f32⟩ : BufTy).Contents (Elt F) → (⟨S16x25000x32, .f32⟩ : BufTy).Contents (Elt F)),
    StableHlo.binary main_v54 main_v74 main_v75 (Host.divf : (⟨S16x25000x32, .f32⟩ : BufTy).Contents (Elt F) → (⟨S16x25000x32, .f32⟩ : BufTy).Contents (Elt F) → (⟨S16x25000x32, .f32⟩ : BufTy).Contents (Elt F)),
    StableHlo.nullary main_cst_10 (constant S_ .f32 0xFF800000#32),
    StableHlo.binary main_v75 main_cst_10 main_v76 ((fun x v => Host.reduce FloatOps.maximumf x v reducesTo_S16x25000x32_S16x25000_d2 h_S_) : (⟨S16x25000x32, .f32⟩ : BufTy).Contents (Elt F) → (⟨S_, .f32⟩ : BufTy).Contents (Elt F) → (⟨S16x25000, .f32⟩ : BufTy).Contents (Elt F)),
    StableHlo.TRef.nullary main_call0.v0 (iotaInDim S16x25000x32 32 2),
    StableHlo.TRef.nullary main_call0.cst (constant S_ .f32 0xFF800000#32),
    StableHlo.TRef.nullary main_call0.c (constantI S_ 32 0#32),
    StableHlo.TRef.quaternary (.of main_v75 : StableHlo.TRef sig ⟨S16x25000x32, .f32⟩) main_call0.v0 main_call0.cst main_call0.c main_call0.v1_0 (fun x y u v j => (Host.argReduce reducer_argmax_f32_i32 x y u v reducesTo_S16x25000x32_S16x25000_d2 h_S_ j).1),
    StableHlo.TRef.quaternary (.of main_v75 : StableHlo.TRef sig ⟨S16x25000x32, .f32⟩) main_call0.v0 main_call0.cst main_call0.c main_call0.v1_1 (fun x y u v j => (Host.argReduce reducer_argmax_f32_i32 x y u v reducesTo_S16x25000x32_S16x25000_d2 h_S_ j).2),
    StableHlo.nullary main_cst_11 (constant S_ .f32 0x3F000000#32),
    StableHlo.unary main_cst_11 main_v78 (broadcastInDim S16x25000 ![] bcast_S_S16x25000 : (⟨S_, .f32⟩ : BufTy).Contents (Elt F) → (⟨S16x25000, .f32⟩ : BufTy).Contents (Elt F)),
    StableHlo.binary main_v76 main_v78 main_v79 (cmpf .oge : (⟨S16x25000, .f32⟩ : BufTy).Contents (Elt F) → (⟨S16x25000, .f32⟩ : BufTy).Contents (Elt F) → (⟨S16x25000, .i1⟩ : BufTy).Contents (Elt F)),
    StableHlo.nullary main_cst_12 (constant S_ .f32 0x3ECCCCCD#32),
    StableHlo.unary main_cst_12 main_v80 (broadcastInDim S16x25000 ![] bcast_S_S16x25000 : (⟨S_, .f32⟩ : BufTy).Contents (Elt F) → (⟨S16x25000, .f32⟩ : BufTy).Contents (Elt F)),
    StableHlo.binary main_v76 main_v80 main_v81 (cmpf .ogt : (⟨S16x25000, .f32⟩ : BufTy).Contents (Elt F) → (⟨S16x25000, .f32⟩ : BufTy).Contents (Elt F) → (⟨S16x25000, .i1⟩ : BufTy).Contents (Elt F)),
    StableHlo.unary main_v79 main_v82 (noti : (⟨S16x25000, .i1⟩ : BufTy).Contents (Elt F) → (⟨S16x25000, .i1⟩ : BufTy).Contents (Elt F)),
    StableHlo.binary main_v81 main_v82 main_v83 (andi : (⟨S16x25000, .i1⟩ : BufTy).Contents (Elt F) → (⟨S16x25000, .i1⟩ : BufTy).Contents (Elt F) → (⟨S16x25000, .i1⟩ : BufTy).Contents (Elt F)) ]
theorem ops4_sub : (ops4 : List (HloOp τ sig (Elt F))).Forall fun op => op.bufs ⊆ StableHlo.tcRefs τ sig :=
  ⟨StableHlo.binary_bufs_sub .., StableHlo.nullary_bufs_sub .., StableHlo.unary_bufs_sub .., StableHlo.binary_bufs_sub .., StableHlo.binary_bufs_sub .., StableHlo.nullary_bufs_sub .., StableHlo.binary_bufs_sub .., StableHlo.nullary_bufs_sub .., StableHlo.nullary_bufs_sub .., StableHlo.nullary_bufs_sub .., StableHlo.quaternary_bufs_sub .., StableHlo.quaternary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub ..⟩
theorem ops4_fresh : (ops4 : List (HloOp τ sig (Elt F))).Forall fun op => op.fresh = ∅ :=
  StableHlo.forall_fresh_of_map rfl

/-- Operations up to `main_call1_v4`. -/
abbrev ops5 : List (HloOp τ sig (Elt F)) :=
  [ StableHlo.TRef.nullary main_call1.c (constantI S_ 32 0#32),
    StableHlo.TRef.unary main_call1.c main_call1.v0 (broadcastInDim S16x25000 ![] bcast_S_S16x25000),
    StableHlo.TRef.binary (.of main_v77 : StableHlo.TRef sig ⟨S16x25000, .i32⟩) main_call1.v0 main_call1.v1 (cmpi .slt),
    StableHlo.TRef.nullary main_call1.c_0 (constantI S_ 32 32#32),
    StableHlo.TRef.unary main_call1.c_0 main_call1.v2 (broadcastInDim S16x25000 ![] bcast_S_S16x25000),
    StableHlo.TRef.binary (.of main_v77 : StableHlo.TRef sig ⟨S16x25000, .i32⟩) main_call1.v2 main_call1.v3 addi,
    StableHlo.TRef.ternary main_call1.v1 main_call1.v3 (.of main_v77 : StableHlo.TRef sig ⟨S16x25000, .i32⟩) main_call1.v4 select ]
theorem ops5_sub : (ops5 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub ..⟩
theorem ops5_fresh : (ops5 : List (HloOp τ sig (Elt F))).Forall fun op => op.fresh = ∅ :=
  StableHlo.forall_fresh_of_map rfl

/-- Operations up to `main_call1_v5`. -/
abbrev ops6 : List (HloOp τ sig (Elt F)) :=
  [ StableHlo.TRef.reshape main_call1.v4 main_call1.v5 (rfl : (.i32 : EltTy) = .i32) shapeCasts_S16x25000_S16x25000x1 ]
theorem ops6_sub : (ops6 : List (HloOp τ sig (Elt F))).Forall fun op => op.bufs ⊆ StableHlo.tcRefs τ sig :=
  StableHlo.reshape_bufs_sub ..
theorem ops6_fresh : (ops6 : List (HloOp τ sig (Elt F))).Forall fun op => op.fresh = ∅ :=
  StableHlo.forall_fresh_of_map rfl

/-- Operations up to `main_call2_v4`. -/
abbrev ops7 : List (HloOp τ sig (Elt F)) :=
  [ StableHlo.TRef.nullary main_call1.c_1 (constantI S1 32 31#32),
    StableHlo.TRef.nullary main_call1.c_2 (constantI S_ 32 0#32),
    StableHlo.TRef.unary main_call1.c_2 main_call1.v6 (broadcastInDim S16x25000x1 ![] bcast_S_S16x25000x1),
    StableHlo.TRef.binary main_call1.v5 main_call1.v6 main_call1.v7 (cmpi .sge),
    StableHlo.TRef.unary main_call1.c_1 main_call1.v8 (broadcastInDim S1x1x1 ![2] bcast_S1_S1x1x1_2),
    StableHlo.TRef.unary main_call1.v8 main_call1.v9 (broadcastInDim S16x25000x1 ![0, 1, 2] bcast_S1x1x1_S16x25000x1_0_1_2),
    StableHlo.TRef.binary main_call1.v5 main_call1.v9 main_call1.v10 (cmpi .sle),
    StableHlo.TRef.binary main_call1.v7 main_call1.v10 main_call1.v11 andi,
    StableHlo.TRef.nullary main_call1.c_3 (constantI S_ 1 1#1),
    StableHlo.TRef.binary main_call1.v11 main_call1.c_3 main_call1.v12 (fun x v => Host.reduce IntOp.andi x v reducesTo_S16x25000x1_S16x25000_d2 h_S_),
    StableHlo.TRef.binary (.of main_v9 : StableHlo.TRef sig ⟨S16x32, .f32⟩) main_call1.v5 main_call1.v13 (fun x i => Host.gather gather_S16x32_S16x25000x1_S16x25000_n_1_0_0_1_2_11 x i),
    StableHlo.TRef.nullary main_call1.cst (constant S_ .f32 0x7FC00000#32),
    StableHlo.TRef.unary main_call1.cst main_call1.v14 (broadcastInDim S16x25000 ![] bcast_S_S16x25000),
    StableHlo.TRef.ternary main_call1.v12 main_call1.v13 main_call1.v14 main_call1.v15 select,
    StableHlo.TRef.nullary main_call2.c (constantI S_ 32 0#32),
    StableHlo.TRef.unary main_call2.c main_call2.v0 (broadcastInDim S16x25000 ![] bcast_S_S16x25000),
    StableHlo.TRef.binary (.of main_v77 : StableHlo.TRef sig ⟨S16x25000, .i32⟩) main_call2.v0 main_call2.v1 (cmpi .slt),
    StableHlo.TRef.nullary main_call2.c_0 (constantI S_ 32 32#32),
    StableHlo.TRef.unary main_call2.c_0 main_call2.v2 (broadcastInDim S16x25000 ![] bcast_S_S16x25000),
    StableHlo.TRef.binary (.of main_v77 : StableHlo.TRef sig ⟨S16x25000, .i32⟩) main_call2.v2 main_call2.v3 addi,
    StableHlo.TRef.ternary main_call2.v1 main_call2.v3 (.of main_v77 : StableHlo.TRef sig ⟨S16x25000, .i32⟩) main_call2.v4 select ]
theorem ops7_sub : (ops7 : List (HloOp τ sig (Elt F))).Forall fun op => op.bufs ⊆ StableHlo.tcRefs τ sig :=
  ⟨StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.nullary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub ..⟩
theorem ops7_fresh : (ops7 : List (HloOp τ sig (Elt F))).Forall fun op => op.fresh = ∅ :=
  StableHlo.forall_fresh_of_map rfl

/-- Operations up to `main_call2_v5`. -/
abbrev ops8 : List (HloOp τ sig (Elt F)) :=
  [ StableHlo.TRef.reshape main_call2.v4 main_call2.v5 (rfl : (.i32 : EltTy) = .i32) shapeCasts_S16x25000_S16x25000x1 ]
theorem ops8_sub : (ops8 : List (HloOp τ sig (Elt F))).Forall fun op => op.bufs ⊆ StableHlo.tcRefs τ sig :=
  StableHlo.reshape_bufs_sub ..
theorem ops8_fresh : (ops8 : List (HloOp τ sig (Elt F))).Forall fun op => op.fresh = ∅ :=
  StableHlo.forall_fresh_of_map rfl

/-- Operations up to `main_call3_v4`. -/
abbrev ops9 : List (HloOp τ sig (Elt F)) :=
  [ StableHlo.TRef.nullary main_call2.c_1 (constantI S1 32 31#32),
    StableHlo.TRef.nullary main_call2.c_2 (constantI S_ 32 0#32),
    StableHlo.TRef.unary main_call2.c_2 main_call2.v6 (broadcastInDim S16x25000x1 ![] bcast_S_S16x25000x1),
    StableHlo.TRef.binary main_call2.v5 main_call2.v6 main_call2.v7 (cmpi .sge),
    StableHlo.TRef.unary main_call2.c_1 main_call2.v8 (broadcastInDim S1x1x1 ![2] bcast_S1_S1x1x1_2),
    StableHlo.TRef.unary main_call2.v8 main_call2.v9 (broadcastInDim S16x25000x1 ![0, 1, 2] bcast_S1x1x1_S16x25000x1_0_1_2),
    StableHlo.TRef.binary main_call2.v5 main_call2.v9 main_call2.v10 (cmpi .sle),
    StableHlo.TRef.binary main_call2.v7 main_call2.v10 main_call2.v11 andi,
    StableHlo.TRef.nullary main_call2.c_3 (constantI S_ 1 1#1),
    StableHlo.TRef.binary main_call2.v11 main_call2.c_3 main_call2.v12 (fun x v => Host.reduce IntOp.andi x v reducesTo_S16x25000x1_S16x25000_d2 h_S_),
    StableHlo.TRef.binary (.of main_v11 : StableHlo.TRef sig ⟨S16x32, .f32⟩) main_call2.v5 main_call2.v13 (fun x i => Host.gather gather_S16x32_S16x25000x1_S16x25000_n_1_0_0_1_2_11 x i),
    StableHlo.TRef.nullary main_call2.cst (constant S_ .f32 0x7FC00000#32),
    StableHlo.TRef.unary main_call2.cst main_call2.v14 (broadcastInDim S16x25000 ![] bcast_S_S16x25000),
    StableHlo.TRef.ternary main_call2.v12 main_call2.v13 main_call2.v14 main_call2.v15 select,
    StableHlo.TRef.nullary main_call3.c (constantI S_ 32 0#32),
    StableHlo.TRef.unary main_call3.c main_call3.v0 (broadcastInDim S16x25000 ![] bcast_S_S16x25000),
    StableHlo.TRef.binary (.of main_v77 : StableHlo.TRef sig ⟨S16x25000, .i32⟩) main_call3.v0 main_call3.v1 (cmpi .slt),
    StableHlo.TRef.nullary main_call3.c_0 (constantI S_ 32 32#32),
    StableHlo.TRef.unary main_call3.c_0 main_call3.v2 (broadcastInDim S16x25000 ![] bcast_S_S16x25000),
    StableHlo.TRef.binary (.of main_v77 : StableHlo.TRef sig ⟨S16x25000, .i32⟩) main_call3.v2 main_call3.v3 addi,
    StableHlo.TRef.ternary main_call3.v1 main_call3.v3 (.of main_v77 : StableHlo.TRef sig ⟨S16x25000, .i32⟩) main_call3.v4 select ]
theorem ops9_sub : (ops9 : List (HloOp τ sig (Elt F))).Forall fun op => op.bufs ⊆ StableHlo.tcRefs τ sig :=
  ⟨StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.nullary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub ..⟩
theorem ops9_fresh : (ops9 : List (HloOp τ sig (Elt F))).Forall fun op => op.fresh = ∅ :=
  StableHlo.forall_fresh_of_map rfl

/-- Operations up to `main_call3_v5`. -/
abbrev ops10 : List (HloOp τ sig (Elt F)) :=
  [ StableHlo.TRef.reshape main_call3.v4 main_call3.v5 (rfl : (.i32 : EltTy) = .i32) shapeCasts_S16x25000_S16x25000x1 ]
theorem ops10_sub : (ops10 : List (HloOp τ sig (Elt F))).Forall fun op => op.bufs ⊆ StableHlo.tcRefs τ sig :=
  StableHlo.reshape_bufs_sub ..
theorem ops10_fresh : (ops10 : List (HloOp τ sig (Elt F))).Forall fun op => op.fresh = ∅ :=
  StableHlo.forall_fresh_of_map rfl

/-- Operations up to `main_call4_v4`. -/
abbrev ops11 : List (HloOp τ sig (Elt F)) :=
  [ StableHlo.TRef.nullary main_call3.c_1 (constantI S1 32 31#32),
    StableHlo.TRef.nullary main_call3.c_2 (constantI S_ 32 0#32),
    StableHlo.TRef.unary main_call3.c_2 main_call3.v6 (broadcastInDim S16x25000x1 ![] bcast_S_S16x25000x1),
    StableHlo.TRef.binary main_call3.v5 main_call3.v6 main_call3.v7 (cmpi .sge),
    StableHlo.TRef.unary main_call3.c_1 main_call3.v8 (broadcastInDim S1x1x1 ![2] bcast_S1_S1x1x1_2),
    StableHlo.TRef.unary main_call3.v8 main_call3.v9 (broadcastInDim S16x25000x1 ![0, 1, 2] bcast_S1x1x1_S16x25000x1_0_1_2),
    StableHlo.TRef.binary main_call3.v5 main_call3.v9 main_call3.v10 (cmpi .sle),
    StableHlo.TRef.binary main_call3.v7 main_call3.v10 main_call3.v11 andi,
    StableHlo.TRef.nullary main_call3.c_3 (constantI S_ 1 1#1),
    StableHlo.TRef.binary main_call3.v11 main_call3.c_3 main_call3.v12 (fun x v => Host.reduce IntOp.andi x v reducesTo_S16x25000x1_S16x25000_d2 h_S_),
    StableHlo.TRef.binary (.of main_v13 : StableHlo.TRef sig ⟨S16x32, .f32⟩) main_call3.v5 main_call3.v13 (fun x i => Host.gather gather_S16x32_S16x25000x1_S16x25000_n_1_0_0_1_2_11 x i),
    StableHlo.TRef.nullary main_call3.cst (constant S_ .f32 0x7FC00000#32),
    StableHlo.TRef.unary main_call3.cst main_call3.v14 (broadcastInDim S16x25000 ![] bcast_S_S16x25000),
    StableHlo.TRef.ternary main_call3.v12 main_call3.v13 main_call3.v14 main_call3.v15 select,
    StableHlo.TRef.nullary main_call4.c (constantI S_ 32 0#32),
    StableHlo.TRef.unary main_call4.c main_call4.v0 (broadcastInDim S16x25000 ![] bcast_S_S16x25000),
    StableHlo.TRef.binary (.of main_v77 : StableHlo.TRef sig ⟨S16x25000, .i32⟩) main_call4.v0 main_call4.v1 (cmpi .slt),
    StableHlo.TRef.nullary main_call4.c_0 (constantI S_ 32 32#32),
    StableHlo.TRef.unary main_call4.c_0 main_call4.v2 (broadcastInDim S16x25000 ![] bcast_S_S16x25000),
    StableHlo.TRef.binary (.of main_v77 : StableHlo.TRef sig ⟨S16x25000, .i32⟩) main_call4.v2 main_call4.v3 addi,
    StableHlo.TRef.ternary main_call4.v1 main_call4.v3 (.of main_v77 : StableHlo.TRef sig ⟨S16x25000, .i32⟩) main_call4.v4 select ]
theorem ops11_sub : (ops11 : List (HloOp τ sig (Elt F))).Forall fun op => op.bufs ⊆ StableHlo.tcRefs τ sig :=
  ⟨StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.nullary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub ..⟩
theorem ops11_fresh : (ops11 : List (HloOp τ sig (Elt F))).Forall fun op => op.fresh = ∅ :=
  StableHlo.forall_fresh_of_map rfl

/-- Operations up to `main_call4_v5`. -/
abbrev ops12 : List (HloOp τ sig (Elt F)) :=
  [ StableHlo.TRef.reshape main_call4.v4 main_call4.v5 (rfl : (.i32 : EltTy) = .i32) shapeCasts_S16x25000_S16x25000x1 ]
theorem ops12_sub : (ops12 : List (HloOp τ sig (Elt F))).Forall fun op => op.bufs ⊆ StableHlo.tcRefs τ sig :=
  StableHlo.reshape_bufs_sub ..
theorem ops12_fresh : (ops12 : List (HloOp τ sig (Elt F))).Forall fun op => op.fresh = ∅ :=
  StableHlo.forall_fresh_of_map rfl

/-- Operations up to `main_call5_v4`. -/
abbrev ops13 : List (HloOp τ sig (Elt F)) :=
  [ StableHlo.TRef.nullary main_call4.c_1 (constantI S1 32 31#32),
    StableHlo.TRef.nullary main_call4.c_2 (constantI S_ 32 0#32),
    StableHlo.TRef.unary main_call4.c_2 main_call4.v6 (broadcastInDim S16x25000x1 ![] bcast_S_S16x25000x1),
    StableHlo.TRef.binary main_call4.v5 main_call4.v6 main_call4.v7 (cmpi .sge),
    StableHlo.TRef.unary main_call4.c_1 main_call4.v8 (broadcastInDim S1x1x1 ![2] bcast_S1_S1x1x1_2),
    StableHlo.TRef.unary main_call4.v8 main_call4.v9 (broadcastInDim S16x25000x1 ![0, 1, 2] bcast_S1x1x1_S16x25000x1_0_1_2),
    StableHlo.TRef.binary main_call4.v5 main_call4.v9 main_call4.v10 (cmpi .sle),
    StableHlo.TRef.binary main_call4.v7 main_call4.v10 main_call4.v11 andi,
    StableHlo.TRef.nullary main_call4.c_3 (constantI S_ 1 1#1),
    StableHlo.TRef.binary main_call4.v11 main_call4.c_3 main_call4.v12 (fun x v => Host.reduce IntOp.andi x v reducesTo_S16x25000x1_S16x25000_d2 h_S_),
    StableHlo.TRef.binary (.of main_v15 : StableHlo.TRef sig ⟨S16x32, .f32⟩) main_call4.v5 main_call4.v13 (fun x i => Host.gather gather_S16x32_S16x25000x1_S16x25000_n_1_0_0_1_2_11 x i),
    StableHlo.TRef.nullary main_call4.cst (constant S_ .f32 0x7FC00000#32),
    StableHlo.TRef.unary main_call4.cst main_call4.v14 (broadcastInDim S16x25000 ![] bcast_S_S16x25000),
    StableHlo.TRef.ternary main_call4.v12 main_call4.v13 main_call4.v14 main_call4.v15 select,
    StableHlo.TRef.nullary main_call5.c (constantI S_ 32 0#32),
    StableHlo.TRef.unary main_call5.c main_call5.v0 (broadcastInDim S16x25000 ![] bcast_S_S16x25000),
    StableHlo.TRef.binary (.of main_v77 : StableHlo.TRef sig ⟨S16x25000, .i32⟩) main_call5.v0 main_call5.v1 (cmpi .slt),
    StableHlo.TRef.nullary main_call5.c_0 (constantI S_ 32 32#32),
    StableHlo.TRef.unary main_call5.c_0 main_call5.v2 (broadcastInDim S16x25000 ![] bcast_S_S16x25000),
    StableHlo.TRef.binary (.of main_v77 : StableHlo.TRef sig ⟨S16x25000, .i32⟩) main_call5.v2 main_call5.v3 addi,
    StableHlo.TRef.ternary main_call5.v1 main_call5.v3 (.of main_v77 : StableHlo.TRef sig ⟨S16x25000, .i32⟩) main_call5.v4 select ]
theorem ops13_sub : (ops13 : List (HloOp τ sig (Elt F))).Forall fun op => op.bufs ⊆ StableHlo.tcRefs τ sig :=
  ⟨StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.nullary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub ..⟩
theorem ops13_fresh : (ops13 : List (HloOp τ sig (Elt F))).Forall fun op => op.fresh = ∅ :=
  StableHlo.forall_fresh_of_map rfl

/-- Operations up to `main_call5_v5`. -/
abbrev ops14 : List (HloOp τ sig (Elt F)) :=
  [ StableHlo.TRef.reshape main_call5.v4 main_call5.v5 (rfl : (.i32 : EltTy) = .i32) shapeCasts_S16x25000_S16x25000x1 ]
theorem ops14_sub : (ops14 : List (HloOp τ sig (Elt F))).Forall fun op => op.bufs ⊆ StableHlo.tcRefs τ sig :=
  StableHlo.reshape_bufs_sub ..
theorem ops14_fresh : (ops14 : List (HloOp τ sig (Elt F))).Forall fun op => op.fresh = ∅ :=
  StableHlo.forall_fresh_of_map rfl

/-- Operations up to `main_v88`. -/
abbrev ops15 : List (HloOp τ sig (Elt F)) :=
  [ StableHlo.TRef.nullary main_call5.c_1 (constantI S1 32 31#32),
    StableHlo.TRef.nullary main_call5.c_2 (constantI S_ 32 0#32),
    StableHlo.TRef.unary main_call5.c_2 main_call5.v6 (broadcastInDim S16x25000x1 ![] bcast_S_S16x25000x1),
    StableHlo.TRef.binary main_call5.v5 main_call5.v6 main_call5.v7 (cmpi .sge),
    StableHlo.TRef.unary main_call5.c_1 main_call5.v8 (broadcastInDim S1x1x1 ![2] bcast_S1_S1x1x1_2),
    StableHlo.TRef.unary main_call5.v8 main_call5.v9 (broadcastInDim S16x25000x1 ![0, 1, 2] bcast_S1x1x1_S16x25000x1_0_1_2),
    StableHlo.TRef.binary main_call5.v5 main_call5.v9 main_call5.v10 (cmpi .sle),
    StableHlo.TRef.binary main_call5.v7 main_call5.v10 main_call5.v11 andi,
    StableHlo.TRef.nullary main_call5.c_3 (constantI S_ 1 1#1),
    StableHlo.TRef.binary main_call5.v11 main_call5.c_3 main_call5.v12 (fun x v => Host.reduce IntOp.andi x v reducesTo_S16x25000x1_S16x25000_d2 h_S_),
    StableHlo.TRef.binary (.of main_arg4 : StableHlo.TRef sig ⟨S16x32, .i32⟩) main_call5.v5 main_call5.v13 (fun x i => Host.gather gather_S16x32_S16x25000x1_S16x25000_n_1_0_0_1_2_11 x i),
    StableHlo.TRef.nullary main_call5.c_4 (constantI S_ 32 2147483648#32),
    StableHlo.TRef.unary main_call5.c_4 main_call5.v14 (broadcastInDim S16x25000 ![] bcast_S_S16x25000),
    StableHlo.TRef.ternary main_call5.v12 main_call5.v13 main_call5.v14 main_call5.v15 select ]
theorem ops15_sub : (ops15 : List (HloOp τ sig (Elt F))).Forall fun op => op.bufs ⊆ StableHlo.tcRefs τ sig :=
  ⟨StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.nullary_bufs_sub .., StableHlo.unary_bufs_sub .., StableHlo.ternary_bufs_sub ..⟩
theorem ops15_fresh : (ops15 : List (HloOp τ sig (Elt F))).Forall fun op => op.fresh = ∅ :=
  StableHlo.forall_fresh_of_map rfl

/-- Operations up to `main_v101`. -/
abbrev ops16 : List (HloOp τ sig (Elt F)) :=
  [ StableHlo.binary main_v84 main_v86 main_v89 (addf : (⟨S16x25000, .f32⟩ : BufTy).Contents (Elt F) → (⟨S16x25000, .f32⟩ : BufTy).Contents (Elt F) → (⟨S16x25000, .f32⟩ : BufTy).Contents (Elt F)),
    StableHlo.nullary main_cst_13 (constant S_ .f32 0x40000000#32),
    StableHlo.unary main_cst_13 main_v90 (broadcastInDim S16x25000 ![] bcast_S_S16x25000 : (⟨S_, .f32⟩ : BufTy).Contents (Elt F) → (⟨S16x25000, .f32⟩ : BufTy).Contents (Elt F)),
    StableHlo.binary main_v89 main_v90 main_v91 (Host.divf : (⟨S16x25000, .f32⟩ : BufTy).Contents (Elt F) → (⟨S16x25000, .f32⟩ : BufTy).Contents (Elt F) → (⟨S16x25000, .f32⟩ : BufTy).Contents (Elt F)),
    StableHlo.binary main_v85 main_v87 main_v92 (addf : (⟨S16x25000, .f32⟩ : BufTy).Contents (Elt F) → (⟨S16x25000, .f32⟩ : BufTy).Contents (Elt F) → (⟨S16x25000, .f32⟩ : BufTy).Contents (Elt F)),
    StableHlo.nullary main_cst_14 (constant S_ .f32 0x40000000#32),
    StableHlo.unary main_cst_14 main_v93 (broadcastInDim S16x25000 ![] bcast_S_S16x25000 : (⟨S_, .f32⟩ : BufTy).Contents (Elt F) → (⟨S16x25000, .f32⟩ : BufTy).Contents (Elt F)),
    StableHlo.binary main_v92 main_v93 main_v94 (Host.divf : (⟨S16x25000, .f32⟩ : BufTy).Contents (Elt F) → (⟨S16x25000, .f32⟩ : BufTy).Contents (Elt F) → (⟨S16x25000, .f32⟩ : BufTy).Contents (Elt F)),
    StableHlo.binary main_v86 main_v84 main_v95 (subf : (⟨S16x25000, .f32⟩ : BufTy).Contents (Elt F) → (⟨S16x25000, .f32⟩ : BufTy).Contents (Elt F) → (⟨S16x25000, .f32⟩ : BufTy).Contents (Elt F)),
    StableHlo.nullary main_cst_15 (constant S_ .f32 0x358637BD#32),
    StableHlo.unary main_cst_15 main_v96 (broadcastInDim S16x25000 ![] bcast_S_S16x25000 : (⟨S_, .f32⟩ : BufTy).Contents (Elt F) → (⟨S16x25000, .f32⟩ : BufTy).Contents (Elt F)),
    StableHlo.binary main_v95 main_v96 main_v97 (maximumf : (⟨S16x25000, .f32⟩ : BufTy).Contents (Elt F) → (⟨S16x25000, .f32⟩ : BufTy).Contents (Elt F) → (⟨S16x25000, .f32⟩ : BufTy).Contents (Elt F)),
    StableHlo.binary main_v87 main_v85 main_v98 (subf : (⟨S16x25000, .f32⟩ : BufTy).Contents (Elt F) → (⟨S16x25000, .f32⟩ : BufTy).Contents (Elt F) → (⟨S16x25000, .f32⟩ : BufTy).Contents (Elt F)),
    StableHlo.nullary main_cst_16 (constant S_ .f32 0x358637BD#32),
    StableHlo.unary main_cst_16 main_v99 (broadcastInDim S16x25000 ![] bcast_S_S16x25000 : (⟨S_, .f32⟩ : BufTy).Contents (Elt F) → (⟨S16x25000, .f32⟩ : BufTy).Contents (Elt F)),
    StableHlo.binary main_v98 main_v99 main_v100 (maximumf : (⟨S16x25000, .f32⟩ : BufTy).Contents (Elt F) → (⟨S16x25000, .f32⟩ : BufTy).Contents (Elt F) → (⟨S16x25000, .f32⟩ : BufTy).Contents (Elt F)),
    StableHlo.unary main_v1 main_v101 (broadcastInDim S1x25000 ![1] bcast_S25000_S1x25000_1 : (⟨S25000, .f32⟩ : BufTy).Contents (Elt F) → (⟨S1x25000, .f32⟩ : BufTy).Contents (Elt F)) ]
theorem ops16_sub : (ops16 : List (HloOp τ sig (Elt F))).Forall fun op => op.bufs ⊆ StableHlo.tcRefs τ sig :=
  ⟨StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.unary_bufs_sub ..⟩
theorem ops16_fresh : (ops16 : List (HloOp τ sig (Elt F))).Forall fun op => op.fresh = ∅ :=
  StableHlo.forall_fresh_of_map rfl

/-- Operations up to `main_cst_19`. -/
abbrev ops17 : List (HloOp τ sig (Elt F)) :=
  [ StableHlo.unary main_v101 main_v102 (broadcastInDim S16x25000 ![0, 1] bcast_S1x25000_S16x25000_0_1 : (⟨S1x25000, .f32⟩ : BufTy).Contents (Elt F) → (⟨S16x25000, .f32⟩ : BufTy).Contents (Elt F)),
    StableHlo.binary main_v91 main_v102 main_v103 (subf : (⟨S16x25000, .f32⟩ : BufTy).Contents (Elt F) → (⟨S16x25000, .f32⟩ : BufTy).Contents (Elt F) → (⟨S16x25000, .f32⟩ : BufTy).Contents (Elt F)),
    StableHlo.nullary main_cst_17 (constant S_ .f32 0x3DCCCCCD#32),
    StableHlo.unary main_cst_17 main_v104 (broadcastInDim S25000 ![] bcast_S_S25000 : (⟨S_, .f32⟩ : BufTy).Contents (Elt F) → (⟨S25000, .f32⟩ : BufTy).Contents (Elt F)),
    StableHlo.binary main_v5 main_v104 main_v105 (mulf : (⟨S25000, .f32⟩ : BufTy).Contents (Elt F) → (⟨S25000, .f32⟩ : BufTy).Contents (Elt F) → (⟨S25000, .f32⟩ : BufTy).Contents (Elt F)),
    StableHlo.unary main_v105 main_v106 (broadcastInDim S1x25000 ![1] bcast_S25000_S1x25000_1 : (⟨S25000, .f32⟩ : BufTy).Contents (Elt F) → (⟨S1x25000, .f32⟩ : BufTy).Contents (Elt F)),
    StableHlo.unary main_v106 main_v107 (broadcastInDim S16x25000 ![0, 1] bcast_S1x25000_S16x25000_0_1 : (⟨S1x25000, .f32⟩ : BufTy).Contents (Elt F) → (⟨S16x25000, .f32⟩ : BufTy).Contents (Elt F)),
    StableHlo.binary main_v103 main_v107 main_v108 (Host.divf : (⟨S16x25000, .f32⟩ : BufTy).Contents (Elt F) → (⟨S16x25000, .f32⟩ : BufTy).Contents (Elt F) → (⟨S16x25000, .f32⟩ : BufTy).Contents (Elt F)),
    StableHlo.unary main_v3 main_v109 (broadcastInDim S1x25000 ![1] bcast_S25000_S1x25000_1 : (⟨S25000, .f32⟩ : BufTy).Contents (Elt F) → (⟨S1x25000, .f32⟩ : BufTy).Contents (Elt F)),
    StableHlo.unary main_v109 main_v110 (broadcastInDim S16x25000 ![0, 1] bcast_S1x25000_S16x25000_0_1 : (⟨S1x25000, .f32⟩ : BufTy).Contents (Elt F) → (⟨S16x25000, .f32⟩ : BufTy).Contents (Elt F)),
    StableHlo.binary main_v94 main_v110 main_v111 (subf : (⟨S16x25000, .f32⟩ : BufTy).Contents (Elt F) → (⟨S16x25000, .f32⟩ : BufTy).Contents (Elt F) → (⟨S16x25000, .f32⟩ : BufTy).Contents (Elt F)),
    StableHlo.nullary main_cst_18 (constant S_ .f32 0x3DCCCCCD#32),
    StableHlo.unary main_cst_18 main_v112 (broadcastInDim S25000 ![] bcast_S_S25000 : (⟨S_, .f32⟩ : BufTy).Contents (Elt F) → (⟨S25000, .f32⟩ : BufTy).Contents (Elt F)),
    StableHlo.binary main_v7 main_v112 main_v113 (mulf : (⟨S25000, .f32⟩ : BufTy).Contents (Elt F) → (⟨S25000, .f32⟩ : BufTy).Contents (Elt F) → (⟨S25000, .f32⟩ : BufTy).Contents (Elt F)),
    StableHlo.unary main_v113 main_v114 (broadcastInDim S1x25000 ![1] bcast_S25000_S1x25000_1 : (⟨S25000, .f32⟩ : BufTy).Contents (Elt F) → (⟨S1x25000, .f32⟩ : BufTy).Contents (Elt F)),
    StableHlo.unary main_v114 main_v115 (broadcastInDim S16x25000 ![0, 1] bcast_S1x25000_S16x25000_0_1 : (⟨S1x25000, .f32⟩ : BufTy).Contents (Elt F) → (⟨S16x25000, .f32⟩ : BufTy).Contents (Elt F)),
    StableHlo.binary main_v111 main_v115 main_v116 (Host.divf : (⟨S16x25000, .f32⟩ : BufTy).Contents (Elt F) → (⟨S16x25000, .f32⟩ : BufTy).Contents (Elt F) → (⟨S16x25000, .f32⟩ : BufTy).Contents (Elt F)),
    StableHlo.unary main_v5 main_v117 (broadcastInDim S1x25000 ![1] bcast_S25000_S1x25000_1 : (⟨S25000, .f32⟩ : BufTy).Contents (Elt F) → (⟨S1x25000, .f32⟩ : BufTy).Contents (Elt F)),
    StableHlo.unary main_v117 main_v118 (broadcastInDim S16x25000 ![0, 1] bcast_S1x25000_S16x25000_0_1 : (⟨S1x25000, .f32⟩ : BufTy).Contents (Elt F) → (⟨S16x25000, .f32⟩ : BufTy).Contents (Elt F)),
    StableHlo.binary main_v97 main_v118 main_v119 (Host.divf : (⟨S16x25000, .f32⟩ : BufTy).Contents (Elt F) → (⟨S16x25000, .f32⟩ : BufTy).Contents (Elt F) → (⟨S16x25000, .f32⟩ : BufTy).Contents (Elt F)),
    StableHlo.unary main_v119 main_v120 (Host.log : (⟨S16x25000, .f32⟩ : BufTy).Contents (Elt F) → (⟨S16x25000, .f32⟩ : BufTy).Contents (Elt F)),
    StableHlo.nullary main_cst_19 (constant S_ .f32 0x3E4CCCCD#32) ]
theorem ops17_sub : (ops17 : List (HloOp τ sig (Elt F))).Forall fun op => op.bufs ⊆ StableHlo.tcRefs τ sig :=
  ⟨StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.nullary_bufs_sub ..⟩
theorem ops17_fresh : (ops17 : List (HloOp τ sig (Elt F))).Forall fun op => op.fresh = ∅ :=
  StableHlo.forall_fresh_of_map rfl

/-- Operations up to `main_v132`. -/
abbrev ops18 : List (HloOp τ sig (Elt F)) :=
  [ StableHlo.unary main_cst_19 main_v121 (broadcastInDim S16x25000 ![] bcast_S_S16x25000 : (⟨S_, .f32⟩ : BufTy).Contents (Elt F) → (⟨S16x25000, .f32⟩ : BufTy).Contents (Elt F)),
    StableHlo.binary main_v120 main_v121 main_v122 (Host.divf : (⟨S16x25000, .f32⟩ : BufTy).Contents (Elt F) → (⟨S16x25000, .f32⟩ : BufTy).Contents (Elt F) → (⟨S16x25000, .f32⟩ : BufTy).Contents (Elt F)),
    StableHlo.unary main_v7 main_v123 (broadcastInDim S1x25000 ![1] bcast_S25000_S1x25000_1 : (⟨S25000, .f32⟩ : BufTy).Contents (Elt F) → (⟨S1x25000, .f32⟩ : BufTy).Contents (Elt F)),
    StableHlo.unary main_v123 main_v124 (broadcastInDim S16x25000 ![0, 1] bcast_S1x25000_S16x25000_0_1 : (⟨S1x25000, .f32⟩ : BufTy).Contents (Elt F) → (⟨S16x25000, .f32⟩ : BufTy).Contents (Elt F)),
    StableHlo.binary main_v100 main_v124 main_v125 (Host.divf : (⟨S16x25000, .f32⟩ : BufTy).Contents (Elt F) → (⟨S16x25000, .f32⟩ : BufTy).Contents (Elt F) → (⟨S16x25000, .f32⟩ : BufTy).Contents (Elt F)),
    StableHlo.unary main_v125 main_v126 (Host.log : (⟨S16x25000, .f32⟩ : BufTy).Contents (Elt F) → (⟨S16x25000, .f32⟩ : BufTy).Contents (Elt F)),
    StableHlo.nullary main_cst_20 (constant S_ .f32 0x3E4CCCCD#32),
    StableHlo.unary main_cst_20 main_v127 (broadcastInDim S16x25000 ![] bcast_S_S16x25000 : (⟨S_, .f32⟩ : BufTy).Contents (Elt F) → (⟨S16x25000, .f32⟩ : BufTy).Contents (Elt F)),
    StableHlo.binary main_v126 main_v127 main_v128 (Host.divf : (⟨S16x25000, .f32⟩ : BufTy).Contents (Elt F) → (⟨S16x25000, .f32⟩ : BufTy).Contents (Elt F) → (⟨S16x25000, .f32⟩ : BufTy).Contents (Elt F)),
    StableHlo.unary main_v108 main_v129 (broadcastInDim S16x25000x1 ![0, 1] bcast_S16x25000_S16x25000x1_0_1 : (⟨S16x25000, .f32⟩ : BufTy).Contents (Elt F) → (⟨S16x25000x1, .f32⟩ : BufTy).Contents (Elt F)),
    StableHlo.unary main_v116 main_v130 (broadcastInDim S16x25000x1 ![0, 1] bcast_S16x25000_S16x25000x1_0_1 : (⟨S16x25000, .f32⟩ : BufTy).Contents (Elt F) → (⟨S16x25000x1, .f32⟩ : BufTy).Contents (Elt F)),
    StableHlo.unary main_v122 main_v131 (broadcastInDim S16x25000x1 ![0, 1] bcast_S16x25000_S16x25000x1_0_1 : (⟨S16x25000, .f32⟩ : BufTy).Contents (Elt F) → (⟨S16x25000x1, .f32⟩ : BufTy).Contents (Elt F)),
    StableHlo.unary main_v128 main_v132 (broadcastInDim S16x25000x1 ![0, 1] bcast_S16x25000_S16x25000x1_0_1 : (⟨S16x25000, .f32⟩ : BufTy).Contents (Elt F) → (⟨S16x25000x1, .f32⟩ : BufTy).Contents (Elt F)) ]
theorem ops18_sub : (ops18 : List (HloOp τ sig (Elt F))).Forall fun op => op.bufs ⊆ StableHlo.tcRefs τ sig :=
  ⟨StableHlo.unary_bufs_sub .., StableHlo.binary_bufs_sub .., StableHlo.unary_bufs_sub .., StableHlo.unary_bufs_sub .., StableHlo.binary_bufs_sub .., StableHlo.unary_bufs_sub .., StableHlo.nullary_bufs_sub .., StableHlo.unary_bufs_sub .., StableHlo.binary_bufs_sub .., StableHlo.unary_bufs_sub .., StableHlo.unary_bufs_sub .., StableHlo.unary_bufs_sub .., StableHlo.unary_bufs_sub ..⟩
theorem ops18_fresh : (ops18 : List (HloOp τ sig (Elt F))).Forall fun op => op.fresh = ∅ :=
  StableHlo.forall_fresh_of_map rfl

/-- Operations up to `main_v133`. -/
abbrev ops19 : List (HloOp τ sig (Elt F)) :=
  [ StableHlo.nary ![main_v129, main_v130, main_v131, main_v132] main_v133 (fun u => (concatenate S16x25000x4 2 [⟨S16x25000x1, (u 0 : (⟨S16x25000x1, .f32⟩ : BufTy).Contents (Elt F))⟩, ⟨S16x25000x1, (u 1 : (⟨S16x25000x1, .f32⟩ : BufTy).Contents (Elt F))⟩, ⟨S16x25000x1, (u 2 : (⟨S16x25000x1, .f32⟩ : BufTy).Contents (Elt F))⟩, ⟨S16x25000x1, (u 3 : (⟨S16x25000x1, .f32⟩ : BufTy).Contents (Elt F))⟩] concatenates_S16x25000x1_S16x25000x1_S16x25000x1_S16x25000x1_S16x25000x4_d2 : (⟨S16x25000x4, .f32⟩ : BufTy).Contents (Elt F))) ]
theorem ops19_sub : (ops19 : List (HloOp τ sig (Elt F))).Forall fun op => op.bufs ⊆ StableHlo.tcRefs τ sig :=
  StableHlo.nary_bufs_sub ..
theorem ops19_fresh : (ops19 : List (HloOp τ sig (Elt F))).Forall fun op => op.fresh = ∅ :=
  StableHlo.forall_fresh_of_map rfl

/-- Operations up to `main_v139`. -/
abbrev ops20 : List (HloOp τ sig (Elt F)) :=
  [ StableHlo.nullary main_c (constantI S_ 32 4294967295#32),
    StableHlo.nullary main_c_21 (constantI S_ 32 0#32),
    StableHlo.TRef.unary (.of main_c : StableHlo.TRef sig ⟨S_, .i32⟩) main_call6.v0 (broadcastInDim S16x25000 ![] bcast_S_S16x25000),
    StableHlo.TRef.unary (.of main_c_21 : StableHlo.TRef sig ⟨S_, .i32⟩) main_call6.v1 (broadcastInDim S16x25000 ![] bcast_S_S16x25000),
    StableHlo.TRef.ternary (.of main_v83 : StableHlo.TRef sig ⟨S16x25000, .i1⟩) main_call6.v0 main_call6.v1 main_call6.v2 select,
    StableHlo.TRef.unary (.of main_v134 : StableHlo.TRef sig ⟨S16x25000, .i32⟩) main_call7.v0 id,
    StableHlo.TRef.ternary (.of main_v79 : StableHlo.TRef sig ⟨S16x25000, .i1⟩) (.of main_v88 : StableHlo.TRef sig ⟨S16x25000, .i32⟩) main_call7.v0 main_call7.v1 select,
    StableHlo.unary main_v79 main_v136 (broadcastInDim S16x25000x1 ![0, 1] bcast_S16x25000_S16x25000x1_0_1 : (⟨S16x25000, .i1⟩ : BufTy).Contents (Elt F) → (⟨S16x25000x1, .i1⟩ : BufTy).Contents (Elt F)),
    StableHlo.nullary main_cst_22 (constant S_ .f32 0x00000000#32),
    StableHlo.TRef.unary (.of main_cst_22 : StableHlo.TRef sig ⟨S_, .f32⟩) main_call8.v0 id,
    StableHlo.TRef.unary (.of main_v136 : StableHlo.TRef sig ⟨S16x25000x1, .i1⟩) main_call8.v1 (broadcastInDim S16x25000x4 ![0, 1, 2] bcast_S16x25000x1_S16x25000x4_0_1_2),
    StableHlo.TRef.unary main_call8.v0 main_call8.v2 (broadcastInDim S16x25000x4 ![] bcast_S_S16x25000x4),
    StableHlo.TRef.ternary main_call8.v1 (.of main_v133 : StableHlo.TRef sig ⟨S16x25000x4, .f32⟩) main_call8.v2 main_call8.v3 select,
    StableHlo.nullary main_c_23 (constantI S_ 32 0#32),
    StableHlo.unary main_c_23 main_v138 (broadcastInDim S16x25000 ![] bcast_S_S16x25000 : (⟨S_, .i32⟩ : BufTy).Contents (Elt F) → (⟨S16x25000, .i32⟩ : BufTy).Contents (Elt F)),
    StableHlo.binary main_v135 main_v138 main_v139 (cmpi .sge : (⟨S16x25000, .i32⟩ : BufTy).Contents (Elt F) → (⟨S16x25000, .i32⟩ : BufTy).Contents (Elt F) → (⟨S16x25000, .i1⟩ : BufTy).Contents (Elt F)) ]
theorem ops20_sub : (ops20 : List (HloOp τ sig (Elt F))).Forall fun op => op.bufs ⊆ StableHlo.tcRefs τ sig :=
  ⟨StableHlo.nullary_bufs_sub .., StableHlo.nullary_bufs_sub .., StableHlo.unary_bufs_sub .., StableHlo.unary_bufs_sub .., StableHlo.ternary_bufs_sub .., StableHlo.unary_bufs_sub .., StableHlo.ternary_bufs_sub .., StableHlo.unary_bufs_sub .., StableHlo.nullary_bufs_sub .., StableHlo.unary_bufs_sub .., StableHlo.unary_bufs_sub .., StableHlo.unary_bufs_sub .., StableHlo.ternary_bufs_sub .., StableHlo.nullary_bufs_sub .., StableHlo.unary_bufs_sub .., StableHlo.binary_bufs_sub ..⟩
theorem ops20_fresh : (ops20 : List (HloOp τ sig (Elt F))).Forall fun op => op.fresh = ∅ :=
  StableHlo.forall_fresh_of_map rfl

/-- Operations up to `main_v143`. -/
abbrev ops21 : List (HloOp τ sig (Elt F)) :=
  [ StableHlo.TRef.nullary main_call9.cst (constant S_ .f32 0xFF800000#32),
    StableHlo.TRef.binary (.of main_arg0 : StableHlo.TRef sig ⟨S16x25000x81, .f32⟩) main_call9.cst main_call9.v0 (fun x v => Host.reduce FloatOps.maximumf x v reducesTo_S16x25000x81_S16x25000_d2 h_S_),
    StableHlo.TRef.nullary main_call9.cst_0 (constant S_ .f32 0xFF800000#32),
    StableHlo.TRef.unary main_call9.cst_0 main_call9.v1 (broadcastInDim S16x25000 ![] bcast_S_S16x25000),
    StableHlo.TRef.binary main_call9.v1 main_call9.v0 main_call9.v2 maximumf,
    StableHlo.TRef.unary main_call9.v2 main_call9.v3 (broadcastInDim S16x25000x1 ![0, 1] bcast_S16x25000_S16x25000x1_0_1),
    StableHlo.TRef.unary main_call9.v3 main_call9.v4 (broadcastInDim S16x25000x81 ![0, 1, 2] bcast_S16x25000x1_S16x25000x81_0_1_2),
    StableHlo.TRef.binary (.of main_arg0 : StableHlo.TRef sig ⟨S16x25000x81, .f32⟩) main_call9.v4 main_call9.v5 subf,
    StableHlo.TRef.unary main_call9.v5 main_call9.v6 Host.exp,
    StableHlo.TRef.nullary main_call9.cst_1 (constant S_ .f32 0x00000000#32),
    StableHlo.TRef.binary main_call9.v6 main_call9.cst_1 main_call9.v7 (fun x v => Host.reduceAdd x v reducesTo_S16x25000x81_S16x25000_d2 h_S_),
    StableHlo.TRef.unary main_call9.v7 main_call9.v8 (broadcastInDim S16x25000x1 ![0, 1] bcast_S16x25000_S16x25000x1_0_1),
    StableHlo.TRef.unary main_call9.v8 main_call9.v9 Host.log,
    StableHlo.TRef.unary main_call9.v9 main_call9.v10 (broadcastInDim S16x25000x81 ![0, 1, 2] bcast_S16x25000x1_S16x25000x81_0_1_2),
    StableHlo.TRef.binary main_call9.v5 main_call9.v10 main_call9.v11 subf,
    StableHlo.nullary main_c_24 (constantI S_ 32 0#32),
    StableHlo.unary main_c_24 main_v141 (broadcastInDim S16x25000 ![] bcast_S_S16x25000 : (⟨S_, .i32⟩ : BufTy).Contents (Elt F) → (⟨S16x25000, .i32⟩ : BufTy).Contents (Elt F)),
    StableHlo.binary main_v135 main_v141 main_v142 (maxsi : (⟨S16x25000, .i32⟩ : BufTy).Contents (Elt F) → (⟨S16x25000, .i32⟩ : BufTy).Contents (Elt F) → (⟨S16x25000, .i32⟩ : BufTy).Contents (Elt F)),
    StableHlo.unary main_v142 main_v143 (broadcastInDim S16x25000x1 ![0, 1] bcast_S16x25000_S16x25000x1_0_1 : (⟨S16x25000, .i32⟩ : BufTy).Contents (Elt F) → (⟨S16x25000x1, .i32⟩ : BufTy).Contents (Elt F)) ]
theorem ops21_sub : (ops21 : List (HloOp τ sig (Elt F))).Forall fun op => op.bufs ⊆ StableHlo.tcRefs τ sig :=
  ⟨StableHlo.nullary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.nullary_bufs_sub .., StableHlo.binary_bufs_sub .., StableHlo.unary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub ..⟩
theorem ops21_fresh : (ops21 : List (HloOp τ sig (Elt F))).Forall fun op => op.fresh = ∅ :=
  StableHlo.forall_fresh_of_map rfl

/-- Operations up to `main_call10_v4`. -/
abbrev ops22 : List (HloOp τ sig (Elt F)) :=
  [ StableHlo.TRef.nullary main_call10.c (constantI S_ 32 0#32),
    StableHlo.TRef.unary main_call10.c main_call10.v0 (broadcastInDim S16x25000x1 ![] bcast_S_S16x25000x1),
    StableHlo.TRef.binary (.of main_v143 : StableHlo.TRef sig ⟨S16x25000x1, .i32⟩) main_call10.v0 main_call10.v1 (cmpi .slt),
    StableHlo.TRef.nullary main_call10.c_0 (constantI S_ 32 81#32),
    StableHlo.TRef.unary main_call10.c_0 main_call10.v2 (broadcastInDim S16x25000x1 ![] bcast_S_S16x25000x1),
    StableHlo.TRef.binary (.of main_v143 : StableHlo.TRef sig ⟨S16x25000x1, .i32⟩) main_call10.v2 main_call10.v3 addi,
    StableHlo.TRef.ternary main_call10.v1 main_call10.v3 (.of main_v143 : StableHlo.TRef sig ⟨S16x25000x1, .i32⟩) main_call10.v4 select ]
theorem ops22_sub : (ops22 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub ..⟩
theorem ops22_fresh : (ops22 : List (HloOp τ sig (Elt F))).Forall fun op => op.fresh = ∅ :=
  StableHlo.forall_fresh_of_map rfl

/-- Operations up to `main_call10_v5`. -/
abbrev ops23 : List (HloOp τ sig (Elt F)) :=
  [ StableHlo.TRef.reshape main_call10.v4 main_call10.v5 (rfl : (.i32 : EltTy) = .i32) shapeCasts_S16x25000x1_S16x25000x1x1 ]
theorem ops23_sub : (ops23 : List (HloOp τ sig (Elt F))).Forall fun op => op.bufs ⊆ StableHlo.tcRefs τ sig :=
  StableHlo.reshape_bufs_sub ..
theorem ops23_fresh : (ops23 : List (HloOp τ sig (Elt F))).Forall fun op => op.fresh = ∅ :=
  StableHlo.forall_fresh_of_map rfl

/-- Operations up to `main_v150`. -/
abbrev ops24 : List (HloOp τ sig (Elt F)) :=
  [ StableHlo.TRef.nullary main_call10.c_1 (constantI S1 32 80#32),
    StableHlo.TRef.nullary main_call10.c_2 (constantI S_ 32 0#32),
    StableHlo.TRef.unary main_call10.c_2 main_call10.v6 (broadcastInDim S16x25000x1x1 ![] bcast_S_S16x25000x1x1),
    StableHlo.TRef.binary main_call10.v5 main_call10.v6 main_call10.v7 (cmpi .sge),
    StableHlo.TRef.unary main_call10.c_1 main_call10.v8 (broadcastInDim S1x1x1x1 ![3] bcast_S1_S1x1x1x1_3),
    StableHlo.TRef.unary main_call10.v8 main_call10.v9 (broadcastInDim S16x25000x1x1 ![0, 1, 2, 3] bcast_S1x1x1x1_S16x25000x1x1_0_1_2_3),
    StableHlo.TRef.binary main_call10.v5 main_call10.v9 main_call10.v10 (cmpi .sle),
    StableHlo.TRef.binary main_call10.v7 main_call10.v10 main_call10.v11 andi,
    StableHlo.TRef.nullary main_call10.c_3 (constantI S_ 1 1#1),
    StableHlo.TRef.binary main_call10.v11 main_call10.c_3 main_call10.v12 (fun x v => Host.reduce IntOp.andi x v reducesTo_S16x25000x1x1_S16x25000x1_d3 h_S_),
    StableHlo.TRef.binary (.of main_v140 : StableHlo.TRef sig ⟨S16x25000x81, .f32⟩) main_call10.v5 main_call10.v13 (fun x i => Host.gather gather_S16x25000x81_S16x25000x1x1_S16x25000x1_n_2_01_01_2_3_111 x i),
    StableHlo.TRef.nullary main_call10.cst (constant S_ .f32 0x7FC00000#32),
    StableHlo.TRef.unary main_call10.cst main_call10.v14 (broadcastInDim S16x25000x1 ![] bcast_S_S16x25000x1),
    StableHlo.TRef.ternary main_call10.v12 main_call10.v13 main_call10.v14 main_call10.v15 select,
    StableHlo.reshape main_v144 main_v145 (rfl : (.f32 : EltTy) = .f32) shapeCasts_S16x25000x1_S16x25000,
    StableHlo.unary main_v145 main_v146 (Host.negf : (⟨S16x25000, .f32⟩ : BufTy).Contents (Elt F) → (⟨S16x25000, .f32⟩ : BufTy).Contents (Elt F)),
    StableHlo.unary main_v139 main_v147 ((extui 32 · natLt_1_32) : (⟨S16x25000, .i1⟩ : BufTy).Contents (Elt F) → (⟨S16x25000, .i32⟩ : BufTy).Contents (Elt F)),
    StableHlo.nullary main_c_25 (constantI S_ 32 0#32),
    StableHlo.binary main_v147 main_c_25 main_v148 ((fun x v => Host.reduce IntOp.addi x v reducesTo_S16x25000_S16_d1 h_S_) : (⟨S16x25000, .i32⟩ : BufTy).Contents (Elt F) → (⟨S_, .i32⟩ : BufTy).Contents (Elt F) → (⟨S16, .i32⟩ : BufTy).Contents (Elt F)),
    StableHlo.unary main_v148 main_v149 (sitofp .f32 : (⟨S16, .i32⟩ : BufTy).Contents (Elt F) → (⟨S16, .f32⟩ : BufTy).Contents (Elt F)),
    StableHlo.nullary main_cst_26 (constant S_ .f32 0x00000000#32),
    StableHlo.unary main_cst_26 main_v150 (broadcastInDim S16 ![] bcast_S_S16 : (⟨S_, .f32⟩ : BufTy).Contents (Elt F) → (⟨S16, .f32⟩ : BufTy).Contents (Elt F)) ]
theorem ops24_sub : (ops24 : List (HloOp τ sig (Elt F))).Forall fun op => op.bufs ⊆ StableHlo.tcRefs τ sig :=
  ⟨StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.nullary_bufs_sub .., StableHlo.unary_bufs_sub .., StableHlo.ternary_bufs_sub .., StableHlo.reshape_bufs_sub .., StableHlo.unary_bufs_sub .., StableHlo.unary_bufs_sub .., StableHlo.nullary_bufs_sub .., StableHlo.binary_bufs_sub .., StableHlo.unary_bufs_sub .., StableHlo.nullary_bufs_sub .., StableHlo.unary_bufs_sub ..⟩
theorem ops24_fresh : (ops24 : List (HloOp τ sig (Elt F))).Forall fun op => op.fresh = ∅ :=
  StableHlo.forall_fresh_of_map rfl

/-- Operations up to `main_v158`. -/
abbrev ops25 : List (HloOp τ sig (Elt F)) :=
  [ StableHlo.binary main_v149 main_v150 main_v151 (cmpf .ogt : (⟨S16, .f32⟩ : BufTy).Contents (Elt F) → (⟨S16, .f32⟩ : BufTy).Contents (Elt F) → (⟨S16, .i1⟩ : BufTy).Contents (Elt F)),
    StableHlo.unary main_v139 main_v152 (uitofp .f32 : (⟨S16x25000, .i1⟩ : BufTy).Contents (Elt F) → (⟨S16x25000, .f32⟩ : BufTy).Contents (Elt F)),
    StableHlo.binary main_v146 main_v152 main_v153 (mulf : (⟨S16x25000, .f32⟩ : BufTy).Contents (Elt F) → (⟨S16x25000, .f32⟩ : BufTy).Contents (Elt F) → (⟨S16x25000, .f32⟩ : BufTy).Contents (Elt F)),
    StableHlo.nullary main_cst_27 (constant S_ .f32 0x00000000#32),
    StableHlo.binary main_v153 main_cst_27 main_v154 ((fun x v => Host.reduceAdd x v reducesTo_S16x25000_S16_d1 h_S_) : (⟨S16x25000, .f32⟩ : BufTy).Contents (Elt F) → (⟨S_, .f32⟩ : BufTy).Contents (Elt F) → (⟨S16, .f32⟩ : BufTy).Contents (Elt F)),
    StableHlo.nullary main_cst_28 (constant S_ .f32 0x3F800000#32),
    StableHlo.unary main_cst_28 main_v155 (broadcastInDim S16 ![] bcast_S_S16 : (⟨S_, .f32⟩ : BufTy).Contents (Elt F) → (⟨S16, .f32⟩ : BufTy).Contents (Elt F)),
    StableHlo.binary main_v149 main_v155 main_v156 (maximumf : (⟨S16, .f32⟩ : BufTy).Contents (Elt F) → (⟨S16, .f32⟩ : BufTy).Contents (Elt F) → (⟨S16, .f32⟩ : BufTy).Contents (Elt F)),
    StableHlo.binary main_v154 main_v156 main_v157 (Host.divf : (⟨S16, .f32⟩ : BufTy).Contents (Elt F) → (⟨S16, .f32⟩ : BufTy).Contents (Elt F) → (⟨S16, .f32⟩ : BufTy).Contents (Elt F)),
    StableHlo.nullary main_cst_29 (constant S_ .f32 0x00000000#32),
    StableHlo.TRef.unary (.of main_cst_29 : StableHlo.TRef sig ⟨S_, .f32⟩) main_call11.v0 id,
    StableHlo.TRef.unary main_call11.v0 main_call11.v1 (broadcastInDim S16 ![] bcast_S_S16),
    StableHlo.TRef.ternary (.of main_v151 : StableHlo.TRef sig ⟨S16, .i1⟩) (.of main_v157 : StableHlo.TRef sig ⟨S16, .f32⟩) main_call11.v1 main_call11.v2 select ]
theorem ops25_sub : (ops25 : List (HloOp τ sig (Elt F))).Forall fun op => op.bufs ⊆ StableHlo.tcRefs τ sig :=
  ⟨StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.unary_bufs_sub .., StableHlo.ternary_bufs_sub ..⟩
theorem ops25_fresh : (ops25 : List (HloOp τ sig (Elt F))).Forall fun op => op.fresh = ∅ :=
  StableHlo.forall_fresh_of_map rfl

/-- Operations up to `main_v168`. -/
abbrev ops26 : List (HloOp τ sig (Elt F)) :=
  [ StableHlo.binary main_arg1 main_v137 main_v159 (subf : (⟨S16x25000x4, .f32⟩ : BufTy).Contents (Elt F) → (⟨S16x25000x4, .f32⟩ : BufTy).Contents (Elt F) → (⟨S16x25000x4, .f32⟩ : BufTy).Contents (Elt F)),
    StableHlo.unary main_v159 main_v160 (Host.absf : (⟨S16x25000x4, .f32⟩ : BufTy).Contents (Elt F) → (⟨S16x25000x4, .f32⟩ : BufTy).Contents (Elt F)),
    StableHlo.nullary main_cst_30 (constant S_ .f32 0x3F800000#32),
    StableHlo.unary main_cst_30 main_v161 (broadcastInDim S16x25000x4 ![] bcast_S_S16x25000x4 : (⟨S_, .f32⟩ : BufTy).Contents (Elt F) → (⟨S16x25000x4, .f32⟩ : BufTy).Contents (Elt F)),
    StableHlo.binary main_v160 main_v161 main_v162 (cmpf .olt : (⟨S16x25000x4, .f32⟩ : BufTy).Contents (Elt F) → (⟨S16x25000x4, .f32⟩ : BufTy).Contents (Elt F) → (⟨S16x25000x4, .i1⟩ : BufTy).Contents (Elt F)),
    StableHlo.nullary main_cst_31 (constant S_ .f32 0x3F000000#32),
    StableHlo.unary main_cst_31 main_v163 (broadcastInDim S16x25000x4 ![] bcast_S_S16x25000x4 : (⟨S_, .f32⟩ : BufTy).Contents (Elt F) → (⟨S16x25000x4, .f32⟩ : BufTy).Contents (Elt F)),
    StableHlo.binary main_v163 main_v159 main_v164 (mulf : (⟨S16x25000x4, .f32⟩ : BufTy).Contents (Elt F) → (⟨S16x25000x4, .f32⟩ : BufTy).Contents (Elt F) → (⟨S16x25000x4, .f32⟩ : BufTy).Contents (Elt F)),
    StableHlo.binary main_v164 main_v159 main_v165 (mulf : (⟨S16x25000x4, .f32⟩ : BufTy).Contents (Elt F) → (⟨S16x25000x4, .f32⟩ : BufTy).Contents (Elt F) → (⟨S16x25000x4, .f32⟩ : BufTy).Contents (Elt F)),
    StableHlo.nullary main_cst_32 (constant S_ .f32 0x3F000000#32),
    StableHlo.unary main_cst_32 main_v166 (broadcastInDim S16x25000x4 ![] bcast_S_S16x25000x4 : (⟨S_, .f32⟩ : BufTy).Contents (Elt F) → (⟨S16x25000x4, .f32⟩ : BufTy).Contents (Elt F)),
    StableHlo.binary main_v160 main_v166 main_v167 (subf : (⟨S16x25000x4, .f32⟩ : BufTy).Contents (Elt F) → (⟨S16x25000x4, .f32⟩ : BufTy).Contents (Elt F) → (⟨S16x25000x4, .f32⟩ : BufTy).Contents (Elt F)),
    StableHlo.TRef.ternary (.of main_v162 : StableHlo.TRef sig ⟨S16x25000x4, .i1⟩) (.of main_v165 : StableHlo.TRef sig ⟨S16x25000x4, .f32⟩) (.of main_v167 : StableHlo.TRef sig ⟨S16x25000x4, .f32⟩) main_call12.v0 select ]
theorem ops26_sub : (ops26 : List (HloOp τ sig (Elt F))).Forall fun op => op.bufs ⊆ StableHlo.tcRefs τ sig :=
  ⟨StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub ..⟩
theorem ops26_fresh : (ops26 : List (HloOp τ sig (Elt F))).Forall fun op => op.fresh = ∅ :=
  StableHlo.forall_fresh_of_map rfl

/-- Operations up to `main_v184`. -/
abbrev ops27 : List (HloOp τ sig (Elt F)) :=
  [ StableHlo.unary main_v79 main_v169 (broadcastInDim S16x25000x1 ![0, 1] bcast_S16x25000_S16x25000x1_0_1 : (⟨S16x25000, .i1⟩ : BufTy).Contents (Elt F) → (⟨S16x25000x1, .i1⟩ : BufTy).Contents (Elt F)),
    StableHlo.unary main_v169 main_v170 (uitofp .f32 : (⟨S16x25000x1, .i1⟩ : BufTy).Contents (Elt F) → (⟨S16x25000x1, .f32⟩ : BufTy).Contents (Elt F)),
    StableHlo.unary main_v170 main_v171 (broadcastInDim S16x25000x4 ![0, 1, 2] bcast_S16x25000x1_S16x25000x4_0_1_2 : (⟨S16x25000x1, .f32⟩ : BufTy).Contents (Elt F) → (⟨S16x25000x4, .f32⟩ : BufTy).Contents (Elt F)),
    StableHlo.binary main_v168 main_v171 main_v172 (mulf : (⟨S16x25000x4, .f32⟩ : BufTy).Contents (Elt F) → (⟨S16x25000x4, .f32⟩ : BufTy).Contents (Elt F) → (⟨S16x25000x4, .f32⟩ : BufTy).Contents (Elt F)),
    StableHlo.unary main_v79 main_v173 ((extui 32 · natLt_1_32) : (⟨S16x25000, .i1⟩ : BufTy).Contents (Elt F) → (⟨S16x25000, .i32⟩ : BufTy).Contents (Elt F)),
    StableHlo.nullary main_c_33 (constantI S_ 32 0#32),
    StableHlo.binary main_v173 main_c_33 main_v174 ((fun x v => Host.reduce IntOp.addi x v reducesTo_S16x25000_S16_d1 h_S_) : (⟨S16x25000, .i32⟩ : BufTy).Contents (Elt F) → (⟨S_, .i32⟩ : BufTy).Contents (Elt F) → (⟨S16, .i32⟩ : BufTy).Contents (Elt F)),
    StableHlo.unary main_v174 main_v175 (sitofp .f32 : (⟨S16, .i32⟩ : BufTy).Contents (Elt F) → (⟨S16, .f32⟩ : BufTy).Contents (Elt F)),
    StableHlo.nullary main_cst_34 (constant S_ .f32 0x00000000#32),
    StableHlo.unary main_cst_34 main_v176 (broadcastInDim S16 ![] bcast_S_S16 : (⟨S_, .f32⟩ : BufTy).Contents (Elt F) → (⟨S16, .f32⟩ : BufTy).Contents (Elt F)),
    StableHlo.binary main_v175 main_v176 main_v177 (cmpf .ogt : (⟨S16, .f32⟩ : BufTy).Contents (Elt F) → (⟨S16, .f32⟩ : BufTy).Contents (Elt F) → (⟨S16, .i1⟩ : BufTy).Contents (Elt F)),
    StableHlo.nullary main_cst_35 (constant S_ .f32 0x00000000#32),
    StableHlo.binary main_v172 main_cst_35 main_v178 ((fun x v => Host.reduceAdd x v reducesTo_S16x25000x4_S16_d1_2 h_S_) : (⟨S16x25000x4, .f32⟩ : BufTy).Contents (Elt F) → (⟨S_, .f32⟩ : BufTy).Contents (Elt F) → (⟨S16, .f32⟩ : BufTy).Contents (Elt F)),
    StableHlo.nullary main_cst_36 (constant S_ .f32 0x40800000#32),
    StableHlo.unary main_cst_36 main_v179 (broadcastInDim S16 ![] bcast_S_S16 : (⟨S_, .f32⟩ : BufTy).Contents (Elt F) → (⟨S16, .f32⟩ : BufTy).Contents (Elt F)),
    StableHlo.binary main_v175 main_v179 main_v180 (mulf : (⟨S16, .f32⟩ : BufTy).Contents (Elt F) → (⟨S16, .f32⟩ : BufTy).Contents (Elt F) → (⟨S16, .f32⟩ : BufTy).Contents (Elt F)),
    StableHlo.nullary main_cst_37 (constant S_ .f32 0x3F800000#32),
    StableHlo.unary main_cst_37 main_v181 (broadcastInDim S16 ![] bcast_S_S16 : (⟨S_, .f32⟩ : BufTy).Contents (Elt F) → (⟨S16, .f32⟩ : BufTy).Contents (Elt F)),
    StableHlo.binary main_v180 main_v181 main_v182 (maximumf : (⟨S16, .f32⟩ : BufTy).Contents (Elt F) → (⟨S16, .f32⟩ : BufTy).Contents (Elt F) → (⟨S16, .f32⟩ : BufTy).Contents (Elt F)),
    StableHlo.binary main_v178 main_v182 main_v183 (Host.divf : (⟨S16, .f32⟩ : BufTy).Contents (Elt F) → (⟨S16, .f32⟩ : BufTy).Contents (Elt F) → (⟨S16, .f32⟩ : BufTy).Contents (Elt F)),
    StableHlo.nullary main_cst_38 (constant S_ .f32 0x00000000#32),
    StableHlo.TRef.unary (.of main_cst_38 : StableHlo.TRef sig ⟨S_, .f32⟩) main_call13.v0 id,
    StableHlo.TRef.unary main_call13.v0 main_call13.v1 (broadcastInDim S16 ![] bcast_S_S16),
    StableHlo.TRef.ternary (.of main_v177 : StableHlo.TRef sig ⟨S16, .i1⟩) (.of main_v183 : StableHlo.TRef sig ⟨S16, .f32⟩) main_call13.v1 main_call13.v2 select ]
theorem ops27_sub : (ops27 : List (HloOp τ sig (Elt F))).Forall fun op => op.bufs ⊆ StableHlo.tcRefs τ sig :=
  ⟨StableHlo.unary_bufs_sub .., StableHlo.unary_bufs_sub .., StableHlo.unary_bufs_sub .., StableHlo.binary_bufs_sub .., StableHlo.unary_bufs_sub .., StableHlo.nullary_bufs_sub .., StableHlo.binary_bufs_sub .., StableHlo.unary_bufs_sub .., StableHlo.nullary_bufs_sub .., StableHlo.unary_bufs_sub .., StableHlo.binary_bufs_sub .., StableHlo.nullary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.unary_bufs_sub .., StableHlo.ternary_bufs_sub ..⟩
theorem ops27_fresh : (ops27 : List (HloOp τ sig (Elt F))).Forall fun op => op.fresh = ∅ :=
  StableHlo.forall_fresh_of_map rfl

/-- Operations up to `main_v188`. -/
abbrev ops28 : List (HloOp τ sig (Elt F)) :=
  [ StableHlo.nullary main_cst_39 (constant S_ .f32 0x00000000#32),
    StableHlo.binary main_v158 main_cst_39 main_v185 ((fun x v => Host.reduceAdd x v reducesTo_S16_S_d0 h_S_) : (⟨S16, .f32⟩ : BufTy).Contents (Elt F) → (⟨S_, .f32⟩ : BufTy).Contents (Elt F) → (⟨S_, .f32⟩ : BufTy).Contents (Elt F)),
    StableHlo.nullary main_cst_40 (constant S_ .f32 0x00000000#32),
    StableHlo.binary main_v184 main_cst_40 main_v186 ((fun x v => Host.reduceAdd x v reducesTo_S16_S_d0 h_S_) : (⟨S16, .f32⟩ : BufTy).Contents (Elt F) → (⟨S_, .f32⟩ : BufTy).Contents (Elt F) → (⟨S_, .f32⟩ : BufTy).Contents (Elt F)),
    StableHlo.nullary main_cst_41 (constant S_ .f32 0x3F800000#32),
    StableHlo.binary main_cst_41 main_v186 main_v187 (mulf : (⟨S_, .f32⟩ : BufTy).Contents (Elt F) → (⟨S_, .f32⟩ : BufTy).Contents (Elt F) → (⟨S_, .f32⟩ : BufTy).Contents (Elt F)),
    StableHlo.binary main_v185 main_v187 main_v188 (addf : (⟨S_, .f32⟩ : BufTy).Contents (Elt F) → (⟨S_, .f32⟩ : BufTy).Contents (Elt F) → (⟨S_, .f32⟩ : BufTy).Contents (Elt F)) ]
theorem ops28_sub : (ops28 : List (HloOp τ sig (Elt F))).Forall fun op => op.bufs ⊆ StableHlo.tcRefs τ sig :=
  ⟨StableHlo.nullary_bufs_sub .., StableHlo.binary_bufs_sub .., StableHlo.nullary_bufs_sub .., StableHlo.binary_bufs_sub .., StableHlo.nullary_bufs_sub .., StableHlo.binary_bufs_sub .., StableHlo.binary_bufs_sub ..⟩
theorem ops28_fresh : (ops28 : List (HloOp τ sig (Elt F))).Forall fun op => op.fresh = ∅ :=
  StableHlo.forall_fresh_of_map rfl

/-- The operations of part 0. -/
abbrev part0 : List (HloOp τ sig (Elt F)) := ops0 ++ (ops1 ++ (ops2))
set_option maxHeartbeats 4000000 in
theorem part0_eq (d : Dev nD) : main_part0 (F := F) d = StableHlo.seq part0 := by
  rfl

/-- The operations of part 1. -/
abbrev part1 : List (HloOp τ sig (Elt F)) := ops3 ++ (ops4 ++ (ops5 ++ (ops6 ++ (ops7 ++ (ops8 ++ (ops9 ++ (ops10 ++ (ops11 ++ (ops12 ++ (ops13 ++ (ops14 ++ (ops15 ++ (ops16)))))))))))))
set_option maxHeartbeats 4000000 in
theorem part1_eq (d : Dev nD) : main_part1 (F := F) d = StableHlo.seq part1 := by
  rfl

/-- The operations of part 2. -/
abbrev part2 : List (HloOp τ sig (Elt F)) := ops17 ++ (ops18 ++ (ops19 ++ (ops20 ++ (ops21 ++ (ops22 ++ (ops23 ++ (ops24)))))))
set_option maxHeartbeats 4000000 in
theorem part2_eq (d : Dev nD) : main_part2 (F := F) d = StableHlo.seq part2 := by
  rfl

/-- The operations of part 3. -/
abbrev part3 : List (HloOp τ sig (Elt F)) := ops25 ++ (ops26 ++ (ops27 ++ (ops28)))
set_option maxHeartbeats 4000000 in
theorem part3_eq (d : Dev nD) : main_part3 (F := F) d = StableHlo.seq part3 := by
  rfl

/-- All operations, in order. -/
abbrev ops : List (HloOp τ sig (Elt F)) := part0 ++ (part1 ++ (part2 ++ part3))

theorem main_eq (d : Dev nD) : main (F := F) d = StableHlo.seq ops := by
  show (main_part0 d >>= fun _ => main_part1 d >>= fun _ => main_part2 d >>= fun _ => main_part3 d) = _
  rw [part0_eq, part1_eq, part2_eq, part3_eq]
  exact ((StableHlo.seq_append part0 (part1 ++ (part2 ++ part3))).trans
    (by rw [StableHlo.seq_append part1 (part2 ++ part3), StableHlo.seq_append part2 part3])).symm

theorem part0_sub : (part0 : List (HloOp τ sig (Elt F))).Forall fun op => op.bufs ⊆ StableHlo.tcRefs τ sig :=
  List.forall_append.mpr ⟨ops0_sub, List.forall_append.mpr ⟨ops1_sub, ops2_sub⟩⟩
theorem part0_fresh : (part0 : List (HloOp τ sig (Elt F))).Forall fun op => op.fresh = ∅ :=
  List.forall_append.mpr ⟨ops0_fresh, List.forall_append.mpr ⟨ops1_fresh, ops2_fresh⟩⟩
theorem part1_sub : (part1 : List (HloOp τ sig (Elt F))).Forall fun op => op.bufs ⊆ StableHlo.tcRefs τ sig :=
  List.forall_append.mpr ⟨ops3_sub, List.forall_append.mpr ⟨ops4_sub, List.forall_append.mpr ⟨ops5_sub, List.forall_append.mpr ⟨ops6_sub, List.forall_append.mpr ⟨ops7_sub, List.forall_append.mpr ⟨ops8_sub, List.forall_append.mpr ⟨ops9_sub, List.forall_append.mpr ⟨ops10_sub, List.forall_append.mpr ⟨ops11_sub, List.forall_append.mpr ⟨ops12_sub, List.forall_append.mpr ⟨ops13_sub, List.forall_append.mpr ⟨ops14_sub, List.forall_append.mpr ⟨ops15_sub, ops16_sub⟩⟩⟩⟩⟩⟩⟩⟩⟩⟩⟩⟩⟩
theorem part1_fresh : (part1 : List (HloOp τ sig (Elt F))).Forall fun op => op.fresh = ∅ :=
  List.forall_append.mpr ⟨ops3_fresh, List.forall_append.mpr ⟨ops4_fresh, List.forall_append.mpr ⟨ops5_fresh, List.forall_append.mpr ⟨ops6_fresh, List.forall_append.mpr ⟨ops7_fresh, List.forall_append.mpr ⟨ops8_fresh, List.forall_append.mpr ⟨ops9_fresh, List.forall_append.mpr ⟨ops10_fresh, List.forall_append.mpr ⟨ops11_fresh, List.forall_append.mpr ⟨ops12_fresh, List.forall_append.mpr ⟨ops13_fresh, List.forall_append.mpr ⟨ops14_fresh, List.forall_append.mpr ⟨ops15_fresh, ops16_fresh⟩⟩⟩⟩⟩⟩⟩⟩⟩⟩⟩⟩⟩
theorem part2_sub : (part2 : List (HloOp τ sig (Elt F))).Forall fun op => op.bufs ⊆ StableHlo.tcRefs τ sig :=
  List.forall_append.mpr ⟨ops17_sub, List.forall_append.mpr ⟨ops18_sub, List.forall_append.mpr ⟨ops19_sub, List.forall_append.mpr ⟨ops20_sub, List.forall_append.mpr ⟨ops21_sub, List.forall_append.mpr ⟨ops22_sub, List.forall_append.mpr ⟨ops23_sub, ops24_sub⟩⟩⟩⟩⟩⟩⟩
theorem part2_fresh : (part2 : List (HloOp τ sig (Elt F))).Forall fun op => op.fresh = ∅ :=
  List.forall_append.mpr ⟨ops17_fresh, List.forall_append.mpr ⟨ops18_fresh, List.forall_append.mpr ⟨ops19_fresh, List.forall_append.mpr ⟨ops20_fresh, List.forall_append.mpr ⟨ops21_fresh, List.forall_append.mpr ⟨ops22_fresh, List.forall_append.mpr ⟨ops23_fresh, ops24_fresh⟩⟩⟩⟩⟩⟩⟩
theorem part3_sub : (part3 : List (HloOp τ sig (Elt F))).Forall fun op => op.bufs ⊆ StableHlo.tcRefs τ sig :=
  List.forall_append.mpr ⟨ops25_sub, List.forall_append.mpr ⟨ops26_sub, List.forall_append.mpr ⟨ops27_sub, ops28_sub⟩⟩⟩
theorem part3_fresh : (part3 : List (HloOp τ sig (Elt F))).Forall fun op => op.fresh = ∅ :=
  List.forall_append.mpr ⟨ops25_fresh, List.forall_append.mpr ⟨ops26_fresh, List.forall_append.mpr ⟨ops27_fresh, ops28_fresh⟩⟩⟩
theorem ops_sub : (ops : List (HloOp τ sig (Elt F))).Forall fun op => op.bufs ⊆ StableHlo.tcRefs τ sig :=
  List.forall_append.mpr ⟨part0_sub, List.forall_append.mpr ⟨part1_sub, List.forall_append.mpr ⟨part2_sub, part3_sub⟩⟩⟩
theorem ops_fresh : (ops : List (HloOp τ sig (Elt F))).Forall fun op => op.fresh = ∅ :=
  List.forall_append.mpr ⟨part0_fresh, List.forall_append.mpr ⟨part1_fresh, List.forall_append.mpr ⟨part2_fresh, part3_fresh⟩⟩⟩

theorem scopedRefs_eq : (Finset.univ.filter fun b : Ref sig .tc => b.isScoped) = ∅ := by decide
theorem scopedSems_eq : (Finset.univ.filter fun s : SemLoc sig => s.isScoped .tc) = ∅ := by decide

/-- Every execution ends with each buffer as the operations leave it. -/
theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = StableHlo.after ops (StableHlo.launchContents m d) (Proc.devRef .tc b) :=
  StableHlo.run_seq scopedRefs_eq scopedSems_eq defs main (fun _ => ops) main_eq (fun _ => ops_sub) m ρ
    (fun _ op h => List.forall_iff_forall_mem.mp ops_fresh op h)

end Cert.ReferenceIdeal.Hand

end
-- ==== Proof.RefSteps.lean ====
/-
What the reference's buffers hold after each stretch of its operations.
-/
module

public import proofs.«01_k».proof.Proof.RefVals
public import proofs.«01_k».proof.Proof.RefOps
public import Idealize.ShloMosaic.Lib.StableHlo.RunRead
public import Idealize.ShloMosaic.Lib.Pipeline.Frame
public import Idealize.ShloMosaic.Lib.Claim

@[expose] public section

set_option maxRecDepth 16384

noncomputable section

namespace Cert.ReferenceIdeal.Hand

open Cert.ReferenceIdeal Cert.ReferenceIdeal.Gen
open Idealize.ShloMosaic Idealize.ShloMosaic.TcCoe
open Idealize.SL.Sem

variable {F : FTy → Type} [FloatOps F]

/-- Transport along an equality of a type with itself does nothing. -/
theorem cast_self {α : Type} (h : α = α) (a : α) : cast h a = a := by
  have e := cast_eq h a
  exact e

/-- The buffers still read, before the first operation. -/
structure Live0 (V : Valuation τ sig (Elt F)) (A : Args F) : Prop where
  at_arg0 : V (Proc.devRef .tc main_arg0) = A.arg0
  at_arg1 : V (Proc.devRef .tc main_arg1) = A.arg1
  at_arg2 : V (Proc.devRef .tc main_arg2) = A.arg2
  at_arg3 : V (Proc.devRef .tc main_arg3) = A.arg3
  at_arg4 : V (Proc.devRef .tc main_arg4) = A.arg4

/-- The buffers still read, after the operations up to `main_v19`. -/
structure Live1 (V : Valuation τ sig (Elt F)) (A : Args F) : Prop where
  at_arg0 : V (Proc.devRef .tc main_arg0) = A.arg0
  at_arg1 : V (Proc.devRef .tc main_arg1) = A.arg1
  at_arg2 : V (Proc.devRef .tc main_arg2) = A.arg2
  at_arg3 : V (Proc.devRef .tc main_arg3) = A.arg3
  at_arg4 : V (Proc.devRef .tc main_arg4) = A.arg4
  at_v1 : V (Proc.devRef .tc main_v1) = Val.v1 A
  at_v3 : V (Proc.devRef .tc main_v3) = Val.v3 A
  at_v5 : V (Proc.devRef .tc main_v5) = Val.v5 A
  at_v7 : V (Proc.devRef .tc main_v7) = Val.v7 A
  at_v9 : V (Proc.devRef .tc main_v9) = Val.v9 A
  at_v11 : V (Proc.devRef .tc main_v11) = Val.v11 A
  at_v13 : V (Proc.devRef .tc main_v13) = Val.v13 A
  at_v15 : V (Proc.devRef .tc main_v15) = Val.v15 A
  at_v18 : V (Proc.devRef .tc main_v18) = Val.v18 A
  at_v19 : V (Proc.devRef .tc main_v19) = Val.v19 A

/-- The buffers still read, after the operations up to `main_v39`. -/
structure Live2 (V : Valuation τ sig (Elt F)) (A : Args F) : Prop where
  at_arg0 : V (Proc.devRef .tc main_arg0) = A.arg0
  at_arg1 : V (Proc.devRef .tc main_arg1) = A.arg1
  at_arg2 : V (Proc.devRef .tc main_arg2) = A.arg2
  at_arg3 : V (Proc.devRef .tc main_arg3) = A.arg3
  at_arg4 : V (Proc.devRef .tc main_arg4) = A.arg4
  at_v1 : V (Proc.devRef .tc main_v1) = Val.v1 A
  at_v3 : V (Proc.devRef .tc main_v3) = Val.v3 A
  at_v5 : V (Proc.devRef .tc main_v5) = Val.v5 A
  at_v7 : V (Proc.devRef .tc main_v7) = Val.v7 A
  at_v9 : V (Proc.devRef .tc main_v9) = Val.v9 A
  at_v11 : V (Proc.devRef .tc main_v11) = Val.v11 A
  at_v13 : V (Proc.devRef .tc main_v13) = Val.v13 A
  at_v15 : V (Proc.devRef .tc main_v15) = Val.v15 A
  at_v28 : V (Proc.devRef .tc main_v28) = Val.v28 A
  at_v29 : V (Proc.devRef .tc main_v29) = Val.v29 A
  at_v30 : V (Proc.devRef .tc main_v30) = Val.v30 A
  at_v31 : V (Proc.devRef .tc main_v31) = Val.v31 A
  at_v32 : V (Proc.devRef .tc main_v32) = Val.v32 A
  at_v33 : V (Proc.devRef .tc main_v33) = Val.v33 A
  at_v34 : V (Proc.devRef .tc main_v34) = Val.v34 A
  at_v35 : V (Proc.devRef .tc main_v35) = Val.v35 A
  at_v38 : V (Proc.devRef .tc main_v38) = Val.v38 A
  at_v39 : V (Proc.devRef .tc main_v39) = Val.v39 A

/-- The buffers still read, after the operations up to `main_v53`. -/
structure Live3 (V : Valuation τ sig (Elt F)) (A : Args F) : Prop where
  at_arg0 : V (Proc.devRef .tc main_arg0) = A.arg0
  at_arg1 : V (Proc.devRef .tc main_arg1) = A.arg1
  at_arg2 : V (Proc.devRef .tc main_arg2) = A.arg2
  at_arg3 : V (Proc.devRef .tc main_arg3) = A.arg3
  at_arg4 : V (Proc.devRef .tc main_arg4) = A.arg4
  at_v1 : V (Proc.devRef .tc main_v1) = Val.v1 A
  at_v3 : V (Proc.devRef .tc main_v3) = Val.v3 A
  at_v5 : V (Proc.devRef .tc main_v5) = Val.v5 A
  at_v7 : V (Proc.devRef .tc main_v7) = Val.v7 A
  at_v9 : V (Proc.devRef .tc main_v9) = Val.v9 A
  at_v11 : V (Proc.devRef .tc main_v11) = Val.v11 A
  at_v13 : V (Proc.devRef .tc main_v13) = Val.v13 A
  at_v15 : V (Proc.devRef .tc main_v15) = Val.v15 A
  at_v28 : V (Proc.devRef .tc main_v28) = Val.v28 A
  at_v29 : V (Proc.devRef .tc main_v29) = Val.v29 A
  at_v30 : V (Proc.devRef .tc main_v30) = Val.v30 A
  at_v31 : V (Proc.devRef .tc main_v31) = Val.v31 A
  at_v32 : V (Proc.devRef .tc main_v32) = Val.v32 A
  at_v33 : V (Proc.devRef .tc main_v33) = Val.v33 A
  at_v34 : V (Proc.devRef .tc main_v34) = Val.v34 A
  at_v35 : V (Proc.devRef .tc main_v35) = Val.v35 A
  at_v44 : V (Proc.devRef .tc main_v44) = Val.v44 A
  at_v53 : V (Proc.devRef .tc main_v53) = Val.v53 A

/-- The buffers still read, after the operations up to `main_v71`. -/
structure Live4 (V : Valuation τ sig (Elt F)) (A : Args F) : Prop where
  at_arg0 : V (Proc.devRef .tc main_arg0) = A.arg0
  at_arg1 : V (Proc.devRef .tc main_arg1) = A.arg1
  at_arg2 : V (Proc.devRef .tc main_arg2) = A.arg2
  at_arg3 : V (Proc.devRef .tc main_arg3) = A.arg3
  at_arg4 : V (Proc.devRef .tc main_arg4) = A.arg4
  at_v1 : V (Proc.devRef .tc main_v1) = Val.v1 A
  at_v3 : V (Proc.devRef .tc main_v3) = Val.v3 A
  at_v5 : V (Proc.devRef .tc main_v5) = Val.v5 A
  at_v7 : V (Proc.devRef .tc main_v7) = Val.v7 A
  at_v9 : V (Proc.devRef .tc main_v9) = Val.v9 A
  at_v11 : V (Proc.devRef .tc main_v11) = Val.v11 A
  at_v13 : V (Proc.devRef .tc main_v13) = Val.v13 A
  at_v15 : V (Proc.devRef .tc main_v15) = Val.v15 A
  at_v54 : V (Proc.devRef .tc main_v54) = Val.v54 A
  at_v71 : V (Proc.devRef .tc main_v71) = Val.v71 A

/-- The buffers still read, after the operations up to `main_v83`. -/
structure Live5 (V : Valuation τ sig (Elt F)) (A : Args F) : Prop where
  at_arg0 : V (Proc.devRef .tc main_arg0) = A.arg0
  at_arg1 : V (Proc.devRef .tc main_arg1) = A.arg1
  at_arg2 : V (Proc.devRef .tc main_arg2) = A.arg2
  at_arg3 : V (Proc.devRef .tc main_arg3) = A.arg3
  at_arg4 : V (Proc.devRef .tc main_arg4) = A.arg4
  at_v1 : V (Proc.devRef .tc main_v1) = Val.v1 A
  at_v3 : V (Proc.devRef .tc main_v3) = Val.v3 A
  at_v5 : V (Proc.devRef .tc main_v5) = Val.v5 A
  at_v7 : V (Proc.devRef .tc main_v7) = Val.v7 A
  at_v9 : V (Proc.devRef .tc main_v9) = Val.v9 A
  at_v11 : V (Proc.devRef .tc main_v11) = Val.v11 A
  at_v13 : V (Proc.devRef .tc main_v13) = Val.v13 A
  at_v15 : V (Proc.devRef .tc main_v15) = Val.v15 A
  at_v77 : V (Proc.devRef .tc main_v77) = Val.v77 A
  at_v79 : V (Proc.devRef .tc main_v79) = Val.v79 A
  at_v83 : V (Proc.devRef .tc main_v83) = Val.v83 A

/-- The buffers still read, after the operations up to `main_call1_v4`. -/
structure Live6 (V : Valuation τ sig (Elt F)) (A : Args F) : Prop where
  at_arg0 : V (Proc.devRef .tc main_arg0) = A.arg0
  at_arg1 : V (Proc.devRef .tc main_arg1) = A.arg1
  at_arg2 : V (Proc.devRef .tc main_arg2) = A.arg2
  at_arg3 : V (Proc.devRef .tc main_arg3) = A.arg3
  at_arg4 : V (Proc.devRef .tc main_arg4) = A.arg4
  at_v1 : V (Proc.devRef .tc main_v1) = Val.v1 A
  at_v3 : V (Proc.devRef .tc main_v3) = Val.v3 A
  at_v5 : V (Proc.devRef .tc main_v5) = Val.v5 A
  at_v7 : V (Proc.devRef .tc main_v7) = Val.v7 A
  at_v9 : V (Proc.devRef .tc main_v9) = Val.v9 A
  at_v11 : V (Proc.devRef .tc main_v11) = Val.v11 A
  at_v13 : V (Proc.devRef .tc main_v13) = Val.v13 A
  at_v15 : V (Proc.devRef .tc main_v15) = Val.v15 A
  at_v77 : V (Proc.devRef .tc main_v77) = Val.v77 A
  at_v79 : V (Proc.devRef .tc main_v79) = Val.v79 A
  at_v83 : V (Proc.devRef .tc main_v83) = Val.v83 A
  at_call1_v4 : V (Proc.devRef .tc main_call1_v4) = Val.call1_v4 A

/-- The buffers still read, after the operations up to `main_call1_v5`. -/
structure Live7 (V : Valuation τ sig (Elt F)) (A : Args F) : Prop where
  at_arg0 : V (Proc.devRef .tc main_arg0) = A.arg0
  at_arg1 : V (Proc.devRef .tc main_arg1) = A.arg1
  at_arg2 : V (Proc.devRef .tc main_arg2) = A.arg2
  at_arg3 : V (Proc.devRef .tc main_arg3) = A.arg3
  at_arg4 : V (Proc.devRef .tc main_arg4) = A.arg4
  at_v1 : V (Proc.devRef .tc main_v1) = Val.v1 A
  at_v3 : V (Proc.devRef .tc main_v3) = Val.v3 A
  at_v5 : V (Proc.devRef .tc main_v5) = Val.v5 A
  at_v7 : V (Proc.devRef .tc main_v7) = Val.v7 A
  at_v9 : V (Proc.devRef .tc main_v9) = Val.v9 A
  at_v11 : V (Proc.devRef .tc main_v11) = Val.v11 A
  at_v13 : V (Proc.devRef .tc main_v13) = Val.v13 A
  at_v15 : V (Proc.devRef .tc main_v15) = Val.v15 A
  at_v77 : V (Proc.devRef .tc main_v77) = Val.v77 A
  at_v79 : V (Proc.devRef .tc main_v79) = Val.v79 A
  at_v83 : V (Proc.devRef .tc main_v83) = Val.v83 A
  at_call1_v5 : V (Proc.devRef .tc main_call1_v5) = Val.call1_v5 A

/-- The buffers still read, after the operations up to `main_call2_v4`. -/
structure Live8 (V : Valuation τ sig (Elt F)) (A : Args F) : Prop where
  at_arg0 : V (Proc.devRef .tc main_arg0) = A.arg0
  at_arg1 : V (Proc.devRef .tc main_arg1) = A.arg1
  at_arg2 : V (Proc.devRef .tc main_arg2) = A.arg2
  at_arg3 : V (Proc.devRef .tc main_arg3) = A.arg3
  at_arg4 : V (Proc.devRef .tc main_arg4) = A.arg4
  at_v1 : V (Proc.devRef .tc main_v1) = Val.v1 A
  at_v3 : V (Proc.devRef .tc main_v3) = Val.v3 A
  at_v5 : V (Proc.devRef .tc main_v5) = Val.v5 A
  at_v7 : V (Proc.devRef .tc main_v7) = Val.v7 A
  at_v11 : V (Proc.devRef .tc main_v11) = Val.v11 A
  at_v13 : V (Proc.devRef .tc main_v13) = Val.v13 A
  at_v15 : V (Proc.devRef .tc main_v15) = Val.v15 A
  at_v77 : V (Proc.devRef .tc main_v77) = Val.v77 A
  at_v79 : V (Proc.devRef .tc main_v79) = Val.v79 A
  at_v83 : V (Proc.devRef .tc main_v83) = Val.v83 A
  at_v84 : V (Proc.devRef .tc main_v84) = Val.v84 A
  at_call2_v4 : V (Proc.devRef .tc main_call2_v4) = Val.call2_v4 A

/-- The buffers still read, after the operations up to `main_call2_v5`. -/
structure Live9 (V : Valuation τ sig (Elt F)) (A : Args F) : Prop where
  at_arg0 : V (Proc.devRef .tc main_arg0) = A.arg0
  at_arg1 : V (Proc.devRef .tc main_arg1) = A.arg1
  at_arg2 : V (Proc.devRef .tc main_arg2) = A.arg2
  at_arg3 : V (Proc.devRef .tc main_arg3) = A.arg3
  at_arg4 : V (Proc.devRef .tc main_arg4) = A.arg4
  at_v1 : V (Proc.devRef .tc main_v1) = Val.v1 A
  at_v3 : V (Proc.devRef .tc main_v3) = Val.v3 A
  at_v5 : V (Proc.devRef .tc main_v5) = Val.v5 A
  at_v7 : V (Proc.devRef .tc main_v7) = Val.v7 A
  at_v11 : V (Proc.devRef .tc main_v11) = Val.v11 A
  at_v13 : V (Proc.devRef .tc main_v13) = Val.v13 A
  at_v15 : V (Proc.devRef .tc main_v15) = Val.v15 A
  at_v77 : V (Proc.devRef .tc main_v77) = Val.v77 A
  at_v79 : V (Proc.devRef .tc main_v79) = Val.v79 A
  at_v83 : V (Proc.devRef .tc main_v83) = Val.v83 A
  at_v84 : V (Proc.devRef .tc main_v84) = Val.v84 A
  at_call2_v5 : V (Proc.devRef .tc main_call2_v5) = Val.call2_v5 A

/-- The buffers still read, after the operations up to `main_call3_v4`. -/
structure Live10 (V : Valuation τ sig (Elt F)) (A : Args F) : Prop where
  at_arg0 : V (Proc.devRef .tc main_arg0) = A.arg0
  at_arg1 : V (Proc.devRef .tc main_arg1) = A.arg1
  at_arg2 : V (Proc.devRef .tc main_arg2) = A.arg2
  at_arg3 : V (Proc.devRef .tc main_arg3) = A.arg3
  at_arg4 : V (Proc.devRef .tc main_arg4) = A.arg4
  at_v1 : V (Proc.devRef .tc main_v1) = Val.v1 A
  at_v3 : V (Proc.devRef .tc main_v3) = Val.v3 A
  at_v5 : V (Proc.devRef .tc main_v5) = Val.v5 A
  at_v7 : V (Proc.devRef .tc main_v7) = Val.v7 A
  at_v13 : V (Proc.devRef .tc main_v13) = Val.v13 A
  at_v15 : V (Proc.devRef .tc main_v15) = Val.v15 A
  at_v77 : V (Proc.devRef .tc main_v77) = Val.v77 A
  at_v79 : V (Proc.devRef .tc main_v79) = Val.v79 A
  at_v83 : V (Proc.devRef .tc main_v83) = Val.v83 A
  at_v84 : V (Proc.devRef .tc main_v84) = Val.v84 A
  at_v85 : V (Proc.devRef .tc main_v85) = Val.v85 A
  at_call3_v4 : V (Proc.devRef .tc main_call3_v4) = Val.call3_v4 A

/-- The buffers still read, after the operations up to `main_call3_v5`. -/
structure Live11 (V : Valuation τ sig (Elt F)) (A : Args F) : Prop where
  at_arg0 : V (Proc.devRef .tc main_arg0) = A.arg0
  at_arg1 : V (Proc.devRef .tc main_arg1) = A.arg1
  at_arg2 : V (Proc.devRef .tc main_arg2) = A.arg2
  at_arg3 : V (Proc.devRef .tc main_arg3) = A.arg3
  at_arg4 : V (Proc.devRef .tc main_arg4) = A.arg4
  at_v1 : V (Proc.devRef .tc main_v1) = Val.v1 A
  at_v3 : V (Proc.devRef .tc main_v3) = Val.v3 A
  at_v5 : V (Proc.devRef .tc main_v5) = Val.v5 A
  at_v7 : V (Proc.devRef .tc main_v7) = Val.v7 A
  at_v13 : V (Proc.devRef .tc main_v13) = Val.v13 A
  at_v15 : V (Proc.devRef .tc main_v15) = Val.v15 A
  at_v77 : V (Proc.devRef .tc main_v77) = Val.v77 A
  at_v79 : V (Proc.devRef .tc main_v79) = Val.v79 A
  at_v83 : V (Proc.devRef .tc main_v83) = Val.v83 A
  at_v84 : V (Proc.devRef .tc main_v84) = Val.v84 A
  at_v85 : V (Proc.devRef .tc main_v85) = Val.v85 A
  at_call3_v5 : V (Proc.devRef .tc main_call3_v5) = Val.call3_v5 A

/-- The buffers still read, after the operations up to `main_call4_v4`. -/
structure Live12 (V : Valuation τ sig (Elt F)) (A : Args F) : Prop where
  at_arg0 : V (Proc.devRef .tc main_arg0) = A.arg0
  at_arg1 : V (Proc.devRef .tc main_arg1) = A.arg1
  at_arg2 : V (Proc.devRef .tc main_arg2) = A.arg2
  at_arg3 : V (Proc.devRef .tc main_arg3) = A.arg3
  at_arg4 : V (Proc.devRef .tc main_arg4) = A.arg4
  at_v1 : V (Proc.devRef .tc main_v1) = Val.v1 A
  at_v3 : V (Proc.devRef .tc main_v3) = Val.v3 A
  at_v5 : V (Proc.devRef .tc main_v5) = Val.v5 A
  at_v7 : V (Proc.devRef .tc main_v7) = Val.v7 A
  at_v15 : V (Proc.devRef .tc main_v15) = Val.v15 A
  at_v77 : V (Proc.devRef .tc main_v77) = Val.v77 A
  at_v79 : V (Proc.devRef .tc main_v79) = Val.v79 A
  at_v83 : V (Proc.devRef .tc main_v83) = Val.v83 A
  at_v84 : V (Proc.devRef .tc main_v84) = Val.v84 A
  at_v85 : V (Proc.devRef .tc main_v85) = Val.v85 A
  at_v86 : V (Proc.devRef .tc main_v86) = Val.v86 A
  at_call4_v4 : V (Proc.devRef .tc main_call4_v4) = Val.call4_v4 A

/-- The buffers still read, after the operations up to `main_call4_v5`. -/
structure Live13 (V : Valuation τ sig (Elt F)) (A : Args F) : Prop where
  at_arg0 : V (Proc.devRef .tc main_arg0) = A.arg0
  at_arg1 : V (Proc.devRef .tc main_arg1) = A.arg1
  at_arg2 : V (Proc.devRef .tc main_arg2) = A.arg2
  at_arg3 : V (Proc.devRef .tc main_arg3) = A.arg3
  at_arg4 : V (Proc.devRef .tc main_arg4) = A.arg4
  at_v1 : V (Proc.devRef .tc main_v1) = Val.v1 A
  at_v3 : V (Proc.devRef .tc main_v3) = Val.v3 A
  at_v5 : V (Proc.devRef .tc main_v5) = Val.v5 A
  at_v7 : V (Proc.devRef .tc main_v7) = Val.v7 A
  at_v15 : V (Proc.devRef .tc main_v15) = Val.v15 A
  at_v77 : V (Proc.devRef .tc main_v77) = Val.v77 A
  at_v79 : V (Proc.devRef .tc main_v79) = Val.v79 A
  at_v83 : V (Proc.devRef .tc main_v83) = Val.v83 A
  at_v84 : V (Proc.devRef .tc main_v84) = Val.v84 A
  at_v85 : V (Proc.devRef .tc main_v85) = Val.v85 A
  at_v86 : V (Proc.devRef .tc main_v86) = Val.v86 A
  at_call4_v5 : V (Proc.devRef .tc main_call4_v5) = Val.call4_v5 A

/-- The buffers still read, after the operations up to `main_call5_v4`. -/
structure Live14 (V : Valuation τ sig (Elt F)) (A : Args F) : Prop where
  at_arg0 : V (Proc.devRef .tc main_arg0) = A.arg0
  at_arg1 : V (Proc.devRef .tc main_arg1) = A.arg1
  at_arg2 : V (Proc.devRef .tc main_arg2) = A.arg2
  at_arg3 : V (Proc.devRef .tc main_arg3) = A.arg3
  at_arg4 : V (Proc.devRef .tc main_arg4) = A.arg4
  at_v1 : V (Proc.devRef .tc main_v1) = Val.v1 A
  at_v3 : V (Proc.devRef .tc main_v3) = Val.v3 A
  at_v5 : V (Proc.devRef .tc main_v5) = Val.v5 A
  at_v7 : V (Proc.devRef .tc main_v7) = Val.v7 A
  at_v79 : V (Proc.devRef .tc main_v79) = Val.v79 A
  at_v83 : V (Proc.devRef .tc main_v83) = Val.v83 A
  at_v84 : V (Proc.devRef .tc main_v84) = Val.v84 A
  at_v85 : V (Proc.devRef .tc main_v85) = Val.v85 A
  at_v86 : V (Proc.devRef .tc main_v86) = Val.v86 A
  at_v87 : V (Proc.devRef .tc main_v87) = Val.v87 A
  at_call5_v4 : V (Proc.devRef .tc main_call5_v4) = Val.call5_v4 A

/-- The buffers still read, after the operations up to `main_call5_v5`. -/
structure Live15 (V : Valuation τ sig (Elt F)) (A : Args F) : Prop where
  at_arg0 : V (Proc.devRef .tc main_arg0) = A.arg0
  at_arg1 : V (Proc.devRef .tc main_arg1) = A.arg1
  at_arg2 : V (Proc.devRef .tc main_arg2) = A.arg2
  at_arg3 : V (Proc.devRef .tc main_arg3) = A.arg3
  at_arg4 : V (Proc.devRef .tc main_arg4) = A.arg4
  at_v1 : V (Proc.devRef .tc main_v1) = Val.v1 A
  at_v3 : V (Proc.devRef .tc main_v3) = Val.v3 A
  at_v5 : V (Proc.devRef .tc main_v5) = Val.v5 A
  at_v7 : V (Proc.devRef .tc main_v7) = Val.v7 A
  at_v79 : V (Proc.devRef .tc main_v79) = Val.v79 A
  at_v83 : V (Proc.devRef .tc main_v83) = Val.v83 A
  at_v84 : V (Proc.devRef .tc main_v84) = Val.v84 A
  at_v85 : V (Proc.devRef .tc main_v85) = Val.v85 A
  at_v86 : V (Proc.devRef .tc main_v86) = Val.v86 A
  at_v87 : V (Proc.devRef .tc main_v87) = Val.v87 A
  at_call5_v5 : V (Proc.devRef .tc main_call5_v5) = Val.call5_v5 A

/-- The buffers still read, after the operations up to `main_v88`. -/
structure Live16 (V : Valuation τ sig (Elt F)) (A : Args F) : Prop where
  at_arg0 : V (Proc.devRef .tc main_arg0) = A.arg0
  at_arg1 : V (Proc.devRef .tc main_arg1) = A.arg1
  at_arg2 : V (Proc.devRef .tc main_arg2) = A.arg2
  at_arg3 : V (Proc.devRef .tc main_arg3) = A.arg3
  at_arg4 : V (Proc.devRef .tc main_arg4) = A.arg4
  at_v1 : V (Proc.devRef .tc main_v1) = Val.v1 A
  at_v3 : V (Proc.devRef .tc main_v3) = Val.v3 A
  at_v5 : V (Proc.devRef .tc main_v5) = Val.v5 A
  at_v7 : V (Proc.devRef .tc main_v7) = Val.v7 A
  at_v79 : V (Proc.devRef .tc main_v79) = Val.v79 A
  at_v83 : V (Proc.devRef .tc main_v83) = Val.v83 A
  at_v84 : V (Proc.devRef .tc main_v84) = Val.v84 A
  at_v85 : V (Proc.devRef .tc main_v85) = Val.v85 A
  at_v86 : V (Proc.devRef .tc main_v86) = Val.v86 A
  at_v87 : V (Proc.devRef .tc main_v87) = Val.v87 A
  at_v88 : V (Proc.devRef .tc main_v88) = Val.v88 A

/-- The buffers still read, after the operations up to `main_v101`. -/
structure Live17 (V : Valuation τ sig (Elt F)) (A : Args F) : Prop where
  at_arg0 : V (Proc.devRef .tc main_arg0) = A.arg0
  at_arg1 : V (Proc.devRef .tc main_arg1) = A.arg1
  at_arg2 : V (Proc.devRef .tc main_arg2) = A.arg2
  at_arg3 : V (Proc.devRef .tc main_arg3) = A.arg3
  at_arg4 : V (Proc.devRef .tc main_arg4) = A.arg4
  at_v3 : V (Proc.devRef .tc main_v3) = Val.v3 A
  at_v5 : V (Proc.devRef .tc main_v5) = Val.v5 A
  at_v7 : V (Proc.devRef .tc main_v7) = Val.v7 A
  at_v79 : V (Proc.devRef .tc main_v79) = Val.v79 A
  at_v83 : V (Proc.devRef .tc main_v83) = Val.v83 A
  at_v88 : V (Proc.devRef .tc main_v88) = Val.v88 A
  at_v91 : V (Proc.devRef .tc main_v91) = Val.v91 A
  at_v94 : V (Proc.devRef .tc main_v94) = Val.v94 A
  at_v97 : V (Proc.devRef .tc main_v97) = Val.v97 A
  at_v100 : V (Proc.devRef .tc main_v100) = Val.v100 A
  at_v101 : V (Proc.devRef .tc main_v101) = Val.v101 A

/-- The buffers still read, after the operations up to `main_cst_19`. -/
structure Live18 (V : Valuation τ sig (Elt F)) (A : Args F) : Prop where
  at_arg0 : V (Proc.devRef .tc main_arg0) = A.arg0
  at_arg1 : V (Proc.devRef .tc main_arg1) = A.arg1
  at_arg2 : V (Proc.devRef .tc main_arg2) = A.arg2
  at_arg3 : V (Proc.devRef .tc main_arg3) = A.arg3
  at_arg4 : V (Proc.devRef .tc main_arg4) = A.arg4
  at_v7 : V (Proc.devRef .tc main_v7) = Val.v7 A
  at_v79 : V (Proc.devRef .tc main_v79) = Val.v79 A
  at_v83 : V (Proc.devRef .tc main_v83) = Val.v83 A
  at_v88 : V (Proc.devRef .tc main_v88) = Val.v88 A
  at_v100 : V (Proc.devRef .tc main_v100) = Val.v100 A
  at_v108 : V (Proc.devRef .tc main_v108) = Val.v108 A
  at_v116 : V (Proc.devRef .tc main_v116) = Val.v116 A
  at_v120 : V (Proc.devRef .tc main_v120) = Val.v120 A
  at_cst_19 : V (Proc.devRef .tc main_cst_19) = Val.cst_19 A

/-- The buffers still read, after the operations up to `main_v132`. -/
structure Live19 (V : Valuation τ sig (Elt F)) (A : Args F) : Prop where
  at_arg0 : V (Proc.devRef .tc main_arg0) = A.arg0
  at_arg1 : V (Proc.devRef .tc main_arg1) = A.arg1
  at_arg2 : V (Proc.devRef .tc main_arg2) = A.arg2
  at_arg3 : V (Proc.devRef .tc main_arg3) = A.arg3
  at_arg4 : V (Proc.devRef .tc main_arg4) = A.arg4
  at_v79 : V (Proc.devRef .tc main_v79) = Val.v79 A
  at_v83 : V (Proc.devRef .tc main_v83) = Val.v83 A
  at_v88 : V (Proc.devRef .tc main_v88) = Val.v88 A
  at_v129 : V (Proc.devRef .tc main_v129) = Val.v129 A
  at_v130 : V (Proc.devRef .tc main_v130) = Val.v130 A
  at_v131 : V (Proc.devRef .tc main_v131) = Val.v131 A
  at_v132 : V (Proc.devRef .tc main_v132) = Val.v132 A

/-- The buffers still read, after the operations up to `main_v133`. -/
structure Live20 (V : Valuation τ sig (Elt F)) (A : Args F) : Prop where
  at_arg0 : V (Proc.devRef .tc main_arg0) = A.arg0
  at_arg1 : V (Proc.devRef .tc main_arg1) = A.arg1
  at_arg2 : V (Proc.devRef .tc main_arg2) = A.arg2
  at_arg3 : V (Proc.devRef .tc main_arg3) = A.arg3
  at_arg4 : V (Proc.devRef .tc main_arg4) = A.arg4
  at_v79 : V (Proc.devRef .tc main_v79) = Val.v79 A
  at_v83 : V (Proc.devRef .tc main_v83) = Val.v83 A
  at_v88 : V (Proc.devRef .tc main_v88) = Val.v88 A
  at_v133 : V (Proc.devRef .tc main_v133) = Val.v133 A

/-- The buffers still read, after the operations up to `main_v139`. -/
structure Live21 (V : Valuation τ sig (Elt F)) (A : Args F) : Prop where
  at_arg0 : V (Proc.devRef .tc main_arg0) = A.arg0
  at_arg1 : V (Proc.devRef .tc main_arg1) = A.arg1
  at_arg2 : V (Proc.devRef .tc main_arg2) = A.arg2
  at_arg3 : V (Proc.devRef .tc main_arg3) = A.arg3
  at_arg4 : V (Proc.devRef .tc main_arg4) = A.arg4
  at_v79 : V (Proc.devRef .tc main_v79) = Val.v79 A
  at_v135 : V (Proc.devRef .tc main_v135) = Val.v135 A
  at_v137 : V (Proc.devRef .tc main_v137) = Val.v137 A
  at_v139 : V (Proc.devRef .tc main_v139) = Val.v139 A

/-- The buffers still read, after the operations up to `main_v143`. -/
structure Live22 (V : Valuation τ sig (Elt F)) (A : Args F) : Prop where
  at_arg0 : V (Proc.devRef .tc main_arg0) = A.arg0
  at_arg1 : V (Proc.devRef .tc main_arg1) = A.arg1
  at_arg2 : V (Proc.devRef .tc main_arg2) = A.arg2
  at_arg3 : V (Proc.devRef .tc main_arg3) = A.arg3
  at_arg4 : V (Proc.devRef .tc main_arg4) = A.arg4
  at_v79 : V (Proc.devRef .tc main_v79) = Val.v79 A
  at_v137 : V (Proc.devRef .tc main_v137) = Val.v137 A
  at_v139 : V (Proc.devRef .tc main_v139) = Val.v139 A
  at_v140 : V (Proc.devRef .tc main_v140) = Val.v140 A
  at_v143 : V (Proc.devRef .tc main_v143) = Val.v143 A

/-- The buffers still read, after the operations up to `main_call10_v4`. -/
structure Live23 (V : Valuation τ sig (Elt F)) (A : Args F) : Prop where
  at_arg0 : V (Proc.devRef .tc main_arg0) = A.arg0
  at_arg1 : V (Proc.devRef .tc main_arg1) = A.arg1
  at_arg2 : V (Proc.devRef .tc main_arg2) = A.arg2
  at_arg3 : V (Proc.devRef .tc main_arg3) = A.arg3
  at_arg4 : V (Proc.devRef .tc main_arg4) = A.arg4
  at_v79 : V (Proc.devRef .tc main_v79) = Val.v79 A
  at_v137 : V (Proc.devRef .tc main_v137) = Val.v137 A
  at_v139 : V (Proc.devRef .tc main_v139) = Val.v139 A
  at_v140 : V (Proc.devRef .tc main_v140) = Val.v140 A
  at_call10_v4 : V (Proc.devRef .tc main_call10_v4) = Val.call10_v4 A

/-- The buffers still read, after the operations up to `main_call10_v5`. -/
structure Live24 (V : Valuation τ sig (Elt F)) (A : Args F) : Prop where
  at_arg0 : V (Proc.devRef .tc main_arg0) = A.arg0
  at_arg1 : V (Proc.devRef .tc main_arg1) = A.arg1
  at_arg2 : V (Proc.devRef .tc main_arg2) = A.arg2
  at_arg3 : V (Proc.devRef .tc main_arg3) = A.arg3
  at_arg4 : V (Proc.devRef .tc main_arg4) = A.arg4
  at_v79 : V (Proc.devRef .tc main_v79) = Val.v79 A
  at_v137 : V (Proc.devRef .tc main_v137) = Val.v137 A
  at_v139 : V (Proc.devRef .tc main_v139) = Val.v139 A
  at_v140 : V (Proc.devRef .tc main_v140) = Val.v140 A
  at_call10_v5 : V (Proc.devRef .tc main_call10_v5) = Val.call10_v5 A

/-- The buffers still read, after the operations up to `main_v150`. -/
structure Live25 (V : Valuation τ sig (Elt F)) (A : Args F) : Prop where
  at_arg0 : V (Proc.devRef .tc main_arg0) = A.arg0
  at_arg1 : V (Proc.devRef .tc main_arg1) = A.arg1
  at_arg2 : V (Proc.devRef .tc main_arg2) = A.arg2
  at_arg3 : V (Proc.devRef .tc main_arg3) = A.arg3
  at_arg4 : V (Proc.devRef .tc main_arg4) = A.arg4
  at_v79 : V (Proc.devRef .tc main_v79) = Val.v79 A
  at_v137 : V (Proc.devRef .tc main_v137) = Val.v137 A
  at_v139 : V (Proc.devRef .tc main_v139) = Val.v139 A
  at_v146 : V (Proc.devRef .tc main_v146) = Val.v146 A
  at_v149 : V (Proc.devRef .tc main_v149) = Val.v149 A
  at_v150 : V (Proc.devRef .tc main_v150) = Val.v150 A

/-- The buffers still read, after the operations up to `main_v158`. -/
structure Live26 (V : Valuation τ sig (Elt F)) (A : Args F) : Prop where
  at_arg0 : V (Proc.devRef .tc main_arg0) = A.arg0
  at_arg1 : V (Proc.devRef .tc main_arg1) = A.arg1
  at_arg2 : V (Proc.devRef .tc main_arg2) = A.arg2
  at_arg3 : V (Proc.devRef .tc main_arg3) = A.arg3
  at_arg4 : V (Proc.devRef .tc main_arg4) = A.arg4
  at_v79 : V (Proc.devRef .tc main_v79) = Val.v79 A
  at_v137 : V (Proc.devRef .tc main_v137) = Val.v137 A
  at_v158 : V (Proc.devRef .tc main_v158) = Val.v158 A

/-- The buffers still read, after the operations up to `main_v168`. -/
structure Live27 (V : Valuation τ sig (Elt F)) (A : Args F) : Prop where
  at_arg0 : V (Proc.devRef .tc main_arg0) = A.arg0
  at_arg1 : V (Proc.devRef .tc main_arg1) = A.arg1
  at_arg2 : V (Proc.devRef .tc main_arg2) = A.arg2
  at_arg3 : V (Proc.devRef .tc main_arg3) = A.arg3
  at_arg4 : V (Proc.devRef .tc main_arg4) = A.arg4
  at_v79 : V (Proc.devRef .tc main_v79) = Val.v79 A
  at_v158 : V (Proc.devRef .tc main_v158) = Val.v158 A
  at_v168 : V (Proc.devRef .tc main_v168) = Val.v168 A

/-- The buffers still read, after the operations up to `main_v184`. -/
structure Live28 (V : Valuation τ sig (Elt F)) (A : Args F) : Prop where
  at_arg0 : V (Proc.devRef .tc main_arg0) = A.arg0
  at_arg1 : V (Proc.devRef .tc main_arg1) = A.arg1
  at_arg2 : V (Proc.devRef .tc main_arg2) = A.arg2
  at_arg3 : V (Proc.devRef .tc main_arg3) = A.arg3
  at_arg4 : V (Proc.devRef .tc main_arg4) = A.arg4
  at_v158 : V (Proc.devRef .tc main_v158) = Val.v158 A
  at_v184 : V (Proc.devRef .tc main_v184) = Val.v184 A

/-- The buffers still read, after the operations up to `main_v188`. -/
structure Live29 (V : Valuation τ sig (Elt F)) (A : Args F) : Prop where
  at_arg0 : V (Proc.devRef .tc main_arg0) = A.arg0
  at_arg1 : V (Proc.devRef .tc main_arg1) = A.arg1
  at_arg2 : V (Proc.devRef .tc main_arg2) = A.arg2
  at_arg3 : V (Proc.devRef .tc main_arg3) = A.arg3
  at_arg4 : V (Proc.devRef .tc main_arg4) = A.arg4
  at_v188 : V (Proc.devRef .tc main_v188) = Val.v188 A

theorem step0 (V : Valuation τ sig (Elt F)) (A : Args F) (h : Live0 V A) : Live1 (StableHlo.after ops0 V) A where
  at_arg0 := by after_reads_simp; exact h.at_arg0
  at_arg1 := by after_reads_simp; exact h.at_arg1
  at_arg2 := by after_reads_simp; exact h.at_arg2
  at_arg3 := by after_reads_simp; exact h.at_arg3
  at_arg4 := by after_reads_simp; exact h.at_arg4
  at_v1 := by
    after_reads_simp
    try simp only [h.at_arg2, h.at_arg3]
    rfl
  at_v3 := by
    after_reads_simp
    try simp only [h.at_arg2, h.at_arg3]
    rfl
  at_v5 := by
    after_reads_simp
    try simp only [h.at_arg2, h.at_arg3]
    rfl
  at_v7 := by
    after_reads_simp
    try simp only [h.at_arg2, h.at_arg3]
    rfl
  at_v9 := by
    after_reads_simp
    try simp only [h.at_arg2, h.at_arg3]
    rfl
  at_v11 := by
    after_reads_simp
    try simp only [h.at_arg2, h.at_arg3]
    rfl
  at_v13 := by
    after_reads_simp
    try simp only [h.at_arg2, h.at_arg3]
    rfl
  at_v15 := by
    after_reads_simp
    try simp only [h.at_arg2, h.at_arg3]
    rfl
  at_v18 := by
    after_reads_simp
    try simp only [h.at_arg2, h.at_arg3]
    rfl
  at_v19 := by
    after_reads_simp
    try simp only [h.at_arg2, h.at_arg3]
    rfl

theorem step1 (V : Valuation τ sig (Elt F)) (A : Args F) (h : Live1 V A) : Live2 (StableHlo.after ops1 V) A where
  at_arg0 := by after_reads_simp; exact h.at_arg0
  at_arg1 := by after_reads_simp; exact h.at_arg1
  at_arg2 := by after_reads_simp; exact h.at_arg2
  at_arg3 := by after_reads_simp; exact h.at_arg3
  at_arg4 := by after_reads_simp; exact h.at_arg4
  at_v1 := by after_reads_simp; exact h.at_v1
  at_v3 := by after_reads_simp; exact h.at_v3
  at_v5 := by after_reads_simp; exact h.at_v5
  at_v7 := by after_reads_simp; exact h.at_v7
  at_v9 := by after_reads_simp; exact h.at_v9
  at_v11 := by after_reads_simp; exact h.at_v11
  at_v13 := by after_reads_simp; exact h.at_v13
  at_v15 := by after_reads_simp; exact h.at_v15
  at_v28 := by
    after_reads_simp
    try simp only [h.at_v1, h.at_v3, h.at_v5, h.at_v7, h.at_v9, h.at_v11, h.at_v13, h.at_v15, h.at_v18, h.at_v19]
    rfl
  at_v29 := by
    after_reads_simp
    try simp only [h.at_v1, h.at_v3, h.at_v5, h.at_v7, h.at_v9, h.at_v11, h.at_v13, h.at_v15, h.at_v18, h.at_v19]
    rfl
  at_v30 := by
    after_reads_simp
    try simp only [h.at_v1, h.at_v3, h.at_v5, h.at_v7, h.at_v9, h.at_v11, h.at_v13, h.at_v15, h.at_v18, h.at_v19]
    rfl
  at_v31 := by
    after_reads_simp
    try simp only [h.at_v1, h.at_v3, h.at_v5, h.at_v7, h.at_v9, h.at_v11, h.at_v13, h.at_v15, h.at_v18, h.at_v19]
    rfl
  at_v32 := by
    after_reads_simp
    try simp only [h.at_v1, h.at_v3, h.at_v5, h.at_v7, h.at_v9, h.at_v11, h.at_v13, h.at_v15, h.at_v18, h.at_v19]
    rfl
  at_v33 := by
    after_reads_simp
    try simp only [h.at_v1, h.at_v3, h.at_v5, h.at_v7, h.at_v9, h.at_v11, h.at_v13, h.at_v15, h.at_v18, h.at_v19]
    rfl
  at_v34 := by
    after_reads_simp
    try simp only [h.at_v1, h.at_v3, h.at_v5, h.at_v7, h.at_v9, h.at_v11, h.at_v13, h.at_v15, h.at_v18, h.at_v19]
    rfl
  at_v35 := by
    after_reads_simp
    try simp only [h.at_v1, h.at_v3, h.at_v5, h.at_v7, h.at_v9, h.at_v11, h.at_v13, h.at_v15, h.at_v18, h.at_v19]
    rfl
  at_v38 := by
    after_reads_simp
    try simp only [h.at_v1, h.at_v3, h.at_v5, h.at_v7, h.at_v9, h.at_v11, h.at_v13, h.at_v15, h.at_v18, h.at_v19]
    rfl
  at_v39 := by
    after_reads_simp
    try simp only [h.at_v1, h.at_v3, h.at_v5, h.at_v7, h.at_v9, h.at_v11, h.at_v13, h.at_v15, h.at_v18, h.at_v19]
    rfl

theorem step2 (V : Valuation τ sig (Elt F)) (A : Args F) (h : Live2 V A) : Live3 (StableHlo.after ops2 V) A where
  at_arg0 := by after_reads_simp; exact h.at_arg0
  at_arg1 := by after_reads_simp; exact h.at_arg1
  at_arg2 := by after_reads_simp; exact h.at_arg2
  at_arg3 := by after_reads_simp; exact h.at_arg3
  at_arg4 := by after_reads_simp; exact h.at_arg4
  at_v1 := by after_reads_simp; exact h.at_v1
  at_v3 := by after_reads_simp; exact h.at_v3
  at_v5 := by after_reads_simp; exact h.at_v5
  at_v7 := by after_reads_simp; exact h.at_v7
  at_v9 := by after_reads_simp; exact h.at_v9
  at_v11 := by after_reads_simp; exact h.at_v11
  at_v13 := by after_reads_simp; exact h.at_v13
  at_v15 := by after_reads_simp; exact h.at_v15
  at_v28 := by after_reads_simp; exact h.at_v28
  at_v29 := by after_reads_simp; exact h.at_v29
  at_v30 := by after_reads_simp; exact h.at_v30
  at_v31 := by after_reads_simp; exact h.at_v31
  at_v32 := by after_reads_simp; exact h.at_v32
  at_v33 := by after_reads_simp; exact h.at_v33
  at_v34 := by after_reads_simp; exact h.at_v34
  at_v35 := by after_reads_simp; exact h.at_v35
  at_v44 := by
    after_reads_simp
    try simp only [h.at_v29, h.at_v31, h.at_v32, h.at_v33, h.at_v35, h.at_v38, h.at_v39]
    rfl
  at_v53 := by
    after_reads_simp
    try simp only [h.at_v29, h.at_v31, h.at_v32, h.at_v33, h.at_v35, h.at_v38, h.at_v39]
    rfl

theorem step3 (V : Valuation τ sig (Elt F)) (A : Args F) (h : Live3 V A) : Live4 (StableHlo.after ops3 V) A where
  at_arg0 := by after_reads_simp; exact h.at_arg0
  at_arg1 := by after_reads_simp; exact h.at_arg1
  at_arg2 := by after_reads_simp; exact h.at_arg2
  at_arg3 := by after_reads_simp; exact h.at_arg3
  at_arg4 := by after_reads_simp; exact h.at_arg4
  at_v1 := by after_reads_simp; exact h.at_v1
  at_v3 := by after_reads_simp; exact h.at_v3
  at_v5 := by after_reads_simp; exact h.at_v5
  at_v7 := by after_reads_simp; exact h.at_v7
  at_v9 := by after_reads_simp; exact h.at_v9
  at_v11 := by after_reads_simp; exact h.at_v11
  at_v13 := by after_reads_simp; exact h.at_v13
  at_v15 := by after_reads_simp; exact h.at_v15
  at_v54 := by
    after_reads_simp
    try simp only [h.at_v28, h.at_v29, h.at_v30, h.at_v31, h.at_v32, h.at_v33, h.at_v34, h.at_v35, h.at_v44, h.at_v53]
    rfl
  at_v71 := by
    after_reads_simp
    try simp only [h.at_v28, h.at_v29, h.at_v30, h.at_v31, h.at_v32, h.at_v33, h.at_v34, h.at_v35, h.at_v44, h.at_v53]
    rfl

theorem step4 (V : Valuation τ sig (Elt F)) (A : Args F) (h : Live4 V A) : Live5 (StableHlo.after ops4 V) A where
  at_arg0 := by after_reads_simp; exact h.at_arg0
  at_arg1 := by after_reads_simp; exact h.at_arg1
  at_arg2 := by after_reads_simp; exact h.at_arg2
  at_arg3 := by after_reads_simp; exact h.at_arg3
  at_arg4 := by after_reads_simp; exact h.at_arg4
  at_v1 := by after_reads_simp; exact h.at_v1
  at_v3 := by after_reads_simp; exact h.at_v3
  at_v5 := by after_reads_simp; exact h.at_v5
  at_v7 := by after_reads_simp; exact h.at_v7
  at_v9 := by after_reads_simp; exact h.at_v9
  at_v11 := by after_reads_simp; exact h.at_v11
  at_v13 := by after_reads_simp; exact h.at_v13
  at_v15 := by after_reads_simp; exact h.at_v15
  at_v77 := by
    after_reads_simp
    try simp only [h.at_v54, h.at_v71]
    simp only [StableHlo.TRef.toBuf, StableHlo.TRef.ofBuf, cast_self, Val.v72, Val.cst_9, Val.v73, Val.v74, Val.v75, Val.cst_10, Val.v76, Val.call0_v0, Val.call0_cst, Val.call0_c, Val.call0_v1_0, Val.v77, Val.cst_11, Val.v78, Val.v79, Val.cst_12, Val.v80, Val.v81, Val.v82, Val.v83]
    all_goals rfl
  at_v79 := by
    after_reads_simp
    try simp only [h.at_v54, h.at_v71]
    simp only [StableHlo.TRef.toBuf, StableHlo.TRef.ofBuf, cast_self, Val.v72, Val.cst_9, Val.v73, Val.v74, Val.v75, Val.cst_10, Val.v76, Val.call0_v0, Val.call0_cst, Val.call0_c, Val.call0_v1_0, Val.v77, Val.cst_11, Val.v78, Val.v79, Val.cst_12, Val.v80, Val.v81, Val.v82, Val.v83]
    all_goals rfl
  at_v83 := by
    after_reads_simp
    try simp only [h.at_v54, h.at_v71]
    simp only [StableHlo.TRef.toBuf, StableHlo.TRef.ofBuf, cast_self, Val.v72, Val.cst_9, Val.v73, Val.v74, Val.v75, Val.cst_10, Val.v76, Val.call0_v0, Val.call0_cst, Val.call0_c, Val.call0_v1_0, Val.v77, Val.cst_11, Val.v78, Val.v79, Val.cst_12, Val.v80, Val.v81, Val.v82, Val.v83]
    all_goals rfl

theorem step5 (V : Valuation τ sig (Elt F)) (A : Args F) (h : Live5 V A) : Live6 (StableHlo.after ops5 V) A where
  at_arg0 := by after_reads_simp; exact h.at_arg0
  at_arg1 := by after_reads_simp; exact h.at_arg1
  at_arg2 := by after_reads_simp; exact h.at_arg2
  at_arg3 := by after_reads_simp; exact h.at_arg3
  at_arg4 := by after_reads_simp; exact h.at_arg4
  at_v1 := by after_reads_simp; exact h.at_v1
  at_v3 := by after_reads_simp; exact h.at_v3
  at_v5 := by after_reads_simp; exact h.at_v5
  at_v7 := by after_reads_simp; exact h.at_v7
  at_v9 := by after_reads_simp; exact h.at_v9
  at_v11 := by after_reads_simp; exact h.at_v11
  at_v13 := by after_reads_simp; exact h.at_v13
  at_v15 := by after_reads_simp; exact h.at_v15
  at_v77 := by after_reads_simp; exact h.at_v77
  at_v79 := by after_reads_simp; exact h.at_v79
  at_v83 := by after_reads_simp; exact h.at_v83
  at_call1_v4 := by
    after_reads_simp
    try simp only [h.at_v77]
    simp only [StableHlo.TRef.toBuf, StableHlo.TRef.ofBuf, cast_self, Val.call1_c, Val.call1_v0, Val.call1_v1, Val.call1_c_0, Val.call1_v2, Val.call1_v3, Val.call1_v4]
    all_goals rfl

theorem step6 (V : Valuation τ sig (Elt F)) (A : Args F) (h : Live6 V A) : Live7 (StableHlo.after ops6 V) A where
  at_arg0 := by after_reads_simp; exact h.at_arg0
  at_arg1 := by after_reads_simp; exact h.at_arg1
  at_arg2 := by after_reads_simp; exact h.at_arg2
  at_arg3 := by after_reads_simp; exact h.at_arg3
  at_arg4 := by after_reads_simp; exact h.at_arg4
  at_v1 := by after_reads_simp; exact h.at_v1
  at_v3 := by after_reads_simp; exact h.at_v3
  at_v5 := by after_reads_simp; exact h.at_v5
  at_v7 := by after_reads_simp; exact h.at_v7
  at_v9 := by after_reads_simp; exact h.at_v9
  at_v11 := by after_reads_simp; exact h.at_v11
  at_v13 := by after_reads_simp; exact h.at_v13
  at_v15 := by after_reads_simp; exact h.at_v15
  at_v77 := by after_reads_simp; exact h.at_v77
  at_v79 := by after_reads_simp; exact h.at_v79
  at_v83 := by after_reads_simp; exact h.at_v83
  at_call1_v5 := by
    after_reads_simp
    try simp only [h.at_call1_v4]
    simp only [StableHlo.TRef.toBuf, StableHlo.TRef.ofBuf, cast_self, Val.call1_v5]
    all_goals rfl

theorem step7 (V : Valuation τ sig (Elt F)) (A : Args F) (h : Live7 V A) : Live8 (StableHlo.after ops7 V) A where
  at_arg0 := by after_reads_simp; exact h.at_arg0
  at_arg1 := by after_reads_simp; exact h.at_arg1
  at_arg2 := by after_reads_simp; exact h.at_arg2
  at_arg3 := by after_reads_simp; exact h.at_arg3
  at_arg4 := by after_reads_simp; exact h.at_arg4
  at_v1 := by after_reads_simp; exact h.at_v1
  at_v3 := by after_reads_simp; exact h.at_v3
  at_v5 := by after_reads_simp; exact h.at_v5
  at_v7 := by after_reads_simp; exact h.at_v7
  at_v11 := by after_reads_simp; exact h.at_v11
  at_v13 := by after_reads_simp; exact h.at_v13
  at_v15 := by after_reads_simp; exact h.at_v15
  at_v77 := by after_reads_simp; exact h.at_v77
  at_v79 := by after_reads_simp; exact h.at_v79
  at_v83 := by after_reads_simp; exact h.at_v83
  at_v84 := by
    after_reads_simp
    try simp only [h.at_v9, h.at_v77, h.at_call1_v5]
    simp only [StableHlo.TRef.toBuf, StableHlo.TRef.ofBuf, cast_self, Val.call1_c_1, Val.call1_c_2, Val.call1_v6, Val.call1_v7, Val.call1_v8, Val.call1_v9, Val.call1_v10, Val.call1_v11, Val.call1_c_3, Val.call1_v12, Val.call1_v13, Val.call1_cst, Val.call1_v14, Val.v84, Val.call2_c, Val.call2_v0, Val.call2_v1, Val.call2_c_0, Val.call2_v2, Val.call2_v3, Val.call2_v4]
    all_goals rfl
  at_call2_v4 := by
    after_reads_simp
    try simp only [h.at_v9, h.at_v77, h.at_call1_v5]
    simp only [StableHlo.TRef.toBuf, StableHlo.TRef.ofBuf, cast_self, Val.call1_c_1, Val.call1_c_2, Val.call1_v6, Val.call1_v7, Val.call1_v8, Val.call1_v9, Val.call1_v10, Val.call1_v11, Val.call1_c_3, Val.call1_v12, Val.call1_v13, Val.call1_cst, Val.call1_v14, Val.v84, Val.call2_c, Val.call2_v0, Val.call2_v1, Val.call2_c_0, Val.call2_v2, Val.call2_v3, Val.call2_v4]
    all_goals rfl

theorem step8 (V : Valuation τ sig (Elt F)) (A : Args F) (h : Live8 V A) : Live9 (StableHlo.after ops8 V) A where
  at_arg0 := by after_reads_simp; exact h.at_arg0
  at_arg1 := by after_reads_simp; exact h.at_arg1
  at_arg2 := by after_reads_simp; exact h.at_arg2
  at_arg3 := by after_reads_simp; exact h.at_arg3
  at_arg4 := by after_reads_simp; exact h.at_arg4
  at_v1 := by after_reads_simp; exact h.at_v1
  at_v3 := by after_reads_simp; exact h.at_v3
  at_v5 := by after_reads_simp; exact h.at_v5
  at_v7 := by after_reads_simp; exact h.at_v7
  at_v11 := by after_reads_simp; exact h.at_v11
  at_v13 := by after_reads_simp; exact h.at_v13
  at_v15 := by after_reads_simp; exact h.at_v15
  at_v77 := by after_reads_simp; exact h.at_v77
  at_v79 := by after_reads_simp; exact h.at_v79
  at_v83 := by after_reads_simp; exact h.at_v83
  at_v84 := by after_reads_simp; exact h.at_v84
  at_call2_v5 := by
    after_reads_simp
    try simp only [h.at_call2_v4]
    simp only [StableHlo.TRef.toBuf, StableHlo.TRef.ofBuf, cast_self, Val.call2_v5]
    all_goals rfl

theorem step9 (V : Valuation τ sig (Elt F)) (A : Args F) (h : Live9 V A) : Live10 (StableHlo.after ops9 V) A where
  at_arg0 := by after_reads_simp; exact h.at_arg0
  at_arg1 := by after_reads_simp; exact h.at_arg1
  at_arg2 := by after_reads_simp; exact h.at_arg2
  at_arg3 := by after_reads_simp; exact h.at_arg3
  at_arg4 := by after_reads_simp; exact h.at_arg4
  at_v1 := by after_reads_simp; exact h.at_v1
  at_v3 := by after_reads_simp; exact h.at_v3
  at_v5 := by after_reads_simp; exact h.at_v5
  at_v7 := by after_reads_simp; exact h.at_v7
  at_v13 := by after_reads_simp; exact h.at_v13
  at_v15 := by after_reads_simp; exact h.at_v15
  at_v77 := by after_reads_simp; exact h.at_v77
  at_v79 := by after_reads_simp; exact h.at_v79
  at_v83 := by after_reads_simp; exact h.at_v83
  at_v84 := by after_reads_simp; exact h.at_v84
  at_v85 := by
    after_reads_simp
    try simp only [h.at_v11, h.at_v77, h.at_call2_v5]
    simp only [StableHlo.TRef.toBuf, StableHlo.TRef.ofBuf, cast_self, Val.call2_c_1, Val.call2_c_2, Val.call2_v6, Val.call2_v7, Val.call2_v8, Val.call2_v9, Val.call2_v10, Val.call2_v11, Val.call2_c_3, Val.call2_v12, Val.call2_v13, Val.call2_cst, Val.call2_v14, Val.v85, Val.call3_c, Val.call3_v0, Val.call3_v1, Val.call3_c_0, Val.call3_v2, Val.call3_v3, Val.call3_v4]
    all_goals rfl
  at_call3_v4 := by
    after_reads_simp
    try simp only [h.at_v11, h.at_v77, h.at_call2_v5]
    simp only [StableHlo.TRef.toBuf, StableHlo.TRef.ofBuf, cast_self, Val.call2_c_1, Val.call2_c_2, Val.call2_v6, Val.call2_v7, Val.call2_v8, Val.call2_v9, Val.call2_v10, Val.call2_v11, Val.call2_c_3, Val.call2_v12, Val.call2_v13, Val.call2_cst, Val.call2_v14, Val.v85, Val.call3_c, Val.call3_v0, Val.call3_v1, Val.call3_c_0, Val.call3_v2, Val.call3_v3, Val.call3_v4]
    all_goals rfl

theorem step10 (V : Valuation τ sig (Elt F)) (A : Args F) (h : Live10 V A) : Live11 (StableHlo.after ops10 V) A where
  at_arg0 := by after_reads_simp; exact h.at_arg0
  at_arg1 := by after_reads_simp; exact h.at_arg1
  at_arg2 := by after_reads_simp; exact h.at_arg2
  at_arg3 := by after_reads_simp; exact h.at_arg3
  at_arg4 := by after_reads_simp; exact h.at_arg4
  at_v1 := by after_reads_simp; exact h.at_v1
  at_v3 := by after_reads_simp; exact h.at_v3
  at_v5 := by after_reads_simp; exact h.at_v5
  at_v7 := by after_reads_simp; exact h.at_v7
  at_v13 := by after_reads_simp; exact h.at_v13
  at_v15 := by after_reads_simp; exact h.at_v15
  at_v77 := by after_reads_simp; exact h.at_v77
  at_v79 := by after_reads_simp; exact h.at_v79
  at_v83 := by after_reads_simp; exact h.at_v83
  at_v84 := by after_reads_simp; exact h.at_v84
  at_v85 := by after_reads_simp; exact h.at_v85
  at_call3_v5 := by
    after_reads_simp
    try simp only [h.at_call3_v4]
    simp only [StableHlo.TRef.toBuf, StableHlo.TRef.ofBuf, cast_self, Val.call3_v5]
    all_goals rfl

theorem step11 (V : Valuation τ sig (Elt F)) (A : Args F) (h : Live11 V A) : Live12 (StableHlo.after ops11 V) A where
  at_arg0 := by after_reads_simp; exact h.at_arg0
  at_arg1 := by after_reads_simp; exact h.at_arg1
  at_arg2 := by after_reads_simp; exact h.at_arg2
  at_arg3 := by after_reads_simp; exact h.at_arg3
  at_arg4 := by after_reads_simp; exact h.at_arg4
  at_v1 := by after_reads_simp; exact h.at_v1
  at_v3 := by after_reads_simp; exact h.at_v3
  at_v5 := by after_reads_simp; exact h.at_v5
  at_v7 := by after_reads_simp; exact h.at_v7
  at_v15 := by after_reads_simp; exact h.at_v15
  at_v77 := by after_reads_simp; exact h.at_v77
  at_v79 := by after_reads_simp; exact h.at_v79
  at_v83 := by after_reads_simp; exact h.at_v83
  at_v84 := by after_reads_simp; exact h.at_v84
  at_v85 := by after_reads_simp; exact h.at_v85
  at_v86 := by
    after_reads_simp
    try simp only [h.at_v13, h.at_v77, h.at_call3_v5]
    simp only [StableHlo.TRef.toBuf, StableHlo.TRef.ofBuf, cast_self, Val.call3_c_1, Val.call3_c_2, Val.call3_v6, Val.call3_v7, Val.call3_v8, Val.call3_v9, Val.call3_v10, Val.call3_v11, Val.call3_c_3, Val.call3_v12, Val.call3_v13, Val.call3_cst, Val.call3_v14, Val.v86, Val.call4_c, Val.call4_v0, Val.call4_v1, Val.call4_c_0, Val.call4_v2, Val.call4_v3, Val.call4_v4]
    all_goals rfl
  at_call4_v4 := by
    after_reads_simp
    try simp only [h.at_v13, h.at_v77, h.at_call3_v5]
    simp only [StableHlo.TRef.toBuf, StableHlo.TRef.ofBuf, cast_self, Val.call3_c_1, Val.call3_c_2, Val.call3_v6, Val.call3_v7, Val.call3_v8, Val.call3_v9, Val.call3_v10, Val.call3_v11, Val.call3_c_3, Val.call3_v12, Val.call3_v13, Val.call3_cst, Val.call3_v14, Val.v86, Val.call4_c, Val.call4_v0, Val.call4_v1, Val.call4_c_0, Val.call4_v2, Val.call4_v3, Val.call4_v4]
    all_goals rfl

theorem step12 (V : Valuation τ sig (Elt F)) (A : Args F) (h : Live12 V A) : Live13 (StableHlo.after ops12 V) A where
  at_arg0 := by after_reads_simp; exact h.at_arg0
  at_arg1 := by after_reads_simp; exact h.at_arg1
  at_arg2 := by after_reads_simp; exact h.at_arg2
  at_arg3 := by after_reads_simp; exact h.at_arg3
  at_arg4 := by after_reads_simp; exact h.at_arg4
  at_v1 := by after_reads_simp; exact h.at_v1
  at_v3 := by after_reads_simp; exact h.at_v3
  at_v5 := by after_reads_simp; exact h.at_v5
  at_v7 := by after_reads_simp; exact h.at_v7
  at_v15 := by after_reads_simp; exact h.at_v15
  at_v77 := by after_reads_simp; exact h.at_v77
  at_v79 := by after_reads_simp; exact h.at_v79
  at_v83 := by after_reads_simp; exact h.at_v83
  at_v84 := by after_reads_simp; exact h.at_v84
  at_v85 := by after_reads_simp; exact h.at_v85
  at_v86 := by after_reads_simp; exact h.at_v86
  at_call4_v5 := by
    after_reads_simp
    try simp only [h.at_call4_v4]
    simp only [StableHlo.TRef.toBuf, StableHlo.TRef.ofBuf, cast_self, Val.call4_v5]
    all_goals rfl

theorem step13 (V : Valuation τ sig (Elt F)) (A : Args F) (h : Live13 V A) : Live14 (StableHlo.after ops13 V) A where
  at_arg0 := by after_reads_simp; exact h.at_arg0
  at_arg1 := by after_reads_simp; exact h.at_arg1
  at_arg2 := by after_reads_simp; exact h.at_arg2
  at_arg3 := by after_reads_simp; exact h.at_arg3
  at_arg4 := by after_reads_simp; exact h.at_arg4
  at_v1 := by after_reads_simp; exact h.at_v1
  at_v3 := by after_reads_simp; exact h.at_v3
  at_v5 := by after_reads_simp; exact h.at_v5
  at_v7 := by after_reads_simp; exact h.at_v7
  at_v79 := by after_reads_simp; exact h.at_v79
  at_v83 := by after_reads_simp; exact h.at_v83
  at_v84 := by after_reads_simp; exact h.at_v84
  at_v85 := by after_reads_simp; exact h.at_v85
  at_v86 := by after_reads_simp; exact h.at_v86
  at_v87 := by
    after_reads_simp
    try simp only [h.at_v15, h.at_v77, h.at_call4_v5]
    simp only [StableHlo.TRef.toBuf, StableHlo.TRef.ofBuf, cast_self, Val.call4_c_1, Val.call4_c_2, Val.call4_v6, Val.call4_v7, Val.call4_v8, Val.call4_v9, Val.call4_v10, Val.call4_v11, Val.call4_c_3, Val.call4_v12, Val.call4_v13, Val.call4_cst, Val.call4_v14, Val.v87, Val.call5_c, Val.call5_v0, Val.call5_v1, Val.call5_c_0, Val.call5_v2, Val.call5_v3, Val.call5_v4]
    all_goals rfl
  at_call5_v4 := by
    after_reads_simp
    try simp only [h.at_v15, h.at_v77, h.at_call4_v5]
    simp only [StableHlo.TRef.toBuf, StableHlo.TRef.ofBuf, cast_self, Val.call4_c_1, Val.call4_c_2, Val.call4_v6, Val.call4_v7, Val.call4_v8, Val.call4_v9, Val.call4_v10, Val.call4_v11, Val.call4_c_3, Val.call4_v12, Val.call4_v13, Val.call4_cst, Val.call4_v14, Val.v87, Val.call5_c, Val.call5_v0, Val.call5_v1, Val.call5_c_0, Val.call5_v2, Val.call5_v3, Val.call5_v4]
    all_goals rfl

theorem step14 (V : Valuation τ sig (Elt F)) (A : Args F) (h : Live14 V A) : Live15 (StableHlo.after ops14 V) A where
  at_arg0 := by after_reads_simp; exact h.at_arg0
  at_arg1 := by after_reads_simp; exact h.at_arg1
  at_arg2 := by after_reads_simp; exact h.at_arg2
  at_arg3 := by after_reads_simp; exact h.at_arg3
  at_arg4 := by after_reads_simp; exact h.at_arg4
  at_v1 := by after_reads_simp; exact h.at_v1
  at_v3 := by after_reads_simp; exact h.at_v3
  at_v5 := by after_reads_simp; exact h.at_v5
  at_v7 := by after_reads_simp; exact h.at_v7
  at_v79 := by after_reads_simp; exact h.at_v79
  at_v83 := by after_reads_simp; exact h.at_v83
  at_v84 := by after_reads_simp; exact h.at_v84
  at_v85 := by after_reads_simp; exact h.at_v85
  at_v86 := by after_reads_simp; exact h.at_v86
  at_v87 := by after_reads_simp; exact h.at_v87
  at_call5_v5 := by
    after_reads_simp
    try simp only [h.at_call5_v4]
    simp only [StableHlo.TRef.toBuf, StableHlo.TRef.ofBuf, cast_self, Val.call5_v5]
    all_goals rfl

theorem step15 (V : Valuation τ sig (Elt F)) (A : Args F) (h : Live15 V A) : Live16 (StableHlo.after ops15 V) A where
  at_arg0 := by after_reads_simp; exact h.at_arg0
  at_arg1 := by after_reads_simp; exact h.at_arg1
  at_arg2 := by after_reads_simp; exact h.at_arg2
  at_arg3 := by after_reads_simp; exact h.at_arg3
  at_arg4 := by after_reads_simp; exact h.at_arg4
  at_v1 := by after_reads_simp; exact h.at_v1
  at_v3 := by after_reads_simp; exact h.at_v3
  at_v5 := by after_reads_simp; exact h.at_v5
  at_v7 := by after_reads_simp; exact h.at_v7
  at_v79 := by after_reads_simp; exact h.at_v79
  at_v83 := by after_reads_simp; exact h.at_v83
  at_v84 := by after_reads_simp; exact h.at_v84
  at_v85 := by after_reads_simp; exact h.at_v85
  at_v86 := by after_reads_simp; exact h.at_v86
  at_v87 := by after_reads_simp; exact h.at_v87
  at_v88 := by
    after_reads_simp
    try simp only [h.at_arg4, h.at_call5_v5]
    simp only [StableHlo.TRef.toBuf, StableHlo.TRef.ofBuf, cast_self, Val.call5_c_1, Val.call5_c_2, Val.call5_v6, Val.call5_v7, Val.call5_v8, Val.call5_v9, Val.call5_v10, Val.call5_v11, Val.call5_c_3, Val.call5_v12, Val.call5_v13, Val.call5_c_4, Val.call5_v14, Val.v88]
    all_goals rfl

theorem step16 (V : Valuation τ sig (Elt F)) (A : Args F) (h : Live16 V A) : Live17 (StableHlo.after ops16 V) A where
  at_arg0 := by after_reads_simp; exact h.at_arg0
  at_arg1 := by after_reads_simp; exact h.at_arg1
  at_arg2 := by after_reads_simp; exact h.at_arg2
  at_arg3 := by after_reads_simp; exact h.at_arg3
  at_arg4 := by after_reads_simp; exact h.at_arg4
  at_v3 := by after_reads_simp; exact h.at_v3
  at_v5 := by after_reads_simp; exact h.at_v5
  at_v7 := by after_reads_simp; exact h.at_v7
  at_v79 := by after_reads_simp; exact h.at_v79
  at_v83 := by after_reads_simp; exact h.at_v83
  at_v88 := by after_reads_simp; exact h.at_v88
  at_v91 := by
    after_reads_simp
    try simp only [h.at_v1, h.at_v84, h.at_v85, h.at_v86, h.at_v87]
    rfl
  at_v94 := by
    after_reads_simp
    try simp only [h.at_v1, h.at_v84, h.at_v85, h.at_v86, h.at_v87]
    rfl
  at_v97 := by
    after_reads_simp
    try simp only [h.at_v1, h.at_v84, h.at_v85, h.at_v86, h.at_v87]
    rfl
  at_v100 := by
    after_reads_simp
    try simp only [h.at_v1, h.at_v84, h.at_v85, h.at_v86, h.at_v87]
    rfl
  at_v101 := by
    after_reads_simp
    try simp only [h.at_v1, h.at_v84, h.at_v85, h.at_v86, h.at_v87]
    rfl

theorem step17 (V : Valuation τ sig (Elt F)) (A : Args F) (h : Live17 V A) : Live18 (StableHlo.after ops17 V) A where
  at_arg0 := by after_reads_simp; exact h.at_arg0
  at_arg1 := by after_reads_simp; exact h.at_arg1
  at_arg2 := by after_reads_simp; exact h.at_arg2
  at_arg3 := by after_reads_simp; exact h.at_arg3
  at_arg4 := by after_reads_simp; exact h.at_arg4
  at_v7 := by after_reads_simp; exact h.at_v7
  at_v79 := by after_reads_simp; exact h.at_v79
  at_v83 := by after_reads_simp; exact h.at_v83
  at_v88 := by after_reads_simp; exact h.at_v88
  at_v100 := by after_reads_simp; exact h.at_v100
  at_v108 := by
    after_reads_simp
    try simp only [h.at_v3, h.at_v5, h.at_v7, h.at_v91, h.at_v94, h.at_v97, h.at_v101]
    rfl
  at_v116 := by
    after_reads_simp
    try simp only [h.at_v3, h.at_v5, h.at_v7, h.at_v91, h.at_v94, h.at_v97, h.at_v101]
    rfl
  at_v120 := by
    after_reads_simp
    try simp only [h.at_v3, h.at_v5, h.at_v7, h.at_v91, h.at_v94, h.at_v97, h.at_v101]
    rfl
  at_cst_19 := by
    after_reads_simp
    try simp only [h.at_v3, h.at_v5, h.at_v7, h.at_v91, h.at_v94, h.at_v97, h.at_v101]
    rfl

theorem step18 (V : Valuation τ sig (Elt F)) (A : Args F) (h : Live18 V A) : Live19 (StableHlo.after ops18 V) A where
  at_arg0 := by after_reads_simp; exact h.at_arg0
  at_arg1 := by after_reads_simp; exact h.at_arg1
  at_arg2 := by after_reads_simp; exact h.at_arg2
  at_arg3 := by after_reads_simp; exact h.at_arg3
  at_arg4 := by after_reads_simp; exact h.at_arg4
  at_v79 := by after_reads_simp; exact h.at_v79
  at_v83 := by after_reads_simp; exact h.at_v83
  at_v88 := by after_reads_simp; exact h.at_v88
  at_v129 := by
    after_reads_simp
    try simp only [h.at_v7, h.at_v100, h.at_v108, h.at_v116, h.at_v120, h.at_cst_19]
    rfl
  at_v130 := by
    after_reads_simp
    try simp only [h.at_v7, h.at_v100, h.at_v108, h.at_v116, h.at_v120, h.at_cst_19]
    rfl
  at_v131 := by
    after_reads_simp
    try simp only [h.at_v7, h.at_v100, h.at_v108, h.at_v116, h.at_v120, h.at_cst_19]
    rfl
  at_v132 := by
    after_reads_simp
    try simp only [h.at_v7, h.at_v100, h.at_v108, h.at_v116, h.at_v120, h.at_cst_19]
    rfl

theorem step19 (V : Valuation τ sig (Elt F)) (A : Args F) (h : Live19 V A) : Live20 (StableHlo.after ops19 V) A where
  at_arg0 := by after_reads_simp; exact h.at_arg0
  at_arg1 := by after_reads_simp; exact h.at_arg1
  at_arg2 := by after_reads_simp; exact h.at_arg2
  at_arg3 := by after_reads_simp; exact h.at_arg3
  at_arg4 := by after_reads_simp; exact h.at_arg4
  at_v79 := by after_reads_simp; exact h.at_v79
  at_v83 := by after_reads_simp; exact h.at_v83
  at_v88 := by after_reads_simp; exact h.at_v88
  at_v133 := by
    rw [StableHlo.after_cons, StableHlo.after_nil, StableHlo.nary_result']
    show concatenate S16x25000x4 2 [⟨S16x25000x1, V (Proc.devRef .tc main_v129)⟩, ⟨S16x25000x1, V (Proc.devRef .tc main_v130)⟩, ⟨S16x25000x1, V (Proc.devRef .tc main_v131)⟩, ⟨S16x25000x1, V (Proc.devRef .tc main_v132)⟩] _ = _
    rw [h.at_v129, h.at_v130, h.at_v131, h.at_v132]
    rfl

theorem step20 (V : Valuation τ sig (Elt F)) (A : Args F) (h : Live20 V A) : Live21 (StableHlo.after ops20 V) A where
  at_arg0 := by after_reads_simp; exact h.at_arg0
  at_arg1 := by after_reads_simp; exact h.at_arg1
  at_arg2 := by after_reads_simp; exact h.at_arg2
  at_arg3 := by after_reads_simp; exact h.at_arg3
  at_arg4 := by after_reads_simp; exact h.at_arg4
  at_v79 := by after_reads_simp; exact h.at_v79
  at_v135 := by
    after_reads_simp
    try simp only [h.at_v79, h.at_v83, h.at_v88, h.at_v133]
    simp only [StableHlo.TRef.toBuf, StableHlo.TRef.ofBuf, cast_self, Val.c, Val.c_21, Val.call6_v0, Val.call6_v1, Val.v134, Val.call7_v0, Val.v135, Val.v136, Val.cst_22, Val.call8_v0, Val.call8_v1, Val.call8_v2, Val.v137, Val.c_23, Val.v138, Val.v139]
    all_goals rfl
  at_v137 := by
    after_reads_simp
    try simp only [h.at_v79, h.at_v83, h.at_v88, h.at_v133]
    simp only [StableHlo.TRef.toBuf, StableHlo.TRef.ofBuf, cast_self, Val.c, Val.c_21, Val.call6_v0, Val.call6_v1, Val.v134, Val.call7_v0, Val.v135, Val.v136, Val.cst_22, Val.call8_v0, Val.call8_v1, Val.call8_v2, Val.v137, Val.c_23, Val.v138, Val.v139]
    all_goals rfl
  at_v139 := by
    after_reads_simp
    try simp only [h.at_v79, h.at_v83, h.at_v88, h.at_v133]
    simp only [StableHlo.TRef.toBuf, StableHlo.TRef.ofBuf, cast_self, Val.c, Val.c_21, Val.call6_v0, Val.call6_v1, Val.v134, Val.call7_v0, Val.v135, Val.v136, Val.cst_22, Val.call8_v0, Val.call8_v1, Val.call8_v2, Val.v137, Val.c_23, Val.v138, Val.v139]
    all_goals rfl

theorem step21 (V : Valuation τ sig (Elt F)) (A : Args F) (h : Live21 V A) : Live22 (StableHlo.after ops21 V) A where
  at_arg0 := by after_reads_simp; exact h.at_arg0
  at_arg1 := by after_reads_simp; exact h.at_arg1
  at_arg2 := by after_reads_simp; exact h.at_arg2
  at_arg3 := by after_reads_simp; exact h.at_arg3
  at_arg4 := by after_reads_simp; exact h.at_arg4
  at_v79 := by after_reads_simp; exact h.at_v79
  at_v137 := by after_reads_simp; exact h.at_v137
  at_v139 := by after_reads_simp; exact h.at_v139
  at_v140 := by
    after_reads_simp
    try simp only [h.at_arg0, h.at_v135]
    simp only [StableHlo.TRef.toBuf, StableHlo.TRef.ofBuf, cast_self, Val.call9_cst, Val.call9_v0, Val.call9_cst_0, Val.call9_v1, Val.call9_v2, Val.call9_v3, Val.call9_v4, Val.call9_v5, Val.call9_v6, Val.call9_cst_1, Val.call9_v7, Val.call9_v8, Val.call9_v9, Val.call9_v10, Val.v140, Val.c_24, Val.v141, Val.v142, Val.v143]
    all_goals rfl
  at_v143 := by
    after_reads_simp
    try simp only [h.at_arg0, h.at_v135]
    simp only [StableHlo.TRef.toBuf, StableHlo.TRef.ofBuf, cast_self, Val.call9_cst, Val.call9_v0, Val.call9_cst_0, Val.call9_v1, Val.call9_v2, Val.call9_v3, Val.call9_v4, Val.call9_v5, Val.call9_v6, Val.call9_cst_1, Val.call9_v7, Val.call9_v8, Val.call9_v9, Val.call9_v10, Val.v140, Val.c_24, Val.v141, Val.v142, Val.v143]
    all_goals rfl

theorem step22 (V : Valuation τ sig (Elt F)) (A : Args F) (h : Live22 V A) : Live23 (StableHlo.after ops22 V) A where
  at_arg0 := by after_reads_simp; exact h.at_arg0
  at_arg1 := by after_reads_simp; exact h.at_arg1
  at_arg2 := by after_reads_simp; exact h.at_arg2
  at_arg3 := by after_reads_simp; exact h.at_arg3
  at_arg4 := by after_reads_simp; exact h.at_arg4
  at_v79 := by after_reads_simp; exact h.at_v79
  at_v137 := by after_reads_simp; exact h.at_v137
  at_v139 := by after_reads_simp; exact h.at_v139
  at_v140 := by after_reads_simp; exact h.at_v140
  at_call10_v4 := by
    after_reads_simp
    try simp only [h.at_v143]
    simp only [StableHlo.TRef.toBuf, StableHlo.TRef.ofBuf, cast_self, Val.call10_c, Val.call10_v0, Val.call10_v1, Val.call10_c_0, Val.call10_v2, Val.call10_v3, Val.call10_v4]
    all_goals rfl

theorem step23 (V : Valuation τ sig (Elt F)) (A : Args F) (h : Live23 V A) : Live24 (StableHlo.after ops23 V) A where
  at_arg0 := by after_reads_simp; exact h.at_arg0
  at_arg1 := by after_reads_simp; exact h.at_arg1
  at_arg2 := by after_reads_simp; exact h.at_arg2
  at_arg3 := by after_reads_simp; exact h.at_arg3
  at_arg4 := by after_reads_simp; exact h.at_arg4
  at_v79 := by after_reads_simp; exact h.at_v79
  at_v137 := by after_reads_simp; exact h.at_v137
  at_v139 := by after_reads_simp; exact h.at_v139
  at_v140 := by after_reads_simp; exact h.at_v140
  at_call10_v5 := by
    after_reads_simp
    try simp only [h.at_call10_v4]
    simp only [StableHlo.TRef.toBuf, StableHlo.TRef.ofBuf, cast_self, Val.call10_v5]
    all_goals rfl

theorem step24 (V : Valuation τ sig (Elt F)) (A : Args F) (h : Live24 V A) : Live25 (StableHlo.after ops24 V) A where
  at_arg0 := by after_reads_simp; exact h.at_arg0
  at_arg1 := by after_reads_simp; exact h.at_arg1
  at_arg2 := by after_reads_simp; exact h.at_arg2
  at_arg3 := by after_reads_simp; exact h.at_arg3
  at_arg4 := by after_reads_simp; exact h.at_arg4
  at_v79 := by after_reads_simp; exact h.at_v79
  at_v137 := by after_reads_simp; exact h.at_v137
  at_v139 := by after_reads_simp; exact h.at_v139
  at_v146 := by
    after_reads_simp
    try simp only [h.at_v139, h.at_v140, h.at_call10_v5]
    simp only [StableHlo.TRef.toBuf, StableHlo.TRef.ofBuf, cast_self, Val.call10_c_1, Val.call10_c_2, Val.call10_v6, Val.call10_v7, Val.call10_v8, Val.call10_v9, Val.call10_v10, Val.call10_v11, Val.call10_c_3, Val.call10_v12, Val.call10_v13, Val.call10_cst, Val.call10_v14, Val.v144, Val.v145, Val.v146, Val.v147, Val.c_25, Val.v148, Val.v149, Val.cst_26, Val.v150]
    all_goals rfl
  at_v149 := by
    after_reads_simp
    try simp only [h.at_v139, h.at_v140, h.at_call10_v5]
    simp only [StableHlo.TRef.toBuf, StableHlo.TRef.ofBuf, cast_self, Val.call10_c_1, Val.call10_c_2, Val.call10_v6, Val.call10_v7, Val.call10_v8, Val.call10_v9, Val.call10_v10, Val.call10_v11, Val.call10_c_3, Val.call10_v12, Val.call10_v13, Val.call10_cst, Val.call10_v14, Val.v144, Val.v145, Val.v146, Val.v147, Val.c_25, Val.v148, Val.v149, Val.cst_26, Val.v150]
    all_goals rfl
  at_v150 := by
    after_reads_simp
    try simp only [h.at_v139, h.at_v140, h.at_call10_v5]
    simp only [StableHlo.TRef.toBuf, StableHlo.TRef.ofBuf, cast_self, Val.call10_c_1, Val.call10_c_2, Val.call10_v6, Val.call10_v7, Val.call10_v8, Val.call10_v9, Val.call10_v10, Val.call10_v11, Val.call10_c_3, Val.call10_v12, Val.call10_v13, Val.call10_cst, Val.call10_v14, Val.v144, Val.v145, Val.v146, Val.v147, Val.c_25, Val.v148, Val.v149, Val.cst_26, Val.v150]
    all_goals rfl

theorem step25 (V : Valuation τ sig (Elt F)) (A : Args F) (h : Live25 V A) : Live26 (StableHlo.after ops25 V) A where
  at_arg0 := by after_reads_simp; exact h.at_arg0
  at_arg1 := by after_reads_simp; exact h.at_arg1
  at_arg2 := by after_reads_simp; exact h.at_arg2
  at_arg3 := by after_reads_simp; exact h.at_arg3
  at_arg4 := by after_reads_simp; exact h.at_arg4
  at_v79 := by after_reads_simp; exact h.at_v79
  at_v137 := by after_reads_simp; exact h.at_v137
  at_v158 := by
    after_reads_simp
    try simp only [h.at_v139, h.at_v146, h.at_v149, h.at_v150]
    simp only [StableHlo.TRef.toBuf, StableHlo.TRef.ofBuf, cast_self, Val.v151, Val.v152, Val.v153, Val.cst_27, Val.v154, Val.cst_28, Val.v155, Val.v156, Val.v157, Val.cst_29, Val.call11_v0, Val.call11_v1, Val.v158]
    all_goals rfl

theorem step26 (V : Valuation τ sig (Elt F)) (A : Args F) (h : Live26 V A) : Live27 (StableHlo.after ops26 V) A where
  at_arg0 := by after_reads_simp; exact h.at_arg0
  at_arg1 := by after_reads_simp; exact h.at_arg1
  at_arg2 := by after_reads_simp; exact h.at_arg2
  at_arg3 := by after_reads_simp; exact h.at_arg3
  at_arg4 := by after_reads_simp; exact h.at_arg4
  at_v79 := by after_reads_simp; exact h.at_v79
  at_v158 := by after_reads_simp; exact h.at_v158
  at_v168 := by
    after_reads_simp
    try simp only [h.at_arg1, h.at_v137]
    simp only [StableHlo.TRef.toBuf, StableHlo.TRef.ofBuf, cast_self, Val.v159, Val.v160, Val.cst_30, Val.v161, Val.v162, Val.cst_31, Val.v163, Val.v164, Val.v165, Val.cst_32, Val.v166, Val.v167, Val.v168]
    all_goals rfl

theorem step27 (V : Valuation τ sig (Elt F)) (A : Args F) (h : Live27 V A) : Live28 (StableHlo.after ops27 V) A where
  at_arg0 := by after_reads_simp; exact h.at_arg0
  at_arg1 := by after_reads_simp; exact h.at_arg1
  at_arg2 := by after_reads_simp; exact h.at_arg2
  at_arg3 := by after_reads_simp; exact h.at_arg3
  at_arg4 := by after_reads_simp; exact h.at_arg4
  at_v158 := by after_reads_simp; exact h.at_v158
  at_v184 := by
    after_reads_simp
    try simp only [h.at_v79, h.at_v168]
    simp only [StableHlo.TRef.toBuf, StableHlo.TRef.ofBuf, cast_self, Val.v169, Val.v170, Val.v171, Val.v172, Val.v173, Val.c_33, Val.v174, Val.v175, Val.cst_34, Val.v176, Val.v177, Val.cst_35, Val.v178, Val.cst_36, Val.v179, Val.v180, Val.cst_37, Val.v181, Val.v182, Val.v183, Val.cst_38, Val.call13_v0, Val.call13_v1, Val.v184]
    all_goals rfl

theorem step28 (V : Valuation τ sig (Elt F)) (A : Args F) (h : Live28 V A) : Live29 (StableHlo.after ops28 V) A where
  at_arg0 := by after_reads_simp; exact h.at_arg0
  at_arg1 := by after_reads_simp; exact h.at_arg1
  at_arg2 := by after_reads_simp; exact h.at_arg2
  at_arg3 := by after_reads_simp; exact h.at_arg3
  at_arg4 := by after_reads_simp; exact h.at_arg4
  at_v188 := by
    after_reads_simp
    try simp only [h.at_v158, h.at_v184]
    rfl

/-- The whole line. -/
theorem live_end (V : Valuation τ sig (Elt F)) (A : Args F) (h : Live0 V A) : Live29 (StableHlo.after ops V) A := by
  simp only [ops, part0, part1, part2, part3, StableHlo.after_append]
  exact step28 _ A (step27 _ A (step26 _ A (step25 _ A (step24 _ A (step23 _ A (step22 _ A (step21 _ A (step20 _ A (step19 _ A (step18 _ A (step17 _ A (step16 _ A (step15 _ A (step14 _ A (step13 _ A (step12 _ A (step11 _ A (step10 _ A (step9 _ A (step8 _ A (step7 _ A (step6 _ A (step5 _ A (step4 _ A (step3 _ A (step2 _ A (step1 _ A (step0 _ A h))))))))))))))))))))))))))))

/-- The arguments as the launch finds them on device `d`. -/
def args (m : (ℓ : Loc nD τ sig) → Buf (Elt F) ℓ) (d : Dev nD) : Args F :=
  ⟨m ((d.tc : Thread nD τ).loc main_arg0), m ((d.tc : Thread nD τ).loc main_arg1), m ((d.tc : Thread nD τ).loc main_arg2),
    m ((d.tc : Thread nD τ).loc main_arg3), m ((d.tc : Thread nD τ).loc main_arg4)⟩

/-- Every execution ends with the result at `Val.v188` of the arguments and the arguments unchanged. -/
theorem run_value (m : (ℓ : Loc nD τ sig) → Buf (Elt F) ℓ) (ρ : Dev nD → PrngReg) :
    θ_run defs (onTc (τ := τ) (main (F := F))) ⟨m, fun _ => 0, ρ⟩ fun r => ∀ d : Dev nD,
      r.2.mem ((d.tc : Thread nD τ).loc main_v188) = Val.v188 (args m d)
      ∧ r.2.mem ((d.tc : Thread nD τ).loc main_arg0) = m ((d.tc : Thread nD τ).loc main_arg0)
      ∧ r.2.mem ((d.tc : Thread nD τ).loc main_arg1) = m ((d.tc : Thread nD τ).loc main_arg1)
      ∧ r.2.mem ((d.tc : Thread nD τ).loc main_arg2) = m ((d.tc : Thread nD τ).loc main_arg2)
      ∧ r.2.mem ((d.tc : Thread nD τ).loc main_arg3) = m ((d.tc : Thread nD τ).loc main_arg3)
      ∧ r.2.mem ((d.tc : Thread nD τ).loc main_arg4) = m ((d.tc : Thread nD τ).loc main_arg4) :=
  (θ_run defs _ _).mono (fun r h d => by
    have L := live_end (StableHlo.launchContents m d) (args m d) ⟨rfl, rfl, rfl, rfl, rfl⟩
    exact ⟨(h d _).trans L.at_v188, (h d _).trans L.at_arg0, (h d _).trans L.at_arg1, (h d _).trans L.at_arg2,
      (h d _).trans L.at_arg3, (h d _).trans L.at_arg4⟩) (run m ρ)

end Cert.ReferenceIdeal.Hand

end
-- ==== Proof.Frames.lean ====
/-
The frames of the idealized kernel and of the reference: both run, leave their arguments as they were, and end quiet.
-/
module

public import proofs.«01_k».proof.Proof.KernelFrame
public import proofs.«01_k».proof.Proof.RefSteps
public import proofs.«01_k».proof.Defs
public import Idealize.ShloMosaic.Lib.Quiescent

@[expose] public section

set_option maxRecDepth 16384

noncomputable section

namespace Cert.Frames

open Idealize.ShloMosaic Idealize.ShloMosaic.TcCoe Idealize.SL.Sem

/-- The idealized kernel's frame. -/
theorem kernel : @Cert.quiescent_KernelIdeal Cert.KernelIdeal.Gen.facts :=
  fun m g _ => Cert.KernelIdeal.Hand.quiet (F := Ideal) m g

/-- The reference has no semaphore, so its counters are zero at every state. -/
theorem reference : @Cert.quiescent_ReferenceIdeal Cert.ReferenceIdeal.Gen.facts :=
  fun m g _ => (θ_run _ _ _).mono (fun r h => ⟨fun c => (h c).2, sem_eq_zero_of_no_sems (by decide) _⟩)
    (Cert.ReferenceIdeal.Hand.run_value (F := Ideal) m g)

end Cert.Frames

end
-- ==== Proof.Visit.lean ====
/-
  One box visited by one anchor, over the extended reals: the overlap of the two, and the registers that remember the
  best box so far.
-/
module

public import Idealize.ShloMosaic.PureOps.Ideal.Laws
public import Idealize.ShloMosaic.Lib.Pointwise.Elementwise

@[expose] public section

noncomputable section

namespace Cert.Spec

open Idealize.ShloMosaic

/-- The number a 32-bit float pattern denotes. -/
abbrev lit (b : BitVec 32) : EReal := Ideal.ofBits .f32 b

/-- An anchor's corners and its area. -/
structure Lane where
  x1 : EReal
  y1 : EReal
  x2 : EReal
  y2 : EReal
  area : EReal

/-- The best box so far: its overlap, its corners and its label as a float. -/
structure Best where
  iou : EReal
  x1 : EReal
  y1 : EReal
  x2 : EReal
  y2 : EReal
  lb : EReal

/-- The area shared by an anchor and a box. -/
def interOf (a : Lane) (g0 g1 g2 g3 : EReal) : EReal :=
  max (min a.x2 g2 - max a.x1 g0) (lit 0x00000000#32) * max (min a.y2 g3 - max a.y1 g1) (lit 0x00000000#32)

/-- The area of a box. -/
def boxArea (g0 g1 g2 g3 : EReal) : EReal :=
  max (g2 - g0) (lit 0x00000000#32) * max (g3 - g1) (lit 0x00000000#32)

/-- The overlap of an anchor and a box: shared area over the area of their union. -/
def iouOf (a : Lane) (g0 g1 g2 g3 : EReal) : EReal :=
  Ideal.div (interOf a g0 g1 g2 g3) (a.area + boxArea g0 g1 g2 g3 - interOf a g0 g1 g2 g3 + lit 0x3089705F#32)

/-- One box visited: the registers move to it exactly when its overlap is larger. -/
def visit (a : Lane) (g0 g1 g2 g3 lb : EReal) (s : Best) : Best :=
  let u := Ideal.cmp .ogt (iouOf a g0 g1 g2 g3) s.iou
  ⟨Scalar.select u (iouOf a g0 g1 g2 g3) s.iou, Scalar.select u g0 s.x1, Scalar.select u g1 s.y1, Scalar.select u g2 s.x2,
    Scalar.select u g3 s.y2, Scalar.select u lb s.lb⟩

/-- The registers before the first box. -/
def start : Best := ⟨lit 0xBF800000#32, lit 0x00000000#32, lit 0x00000000#32, lit 0x00000000#32, lit 0x00000000#32, lit 0x00000000#32⟩

/-- The registers after the first `k` boxes `g` with labels `lb`. -/
def scan (a : Lane) (g : Fin 32 → Fin 4 → EReal) (lb : Fin 32 → EReal) : ℕ → Best
  | 0 => start
  | k + 1 => visit a (g (Fin.ofNat 32 k) 0) (g (Fin.ofNat 32 k) 1) (g (Fin.ofNat 32 k) 2) (g (Fin.ofNat 32 k) 3) (lb (Fin.ofNat 32 k)) (scan a g lb k)

/-! ### What is made of the best box -/

/-- The anchor with centre `(ax, ay)` and size `(aw, ah)`. -/
def laneOf (ax ay aw ah : EReal) : Lane :=
  ⟨ax - aw * lit 0x3F000000#32, ay - ah * lit 0x3F000000#32, ax + aw * lit 0x3F000000#32, ay + ah * lit 0x3F000000#32,
    max (ax + aw * lit 0x3F000000#32 - (ax - aw * lit 0x3F000000#32)) (lit 0x00000000#32)
      * max (ay + ah * lit 0x3F000000#32 - (ay - ah * lit 0x3F000000#32)) (lit 0x00000000#32)⟩

/-- The anchor is positive: overlap at least a half. -/
def posB (q : EReal) : BitVec 1 := Ideal.cmp .oge q (lit 0x3F000000#32)

/-- The anchor is left out: overlap above 0.4 but not positive. -/
def ignB (q : EReal) : BitVec 1 := Ideal.cmp .ogt q (lit 0x3ECCCCCD#32) &&& (posB q ^^^ 1#1)

/-- The anchor's class. -/
def clsW (q lb : EReal) : BitVec 32 :=
  Scalar.select (posB q) (Ideal.fptosi 32 lb) (Scalar.select (ignB q) 4294967295#32 0#32)

/-- The smooth absolute value of a difference. -/
def huber (d : EReal) : EReal :=
  Scalar.select (Ideal.cmp .olt (max d (-d)) (lit 0x3F800000#32)) (lit 0x3F000000#32 * d * d) (max d (-d) - lit 0x3F000000#32)

/-- The offset of a box's centre from an anchor's, along one axis. -/
def offC (c1 c2 a w : EReal) : EReal := Ideal.div ((c1 + c2) * lit 0x3F000000#32 - a) (w * lit 0x3DCCCCCD#32)

/-- The logarithmic ratio of a box's extent to an anchor's, along one axis. -/
def offW (c1 c2 w : EReal) : EReal := Ideal.div (Ideal.log (Ideal.div (max (c2 - c1) (lit 0x358637BD#32)) w)) (lit 0x3E4CCCCD#32)

/-- The box loss of one anchor against the box with the given corners, from the four predicted offsets. -/
def slOf (ax ay aw ah x1 y1 x2 y2 b0 b1 b2 b3 : EReal) : EReal :=
  huber (b0 - offC x1 x2 ax aw) + huber (b1 - offC y1 y2 ay ah) + huber (b2 - offW x1 x2 aw) + huber (b3 - offW y1 y2 ah)

end Cert.Spec

end
-- ==== Proof.AssignScan.lean ====
/-
The scan over the 32 boxes of a batch item, as the first kernel's run computes it: after each box, the six registers
  are one `visit` of that box applied to the six registers before it.
-/
module

public import proofs.«01_k».proof.Proof.AssignRun
public import proofs.«01_k».proof.Proof.Visit
public import Idealize.ShloMosaic.Lib.WholeRead
public import Idealize.ShloMosaic.Lib.Pointwise.Index

@[expose] public section

set_option maxRecDepth 16384

noncomputable section

namespace Cert.KernelIdeal.Hand

open Cert.KernelIdeal Cert.KernelIdeal.Gen Cert.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)

variable {F : FTy → Type} [FloatOps F]

local notation "𝕄" => MT nD τ sig Unit (Elt F) ℕ (UR sig nD τ) ℕ

open assignRun.sl Cert.Spec

/-- A word of a box block, read through a whole staging memref. -/
theorem gt_read (a3 : Memref sig .tc .smem S1x32x4 .f32) (h3 : a3.IsWhole) (x2 : Vec F S1x32x4 .f32) (k : Fin 32) (d : Fin 4)
    (hb : ∀ a, (![0, k.val, d.val] : Fin 3 → ℕ) a + S1x1x1.size a ≤ S1x32x4.size a) (hp) :
    View.readAt (Elt F) a3.view (Rect.unit (s := S1x32x4) ![0, k.val, d.val] S1x1x1.size hb).toLoadRect (h3.unread x2) (Shape.Idx.first hp) = x2 (ix3 0 k d) := by
  rw [h3.readAt_unread]
  congr 1
  funext a; apply Fin.ext
  fin_cases a <;> rfl

/-- A word of a label block, read through a whole staging memref. -/
theorem lb_read (a4 : Memref sig .tc .smem S1x1x32 .i32) (h4 : a4.IsWhole) (x3 : Vec F S1x1x32 .i32) (k : Fin 32)
    (hb : ∀ a, (![0, 0, k.val] : Fin 3 → ℕ) a + S1x1x1.size a ≤ S1x1x32.size a) (hp) :
    View.readAt (Elt F) a4.view (Rect.unit (s := S1x1x32) ![0, 0, k.val] S1x1x1.size hb).toLoadRect (h4.unread x3) (Shape.Idx.first hp) = x3 (ix3 0 0 k) := by
  rw [h4.readAt_unread]
  congr 1
  funext a; apply Fin.ext
  fin_cases a <;> rfl

variable (c : Dev nD) (a1 : Memref sig .tc .vmem S4x200x128 .f32) (h1 : a1.IsWhole) (a3 : Memref sig .tc .smem S1x32x4 .f32) (h3 : a3.IsWhole) (a4 : Memref sig .tc .smem S1x1x32 .i32) (h4 : a4.IsWhole) (x0 : Vec Ideal S4x200x128 .f32) (x2 : Vec Ideal S1x32x4 .f32) (x3 : Vec Ideal S1x1x32 .i32) (j : S200x128.Idx)

/-- The anchor of a lane: its corners and area, as the run computes them. -/
def laneR: Lane := ⟨r_4 c a1 h1 x0 j, r_5 c a1 h1 x0 j, r_6 c a1 h1 x0 j, r_7 c a1 h1 x0 j, r_8 c a1 h1 x0 j⟩

/-- The six registers of a lane after 0 boxes. -/
def state0 : Best := ⟨(k0_pay13 (F := Ideal)) j, (k0_pay14 (F := Ideal)) j, (r_14 (F := Ideal)) j, (k0_pay16 (F := Ideal)) j, (k0_pay17 (F := Ideal)) j, (k0_pay18 (F := Ideal)) j⟩

/-- The six registers of a lane after 1 boxes. -/
def state1 : Best := ⟨(r_23 c a1 h1 a3 h3 x0 x2) j, (r_24 c a1 h1 a3 h3 x0 x2) j, (r_25 c a1 h1 a3 h3 x0 x2) j, (r_26 c a1 h1 a3 h3 x0 x2) j, (r_27 c a1 h1 a3 h3 x0 x2) j, (r_28 c a1 h1 a3 h3 a4 h4 x0 x2 x3) j⟩

/-- The six registers of a lane after 2 boxes. -/
def state2 : Best := ⟨(r_37 c a1 h1 a3 h3 x0 x2) j, (r_38 c a1 h1 a3 h3 x0 x2) j, (r_39 c a1 h1 a3 h3 x0 x2) j, (r_40 c a1 h1 a3 h3 x0 x2) j, (r_41 c a1 h1 a3 h3 x0 x2) j, (r_42 c a1 h1 a3 h3 a4 h4 x0 x2 x3) j⟩

/-- The six registers of a lane after 3 boxes. -/
def state3 : Best := ⟨(r_51 c a1 h1 a3 h3 x0 x2) j, (r_52 c a1 h1 a3 h3 x0 x2) j, (r_53 c a1 h1 a3 h3 x0 x2) j, (r_54 c a1 h1 a3 h3 x0 x2) j, (r_55 c a1 h1 a3 h3 x0 x2) j, (r_56 c a1 h1 a3 h3 a4 h4 x0 x2 x3) j⟩

/-- The six registers of a lane after 4 boxes. -/
def state4 : Best := ⟨(r_66 c a1 h1 a3 h3 x0 x2) j, (r_67 c a1 h1 a3 h3 x0 x2) j, (r_68 c a1 h1 a3 h3 x0 x2) j, (r_69 c a1 h1 a3 h3 x0 x2) j, (r_70 c a1 h1 a3 h3 x0 x2) j, (r_71 c a1 h1 a3 h3 a4 h4 x0 x2 x3) j⟩

/-- The six registers of a lane after 5 boxes. -/
def state5 : Best := ⟨(r_82 c a1 h1 a3 h3 x0 x2) j, (r_83 c a1 h1 a3 h3 x0 x2) j, (r_84 c a1 h1 a3 h3 x0 x2) j, (r_85 c a1 h1 a3 h3 x0 x2) j, (r_86 c a1 h1 a3 h3 x0 x2) j, (r_87 c a1 h1 a3 h3 a4 h4 x0 x2 x3) j⟩

/-- The six registers of a lane after 6 boxes. -/
def state6 : Best := ⟨(r_96 c a1 h1 a3 h3 x0 x2) j, (r_97 c a1 h1 a3 h3 x0 x2) j, (r_98 c a1 h1 a3 h3 x0 x2) j, (r_99 c a1 h1 a3 h3 x0 x2) j, (r_100 c a1 h1 a3 h3 x0 x2) j, (r_101 c a1 h1 a3 h3 a4 h4 x0 x2 x3) j⟩

/-- The six registers of a lane after 7 boxes. -/
def state7 : Best := ⟨(r_110 c a1 h1 a3 h3 x0 x2) j, (r_111 c a1 h1 a3 h3 x0 x2) j, (r_112 c a1 h1 a3 h3 x0 x2) j, (r_113 c a1 h1 a3 h3 x0 x2) j, (r_114 c a1 h1 a3 h3 x0 x2) j, (r_115 c a1 h1 a3 h3 a4 h4 x0 x2 x3) j⟩

/-- The six registers of a lane after 8 boxes. -/
def state8 : Best := ⟨(r_124 c a1 h1 a3 h3 x0 x2) j, (r_125 c a1 h1 a3 h3 x0 x2) j, (r_126 c a1 h1 a3 h3 x0 x2) j, (r_127 c a1 h1 a3 h3 x0 x2) j, (r_128 c a1 h1 a3 h3 x0 x2) j, (r_129 c a1 h1 a3 h3 a4 h4 x0 x2 x3) j⟩

/-- The six registers of a lane after 9 boxes. -/
def state9 : Best := ⟨(r_135 c a1 h1 a3 h3 x0 x2) j, (r_136 c a1 h1 a3 h3 x0 x2) j, (r_137 c a1 h1 a3 h3 x0 x2) j, (r_138 c a1 h1 a3 h3 x0 x2) j, (r_139 c a1 h1 a3 h3 x0 x2) j, (r_140 c a1 h1 a3 h3 a4 h4 x0 x2 x3) j⟩

/-- The six registers of a lane after 10 boxes. -/
def state10 : Best := ⟨(r_145 c a1 h1 a3 h3 x0 x2) j, (r_146 c a1 h1 a3 h3 x0 x2) j, (r_147 c a1 h1 a3 h3 x0 x2) j, (r_148 c a1 h1 a3 h3 x0 x2) j, (r_149 c a1 h1 a3 h3 x0 x2) j, (r_150 c a1 h1 a3 h3 a4 h4 x0 x2 x3) j⟩

/-- The six registers of a lane after 11 boxes. -/
def state11 : Best := ⟨(r_155 c a1 h1 a3 h3 x0 x2) j, (r_156 c a1 h1 a3 h3 x0 x2) j, (r_157 c a1 h1 a3 h3 x0 x2) j, (r_158 c a1 h1 a3 h3 x0 x2) j, (r_159 c a1 h1 a3 h3 x0 x2) j, (r_160 c a1 h1 a3 h3 a4 h4 x0 x2 x3) j⟩

/-- The six registers of a lane after 12 boxes. -/
def state12 : Best := ⟨(r_165 c a1 h1 a3 h3 x0 x2) j, (r_166 c a1 h1 a3 h3 x0 x2) j, (r_167 c a1 h1 a3 h3 x0 x2) j, (r_168 c a1 h1 a3 h3 x0 x2) j, (r_169 c a1 h1 a3 h3 x0 x2) j, (r_170 c a1 h1 a3 h3 a4 h4 x0 x2 x3) j⟩

/-- The six registers of a lane after 13 boxes. -/
def state13 : Best := ⟨(r_175 c a1 h1 a3 h3 x0 x2) j, (r_176 c a1 h1 a3 h3 x0 x2) j, (r_177 c a1 h1 a3 h3 x0 x2) j, (r_178 c a1 h1 a3 h3 x0 x2) j, (r_179 c a1 h1 a3 h3 x0 x2) j, (r_180 c a1 h1 a3 h3 a4 h4 x0 x2 x3) j⟩

/-- The six registers of a lane after 14 boxes. -/
def state14 : Best := ⟨(r_188 c a1 h1 a3 h3 x0 x2) j, (r_189 c a1 h1 a3 h3 x0 x2) j, (r_190 c a1 h1 a3 h3 x0 x2) j, (r_191 c a1 h1 a3 h3 x0 x2) j, (r_198 c a1 h1 a3 h3 x0 x2) j, (r_199 c a1 h1 a3 h3 a4 h4 x0 x2 x3) j⟩

/-- The six registers of a lane after 15 boxes. -/
def state15 : Best := ⟨(r_202 c a1 h1 a3 h3 x0 x2) j, (r_203 c a1 h1 a3 h3 x0 x2) j, (r_210 c a1 h1 a3 h3 x0 x2) j, (r_211 c a1 h1 a3 h3 x0 x2) j, (r_212 c a1 h1 a3 h3 x0 x2) j, (r_213 c a1 h1 a3 h3 a4 h4 x0 x2 x3) j⟩

/-- The six registers of a lane after 16 boxes. -/
def state16 : Best := ⟨(r_222 c a1 h1 a3 h3 x0 x2) j, (r_223 c a1 h1 a3 h3 x0 x2) j, (r_224 c a1 h1 a3 h3 x0 x2) j, (r_225 c a1 h1 a3 h3 x0 x2) j, (r_226 c a1 h1 a3 h3 x0 x2) j, (r_227 c a1 h1 a3 h3 a4 h4 x0 x2 x3) j⟩

/-- The six registers of a lane after 17 boxes. -/
def state17 : Best := ⟨(r_236 c a1 h1 a3 h3 x0 x2) j, (r_237 c a1 h1 a3 h3 x0 x2) j, (r_238 c a1 h1 a3 h3 x0 x2) j, (r_239 c a1 h1 a3 h3 x0 x2) j, (r_240 c a1 h1 a3 h3 x0 x2) j, (r_241 c a1 h1 a3 h3 a4 h4 x0 x2 x3) j⟩

/-- The six registers of a lane after 18 boxes. -/
def state18 : Best := ⟨(r_250 c a1 h1 a3 h3 x0 x2) j, (r_251 c a1 h1 a3 h3 x0 x2) j, (r_252 c a1 h1 a3 h3 x0 x2) j, (r_253 c a1 h1 a3 h3 x0 x2) j, (r_254 c a1 h1 a3 h3 x0 x2) j, (r_255 c a1 h1 a3 h3 a4 h4 x0 x2 x3) j⟩

/-- The six registers of a lane after 19 boxes. -/
def state19 : Best := ⟨(r_265 c a1 h1 a3 h3 x0 x2) j, (r_266 c a1 h1 a3 h3 x0 x2) j, (r_267 c a1 h1 a3 h3 x0 x2) j, (r_268 c a1 h1 a3 h3 x0 x2) j, (r_269 c a1 h1 a3 h3 x0 x2) j, (r_270 c a1 h1 a3 h3 a4 h4 x0 x2 x3) j⟩

/-- The six registers of a lane after 20 boxes. -/
def state20 : Best := ⟨(r_281 c a1 h1 a3 h3 x0 x2) j, (r_282 c a1 h1 a3 h3 x0 x2) j, (r_283 c a1 h1 a3 h3 x0 x2) j, (r_284 c a1 h1 a3 h3 x0 x2) j, (r_285 c a1 h1 a3 h3 x0 x2) j, (r_286 c a1 h1 a3 h3 a4 h4 x0 x2 x3) j⟩

/-- The six registers of a lane after 21 boxes. -/
def state21 : Best := ⟨(r_295 c a1 h1 a3 h3 x0 x2) j, (r_296 c a1 h1 a3 h3 x0 x2) j, (r_297 c a1 h1 a3 h3 x0 x2) j, (r_298 c a1 h1 a3 h3 x0 x2) j, (r_299 c a1 h1 a3 h3 x0 x2) j, (r_300 c a1 h1 a3 h3 a4 h4 x0 x2 x3) j⟩

/-- The six registers of a lane after 22 boxes. -/
def state22 : Best := ⟨(r_309 c a1 h1 a3 h3 x0 x2) j, (r_310 c a1 h1 a3 h3 x0 x2) j, (r_311 c a1 h1 a3 h3 x0 x2) j, (r_312 c a1 h1 a3 h3 x0 x2) j, (r_313 c a1 h1 a3 h3 x0 x2) j, (r_314 c a1 h1 a3 h3 a4 h4 x0 x2 x3) j⟩

/-- The six registers of a lane after 23 boxes. -/
def state23 : Best := ⟨(r_323 c a1 h1 a3 h3 x0 x2) j, (r_324 c a1 h1 a3 h3 x0 x2) j, (r_325 c a1 h1 a3 h3 x0 x2) j, (r_326 c a1 h1 a3 h3 x0 x2) j, (r_327 c a1 h1 a3 h3 x0 x2) j, (r_328 c a1 h1 a3 h3 a4 h4 x0 x2 x3) j⟩

/-- The six registers of a lane after 24 boxes. -/
def state24 : Best := ⟨(r_334 c a1 h1 a3 h3 x0 x2) j, (r_335 c a1 h1 a3 h3 x0 x2) j, (r_336 c a1 h1 a3 h3 x0 x2) j, (r_337 c a1 h1 a3 h3 x0 x2) j, (r_338 c a1 h1 a3 h3 x0 x2) j, (r_339 c a1 h1 a3 h3 a4 h4 x0 x2 x3) j⟩

/-- The six registers of a lane after 25 boxes. -/
def state25 : Best := ⟨(r_344 c a1 h1 a3 h3 x0 x2) j, (r_345 c a1 h1 a3 h3 x0 x2) j, (r_346 c a1 h1 a3 h3 x0 x2) j, (r_347 c a1 h1 a3 h3 x0 x2) j, (r_348 c a1 h1 a3 h3 x0 x2) j, (r_349 c a1 h1 a3 h3 a4 h4 x0 x2 x3) j⟩

/-- The six registers of a lane after 26 boxes. -/
def state26 : Best := ⟨(r_354 c a1 h1 a3 h3 x0 x2) j, (r_355 c a1 h1 a3 h3 x0 x2) j, (r_356 c a1 h1 a3 h3 x0 x2) j, (r_357 c a1 h1 a3 h3 x0 x2) j, (r_358 c a1 h1 a3 h3 x0 x2) j, (r_359 c a1 h1 a3 h3 a4 h4 x0 x2 x3) j⟩

/-- The six registers of a lane after 27 boxes. -/
def state27 : Best := ⟨(r_364 c a1 h1 a3 h3 x0 x2) j, (r_365 c a1 h1 a3 h3 x0 x2) j, (r_366 c a1 h1 a3 h3 x0 x2) j, (r_367 c a1 h1 a3 h3 x0 x2) j, (r_368 c a1 h1 a3 h3 x0 x2) j, (r_369 c a1 h1 a3 h3 a4 h4 x0 x2 x3) j⟩

/-- The six registers of a lane after 28 boxes. -/
def state28 : Best := ⟨(r_374 c a1 h1 a3 h3 x0 x2) j, (r_375 c a1 h1 a3 h3 x0 x2) j, (r_376 c a1 h1 a3 h3 x0 x2) j, (r_377 c a1 h1 a3 h3 x0 x2) j, (r_378 c a1 h1 a3 h3 x0 x2) j, (r_379 c a1 h1 a3 h3 a4 h4 x0 x2 x3) j⟩

/-- The six registers of a lane after 29 boxes. -/
def state29 : Best := ⟨(r_387 c a1 h1 a3 h3 x0 x2) j, (r_388 c a1 h1 a3 h3 x0 x2) j, (r_389 c a1 h1 a3 h3 x0 x2) j, (r_390 c a1 h1 a3 h3 x0 x2) j, (r_397 c a1 h1 a3 h3 x0 x2) j, (r_398 c a1 h1 a3 h3 a4 h4 x0 x2 x3) j⟩

/-- The six registers of a lane after 30 boxes. -/
def state30 : Best := ⟨(r_401 c a1 h1 a3 h3 x0 x2) j, (r_402 c a1 h1 a3 h3 x0 x2) j, (r_409 c a1 h1 a3 h3 x0 x2) j, (r_410 c a1 h1 a3 h3 x0 x2) j, (r_411 c a1 h1 a3 h3 x0 x2) j, (r_412 c a1 h1 a3 h3 a4 h4 x0 x2 x3) j⟩

/-- The six registers of a lane after 31 boxes. -/
def state31 : Best := ⟨(r_421 c a1 h1 a3 h3 x0 x2) j, (r_422 c a1 h1 a3 h3 x0 x2) j, (r_423 c a1 h1 a3 h3 x0 x2) j, (r_424 c a1 h1 a3 h3 x0 x2) j, (r_425 c a1 h1 a3 h3 x0 x2) j, (r_426 c a1 h1 a3 h3 a4 h4 x0 x2 x3) j⟩

/-- The six registers of a lane after 32 boxes. -/
def state32 : Best := ⟨(k0_pay333 (r_421 c a1 h1 a3 h3 x0 x2) (r_428 c a1 h1 a3 h3 x0 x2) (r_429 c a1 h1 a3 h3 x0 x2) (cst_58 (F := Ideal))) j, (r_430 c a1 h1 a3 h3 x0 x2) j, (r_431 c a1 h1 a3 h3 x0 x2) j, (r_432 c a1 h1 a3 h3 x0 x2) j, (r_433 c a1 h1 a3 h3 x0 x2) j, (select (k0_pay332 (r_421 c a1 h1 a3 h3 x0 x2) (r_428 c a1 h1 a3 h3 x0 x2) (r_429 c a1 h1 a3 h3 x0 x2) (cst_58 (F := Ideal))) (broadcast S200x128 (r_427 c a4 h4 x3)) (r_426 c a1 h1 a3 h3 a4 h4 x0 x2 x3)) j⟩

theorem state0_eq : state0 j = start := rfl

/-- Box 0, at any registers. -/
theorem raw0 (v10 v13 v16 v19 v26 v34 v35 v36 v37 v38 v39 : Vec Ideal S200x128 .f32) (v40 v41 v42 v43 : EReal) (v44 : BitVec 32) (j : S200x128.Idx) :
    (⟨(k0_pay22 (F := Ideal) v34 (k0_pay20 (F := Ideal) v10 v13 v16 v19 v26 v40 v41 v42 v43) (k0_pay21 (F := Ideal) v10 v13 v16 v19 v26 v34 v40 v41 v42 v43)) j, (k0_pay23 (F := Ideal) v35 v40 (k0_pay21 (F := Ideal) v10 v13 v16 v19 v26 v34 v40 v41 v42 v43)) j, (k0_pay24 (F := Ideal) v36 v41 (k0_pay21 (F := Ideal) v10 v13 v16 v19 v26 v34 v40 v41 v42 v43)) j, (k0_pay25 (F := Ideal) v37 v42 (k0_pay21 (F := Ideal) v10 v13 v16 v19 v26 v34 v40 v41 v42 v43)) j, (k0_pay26 (F := Ideal) v38 v43 (k0_pay21 (F := Ideal) v10 v13 v16 v19 v26 v34 v40 v41 v42 v43)) j, (k0_pay27 (F := Ideal) v39 (k0_pay19 (F := Ideal) v44) (k0_pay21 (F := Ideal) v10 v13 v16 v19 v26 v34 v40 v41 v42 v43)) j⟩ : Best)
      = visit ⟨v10 j, v13 j, v16 j, v19 j, v26 j⟩ v40 v41 v42 v43 (FloatOps.sitofp (F := Ideal) .f32 (w := 32) v44) ⟨v34 j, v35 j, v36 j, v37 j, v38 j, v39 j⟩ := by
  unfold k0_pay27 k0_pay26 k0_pay25 k0_pay24 k0_pay23 k0_pay22 k0_pay21 k0_pay20 k0_pay19
  rfl

theorem step0 : state1 c a1 h1 a3 h3 a4 h4 x0 x2 x3 j = visit (laneR c a1 h1 x0 j) (x2 (ix3 0 0 0)) (x2 (ix3 0 0 1)) (x2 (ix3 0 0 2)) (x2 (ix3 0 0 3)) (FloatOps.sitofp (F := Ideal) .f32 (w := 32) (x3 (ix3 0 0 0))) (state0 j) := by
  rw [← gt_read a3 h3 x2 0 0 (by decide) (by decide), ← gt_read a3 h3 x2 0 1 (by decide) (by decide), ← gt_read a3 h3 x2 0 2 (by decide) (by decide), ← gt_read a3 h3 x2 0 3 (by decide) (by decide), ← lb_read a4 h4 x3 0 (by decide) (by decide)]
  unfold state1 r_23 r_16 r_17 r_24 r_25 r_26 r_27 r_28 r_15
  exact raw0 _ _ _ _ _ _ _ _ _ _ _ _ _ _ _ _ j

/-- Box 1, at any registers. -/
theorem raw1 (v10 v13 v16 v19 v26 v73 v75 v77 v79 v81 v83 : Vec Ideal S200x128 .f32) (v84 v85 v86 v87 : EReal) (v88 : BitVec 32) (j : S200x128.Idx) :
    (⟨(k0_pay33 (F := Ideal) v73 (k0_pay29 (F := Ideal) v10 v13 v16 v19 v84 v85 v86 v87) (k0_pay30 (F := Ideal) v10 v13 v16 v19 v26 v84 v85 v86 v87) (Ideal.ofBits .f32 0x3089705F#32)) j, (k0_pay34 (F := Ideal) v73 v75 v84 (k0_pay29 (F := Ideal) v10 v13 v16 v19 v84 v85 v86 v87) (k0_pay30 (F := Ideal) v10 v13 v16 v19 v26 v84 v85 v86 v87) (Ideal.ofBits .f32 0x3089705F#32)) j, (k0_pay35 (F := Ideal) v73 v77 v85 (k0_pay29 (F := Ideal) v10 v13 v16 v19 v84 v85 v86 v87) (k0_pay30 (F := Ideal) v10 v13 v16 v19 v26 v84 v85 v86 v87) (Ideal.ofBits .f32 0x3089705F#32)) j, (k0_pay36 (F := Ideal) v73 v79 v86 (k0_pay29 (F := Ideal) v10 v13 v16 v19 v84 v85 v86 v87) (k0_pay30 (F := Ideal) v10 v13 v16 v19 v26 v84 v85 v86 v87) (Ideal.ofBits .f32 0x3089705F#32)) j, (k0_pay37 (F := Ideal) v73 v81 v87 (k0_pay29 (F := Ideal) v10 v13 v16 v19 v84 v85 v86 v87) (k0_pay30 (F := Ideal) v10 v13 v16 v19 v26 v84 v85 v86 v87) (Ideal.ofBits .f32 0x3089705F#32)) j, (k0_pay38 (F := Ideal) v73 v83 (k0_pay28 (F := Ideal) v88) (k0_pay29 (F := Ideal) v10 v13 v16 v19 v84 v85 v86 v87) (k0_pay30 (F := Ideal) v10 v13 v16 v19 v26 v84 v85 v86 v87) (Ideal.ofBits .f32 0x3089705F#32)) j⟩ : Best)
      = visit ⟨v10 j, v13 j, v16 j, v19 j, v26 j⟩ v84 v85 v86 v87 (FloatOps.sitofp (F := Ideal) .f32 (w := 32) v88) ⟨v73 j, v75 j, v77 j, v79 j, v81 j, v83 j⟩ := by
  unfold k0_pay38 k0_pay37 k0_pay36 k0_pay35 k0_pay34 k0_pay33 k0_pay32 k0_pay31 k0_pay30 k0_pay29 k0_pay28
  rfl

theorem step1 : state2 c a1 h1 a3 h3 a4 h4 x0 x2 x3 j = visit (laneR c a1 h1 x0 j) (x2 (ix3 0 1 0)) (x2 (ix3 0 1 1)) (x2 (ix3 0 1 2)) (x2 (ix3 0 1 3)) (FloatOps.sitofp (F := Ideal) .f32 (w := 32) (x3 (ix3 0 0 1))) (state1 c a1 h1 a3 h3 a4 h4 x0 x2 x3 j) := by
  rw [← gt_read a3 h3 x2 1 0 (by decide) (by decide), ← gt_read a3 h3 x2 1 1 (by decide) (by decide), ← gt_read a3 h3 x2 1 2 (by decide) (by decide), ← gt_read a3 h3 x2 1 3 (by decide) (by decide), ← lb_read a4 h4 x3 1 (by decide) (by decide)]
  unfold state2 r_37 r_30 r_31 cst_58 r_38 r_39 r_40 r_41 r_42 r_29
  exact raw1 _ _ _ _ _ _ _ _ _ _ _ _ _ _ _ _ j

/-- Box 2, at any registers. -/
theorem raw2 (v10 v13 v16 v19 v26 v117 v119 v121 v123 v125 v127 : Vec Ideal S200x128 .f32) (v128 v129 v130 v131 : EReal) (v132 : BitVec 32) (j : S200x128.Idx) :
    (⟨(k0_pay44 (F := Ideal) v26 v117 (k0_pay40 (F := Ideal) v128 v129 v130 v131) (k0_pay41 (F := Ideal) v10 v13 v16 v19 v128 v129 v130 v131)) j, (k0_pay45 (F := Ideal) v26 v117 v119 v128 (k0_pay40 (F := Ideal) v128 v129 v130 v131) (k0_pay41 (F := Ideal) v10 v13 v16 v19 v128 v129 v130 v131)) j, (k0_pay46 (F := Ideal) v26 v117 v121 v129 (k0_pay40 (F := Ideal) v128 v129 v130 v131) (k0_pay41 (F := Ideal) v10 v13 v16 v19 v128 v129 v130 v131)) j, (k0_pay47 (F := Ideal) v26 v117 v123 v130 (k0_pay40 (F := Ideal) v128 v129 v130 v131) (k0_pay41 (F := Ideal) v10 v13 v16 v19 v128 v129 v130 v131)) j, (k0_pay48 (F := Ideal) v26 v117 v125 v131 (k0_pay40 (F := Ideal) v128 v129 v130 v131) (k0_pay41 (F := Ideal) v10 v13 v16 v19 v128 v129 v130 v131)) j, (k0_pay49 (F := Ideal) v26 v117 v127 (k0_pay39 (F := Ideal) v132) (k0_pay40 (F := Ideal) v128 v129 v130 v131) (k0_pay41 (F := Ideal) v10 v13 v16 v19 v128 v129 v130 v131)) j⟩ : Best)
      = visit ⟨v10 j, v13 j, v16 j, v19 j, v26 j⟩ v128 v129 v130 v131 (FloatOps.sitofp (F := Ideal) .f32 (w := 32) v132) ⟨v117 j, v119 j, v121 j, v123 j, v125 j, v127 j⟩ := by
  unfold k0_pay49 k0_pay48 k0_pay47 k0_pay46 k0_pay45 k0_pay44 k0_pay43 k0_pay42 k0_pay41 k0_pay40 k0_pay39
  rfl

theorem step2 : state3 c a1 h1 a3 h3 a4 h4 x0 x2 x3 j = visit (laneR c a1 h1 x0 j) (x2 (ix3 0 2 0)) (x2 (ix3 0 2 1)) (x2 (ix3 0 2 2)) (x2 (ix3 0 2 3)) (FloatOps.sitofp (F := Ideal) .f32 (w := 32) (x3 (ix3 0 0 2))) (state2 c a1 h1 a3 h3 a4 h4 x0 x2 x3 j) := by
  rw [← gt_read a3 h3 x2 2 0 (by decide) (by decide), ← gt_read a3 h3 x2 2 1 (by decide) (by decide), ← gt_read a3 h3 x2 2 2 (by decide) (by decide), ← gt_read a3 h3 x2 2 3 (by decide) (by decide), ← lb_read a4 h4 x3 2 (by decide) (by decide)]
  unfold state3 r_51 r_44 r_45 r_52 r_53 r_54 r_55 r_56 r_43
  exact raw2 _ _ _ _ _ _ _ _ _ _ _ _ _ _ _ _ j

/-- Box 3, at any registers. -/
theorem raw3 (v10 v13 v16 v19 v26 v161 v163 v165 v167 v169 v171 : Vec Ideal S200x128 .f32) (v172 v173 v174 v175 : EReal) (v176 : BitVec 32) (j : S200x128.Idx) :
    (⟨(k0_pay56 (F := Ideal) v26 v161 (k0_pay51 (F := Ideal) v172 v173 v174 v175) (k0_pay52 (F := Ideal) v13 v19 v173 v175) (k0_pay53 (F := Ideal) v10 v16 v172 v174)) j, (k0_pay57 (F := Ideal) v26 v161 v163 v172 (k0_pay51 (F := Ideal) v172 v173 v174 v175) (k0_pay52 (F := Ideal) v13 v19 v173 v175) (k0_pay53 (F := Ideal) v10 v16 v172 v174)) j, (k0_pay58 (F := Ideal) v26 v161 v165 v173 (k0_pay51 (F := Ideal) v172 v173 v174 v175) (k0_pay52 (F := Ideal) v13 v19 v173 v175) (k0_pay53 (F := Ideal) v10 v16 v172 v174)) j, (k0_pay59 (F := Ideal) v26 v161 v167 v174 (k0_pay51 (F := Ideal) v172 v173 v174 v175) (k0_pay52 (F := Ideal) v13 v19 v173 v175) (k0_pay53 (F := Ideal) v10 v16 v172 v174)) j, (k0_pay60 (F := Ideal) v26 v161 v169 v175 (k0_pay51 (F := Ideal) v172 v173 v174 v175) (k0_pay52 (F := Ideal) v13 v19 v173 v175) (k0_pay53 (F := Ideal) v10 v16 v172 v174)) j, (k0_pay61 (F := Ideal) v26 v161 v171 (k0_pay50 (F := Ideal) v176) (k0_pay51 (F := Ideal) v172 v173 v174 v175) (k0_pay52 (F := Ideal) v13 v19 v173 v175) (k0_pay53 (F := Ideal) v10 v16 v172 v174)) j⟩ : Best)
      = visit ⟨v10 j, v13 j, v16 j, v19 j, v26 j⟩ v172 v173 v174 v175 (FloatOps.sitofp (F := Ideal) .f32 (w := 32) v176) ⟨v161 j, v163 j, v165 j, v167 j, v169 j, v171 j⟩ := by
  unfold k0_pay61 k0_pay60 k0_pay59 k0_pay58 k0_pay57 k0_pay56 k0_pay55 k0_pay54 k0_pay53 k0_pay52 k0_pay51 k0_pay50
  rfl

theorem step3 : state4 c a1 h1 a3 h3 a4 h4 x0 x2 x3 j = visit (laneR c a1 h1 x0 j) (x2 (ix3 0 3 0)) (x2 (ix3 0 3 1)) (x2 (ix3 0 3 2)) (x2 (ix3 0 3 3)) (FloatOps.sitofp (F := Ideal) .f32 (w := 32) (x3 (ix3 0 0 3))) (state3 c a1 h1 a3 h3 a4 h4 x0 x2 x3 j) := by
  rw [← gt_read a3 h3 x2 3 0 (by decide) (by decide), ← gt_read a3 h3 x2 3 1 (by decide) (by decide), ← gt_read a3 h3 x2 3 2 (by decide) (by decide), ← gt_read a3 h3 x2 3 3 (by decide) (by decide), ← lb_read a4 h4 x3 3 (by decide) (by decide)]
  unfold state4 r_66 r_58 r_59 r_60 r_67 r_68 r_69 r_70 r_71 r_57
  exact raw3 _ _ _ _ _ _ _ _ _ _ _ _ _ _ _ _ j

/-- Box 4, at any registers. -/
theorem raw4 (v10 v13 v16 v19 v26 v205 v207 v209 v211 v213 v215 : Vec Ideal S200x128 .f32) (v216 v217 v218 v219 : EReal) (v220 : BitVec 32) (j : S200x128.Idx) :
    (⟨(k0_pay69 (F := Ideal) v26 v205 (k0_pay63 (F := Ideal) v216 v217 v218 v219) (k0_pay64 (F := Ideal) v10 v16 v216 v218) (k0_pay65 (F := Ideal) v19 v219) (k0_pay66 (F := Ideal) v13 v217)) j, (k0_pay70 (F := Ideal) v26 v205 v207 v216 (k0_pay63 (F := Ideal) v216 v217 v218 v219) (k0_pay64 (F := Ideal) v10 v16 v216 v218) (k0_pay65 (F := Ideal) v19 v219) (k0_pay66 (F := Ideal) v13 v217)) j, (k0_pay71 (F := Ideal) v26 v205 v209 v217 (k0_pay63 (F := Ideal) v216 v217 v218 v219) (k0_pay64 (F := Ideal) v10 v16 v216 v218) (k0_pay65 (F := Ideal) v19 v219) (k0_pay66 (F := Ideal) v13 v217)) j, (k0_pay72 (F := Ideal) v26 v205 v211 v218 (k0_pay63 (F := Ideal) v216 v217 v218 v219) (k0_pay64 (F := Ideal) v10 v16 v216 v218) (k0_pay65 (F := Ideal) v19 v219) (k0_pay66 (F := Ideal) v13 v217)) j, (k0_pay73 (F := Ideal) v26 v205 v213 v219 (k0_pay63 (F := Ideal) v216 v217 v218 v219) (k0_pay64 (F := Ideal) v10 v16 v216 v218) (k0_pay65 (F := Ideal) v19 v219) (k0_pay66 (F := Ideal) v13 v217)) j, (k0_pay74 (F := Ideal) v26 v205 v215 (k0_pay62 (F := Ideal) v220) (k0_pay63 (F := Ideal) v216 v217 v218 v219) (k0_pay64 (F := Ideal) v10 v16 v216 v218) (k0_pay65 (F := Ideal) v19 v219) (k0_pay66 (F := Ideal) v13 v217)) j⟩ : Best)
      = visit ⟨v10 j, v13 j, v16 j, v19 j, v26 j⟩ v216 v217 v218 v219 (FloatOps.sitofp (F := Ideal) .f32 (w := 32) v220) ⟨v205 j, v207 j, v209 j, v211 j, v213 j, v215 j⟩ := by
  unfold k0_pay74 k0_pay73 k0_pay72 k0_pay71 k0_pay70 k0_pay69 k0_pay68 k0_pay67 k0_pay66 k0_pay65 k0_pay64 k0_pay63 k0_pay62
  rfl

theorem step4 : state5 c a1 h1 a3 h3 a4 h4 x0 x2 x3 j = visit (laneR c a1 h1 x0 j) (x2 (ix3 0 4 0)) (x2 (ix3 0 4 1)) (x2 (ix3 0 4 2)) (x2 (ix3 0 4 3)) (FloatOps.sitofp (F := Ideal) .f32 (w := 32) (x3 (ix3 0 0 4))) (state4 c a1 h1 a3 h3 a4 h4 x0 x2 x3 j) := by
  rw [← gt_read a3 h3 x2 4 0 (by decide) (by decide), ← gt_read a3 h3 x2 4 1 (by decide) (by decide), ← gt_read a3 h3 x2 4 2 (by decide) (by decide), ← gt_read a3 h3 x2 4 3 (by decide) (by decide), ← lb_read a4 h4 x3 4 (by decide) (by decide)]
  unfold state5 r_82 r_73 r_74 r_75 r_76 r_83 r_84 r_85 r_86 r_87 r_72
  exact raw4 _ _ _ _ _ _ _ _ _ _ _ _ _ _ _ _ j

/-- Box 5, at any registers. -/
theorem raw5 (v10 v13 v16 v19 v26 v249 v251 v253 v255 v257 v259 : Vec Ideal S200x128 .f32) (v260 v261 v262 v263 : EReal) (v264 : BitVec 32) (j : S200x128.Idx) :
    (⟨(k0_pay80 (F := Ideal) v13 v19 v26 v249 v261 v263 (k0_pay76 (F := Ideal) v260 v261 v262 v263) (k0_pay77 (F := Ideal) v10 v16 v260 v262)) j, (k0_pay81 (F := Ideal) v13 v19 v26 v249 v251 v260 v261 v263 (k0_pay76 (F := Ideal) v260 v261 v262 v263) (k0_pay77 (F := Ideal) v10 v16 v260 v262)) j, (k0_pay82 (F := Ideal) v13 v19 v26 v249 v253 v261 v263 (k0_pay76 (F := Ideal) v260 v261 v262 v263) (k0_pay77 (F := Ideal) v10 v16 v260 v262)) j, (k0_pay83 (F := Ideal) v13 v19 v26 v249 v255 v261 v262 v263 (k0_pay76 (F := Ideal) v260 v261 v262 v263) (k0_pay77 (F := Ideal) v10 v16 v260 v262)) j, (k0_pay84 (F := Ideal) v13 v19 v26 v249 v257 v261 v263 (k0_pay76 (F := Ideal) v260 v261 v262 v263) (k0_pay77 (F := Ideal) v10 v16 v260 v262)) j, (k0_pay85 (F := Ideal) v13 v19 v26 v249 v259 v261 v263 (k0_pay75 (F := Ideal) v264) (k0_pay76 (F := Ideal) v260 v261 v262 v263) (k0_pay77 (F := Ideal) v10 v16 v260 v262)) j⟩ : Best)
      = visit ⟨v10 j, v13 j, v16 j, v19 j, v26 j⟩ v260 v261 v262 v263 (FloatOps.sitofp (F := Ideal) .f32 (w := 32) v264) ⟨v249 j, v251 j, v253 j, v255 j, v257 j, v259 j⟩ := by
  unfold k0_pay85 k0_pay84 k0_pay83 k0_pay82 k0_pay81 k0_pay80 k0_pay79 k0_pay78 k0_pay77 k0_pay76 k0_pay75
  rfl

theorem step5 : state6 c a1 h1 a3 h3 a4 h4 x0 x2 x3 j = visit (laneR c a1 h1 x0 j) (x2 (ix3 0 5 0)) (x2 (ix3 0 5 1)) (x2 (ix3 0 5 2)) (x2 (ix3 0 5 3)) (FloatOps.sitofp (F := Ideal) .f32 (w := 32) (x3 (ix3 0 0 5))) (state5 c a1 h1 a3 h3 a4 h4 x0 x2 x3 j) := by
  rw [← gt_read a3 h3 x2 5 0 (by decide) (by decide), ← gt_read a3 h3 x2 5 1 (by decide) (by decide), ← gt_read a3 h3 x2 5 2 (by decide) (by decide), ← gt_read a3 h3 x2 5 3 (by decide) (by decide), ← lb_read a4 h4 x3 5 (by decide) (by decide)]
  unfold state6 r_96 r_89 r_90 r_97 r_98 r_99 r_100 r_101 r_88
  exact raw5 _ _ _ _ _ _ _ _ _ _ _ _ _ _ _ _ j

/-- Box 6, at any registers. -/
theorem raw6 (v10 v13 v16 v19 v26 v293 v295 v297 v299 v301 v303 : Vec Ideal S200x128 .f32) (v304 v305 v306 v307 : EReal) (v308 : BitVec 32) (j : S200x128.Idx) :
    (⟨(k0_pay91 (F := Ideal) v10 v13 v16 v19 v26 v293 v304 v305 v307 (k0_pay87 (F := Ideal) v304 v305 v306 v307) (k0_pay88 (F := Ideal) v306)) j, (k0_pay92 (F := Ideal) v10 v13 v16 v19 v26 v293 v295 v304 v305 v307 (k0_pay87 (F := Ideal) v304 v305 v306 v307) (k0_pay88 (F := Ideal) v306)) j, (k0_pay93 (F := Ideal) v10 v13 v16 v19 v26 v293 v297 v304 v305 v307 (k0_pay87 (F := Ideal) v304 v305 v306 v307) (k0_pay88 (F := Ideal) v306)) j, (k0_pay94 (F := Ideal) v10 v13 v16 v19 v26 v293 v299 v304 v305 v306 v307 (k0_pay87 (F := Ideal) v304 v305 v306 v307) (k0_pay88 (F := Ideal) v306)) j, (k0_pay95 (F := Ideal) v10 v13 v16 v19 v26 v293 v301 v304 v305 v307 (k0_pay87 (F := Ideal) v304 v305 v306 v307) (k0_pay88 (F := Ideal) v306)) j, (k0_pay96 (F := Ideal) v10 v13 v16 v19 v26 v293 v303 v304 v305 v307 (k0_pay86 (F := Ideal) v308) (k0_pay87 (F := Ideal) v304 v305 v306 v307) (k0_pay88 (F := Ideal) v306)) j⟩ : Best)
      = visit ⟨v10 j, v13 j, v16 j, v19 j, v26 j⟩ v304 v305 v306 v307 (FloatOps.sitofp (F := Ideal) .f32 (w := 32) v308) ⟨v293 j, v295 j, v297 j, v299 j, v301 j, v303 j⟩ := by
  unfold k0_pay96 k0_pay95 k0_pay94 k0_pay93 k0_pay92 k0_pay91 k0_pay90 k0_pay89 k0_pay88 k0_pay87 k0_pay86
  rfl

theorem step6 : state7 c a1 h1 a3 h3 a4 h4 x0 x2 x3 j = visit (laneR c a1 h1 x0 j) (x2 (ix3 0 6 0)) (x2 (ix3 0 6 1)) (x2 (ix3 0 6 2)) (x2 (ix3 0 6 3)) (FloatOps.sitofp (F := Ideal) .f32 (w := 32) (x3 (ix3 0 0 6))) (state6 c a1 h1 a3 h3 a4 h4 x0 x2 x3 j) := by
  rw [← gt_read a3 h3 x2 6 0 (by decide) (by decide), ← gt_read a3 h3 x2 6 1 (by decide) (by decide), ← gt_read a3 h3 x2 6 2 (by decide) (by decide), ← gt_read a3 h3 x2 6 3 (by decide) (by decide), ← lb_read a4 h4 x3 6 (by decide) (by decide)]
  unfold state7 r_110 r_103 r_104 r_111 r_112 r_113 r_114 r_115 r_102
  exact raw6 _ _ _ _ _ _ _ _ _ _ _ _ _ _ _ _ j

/-- Box 7, at any registers. -/
theorem raw7 (v10 v13 v16 v19 v26 v337 v339 v341 v343 v345 v347 : Vec Ideal S200x128 .f32) (v348 v349 v350 v351 : EReal) (v352 : BitVec 32) (j : S200x128.Idx) :
    (⟨(k0_pay102 (F := Ideal) v10 v13 v16 v19 v26 v337 v348 v349 v350 v351 (k0_pay98 (F := Ideal) v348 v350) (k0_pay99 (F := Ideal) v349 v351)) j, (k0_pay103 (F := Ideal) v10 v13 v16 v19 v26 v337 v339 v348 v349 v350 v351 (k0_pay98 (F := Ideal) v348 v350) (k0_pay99 (F := Ideal) v349 v351)) j, (k0_pay104 (F := Ideal) v10 v13 v16 v19 v26 v337 v341 v348 v349 v350 v351 (k0_pay98 (F := Ideal) v348 v350) (k0_pay99 (F := Ideal) v349 v351)) j, (k0_pay105 (F := Ideal) v10 v13 v16 v19 v26 v337 v343 v348 v349 v350 v351 (k0_pay98 (F := Ideal) v348 v350) (k0_pay99 (F := Ideal) v349 v351)) j, (k0_pay106 (F := Ideal) v10 v13 v16 v19 v26 v337 v345 v348 v349 v350 v351 (k0_pay98 (F := Ideal) v348 v350) (k0_pay99 (F := Ideal) v349 v351)) j, (k0_pay107 (F := Ideal) v10 v13 v16 v19 v26 v337 v347 v348 v349 v350 v351 (k0_pay97 (F := Ideal) v352) (k0_pay98 (F := Ideal) v348 v350) (k0_pay99 (F := Ideal) v349 v351)) j⟩ : Best)
      = visit ⟨v10 j, v13 j, v16 j, v19 j, v26 j⟩ v348 v349 v350 v351 (FloatOps.sitofp (F := Ideal) .f32 (w := 32) v352) ⟨v337 j, v339 j, v341 j, v343 j, v345 j, v347 j⟩ := by
  unfold k0_pay107 k0_pay106 k0_pay105 k0_pay104 k0_pay103 k0_pay102 k0_pay101 k0_pay100 k0_pay99 k0_pay98 k0_pay97
  rfl

theorem step7 : state8 c a1 h1 a3 h3 a4 h4 x0 x2 x3 j = visit (laneR c a1 h1 x0 j) (x2 (ix3 0 7 0)) (x2 (ix3 0 7 1)) (x2 (ix3 0 7 2)) (x2 (ix3 0 7 3)) (FloatOps.sitofp (F := Ideal) .f32 (w := 32) (x3 (ix3 0 0 7))) (state7 c a1 h1 a3 h3 a4 h4 x0 x2 x3 j) := by
  rw [← gt_read a3 h3 x2 7 0 (by decide) (by decide), ← gt_read a3 h3 x2 7 1 (by decide) (by decide), ← gt_read a3 h3 x2 7 2 (by decide) (by decide), ← gt_read a3 h3 x2 7 3 (by decide) (by decide), ← lb_read a4 h4 x3 7 (by decide) (by decide)]
  unfold state8 r_124 r_117 r_118 r_125 r_126 r_127 r_128 r_129 r_116
  exact raw7 _ _ _ _ _ _ _ _ _ _ _ _ _ _ _ _ j

/-- Box 8, at any registers. -/
theorem raw8 (v10 v13 v16 v19 v26 v381 v383 v385 v387 v389 v391 : Vec Ideal S200x128 .f32) (v392 v393 v394 v395 : EReal) (v396 : BitVec 32) (j : S200x128.Idx) :
    (⟨(k0_pay111 (F := Ideal) v10 v13 v16 v19 v26 v381 v392 v393 v394 v395) j, (k0_pay112 (F := Ideal) v10 v13 v16 v19 v26 v381 v383 v392 v393 v394 v395) j, (k0_pay113 (F := Ideal) v10 v13 v16 v19 v26 v381 v385 v392 v393 v394 v395) j, (k0_pay114 (F := Ideal) v10 v13 v16 v19 v26 v381 v387 v392 v393 v394 v395) j, (k0_pay115 (F := Ideal) v10 v13 v16 v19 v26 v381 v389 v392 v393 v394 v395) j, (k0_pay116 (F := Ideal) v10 v13 v16 v19 v26 v381 v391 v392 v393 v394 v395 (k0_pay108 (F := Ideal) v396)) j⟩ : Best)
      = visit ⟨v10 j, v13 j, v16 j, v19 j, v26 j⟩ v392 v393 v394 v395 (FloatOps.sitofp (F := Ideal) .f32 (w := 32) v396) ⟨v381 j, v383 j, v385 j, v387 j, v389 j, v391 j⟩ := by
  unfold k0_pay116 k0_pay115 k0_pay114 k0_pay113 k0_pay112 k0_pay111 k0_pay110 k0_pay109 k0_pay108
  rfl

theorem step8 : state9 c a1 h1 a3 h3 a4 h4 x0 x2 x3 j = visit (laneR c a1 h1 x0 j) (x2 (ix3 0 8 0)) (x2 (ix3 0 8 1)) (x2 (ix3 0 8 2)) (x2 (ix3 0 8 3)) (FloatOps.sitofp (F := Ideal) .f32 (w := 32) (x3 (ix3 0 0 8))) (state8 c a1 h1 a3 h3 a4 h4 x0 x2 x3 j) := by
  rw [← gt_read a3 h3 x2 8 0 (by decide) (by decide), ← gt_read a3 h3 x2 8 1 (by decide) (by decide), ← gt_read a3 h3 x2 8 2 (by decide) (by decide), ← gt_read a3 h3 x2 8 3 (by decide) (by decide), ← lb_read a4 h4 x3 8 (by decide) (by decide)]
  unfold state9 r_135 r_136 r_137 r_138 r_139 r_140 r_130
  exact raw8 _ _ _ _ _ _ _ _ _ _ _ _ _ _ _ _ j

/-- Box 9, at any registers. -/
theorem raw9 (v10 v13 v16 v19 v26 v425 v427 v429 v431 v433 v435 : Vec Ideal S200x128 .f32) (v436 v437 v438 v439 : EReal) (v440 : BitVec 32) (j : S200x128.Idx) :
    (⟨(k0_pay119 (F := Ideal) v10 v13 v16 v19 v26 v425 v436 v437 v438 v439) j, (k0_pay120 (F := Ideal) v10 v13 v16 v19 v26 v425 v427 v436 v437 v438 v439) j, (k0_pay121 (F := Ideal) v10 v13 v16 v19 v26 v425 v429 v436 v437 v438 v439) j, (k0_pay122 (F := Ideal) v10 v13 v16 v19 v26 v425 v431 v436 v437 v438 v439) j, (k0_pay123 (F := Ideal) v10 v13 v16 v19 v26 v425 v433 v436 v437 v438 v439) j, (k0_pay124 (F := Ideal) v10 v13 v16 v19 v26 v425 v435 v436 v437 v438 v439 v440) j⟩ : Best)
      = visit ⟨v10 j, v13 j, v16 j, v19 j, v26 j⟩ v436 v437 v438 v439 (FloatOps.sitofp (F := Ideal) .f32 (w := 32) v440) ⟨v425 j, v427 j, v429 j, v431 j, v433 j, v435 j⟩ := by
  unfold k0_pay124 k0_pay123 k0_pay122 k0_pay121 k0_pay120 k0_pay119 k0_pay118 k0_pay117
  rfl

theorem step9 : state10 c a1 h1 a3 h3 a4 h4 x0 x2 x3 j = visit (laneR c a1 h1 x0 j) (x2 (ix3 0 9 0)) (x2 (ix3 0 9 1)) (x2 (ix3 0 9 2)) (x2 (ix3 0 9 3)) (FloatOps.sitofp (F := Ideal) .f32 (w := 32) (x3 (ix3 0 0 9))) (state9 c a1 h1 a3 h3 a4 h4 x0 x2 x3 j) := by
  rw [← gt_read a3 h3 x2 9 0 (by decide) (by decide), ← gt_read a3 h3 x2 9 1 (by decide) (by decide), ← gt_read a3 h3 x2 9 2 (by decide) (by decide), ← gt_read a3 h3 x2 9 3 (by decide) (by decide), ← lb_read a4 h4 x3 9 (by decide) (by decide)]
  unfold state10 r_145 r_146 r_147 r_148 r_149 r_150
  exact raw9 _ _ _ _ _ _ _ _ _ _ _ _ _ _ _ _ j

/-- Box 10, at any registers. -/
theorem raw10 (v10 v13 v16 v19 v26 v469 v471 v473 v475 v477 v479 : Vec Ideal S200x128 .f32) (v480 v481 v482 v483 : EReal) (v484 : BitVec 32) (j : S200x128.Idx) :
    (⟨(k0_pay127 (F := Ideal) v10 v13 v16 v19 v26 v469 v480 v481 v482 v483) j, (k0_pay128 (F := Ideal) v10 v13 v16 v19 v26 v469 v471 v480 v481 v482 v483) j, (k0_pay129 (F := Ideal) v10 v13 v16 v19 v26 v469 v473 v480 v481 v482 v483) j, (k0_pay130 (F := Ideal) v10 v13 v16 v19 v26 v469 v475 v480 v481 v482 v483) j, (k0_pay131 (F := Ideal) v10 v13 v16 v19 v26 v469 v477 v480 v481 v482 v483) j, (k0_pay132 (F := Ideal) v10 v13 v16 v19 v26 v469 v479 v480 v481 v482 v483 v484) j⟩ : Best)
      = visit ⟨v10 j, v13 j, v16 j, v19 j, v26 j⟩ v480 v481 v482 v483 (FloatOps.sitofp (F := Ideal) .f32 (w := 32) v484) ⟨v469 j, v471 j, v473 j, v475 j, v477 j, v479 j⟩ := by
  unfold k0_pay132 k0_pay131 k0_pay130 k0_pay129 k0_pay128 k0_pay127 k0_pay126 k0_pay125
  rfl

theorem step10 : state11 c a1 h1 a3 h3 a4 h4 x0 x2 x3 j = visit (laneR c a1 h1 x0 j) (x2 (ix3 0 10 0)) (x2 (ix3 0 10 1)) (x2 (ix3 0 10 2)) (x2 (ix3 0 10 3)) (FloatOps.sitofp (F := Ideal) .f32 (w := 32) (x3 (ix3 0 0 10))) (state10 c a1 h1 a3 h3 a4 h4 x0 x2 x3 j) := by
  rw [← gt_read a3 h3 x2 10 0 (by decide) (by decide), ← gt_read a3 h3 x2 10 1 (by decide) (by decide), ← gt_read a3 h3 x2 10 2 (by decide) (by decide), ← gt_read a3 h3 x2 10 3 (by decide) (by decide), ← lb_read a4 h4 x3 10 (by decide) (by decide)]
  unfold state11 r_155 r_156 r_157 r_158 r_159 r_160
  exact raw10 _ _ _ _ _ _ _ _ _ _ _ _ _ _ _ _ j

/-- Box 11, at any registers. -/
theorem raw11 (v10 v13 v16 v19 v26 v513 v515 v517 v519 v521 v523 : Vec Ideal S200x128 .f32) (v524 v525 v526 v527 : EReal) (v528 : BitVec 32) (j : S200x128.Idx) :
    (⟨(k0_pay135 (F := Ideal) v10 v13 v16 v19 v26 v513 v524 v525 v526 v527) j, (k0_pay136 (F := Ideal) v10 v13 v16 v19 v26 v513 v515 v524 v525 v526 v527) j, (k0_pay137 (F := Ideal) v10 v13 v16 v19 v26 v513 v517 v524 v525 v526 v527) j, (k0_pay138 (F := Ideal) v10 v13 v16 v19 v26 v513 v519 v524 v525 v526 v527) j, (k0_pay139 (F := Ideal) v10 v13 v16 v19 v26 v513 v521 v524 v525 v526 v527) j, (k0_pay140 (F := Ideal) v10 v13 v16 v19 v26 v513 v523 v524 v525 v526 v527 v528) j⟩ : Best)
      = visit ⟨v10 j, v13 j, v16 j, v19 j, v26 j⟩ v524 v525 v526 v527 (FloatOps.sitofp (F := Ideal) .f32 (w := 32) v528) ⟨v513 j, v515 j, v517 j, v519 j, v521 j, v523 j⟩ := by
  unfold k0_pay140 k0_pay139 k0_pay138 k0_pay137 k0_pay136 k0_pay135 k0_pay134 k0_pay133
  rfl

theorem step11 : state12 c a1 h1 a3 h3 a4 h4 x0 x2 x3 j = visit (laneR c a1 h1 x0 j) (x2 (ix3 0 11 0)) (x2 (ix3 0 11 1)) (x2 (ix3 0 11 2)) (x2 (ix3 0 11 3)) (FloatOps.sitofp (F := Ideal) .f32 (w := 32) (x3 (ix3 0 0 11))) (state11 c a1 h1 a3 h3 a4 h4 x0 x2 x3 j) := by
  rw [← gt_read a3 h3 x2 11 0 (by decide) (by decide), ← gt_read a3 h3 x2 11 1 (by decide) (by decide), ← gt_read a3 h3 x2 11 2 (by decide) (by decide), ← gt_read a3 h3 x2 11 3 (by decide) (by decide), ← lb_read a4 h4 x3 11 (by decide) (by decide)]
  unfold state12 r_165 r_166 r_167 r_168 r_169 r_170
  exact raw11 _ _ _ _ _ _ _ _ _ _ _ _ _ _ _ _ j

/-- Box 12, at any registers. -/
theorem raw12 (v10 v13 v16 v19 v26 v557 v559 v561 v563 v565 v567 : Vec Ideal S200x128 .f32) (v568 v569 v570 v571 : EReal) (v572 : BitVec 32) (j : S200x128.Idx) :
    (⟨(k0_pay143 (F := Ideal) v10 v13 v16 v19 v26 v557 v568 v569 v570 v571) j, (k0_pay144 (F := Ideal) v10 v13 v16 v19 v26 v557 v559 v568 v569 v570 v571) j, (k0_pay145 (F := Ideal) v10 v13 v16 v19 v26 v557 v561 v568 v569 v570 v571) j, (k0_pay146 (F := Ideal) v10 v13 v16 v19 v26 v557 v563 v568 v569 v570 v571) j, (k0_pay147 (F := Ideal) v10 v13 v16 v19 v26 v557 v565 v568 v569 v570 v571) j, (k0_pay148 (F := Ideal) v10 v13 v16 v19 v26 v557 v567 v568 v569 v570 v571 v572) j⟩ : Best)
      = visit ⟨v10 j, v13 j, v16 j, v19 j, v26 j⟩ v568 v569 v570 v571 (FloatOps.sitofp (F := Ideal) .f32 (w := 32) v572) ⟨v557 j, v559 j, v561 j, v563 j, v565 j, v567 j⟩ := by
  unfold k0_pay148 k0_pay147 k0_pay146 k0_pay145 k0_pay144 k0_pay143 k0_pay142 k0_pay141
  rfl

theorem step12 : state13 c a1 h1 a3 h3 a4 h4 x0 x2 x3 j = visit (laneR c a1 h1 x0 j) (x2 (ix3 0 12 0)) (x2 (ix3 0 12 1)) (x2 (ix3 0 12 2)) (x2 (ix3 0 12 3)) (FloatOps.sitofp (F := Ideal) .f32 (w := 32) (x3 (ix3 0 0 12))) (state12 c a1 h1 a3 h3 a4 h4 x0 x2 x3 j) := by
  rw [← gt_read a3 h3 x2 12 0 (by decide) (by decide), ← gt_read a3 h3 x2 12 1 (by decide) (by decide), ← gt_read a3 h3 x2 12 2 (by decide) (by decide), ← gt_read a3 h3 x2 12 3 (by decide) (by decide), ← lb_read a4 h4 x3 12 (by decide) (by decide)]
  unfold state13 r_175 r_176 r_177 r_178 r_179 r_180
  exact raw12 _ _ _ _ _ _ _ _ _ _ _ _ _ _ _ _ j

/-- Box 13, at any registers. -/
theorem raw13 (v10 v13 v16 v19 v26 v601 v603 v605 v607 v609 v611 : Vec Ideal S200x128 .f32) (v612 v613 v614 v615 : EReal) (v616 : BitVec 32) (j : S200x128.Idx) :
    (⟨(k0_pay152 (F := Ideal) v10 v13 v16 v19 v26 v601 v612 v613 v614 v615) j, (k0_pay153 (F := Ideal) v10 v13 v16 v19 v26 v601 v603 v612 v613 v614 v615) j, (k0_pay154 (F := Ideal) v10 v13 v16 v19 v26 v601 v605 v612 v613 v614 v615) j, (k0_pay155 (F := Ideal) v10 v13 v16 v19 v26 v601 v607 v612 v613 v614 v615) j, (k0_pay157 (F := Ideal) v609 (k0_pay151 (F := Ideal) v10 v13 v16 v19 v26 v601 v612 v613 v614 v615) (k0_pay156 (F := Ideal) v615)) j, (k0_pay158 (F := Ideal) v611 (k0_pay149 (F := Ideal) v616) (k0_pay151 (F := Ideal) v10 v13 v16 v19 v26 v601 v612 v613 v614 v615)) j⟩ : Best)
      = visit ⟨v10 j, v13 j, v16 j, v19 j, v26 j⟩ v612 v613 v614 v615 (FloatOps.sitofp (F := Ideal) .f32 (w := 32) v616) ⟨v601 j, v603 j, v605 j, v607 j, v609 j, v611 j⟩ := by
  unfold k0_pay158 k0_pay157 k0_pay156 k0_pay155 k0_pay154 k0_pay153 k0_pay152 k0_pay151 k0_pay150 k0_pay149
  rfl

theorem step13 : state14 c a1 h1 a3 h3 a4 h4 x0 x2 x3 j = visit (laneR c a1 h1 x0 j) (x2 (ix3 0 13 0)) (x2 (ix3 0 13 1)) (x2 (ix3 0 13 2)) (x2 (ix3 0 13 3)) (FloatOps.sitofp (F := Ideal) .f32 (w := 32) (x3 (ix3 0 0 13))) (state13 c a1 h1 a3 h3 a4 h4 x0 x2 x3 j) := by
  rw [← gt_read a3 h3 x2 13 0 (by decide) (by decide), ← gt_read a3 h3 x2 13 1 (by decide) (by decide), ← gt_read a3 h3 x2 13 2 (by decide) (by decide), ← gt_read a3 h3 x2 13 3 (by decide) (by decide), ← lb_read a4 h4 x3 13 (by decide) (by decide)]
  unfold state14 r_188 r_189 r_190 r_191 r_198 r_187 r_192 r_199 r_186
  exact raw13 _ _ _ _ _ _ _ _ _ _ _ _ _ _ _ _ j

/-- Box 14, at any registers. -/
theorem raw14 (v10 v13 v16 v19 v26 v645 v647 v649 v651 v653 v655 : Vec Ideal S200x128 .f32) (v656 v657 v658 v659 : EReal) (v660 : BitVec 32) (j : S200x128.Idx) :
    (⟨(k0_pay162 (F := Ideal) v10 v13 v16 v19 v26 v645 v656 v657 v658 v659) j, (k0_pay163 (F := Ideal) v10 v13 v16 v19 v26 v645 v647 v656 v657 v658 v659) j, (k0_pay165 (F := Ideal) v649 (k0_pay161 (F := Ideal) v10 v13 v16 v19 v26 v645 v656 v657 v658 v659) (k0_pay164 (F := Ideal) v657)) j, (k0_pay166 (F := Ideal) v651 v658 (k0_pay161 (F := Ideal) v10 v13 v16 v19 v26 v645 v656 v657 v658 v659)) j, (k0_pay167 (F := Ideal) v653 v659 (k0_pay161 (F := Ideal) v10 v13 v16 v19 v26 v645 v656 v657 v658 v659)) j, (k0_pay168 (F := Ideal) v655 (k0_pay159 (F := Ideal) v660) (k0_pay161 (F := Ideal) v10 v13 v16 v19 v26 v645 v656 v657 v658 v659)) j⟩ : Best)
      = visit ⟨v10 j, v13 j, v16 j, v19 j, v26 j⟩ v656 v657 v658 v659 (FloatOps.sitofp (F := Ideal) .f32 (w := 32) v660) ⟨v645 j, v647 j, v649 j, v651 j, v653 j, v655 j⟩ := by
  unfold k0_pay168 k0_pay167 k0_pay166 k0_pay165 k0_pay164 k0_pay163 k0_pay162 k0_pay161 k0_pay160 k0_pay159
  rfl

theorem step14 : state15 c a1 h1 a3 h3 a4 h4 x0 x2 x3 j = visit (laneR c a1 h1 x0 j) (x2 (ix3 0 14 0)) (x2 (ix3 0 14 1)) (x2 (ix3 0 14 2)) (x2 (ix3 0 14 3)) (FloatOps.sitofp (F := Ideal) .f32 (w := 32) (x3 (ix3 0 0 14))) (state14 c a1 h1 a3 h3 a4 h4 x0 x2 x3 j) := by
  rw [← gt_read a3 h3 x2 14 0 (by decide) (by decide), ← gt_read a3 h3 x2 14 1 (by decide) (by decide), ← gt_read a3 h3 x2 14 2 (by decide) (by decide), ← gt_read a3 h3 x2 14 3 (by decide) (by decide), ← lb_read a4 h4 x3 14 (by decide) (by decide)]
  unfold state15 r_202 r_203 r_210 r_201 r_204 r_211 r_212 r_213 r_200
  exact raw14 _ _ _ _ _ _ _ _ _ _ _ _ _ _ _ _ j

/-- Box 15, at any registers. -/
theorem raw15 (v10 v13 v16 v19 v26 v689 v691 v693 v695 v697 v699 : Vec Ideal S200x128 .f32) (v700 v701 v702 v703 : EReal) (v704 : BitVec 32) (j : S200x128.Idx) :
    (⟨(k0_pay172 (F := Ideal) v689 (k0_pay170 (F := Ideal) v10 v13 v16 v19 v26 v700 v701 v702 v703) (k0_pay171 (F := Ideal) v10 v13 v16 v19 v26 v689 v700 v701 v702 v703)) j, (k0_pay173 (F := Ideal) v691 v700 (k0_pay171 (F := Ideal) v10 v13 v16 v19 v26 v689 v700 v701 v702 v703)) j, (k0_pay174 (F := Ideal) v693 v701 (k0_pay171 (F := Ideal) v10 v13 v16 v19 v26 v689 v700 v701 v702 v703)) j, (k0_pay175 (F := Ideal) v695 v702 (k0_pay171 (F := Ideal) v10 v13 v16 v19 v26 v689 v700 v701 v702 v703)) j, (k0_pay176 (F := Ideal) v697 v703 (k0_pay171 (F := Ideal) v10 v13 v16 v19 v26 v689 v700 v701 v702 v703)) j, (k0_pay177 (F := Ideal) v699 (k0_pay169 (F := Ideal) v704) (k0_pay171 (F := Ideal) v10 v13 v16 v19 v26 v689 v700 v701 v702 v703)) j⟩ : Best)
      = visit ⟨v10 j, v13 j, v16 j, v19 j, v26 j⟩ v700 v701 v702 v703 (FloatOps.sitofp (F := Ideal) .f32 (w := 32) v704) ⟨v689 j, v691 j, v693 j, v695 j, v697 j, v699 j⟩ := by
  unfold k0_pay177 k0_pay176 k0_pay175 k0_pay174 k0_pay173 k0_pay172 k0_pay171 k0_pay170 k0_pay169
  rfl

theorem step15 : state16 c a1 h1 a3 h3 a4 h4 x0 x2 x3 j = visit (laneR c a1 h1 x0 j) (x2 (ix3 0 15 0)) (x2 (ix3 0 15 1)) (x2 (ix3 0 15 2)) (x2 (ix3 0 15 3)) (FloatOps.sitofp (F := Ideal) .f32 (w := 32) (x3 (ix3 0 0 15))) (state15 c a1 h1 a3 h3 a4 h4 x0 x2 x3 j) := by
  rw [← gt_read a3 h3 x2 15 0 (by decide) (by decide), ← gt_read a3 h3 x2 15 1 (by decide) (by decide), ← gt_read a3 h3 x2 15 2 (by decide) (by decide), ← gt_read a3 h3 x2 15 3 (by decide) (by decide), ← lb_read a4 h4 x3 15 (by decide) (by decide)]
  unfold state16 r_222 r_215 r_216 r_223 r_224 r_225 r_226 r_227 r_214
  exact raw15 _ _ _ _ _ _ _ _ _ _ _ _ _ _ _ _ j

/-- Box 16, at any registers. -/
theorem raw16 (v10 v13 v16 v19 v26 v733 v735 v737 v739 v741 v743 : Vec Ideal S200x128 .f32) (v744 v745 v746 v747 : EReal) (v748 : BitVec 32) (j : S200x128.Idx) :
    (⟨(k0_pay183 (F := Ideal) v733 (k0_pay179 (F := Ideal) v10 v13 v16 v19 v744 v745 v746 v747) (k0_pay180 (F := Ideal) v10 v13 v16 v19 v26 v744 v745 v746 v747) (Ideal.ofBits .f32 0x3089705F#32)) j, (k0_pay184 (F := Ideal) v733 v735 v744 (k0_pay179 (F := Ideal) v10 v13 v16 v19 v744 v745 v746 v747) (k0_pay180 (F := Ideal) v10 v13 v16 v19 v26 v744 v745 v746 v747) (Ideal.ofBits .f32 0x3089705F#32)) j, (k0_pay185 (F := Ideal) v733 v737 v745 (k0_pay179 (F := Ideal) v10 v13 v16 v19 v744 v745 v746 v747) (k0_pay180 (F := Ideal) v10 v13 v16 v19 v26 v744 v745 v746 v747) (Ideal.ofBits .f32 0x3089705F#32)) j, (k0_pay186 (F := Ideal) v733 v739 v746 (k0_pay179 (F := Ideal) v10 v13 v16 v19 v744 v745 v746 v747) (k0_pay180 (F := Ideal) v10 v13 v16 v19 v26 v744 v745 v746 v747) (Ideal.ofBits .f32 0x3089705F#32)) j, (k0_pay187 (F := Ideal) v733 v741 v747 (k0_pay179 (F := Ideal) v10 v13 v16 v19 v744 v745 v746 v747) (k0_pay180 (F := Ideal) v10 v13 v16 v19 v26 v744 v745 v746 v747) (Ideal.ofBits .f32 0x3089705F#32)) j, (k0_pay188 (F := Ideal) v733 v743 (k0_pay178 (F := Ideal) v748) (k0_pay179 (F := Ideal) v10 v13 v16 v19 v744 v745 v746 v747) (k0_pay180 (F := Ideal) v10 v13 v16 v19 v26 v744 v745 v746 v747) (Ideal.ofBits .f32 0x3089705F#32)) j⟩ : Best)
      = visit ⟨v10 j, v13 j, v16 j, v19 j, v26 j⟩ v744 v745 v746 v747 (FloatOps.sitofp (F := Ideal) .f32 (w := 32) v748) ⟨v733 j, v735 j, v737 j, v739 j, v741 j, v743 j⟩ := by
  unfold k0_pay188 k0_pay187 k0_pay186 k0_pay185 k0_pay184 k0_pay183 k0_pay182 k0_pay181 k0_pay180 k0_pay179 k0_pay178
  rfl

theorem step16 : state17 c a1 h1 a3 h3 a4 h4 x0 x2 x3 j = visit (laneR c a1 h1 x0 j) (x2 (ix3 0 16 0)) (x2 (ix3 0 16 1)) (x2 (ix3 0 16 2)) (x2 (ix3 0 16 3)) (FloatOps.sitofp (F := Ideal) .f32 (w := 32) (x3 (ix3 0 0 16))) (state16 c a1 h1 a3 h3 a4 h4 x0 x2 x3 j) := by
  rw [← gt_read a3 h3 x2 16 0 (by decide) (by decide), ← gt_read a3 h3 x2 16 1 (by decide) (by decide), ← gt_read a3 h3 x2 16 2 (by decide) (by decide), ← gt_read a3 h3 x2 16 3 (by decide) (by decide), ← lb_read a4 h4 x3 16 (by decide) (by decide)]
  unfold state17 r_236 r_229 r_230 cst_58 r_237 r_238 r_239 r_240 r_241 r_228
  exact raw16 _ _ _ _ _ _ _ _ _ _ _ _ _ _ _ _ j

/-- Box 17, at any registers. -/
theorem raw17 (v10 v13 v16 v19 v26 v777 v779 v781 v783 v785 v787 : Vec Ideal S200x128 .f32) (v788 v789 v790 v791 : EReal) (v792 : BitVec 32) (j : S200x128.Idx) :
    (⟨(k0_pay194 (F := Ideal) v26 v777 (k0_pay190 (F := Ideal) v788 v789 v790 v791) (k0_pay191 (F := Ideal) v10 v13 v16 v19 v788 v789 v790 v791)) j, (k0_pay195 (F := Ideal) v26 v777 v779 v788 (k0_pay190 (F := Ideal) v788 v789 v790 v791) (k0_pay191 (F := Ideal) v10 v13 v16 v19 v788 v789 v790 v791)) j, (k0_pay196 (F := Ideal) v26 v777 v781 v789 (k0_pay190 (F := Ideal) v788 v789 v790 v791) (k0_pay191 (F := Ideal) v10 v13 v16 v19 v788 v789 v790 v791)) j, (k0_pay197 (F := Ideal) v26 v777 v783 v790 (k0_pay190 (F := Ideal) v788 v789 v790 v791) (k0_pay191 (F := Ideal) v10 v13 v16 v19 v788 v789 v790 v791)) j, (k0_pay198 (F := Ideal) v26 v777 v785 v791 (k0_pay190 (F := Ideal) v788 v789 v790 v791) (k0_pay191 (F := Ideal) v10 v13 v16 v19 v788 v789 v790 v791)) j, (k0_pay199 (F := Ideal) v26 v777 v787 (k0_pay189 (F := Ideal) v792) (k0_pay190 (F := Ideal) v788 v789 v790 v791) (k0_pay191 (F := Ideal) v10 v13 v16 v19 v788 v789 v790 v791)) j⟩ : Best)
      = visit ⟨v10 j, v13 j, v16 j, v19 j, v26 j⟩ v788 v789 v790 v791 (FloatOps.sitofp (F := Ideal) .f32 (w := 32) v792) ⟨v777 j, v779 j, v781 j, v783 j, v785 j, v787 j⟩ := by
  unfold k0_pay199 k0_pay198 k0_pay197 k0_pay196 k0_pay195 k0_pay194 k0_pay193 k0_pay192 k0_pay191 k0_pay190 k0_pay189
  rfl

theorem step17 : state18 c a1 h1 a3 h3 a4 h4 x0 x2 x3 j = visit (laneR c a1 h1 x0 j) (x2 (ix3 0 17 0)) (x2 (ix3 0 17 1)) (x2 (ix3 0 17 2)) (x2 (ix3 0 17 3)) (FloatOps.sitofp (F := Ideal) .f32 (w := 32) (x3 (ix3 0 0 17))) (state17 c a1 h1 a3 h3 a4 h4 x0 x2 x3 j) := by
  rw [← gt_read a3 h3 x2 17 0 (by decide) (by decide), ← gt_read a3 h3 x2 17 1 (by decide) (by decide), ← gt_read a3 h3 x2 17 2 (by decide) (by decide), ← gt_read a3 h3 x2 17 3 (by decide) (by decide), ← lb_read a4 h4 x3 17 (by decide) (by decide)]
  unfold state18 r_250 r_243 r_244 r_251 r_252 r_253 r_254 r_255 r_242
  exact raw17 _ _ _ _ _ _ _ _ _ _ _ _ _ _ _ _ j

/-- Box 18, at any registers. -/
theorem raw18 (v10 v13 v16 v19 v26 v821 v823 v825 v827 v829 v831 : Vec Ideal S200x128 .f32) (v832 v833 v834 v835 : EReal) (v836 : BitVec 32) (j : S200x128.Idx) :
    (⟨(k0_pay206 (F := Ideal) v26 v821 (k0_pay201 (F := Ideal) v832 v833 v834 v835) (k0_pay202 (F := Ideal) v13 v19 v833 v835) (k0_pay203 (F := Ideal) v10 v16 v832 v834)) j, (k0_pay207 (F := Ideal) v26 v821 v823 v832 (k0_pay201 (F := Ideal) v832 v833 v834 v835) (k0_pay202 (F := Ideal) v13 v19 v833 v835) (k0_pay203 (F := Ideal) v10 v16 v832 v834)) j, (k0_pay208 (F := Ideal) v26 v821 v825 v833 (k0_pay201 (F := Ideal) v832 v833 v834 v835) (k0_pay202 (F := Ideal) v13 v19 v833 v835) (k0_pay203 (F := Ideal) v10 v16 v832 v834)) j, (k0_pay209 (F := Ideal) v26 v821 v827 v834 (k0_pay201 (F := Ideal) v832 v833 v834 v835) (k0_pay202 (F := Ideal) v13 v19 v833 v835) (k0_pay203 (F := Ideal) v10 v16 v832 v834)) j, (k0_pay210 (F := Ideal) v26 v821 v829 v835 (k0_pay201 (F := Ideal) v832 v833 v834 v835) (k0_pay202 (F := Ideal) v13 v19 v833 v835) (k0_pay203 (F := Ideal) v10 v16 v832 v834)) j, (k0_pay211 (F := Ideal) v26 v821 v831 (k0_pay200 (F := Ideal) v836) (k0_pay201 (F := Ideal) v832 v833 v834 v835) (k0_pay202 (F := Ideal) v13 v19 v833 v835) (k0_pay203 (F := Ideal) v10 v16 v832 v834)) j⟩ : Best)
      = visit ⟨v10 j, v13 j, v16 j, v19 j, v26 j⟩ v832 v833 v834 v835 (FloatOps.sitofp (F := Ideal) .f32 (w := 32) v836) ⟨v821 j, v823 j, v825 j, v827 j, v829 j, v831 j⟩ := by
  unfold k0_pay211 k0_pay210 k0_pay209 k0_pay208 k0_pay207 k0_pay206 k0_pay205 k0_pay204 k0_pay203 k0_pay202 k0_pay201 k0_pay200
  rfl

theorem step18 : state19 c a1 h1 a3 h3 a4 h4 x0 x2 x3 j = visit (laneR c a1 h1 x0 j) (x2 (ix3 0 18 0)) (x2 (ix3 0 18 1)) (x2 (ix3 0 18 2)) (x2 (ix3 0 18 3)) (FloatOps.sitofp (F := Ideal) .f32 (w := 32) (x3 (ix3 0 0 18))) (state18 c a1 h1 a3 h3 a4 h4 x0 x2 x3 j) := by
  rw [← gt_read a3 h3 x2 18 0 (by decide) (by decide), ← gt_read a3 h3 x2 18 1 (by decide) (by decide), ← gt_read a3 h3 x2 18 2 (by decide) (by decide), ← gt_read a3 h3 x2 18 3 (by decide) (by decide), ← lb_read a4 h4 x3 18 (by decide) (by decide)]
  unfold state19 r_265 r_257 r_258 r_259 r_266 r_267 r_268 r_269 r_270 r_256
  exact raw18 _ _ _ _ _ _ _ _ _ _ _ _ _ _ _ _ j

/-- Box 19, at any registers. -/
theorem raw19 (v10 v13 v16 v19 v26 v865 v867 v869 v871 v873 v875 : Vec Ideal S200x128 .f32) (v876 v877 v878 v879 : EReal) (v880 : BitVec 32) (j : S200x128.Idx) :
    (⟨(k0_pay219 (F := Ideal) v26 v865 (k0_pay213 (F := Ideal) v876 v877 v878 v879) (k0_pay214 (F := Ideal) v10 v16 v876 v878) (k0_pay215 (F := Ideal) v19 v879) (k0_pay216 (F := Ideal) v13 v877)) j, (k0_pay220 (F := Ideal) v26 v865 v867 v876 (k0_pay213 (F := Ideal) v876 v877 v878 v879) (k0_pay214 (F := Ideal) v10 v16 v876 v878) (k0_pay215 (F := Ideal) v19 v879) (k0_pay216 (F := Ideal) v13 v877)) j, (k0_pay221 (F := Ideal) v26 v865 v869 v877 (k0_pay213 (F := Ideal) v876 v877 v878 v879) (k0_pay214 (F := Ideal) v10 v16 v876 v878) (k0_pay215 (F := Ideal) v19 v879) (k0_pay216 (F := Ideal) v13 v877)) j, (k0_pay222 (F := Ideal) v26 v865 v871 v878 (k0_pay213 (F := Ideal) v876 v877 v878 v879) (k0_pay214 (F := Ideal) v10 v16 v876 v878) (k0_pay215 (F := Ideal) v19 v879) (k0_pay216 (F := Ideal) v13 v877)) j, (k0_pay223 (F := Ideal) v26 v865 v873 v879 (k0_pay213 (F := Ideal) v876 v877 v878 v879) (k0_pay214 (F := Ideal) v10 v16 v876 v878) (k0_pay215 (F := Ideal) v19 v879) (k0_pay216 (F := Ideal) v13 v877)) j, (k0_pay224 (F := Ideal) v26 v865 v875 (k0_pay212 (F := Ideal) v880) (k0_pay213 (F := Ideal) v876 v877 v878 v879) (k0_pay214 (F := Ideal) v10 v16 v876 v878) (k0_pay215 (F := Ideal) v19 v879) (k0_pay216 (F := Ideal) v13 v877)) j⟩ : Best)
      = visit ⟨v10 j, v13 j, v16 j, v19 j, v26 j⟩ v876 v877 v878 v879 (FloatOps.sitofp (F := Ideal) .f32 (w := 32) v880) ⟨v865 j, v867 j, v869 j, v871 j, v873 j, v875 j⟩ := by
  unfold k0_pay224 k0_pay223 k0_pay222 k0_pay221 k0_pay220 k0_pay219 k0_pay218 k0_pay217 k0_pay216 k0_pay215 k0_pay214 k0_pay213 k0_pay212
  rfl

theorem step19 : state20 c a1 h1 a3 h3 a4 h4 x0 x2 x3 j = visit (laneR c a1 h1 x0 j) (x2 (ix3 0 19 0)) (x2 (ix3 0 19 1)) (x2 (ix3 0 19 2)) (x2 (ix3 0 19 3)) (FloatOps.sitofp (F := Ideal) .f32 (w := 32) (x3 (ix3 0 0 19))) (state19 c a1 h1 a3 h3 a4 h4 x0 x2 x3 j) := by
  rw [← gt_read a3 h3 x2 19 0 (by decide) (by decide), ← gt_read a3 h3 x2 19 1 (by decide) (by decide), ← gt_read a3 h3 x2 19 2 (by decide) (by decide), ← gt_read a3 h3 x2 19 3 (by decide) (by decide), ← lb_read a4 h4 x3 19 (by decide) (by decide)]
  unfold state20 r_281 r_272 r_273 r_274 r_275 r_282 r_283 r_284 r_285 r_286 r_271
  exact raw19 _ _ _ _ _ _ _ _ _ _ _ _ _ _ _ _ j

/-- Box 20, at any registers. -/
theorem raw20 (v10 v13 v16 v19 v26 v909 v911 v913 v915 v917 v919 : Vec Ideal S200x128 .f32) (v920 v921 v922 v923 : EReal) (v924 : BitVec 32) (j : S200x128.Idx) :
    (⟨(k0_pay230 (F := Ideal) v13 v19 v26 v909 v921 v923 (k0_pay226 (F := Ideal) v920 v921 v922 v923) (k0_pay227 (F := Ideal) v10 v16 v920 v922)) j, (k0_pay231 (F := Ideal) v13 v19 v26 v909 v911 v920 v921 v923 (k0_pay226 (F := Ideal) v920 v921 v922 v923) (k0_pay227 (F := Ideal) v10 v16 v920 v922)) j, (k0_pay232 (F := Ideal) v13 v19 v26 v909 v913 v921 v923 (k0_pay226 (F := Ideal) v920 v921 v922 v923) (k0_pay227 (F := Ideal) v10 v16 v920 v922)) j, (k0_pay233 (F := Ideal) v13 v19 v26 v909 v915 v921 v922 v923 (k0_pay226 (F := Ideal) v920 v921 v922 v923) (k0_pay227 (F := Ideal) v10 v16 v920 v922)) j, (k0_pay234 (F := Ideal) v13 v19 v26 v909 v917 v921 v923 (k0_pay226 (F := Ideal) v920 v921 v922 v923) (k0_pay227 (F := Ideal) v10 v16 v920 v922)) j, (k0_pay235 (F := Ideal) v13 v19 v26 v909 v919 v921 v923 (k0_pay225 (F := Ideal) v924) (k0_pay226 (F := Ideal) v920 v921 v922 v923) (k0_pay227 (F := Ideal) v10 v16 v920 v922)) j⟩ : Best)
      = visit ⟨v10 j, v13 j, v16 j, v19 j, v26 j⟩ v920 v921 v922 v923 (FloatOps.sitofp (F := Ideal) .f32 (w := 32) v924) ⟨v909 j, v911 j, v913 j, v915 j, v917 j, v919 j⟩ := by
  unfold k0_pay235 k0_pay234 k0_pay233 k0_pay232 k0_pay231 k0_pay230 k0_pay229 k0_pay228 k0_pay227 k0_pay226 k0_pay225
  rfl

theorem step20 : state21 c a1 h1 a3 h3 a4 h4 x0 x2 x3 j = visit (laneR c a1 h1 x0 j) (x2 (ix3 0 20 0)) (x2 (ix3 0 20 1)) (x2 (ix3 0 20 2)) (x2 (ix3 0 20 3)) (FloatOps.sitofp (F := Ideal) .f32 (w := 32) (x3 (ix3 0 0 20))) (state20 c a1 h1 a3 h3 a4 h4 x0 x2 x3 j) := by
  rw [← gt_read a3 h3 x2 20 0 (by decide) (by decide), ← gt_read a3 h3 x2 20 1 (by decide) (by decide), ← gt_read a3 h3 x2 20 2 (by decide) (by decide), ← gt_read a3 h3 x2 20 3 (by decide) (by decide), ← lb_read a4 h4 x3 20 (by decide) (by decide)]
  unfold state21 r_295 r_288 r_289 r_296 r_297 r_298 r_299 r_300 r_287
  exact raw20 _ _ _ _ _ _ _ _ _ _ _ _ _ _ _ _ j

/-- Box 21, at any registers. -/
theorem raw21 (v10 v13 v16 v19 v26 v953 v955 v957 v959 v961 v963 : Vec Ideal S200x128 .f32) (v964 v965 v966 v967 : EReal) (v968 : BitVec 32) (j : S200x128.Idx) :
    (⟨(k0_pay241 (F := Ideal) v10 v13 v16 v19 v26 v953 v964 v965 v967 (k0_pay237 (F := Ideal) v964 v965 v966 v967) (k0_pay238 (F := Ideal) v966)) j, (k0_pay242 (F := Ideal) v10 v13 v16 v19 v26 v953 v955 v964 v965 v967 (k0_pay237 (F := Ideal) v964 v965 v966 v967) (k0_pay238 (F := Ideal) v966)) j, (k0_pay243 (F := Ideal) v10 v13 v16 v19 v26 v953 v957 v964 v965 v967 (k0_pay237 (F := Ideal) v964 v965 v966 v967) (k0_pay238 (F := Ideal) v966)) j, (k0_pay244 (F := Ideal) v10 v13 v16 v19 v26 v953 v959 v964 v965 v966 v967 (k0_pay237 (F := Ideal) v964 v965 v966 v967) (k0_pay238 (F := Ideal) v966)) j, (k0_pay245 (F := Ideal) v10 v13 v16 v19 v26 v953 v961 v964 v965 v967 (k0_pay237 (F := Ideal) v964 v965 v966 v967) (k0_pay238 (F := Ideal) v966)) j, (k0_pay246 (F := Ideal) v10 v13 v16 v19 v26 v953 v963 v964 v965 v967 (k0_pay236 (F := Ideal) v968) (k0_pay237 (F := Ideal) v964 v965 v966 v967) (k0_pay238 (F := Ideal) v966)) j⟩ : Best)
      = visit ⟨v10 j, v13 j, v16 j, v19 j, v26 j⟩ v964 v965 v966 v967 (FloatOps.sitofp (F := Ideal) .f32 (w := 32) v968) ⟨v953 j, v955 j, v957 j, v959 j, v961 j, v963 j⟩ := by
  unfold k0_pay246 k0_pay245 k0_pay244 k0_pay243 k0_pay242 k0_pay241 k0_pay240 k0_pay239 k0_pay238 k0_pay237 k0_pay236
  rfl

theorem step21 : state22 c a1 h1 a3 h3 a4 h4 x0 x2 x3 j = visit (laneR c a1 h1 x0 j) (x2 (ix3 0 21 0)) (x2 (ix3 0 21 1)) (x2 (ix3 0 21 2)) (x2 (ix3 0 21 3)) (FloatOps.sitofp (F := Ideal) .f32 (w := 32) (x3 (ix3 0 0 21))) (state21 c a1 h1 a3 h3 a4 h4 x0 x2 x3 j) := by
  rw [← gt_read a3 h3 x2 21 0 (by decide) (by decide), ← gt_read a3 h3 x2 21 1 (by decide) (by decide), ← gt_read a3 h3 x2 21 2 (by decide) (by decide), ← gt_read a3 h3 x2 21 3 (by decide) (by decide), ← lb_read a4 h4 x3 21 (by decide) (by decide)]
  unfold state22 r_309 r_302 r_303 r_310 r_311 r_312 r_313 r_314 r_301
  exact raw21 _ _ _ _ _ _ _ _ _ _ _ _ _ _ _ _ j

/-- Box 22, at any registers. -/
theorem raw22 (v10 v13 v16 v19 v26 v997 v999 v1001 v1003 v1005 v1007 : Vec Ideal S200x128 .f32) (v1008 v1009 v1010 v1011 : EReal) (v1012 : BitVec 32) (j : S200x128.Idx) :
    (⟨(k0_pay252 (F := Ideal) v10 v13 v16 v19 v26 v997 v1008 v1009 v1010 v1011 (k0_pay248 (F := Ideal) v1008 v1010) (k0_pay249 (F := Ideal) v1009 v1011)) j, (k0_pay253 (F := Ideal) v10 v13 v16 v19 v26 v997 v999 v1008 v1009 v1010 v1011 (k0_pay248 (F := Ideal) v1008 v1010) (k0_pay249 (F := Ideal) v1009 v1011)) j, (k0_pay254 (F := Ideal) v10 v13 v16 v19 v26 v997 v1001 v1008 v1009 v1010 v1011 (k0_pay248 (F := Ideal) v1008 v1010) (k0_pay249 (F := Ideal) v1009 v1011)) j, (k0_pay255 (F := Ideal) v10 v13 v16 v19 v26 v997 v1003 v1008 v1009 v1010 v1011 (k0_pay248 (F := Ideal) v1008 v1010) (k0_pay249 (F := Ideal) v1009 v1011)) j, (k0_pay256 (F := Ideal) v10 v13 v16 v19 v26 v997 v1005 v1008 v1009 v1010 v1011 (k0_pay248 (F := Ideal) v1008 v1010) (k0_pay249 (F := Ideal) v1009 v1011)) j, (k0_pay257 (F := Ideal) v10 v13 v16 v19 v26 v997 v1007 v1008 v1009 v1010 v1011 (k0_pay247 (F := Ideal) v1012) (k0_pay248 (F := Ideal) v1008 v1010) (k0_pay249 (F := Ideal) v1009 v1011)) j⟩ : Best)
      = visit ⟨v10 j, v13 j, v16 j, v19 j, v26 j⟩ v1008 v1009 v1010 v1011 (FloatOps.sitofp (F := Ideal) .f32 (w := 32) v1012) ⟨v997 j, v999 j, v1001 j, v1003 j, v1005 j, v1007 j⟩ := by
  unfold k0_pay257 k0_pay256 k0_pay255 k0_pay254 k0_pay253 k0_pay252 k0_pay251 k0_pay250 k0_pay249 k0_pay248 k0_pay247
  rfl

theorem step22 : state23 c a1 h1 a3 h3 a4 h4 x0 x2 x3 j = visit (laneR c a1 h1 x0 j) (x2 (ix3 0 22 0)) (x2 (ix3 0 22 1)) (x2 (ix3 0 22 2)) (x2 (ix3 0 22 3)) (FloatOps.sitofp (F := Ideal) .f32 (w := 32) (x3 (ix3 0 0 22))) (state22 c a1 h1 a3 h3 a4 h4 x0 x2 x3 j) := by
  rw [← gt_read a3 h3 x2 22 0 (by decide) (by decide), ← gt_read a3 h3 x2 22 1 (by decide) (by decide), ← gt_read a3 h3 x2 22 2 (by decide) (by decide), ← gt_read a3 h3 x2 22 3 (by decide) (by decide), ← lb_read a4 h4 x3 22 (by decide) (by decide)]
  unfold state23 r_323 r_316 r_317 r_324 r_325 r_326 r_327 r_328 r_315
  exact raw22 _ _ _ _ _ _ _ _ _ _ _ _ _ _ _ _ j

/-- Box 23, at any registers. -/
theorem raw23 (v10 v13 v16 v19 v26 v1041 v1043 v1045 v1047 v1049 v1051 : Vec Ideal S200x128 .f32) (v1052 v1053 v1054 v1055 : EReal) (v1056 : BitVec 32) (j : S200x128.Idx) :
    (⟨(k0_pay261 (F := Ideal) v10 v13 v16 v19 v26 v1041 v1052 v1053 v1054 v1055) j, (k0_pay262 (F := Ideal) v10 v13 v16 v19 v26 v1041 v1043 v1052 v1053 v1054 v1055) j, (k0_pay263 (F := Ideal) v10 v13 v16 v19 v26 v1041 v1045 v1052 v1053 v1054 v1055) j, (k0_pay264 (F := Ideal) v10 v13 v16 v19 v26 v1041 v1047 v1052 v1053 v1054 v1055) j, (k0_pay265 (F := Ideal) v10 v13 v16 v19 v26 v1041 v1049 v1052 v1053 v1054 v1055) j, (k0_pay266 (F := Ideal) v10 v13 v16 v19 v26 v1041 v1051 v1052 v1053 v1054 v1055 (k0_pay258 (F := Ideal) v1056)) j⟩ : Best)
      = visit ⟨v10 j, v13 j, v16 j, v19 j, v26 j⟩ v1052 v1053 v1054 v1055 (FloatOps.sitofp (F := Ideal) .f32 (w := 32) v1056) ⟨v1041 j, v1043 j, v1045 j, v1047 j, v1049 j, v1051 j⟩ := by
  unfold k0_pay266 k0_pay265 k0_pay264 k0_pay263 k0_pay262 k0_pay261 k0_pay260 k0_pay259 k0_pay258
  rfl

theorem step23 : state24 c a1 h1 a3 h3 a4 h4 x0 x2 x3 j = visit (laneR c a1 h1 x0 j) (x2 (ix3 0 23 0)) (x2 (ix3 0 23 1)) (x2 (ix3 0 23 2)) (x2 (ix3 0 23 3)) (FloatOps.sitofp (F := Ideal) .f32 (w := 32) (x3 (ix3 0 0 23))) (state23 c a1 h1 a3 h3 a4 h4 x0 x2 x3 j) := by
  rw [← gt_read a3 h3 x2 23 0 (by decide) (by decide), ← gt_read a3 h3 x2 23 1 (by decide) (by decide), ← gt_read a3 h3 x2 23 2 (by decide) (by decide), ← gt_read a3 h3 x2 23 3 (by decide) (by decide), ← lb_read a4 h4 x3 23 (by decide) (by decide)]
  unfold state24 r_334 r_335 r_336 r_337 r_338 r_339 r_329
  exact raw23 _ _ _ _ _ _ _ _ _ _ _ _ _ _ _ _ j

/-- Box 24, at any registers. -/
theorem raw24 (v10 v13 v16 v19 v26 v1085 v1087 v1089 v1091 v1093 v1095 : Vec Ideal S200x128 .f32) (v1096 v1097 v1098 v1099 : EReal) (v1100 : BitVec 32) (j : S200x128.Idx) :
    (⟨(k0_pay269 (F := Ideal) v10 v13 v16 v19 v26 v1085 v1096 v1097 v1098 v1099) j, (k0_pay270 (F := Ideal) v10 v13 v16 v19 v26 v1085 v1087 v1096 v1097 v1098 v1099) j, (k0_pay271 (F := Ideal) v10 v13 v16 v19 v26 v1085 v1089 v1096 v1097 v1098 v1099) j, (k0_pay272 (F := Ideal) v10 v13 v16 v19 v26 v1085 v1091 v1096 v1097 v1098 v1099) j, (k0_pay273 (F := Ideal) v10 v13 v16 v19 v26 v1085 v1093 v1096 v1097 v1098 v1099) j, (k0_pay274 (F := Ideal) v10 v13 v16 v19 v26 v1085 v1095 v1096 v1097 v1098 v1099 v1100) j⟩ : Best)
      = visit ⟨v10 j, v13 j, v16 j, v19 j, v26 j⟩ v1096 v1097 v1098 v1099 (FloatOps.sitofp (F := Ideal) .f32 (w := 32) v1100) ⟨v1085 j, v1087 j, v1089 j, v1091 j, v1093 j, v1095 j⟩ := by
  unfold k0_pay274 k0_pay273 k0_pay272 k0_pay271 k0_pay270 k0_pay269 k0_pay268 k0_pay267
  rfl

theorem step24 : state25 c a1 h1 a3 h3 a4 h4 x0 x2 x3 j = visit (laneR c a1 h1 x0 j) (x2 (ix3 0 24 0)) (x2 (ix3 0 24 1)) (x2 (ix3 0 24 2)) (x2 (ix3 0 24 3)) (FloatOps.sitofp (F := Ideal) .f32 (w := 32) (x3 (ix3 0 0 24))) (state24 c a1 h1 a3 h3 a4 h4 x0 x2 x3 j) := by
  rw [← gt_read a3 h3 x2 24 0 (by decide) (by decide), ← gt_read a3 h3 x2 24 1 (by decide) (by decide), ← gt_read a3 h3 x2 24 2 (by decide) (by decide), ← gt_read a3 h3 x2 24 3 (by decide) (by decide), ← lb_read a4 h4 x3 24 (by decide) (by decide)]
  unfold state25 r_344 r_345 r_346 r_347 r_348 r_349
  exact raw24 _ _ _ _ _ _ _ _ _ _ _ _ _ _ _ _ j

/-- Box 25, at any registers. -/
theorem raw25 (v10 v13 v16 v19 v26 v1129 v1131 v1133 v1135 v1137 v1139 : Vec Ideal S200x128 .f32) (v1140 v1141 v1142 v1143 : EReal) (v1144 : BitVec 32) (j : S200x128.Idx) :
    (⟨(k0_pay277 (F := Ideal) v10 v13 v16 v19 v26 v1129 v1140 v1141 v1142 v1143) j, (k0_pay278 (F := Ideal) v10 v13 v16 v19 v26 v1129 v1131 v1140 v1141 v1142 v1143) j, (k0_pay279 (F := Ideal) v10 v13 v16 v19 v26 v1129 v1133 v1140 v1141 v1142 v1143) j, (k0_pay280 (F := Ideal) v10 v13 v16 v19 v26 v1129 v1135 v1140 v1141 v1142 v1143) j, (k0_pay281 (F := Ideal) v10 v13 v16 v19 v26 v1129 v1137 v1140 v1141 v1142 v1143) j, (k0_pay282 (F := Ideal) v10 v13 v16 v19 v26 v1129 v1139 v1140 v1141 v1142 v1143 v1144) j⟩ : Best)
      = visit ⟨v10 j, v13 j, v16 j, v19 j, v26 j⟩ v1140 v1141 v1142 v1143 (FloatOps.sitofp (F := Ideal) .f32 (w := 32) v1144) ⟨v1129 j, v1131 j, v1133 j, v1135 j, v1137 j, v1139 j⟩ := by
  unfold k0_pay282 k0_pay281 k0_pay280 k0_pay279 k0_pay278 k0_pay277 k0_pay276 k0_pay275
  rfl

theorem step25 : state26 c a1 h1 a3 h3 a4 h4 x0 x2 x3 j = visit (laneR c a1 h1 x0 j) (x2 (ix3 0 25 0)) (x2 (ix3 0 25 1)) (x2 (ix3 0 25 2)) (x2 (ix3 0 25 3)) (FloatOps.sitofp (F := Ideal) .f32 (w := 32) (x3 (ix3 0 0 25))) (state25 c a1 h1 a3 h3 a4 h4 x0 x2 x3 j) := by
  rw [← gt_read a3 h3 x2 25 0 (by decide) (by decide), ← gt_read a3 h3 x2 25 1 (by decide) (by decide), ← gt_read a3 h3 x2 25 2 (by decide) (by decide), ← gt_read a3 h3 x2 25 3 (by decide) (by decide), ← lb_read a4 h4 x3 25 (by decide) (by decide)]
  unfold state26 r_354 r_355 r_356 r_357 r_358 r_359
  exact raw25 _ _ _ _ _ _ _ _ _ _ _ _ _ _ _ _ j

/-- Box 26, at any registers. -/
theorem raw26 (v10 v13 v16 v19 v26 v1173 v1175 v1177 v1179 v1181 v1183 : Vec Ideal S200x128 .f32) (v1184 v1185 v1186 v1187 : EReal) (v1188 : BitVec 32) (j : S200x128.Idx) :
    (⟨(k0_pay285 (F := Ideal) v10 v13 v16 v19 v26 v1173 v1184 v1185 v1186 v1187) j, (k0_pay286 (F := Ideal) v10 v13 v16 v19 v26 v1173 v1175 v1184 v1185 v1186 v1187) j, (k0_pay287 (F := Ideal) v10 v13 v16 v19 v26 v1173 v1177 v1184 v1185 v1186 v1187) j, (k0_pay288 (F := Ideal) v10 v13 v16 v19 v26 v1173 v1179 v1184 v1185 v1186 v1187) j, (k0_pay289 (F := Ideal) v10 v13 v16 v19 v26 v1173 v1181 v1184 v1185 v1186 v1187) j, (k0_pay290 (F := Ideal) v10 v13 v16 v19 v26 v1173 v1183 v1184 v1185 v1186 v1187 v1188) j⟩ : Best)
      = visit ⟨v10 j, v13 j, v16 j, v19 j, v26 j⟩ v1184 v1185 v1186 v1187 (FloatOps.sitofp (F := Ideal) .f32 (w := 32) v1188) ⟨v1173 j, v1175 j, v1177 j, v1179 j, v1181 j, v1183 j⟩ := by
  unfold k0_pay290 k0_pay289 k0_pay288 k0_pay287 k0_pay286 k0_pay285 k0_pay284 k0_pay283
  rfl

theorem step26 : state27 c a1 h1 a3 h3 a4 h4 x0 x2 x3 j = visit (laneR c a1 h1 x0 j) (x2 (ix3 0 26 0)) (x2 (ix3 0 26 1)) (x2 (ix3 0 26 2)) (x2 (ix3 0 26 3)) (FloatOps.sitofp (F := Ideal) .f32 (w := 32) (x3 (ix3 0 0 26))) (state26 c a1 h1 a3 h3 a4 h4 x0 x2 x3 j) := by
  rw [← gt_read a3 h3 x2 26 0 (by decide) (by decide), ← gt_read a3 h3 x2 26 1 (by decide) (by decide), ← gt_read a3 h3 x2 26 2 (by decide) (by decide), ← gt_read a3 h3 x2 26 3 (by decide) (by decide), ← lb_read a4 h4 x3 26 (by decide) (by decide)]
  unfold state27 r_364 r_365 r_366 r_367 r_368 r_369
  exact raw26 _ _ _ _ _ _ _ _ _ _ _ _ _ _ _ _ j

/-- Box 27, at any registers. -/
theorem raw27 (v10 v13 v16 v19 v26 v1217 v1219 v1221 v1223 v1225 v1227 : Vec Ideal S200x128 .f32) (v1228 v1229 v1230 v1231 : EReal) (v1232 : BitVec 32) (j : S200x128.Idx) :
    (⟨(k0_pay293 (F := Ideal) v10 v13 v16 v19 v26 v1217 v1228 v1229 v1230 v1231) j, (k0_pay294 (F := Ideal) v10 v13 v16 v19 v26 v1217 v1219 v1228 v1229 v1230 v1231) j, (k0_pay295 (F := Ideal) v10 v13 v16 v19 v26 v1217 v1221 v1228 v1229 v1230 v1231) j, (k0_pay296 (F := Ideal) v10 v13 v16 v19 v26 v1217 v1223 v1228 v1229 v1230 v1231) j, (k0_pay297 (F := Ideal) v10 v13 v16 v19 v26 v1217 v1225 v1228 v1229 v1230 v1231) j, (k0_pay298 (F := Ideal) v10 v13 v16 v19 v26 v1217 v1227 v1228 v1229 v1230 v1231 v1232) j⟩ : Best)
      = visit ⟨v10 j, v13 j, v16 j, v19 j, v26 j⟩ v1228 v1229 v1230 v1231 (FloatOps.sitofp (F := Ideal) .f32 (w := 32) v1232) ⟨v1217 j, v1219 j, v1221 j, v1223 j, v1225 j, v1227 j⟩ := by
  unfold k0_pay298 k0_pay297 k0_pay296 k0_pay295 k0_pay294 k0_pay293 k0_pay292 k0_pay291
  rfl

theorem step27 : state28 c a1 h1 a3 h3 a4 h4 x0 x2 x3 j = visit (laneR c a1 h1 x0 j) (x2 (ix3 0 27 0)) (x2 (ix3 0 27 1)) (x2 (ix3 0 27 2)) (x2 (ix3 0 27 3)) (FloatOps.sitofp (F := Ideal) .f32 (w := 32) (x3 (ix3 0 0 27))) (state27 c a1 h1 a3 h3 a4 h4 x0 x2 x3 j) := by
  rw [← gt_read a3 h3 x2 27 0 (by decide) (by decide), ← gt_read a3 h3 x2 27 1 (by decide) (by decide), ← gt_read a3 h3 x2 27 2 (by decide) (by decide), ← gt_read a3 h3 x2 27 3 (by decide) (by decide), ← lb_read a4 h4 x3 27 (by decide) (by decide)]
  unfold state28 r_374 r_375 r_376 r_377 r_378 r_379
  exact raw27 _ _ _ _ _ _ _ _ _ _ _ _ _ _ _ _ j

/-- Box 28, at any registers. -/
theorem raw28 (v10 v13 v16 v19 v26 v1261 v1263 v1265 v1267 v1269 v1271 : Vec Ideal S200x128 .f32) (v1272 v1273 v1274 v1275 : EReal) (v1276 : BitVec 32) (j : S200x128.Idx) :
    (⟨(k0_pay302 (F := Ideal) v10 v13 v16 v19 v26 v1261 v1272 v1273 v1274 v1275) j, (k0_pay303 (F := Ideal) v10 v13 v16 v19 v26 v1261 v1263 v1272 v1273 v1274 v1275) j, (k0_pay304 (F := Ideal) v10 v13 v16 v19 v26 v1261 v1265 v1272 v1273 v1274 v1275) j, (k0_pay305 (F := Ideal) v10 v13 v16 v19 v26 v1261 v1267 v1272 v1273 v1274 v1275) j, (k0_pay307 (F := Ideal) v1269 (k0_pay301 (F := Ideal) v10 v13 v16 v19 v26 v1261 v1272 v1273 v1274 v1275) (k0_pay306 (F := Ideal) v1275)) j, (k0_pay308 (F := Ideal) v1271 (k0_pay299 (F := Ideal) v1276) (k0_pay301 (F := Ideal) v10 v13 v16 v19 v26 v1261 v1272 v1273 v1274 v1275)) j⟩ : Best)
      = visit ⟨v10 j, v13 j, v16 j, v19 j, v26 j⟩ v1272 v1273 v1274 v1275 (FloatOps.sitofp (F := Ideal) .f32 (w := 32) v1276) ⟨v1261 j, v1263 j, v1265 j, v1267 j, v1269 j, v1271 j⟩ := by
  unfold k0_pay308 k0_pay307 k0_pay306 k0_pay305 k0_pay304 k0_pay303 k0_pay302 k0_pay301 k0_pay300 k0_pay299
  rfl

theorem step28 : state29 c a1 h1 a3 h3 a4 h4 x0 x2 x3 j = visit (laneR c a1 h1 x0 j) (x2 (ix3 0 28 0)) (x2 (ix3 0 28 1)) (x2 (ix3 0 28 2)) (x2 (ix3 0 28 3)) (FloatOps.sitofp (F := Ideal) .f32 (w := 32) (x3 (ix3 0 0 28))) (state28 c a1 h1 a3 h3 a4 h4 x0 x2 x3 j) := by
  rw [← gt_read a3 h3 x2 28 0 (by decide) (by decide), ← gt_read a3 h3 x2 28 1 (by decide) (by decide), ← gt_read a3 h3 x2 28 2 (by decide) (by decide), ← gt_read a3 h3 x2 28 3 (by decide) (by decide), ← lb_read a4 h4 x3 28 (by decide) (by decide)]
  unfold state29 r_387 r_388 r_389 r_390 r_397 r_386 r_391 r_398 r_385
  exact raw28 _ _ _ _ _ _ _ _ _ _ _ _ _ _ _ _ j

/-- Box 29, at any registers. -/
theorem raw29 (v10 v13 v16 v19 v26 v1305 v1307 v1309 v1311 v1313 v1315 : Vec Ideal S200x128 .f32) (v1316 v1317 v1318 v1319 : EReal) (v1320 : BitVec 32) (j : S200x128.Idx) :
    (⟨(k0_pay312 (F := Ideal) v10 v13 v16 v19 v26 v1305 v1316 v1317 v1318 v1319) j, (k0_pay313 (F := Ideal) v10 v13 v16 v19 v26 v1305 v1307 v1316 v1317 v1318 v1319) j, (k0_pay315 (F := Ideal) v1309 (k0_pay311 (F := Ideal) v10 v13 v16 v19 v26 v1305 v1316 v1317 v1318 v1319) (k0_pay314 (F := Ideal) v1317)) j, (k0_pay316 (F := Ideal) v1311 v1318 (k0_pay311 (F := Ideal) v10 v13 v16 v19 v26 v1305 v1316 v1317 v1318 v1319)) j, (k0_pay317 (F := Ideal) v1313 v1319 (k0_pay311 (F := Ideal) v10 v13 v16 v19 v26 v1305 v1316 v1317 v1318 v1319)) j, (k0_pay318 (F := Ideal) v1315 (k0_pay309 (F := Ideal) v1320) (k0_pay311 (F := Ideal) v10 v13 v16 v19 v26 v1305 v1316 v1317 v1318 v1319)) j⟩ : Best)
      = visit ⟨v10 j, v13 j, v16 j, v19 j, v26 j⟩ v1316 v1317 v1318 v1319 (FloatOps.sitofp (F := Ideal) .f32 (w := 32) v1320) ⟨v1305 j, v1307 j, v1309 j, v1311 j, v1313 j, v1315 j⟩ := by
  unfold k0_pay318 k0_pay317 k0_pay316 k0_pay315 k0_pay314 k0_pay313 k0_pay312 k0_pay311 k0_pay310 k0_pay309
  rfl

theorem step29 : state30 c a1 h1 a3 h3 a4 h4 x0 x2 x3 j = visit (laneR c a1 h1 x0 j) (x2 (ix3 0 29 0)) (x2 (ix3 0 29 1)) (x2 (ix3 0 29 2)) (x2 (ix3 0 29 3)) (FloatOps.sitofp (F := Ideal) .f32 (w := 32) (x3 (ix3 0 0 29))) (state29 c a1 h1 a3 h3 a4 h4 x0 x2 x3 j) := by
  rw [← gt_read a3 h3 x2 29 0 (by decide) (by decide), ← gt_read a3 h3 x2 29 1 (by decide) (by decide), ← gt_read a3 h3 x2 29 2 (by decide) (by decide), ← gt_read a3 h3 x2 29 3 (by decide) (by decide), ← lb_read a4 h4 x3 29 (by decide) (by decide)]
  unfold state30 r_401 r_402 r_409 r_400 r_403 r_410 r_411 r_412 r_399
  exact raw29 _ _ _ _ _ _ _ _ _ _ _ _ _ _ _ _ j

/-- Box 30, at any registers. -/
theorem raw30 (v10 v13 v16 v19 v26 v1349 v1351 v1353 v1355 v1357 v1359 : Vec Ideal S200x128 .f32) (v1360 v1361 v1362 v1363 : EReal) (v1364 : BitVec 32) (j : S200x128.Idx) :
    (⟨(k0_pay322 (F := Ideal) v1349 (k0_pay320 (F := Ideal) v10 v13 v16 v19 v26 v1360 v1361 v1362 v1363) (k0_pay321 (F := Ideal) v10 v13 v16 v19 v26 v1349 v1360 v1361 v1362 v1363)) j, (k0_pay323 (F := Ideal) v1351 v1360 (k0_pay321 (F := Ideal) v10 v13 v16 v19 v26 v1349 v1360 v1361 v1362 v1363)) j, (k0_pay324 (F := Ideal) v1353 v1361 (k0_pay321 (F := Ideal) v10 v13 v16 v19 v26 v1349 v1360 v1361 v1362 v1363)) j, (k0_pay325 (F := Ideal) v1355 v1362 (k0_pay321 (F := Ideal) v10 v13 v16 v19 v26 v1349 v1360 v1361 v1362 v1363)) j, (k0_pay326 (F := Ideal) v1357 v1363 (k0_pay321 (F := Ideal) v10 v13 v16 v19 v26 v1349 v1360 v1361 v1362 v1363)) j, (k0_pay327 (F := Ideal) v1359 (k0_pay319 (F := Ideal) v1364) (k0_pay321 (F := Ideal) v10 v13 v16 v19 v26 v1349 v1360 v1361 v1362 v1363)) j⟩ : Best)
      = visit ⟨v10 j, v13 j, v16 j, v19 j, v26 j⟩ v1360 v1361 v1362 v1363 (FloatOps.sitofp (F := Ideal) .f32 (w := 32) v1364) ⟨v1349 j, v1351 j, v1353 j, v1355 j, v1357 j, v1359 j⟩ := by
  unfold k0_pay327 k0_pay326 k0_pay325 k0_pay324 k0_pay323 k0_pay322 k0_pay321 k0_pay320 k0_pay319
  rfl

theorem step30 : state31 c a1 h1 a3 h3 a4 h4 x0 x2 x3 j = visit (laneR c a1 h1 x0 j) (x2 (ix3 0 30 0)) (x2 (ix3 0 30 1)) (x2 (ix3 0 30 2)) (x2 (ix3 0 30 3)) (FloatOps.sitofp (F := Ideal) .f32 (w := 32) (x3 (ix3 0 0 30))) (state30 c a1 h1 a3 h3 a4 h4 x0 x2 x3 j) := by
  rw [← gt_read a3 h3 x2 30 0 (by decide) (by decide), ← gt_read a3 h3 x2 30 1 (by decide) (by decide), ← gt_read a3 h3 x2 30 2 (by decide) (by decide), ← gt_read a3 h3 x2 30 3 (by decide) (by decide), ← lb_read a4 h4 x3 30 (by decide) (by decide)]
  unfold state31 r_421 r_414 r_415 r_422 r_423 r_424 r_425 r_426 r_413
  exact raw30 _ _ _ _ _ _ _ _ _ _ _ _ _ _ _ _ j

/-- Box 31, at any registers. -/
theorem raw31 (v10 v13 v16 v19 v26 v1393 v1395 v1397 v1399 v1401 v1403 : Vec Ideal S200x128 .f32) (v1404 v1405 v1406 v1407 : EReal) (v1408 : BitVec 32) (j : S200x128.Idx) :
    (⟨(k0_pay333 (F := Ideal) v1393 (k0_pay329 (F := Ideal) v10 v13 v16 v19 v1404 v1405 v1406 v1407) (k0_pay330 (F := Ideal) v10 v13 v16 v19 v26 v1404 v1405 v1406 v1407) (Ideal.ofBits .f32 0x3089705F#32)) j, (k0_pay334 (F := Ideal) v1393 v1395 v1404 (k0_pay329 (F := Ideal) v10 v13 v16 v19 v1404 v1405 v1406 v1407) (k0_pay330 (F := Ideal) v10 v13 v16 v19 v26 v1404 v1405 v1406 v1407) (Ideal.ofBits .f32 0x3089705F#32)) j, (k0_pay335 (F := Ideal) v1393 v1397 v1405 (k0_pay329 (F := Ideal) v10 v13 v16 v19 v1404 v1405 v1406 v1407) (k0_pay330 (F := Ideal) v10 v13 v16 v19 v26 v1404 v1405 v1406 v1407) (Ideal.ofBits .f32 0x3089705F#32)) j, (k0_pay336 (F := Ideal) v1393 v1399 v1406 (k0_pay329 (F := Ideal) v10 v13 v16 v19 v1404 v1405 v1406 v1407) (k0_pay330 (F := Ideal) v10 v13 v16 v19 v26 v1404 v1405 v1406 v1407) (Ideal.ofBits .f32 0x3089705F#32)) j, (k0_pay337 (F := Ideal) v1393 v1401 v1407 (k0_pay329 (F := Ideal) v10 v13 v16 v19 v1404 v1405 v1406 v1407) (k0_pay330 (F := Ideal) v10 v13 v16 v19 v26 v1404 v1405 v1406 v1407) (Ideal.ofBits .f32 0x3089705F#32)) j, (select (k0_pay332 (F := Ideal) v1393 (k0_pay329 (F := Ideal) v10 v13 v16 v19 v1404 v1405 v1406 v1407) (k0_pay330 (F := Ideal) v10 v13 v16 v19 v26 v1404 v1405 v1406 v1407) (Ideal.ofBits .f32 0x3089705F#32)) (broadcast S200x128 (k0_pay328 (F := Ideal) v1408)) v1403) j⟩ : Best)
      = visit ⟨v10 j, v13 j, v16 j, v19 j, v26 j⟩ v1404 v1405 v1406 v1407 (FloatOps.sitofp (F := Ideal) .f32 (w := 32) v1408) ⟨v1393 j, v1395 j, v1397 j, v1399 j, v1401 j, v1403 j⟩ := by
  unfold k0_pay337 k0_pay336 k0_pay335 k0_pay334 k0_pay333 k0_pay332 k0_pay331 k0_pay330 k0_pay329 k0_pay328
  rfl

theorem step31 : state32 c a1 h1 a3 h3 a4 h4 x0 x2 x3 j = visit (laneR c a1 h1 x0 j) (x2 (ix3 0 31 0)) (x2 (ix3 0 31 1)) (x2 (ix3 0 31 2)) (x2 (ix3 0 31 3)) (FloatOps.sitofp (F := Ideal) .f32 (w := 32) (x3 (ix3 0 0 31))) (state31 c a1 h1 a3 h3 a4 h4 x0 x2 x3 j) := by
  rw [← gt_read a3 h3 x2 31 0 (by decide) (by decide), ← gt_read a3 h3 x2 31 1 (by decide) (by decide), ← gt_read a3 h3 x2 31 2 (by decide) (by decide), ← gt_read a3 h3 x2 31 3 (by decide) (by decide), ← lb_read a4 h4 x3 31 (by decide) (by decide)]
  unfold state32 r_428 r_429 cst_58 r_430 r_431 r_432 r_433 r_427
  exact raw31 _ _ _ _ _ _ _ _ _ _ _ _ _ _ _ _ j

/-- The registers after the boxes before `0` are the scan after none of them. -/
theorem scan0 : state0 j = scan (laneR c a1 h1 x0 j) (fun k d => x2 (ix3 0 k d)) (fun k => FloatOps.sitofp (F := Ideal) .f32 (w := 32) (x3 (ix3 0 0 k))) 0 := state0_eq j

theorem scan1 : state1 c a1 h1 a3 h3 a4 h4 x0 x2 x3 j = scan (laneR c a1 h1 x0 j) (fun k d => x2 (ix3 0 k d)) (fun k => FloatOps.sitofp (F := Ideal) .f32 (w := 32) (x3 (ix3 0 0 k))) 1 := by
  rw [step0, scan0 c a1 h1 x0 x2 x3]; rfl

theorem scan2 : state2 c a1 h1 a3 h3 a4 h4 x0 x2 x3 j = scan (laneR c a1 h1 x0 j) (fun k d => x2 (ix3 0 k d)) (fun k => FloatOps.sitofp (F := Ideal) .f32 (w := 32) (x3 (ix3 0 0 k))) 2 := by
  rw [step1, scan1]; rfl

theorem scan3 : state3 c a1 h1 a3 h3 a4 h4 x0 x2 x3 j = scan (laneR c a1 h1 x0 j) (fun k d => x2 (ix3 0 k d)) (fun k => FloatOps.sitofp (F := Ideal) .f32 (w := 32) (x3 (ix3 0 0 k))) 3 := by
  rw [step2, scan2]; rfl

theorem scan4 : state4 c a1 h1 a3 h3 a4 h4 x0 x2 x3 j = scan (laneR c a1 h1 x0 j) (fun k d => x2 (ix3 0 k d)) (fun k => FloatOps.sitofp (F := Ideal) .f32 (w := 32) (x3 (ix3 0 0 k))) 4 := by
  rw [step3, scan3]; rfl

theorem scan5 : state5 c a1 h1 a3 h3 a4 h4 x0 x2 x3 j = scan (laneR c a1 h1 x0 j) (fun k d => x2 (ix3 0 k d)) (fun k => FloatOps.sitofp (F := Ideal) .f32 (w := 32) (x3 (ix3 0 0 k))) 5 := by
  rw [step4, scan4]; rfl

theorem scan6 : state6 c a1 h1 a3 h3 a4 h4 x0 x2 x3 j = scan (laneR c a1 h1 x0 j) (fun k d => x2 (ix3 0 k d)) (fun k => FloatOps.sitofp (F := Ideal) .f32 (w := 32) (x3 (ix3 0 0 k))) 6 := by
  rw [step5, scan5]; rfl

theorem scan7 : state7 c a1 h1 a3 h3 a4 h4 x0 x2 x3 j = scan (laneR c a1 h1 x0 j) (fun k d => x2 (ix3 0 k d)) (fun k => FloatOps.sitofp (F := Ideal) .f32 (w := 32) (x3 (ix3 0 0 k))) 7 := by
  rw [step6, scan6]; rfl

theorem scan8 : state8 c a1 h1 a3 h3 a4 h4 x0 x2 x3 j = scan (laneR c a1 h1 x0 j) (fun k d => x2 (ix3 0 k d)) (fun k => FloatOps.sitofp (F := Ideal) .f32 (w := 32) (x3 (ix3 0 0 k))) 8 := by
  rw [step7, scan7]; rfl

theorem scan9 : state9 c a1 h1 a3 h3 a4 h4 x0 x2 x3 j = scan (laneR c a1 h1 x0 j) (fun k d => x2 (ix3 0 k d)) (fun k => FloatOps.sitofp (F := Ideal) .f32 (w := 32) (x3 (ix3 0 0 k))) 9 := by
  rw [step8, scan8]; rfl

theorem scan10 : state10 c a1 h1 a3 h3 a4 h4 x0 x2 x3 j = scan (laneR c a1 h1 x0 j) (fun k d => x2 (ix3 0 k d)) (fun k => FloatOps.sitofp (F := Ideal) .f32 (w := 32) (x3 (ix3 0 0 k))) 10 := by
  rw [step9, scan9]; rfl

theorem scan11 : state11 c a1 h1 a3 h3 a4 h4 x0 x2 x3 j = scan (laneR c a1 h1 x0 j) (fun k d => x2 (ix3 0 k d)) (fun k => FloatOps.sitofp (F := Ideal) .f32 (w := 32) (x3 (ix3 0 0 k))) 11 := by
  rw [step10, scan10]; rfl

theorem scan12 : state12 c a1 h1 a3 h3 a4 h4 x0 x2 x3 j = scan (laneR c a1 h1 x0 j) (fun k d => x2 (ix3 0 k d)) (fun k => FloatOps.sitofp (F := Ideal) .f32 (w := 32) (x3 (ix3 0 0 k))) 12 := by
  rw [step11, scan11]; rfl

theorem scan13 : state13 c a1 h1 a3 h3 a4 h4 x0 x2 x3 j = scan (laneR c a1 h1 x0 j) (fun k d => x2 (ix3 0 k d)) (fun k => FloatOps.sitofp (F := Ideal) .f32 (w := 32) (x3 (ix3 0 0 k))) 13 := by
  rw [step12, scan12]; rfl

theorem scan14 : state14 c a1 h1 a3 h3 a4 h4 x0 x2 x3 j = scan (laneR c a1 h1 x0 j) (fun k d => x2 (ix3 0 k d)) (fun k => FloatOps.sitofp (F := Ideal) .f32 (w := 32) (x3 (ix3 0 0 k))) 14 := by
  rw [step13, scan13]; rfl

theorem scan15 : state15 c a1 h1 a3 h3 a4 h4 x0 x2 x3 j = scan (laneR c a1 h1 x0 j) (fun k d => x2 (ix3 0 k d)) (fun k => FloatOps.sitofp (F := Ideal) .f32 (w := 32) (x3 (ix3 0 0 k))) 15 := by
  rw [step14, scan14]; rfl

theorem scan16 : state16 c a1 h1 a3 h3 a4 h4 x0 x2 x3 j = scan (laneR c a1 h1 x0 j) (fun k d => x2 (ix3 0 k d)) (fun k => FloatOps.sitofp (F := Ideal) .f32 (w := 32) (x3 (ix3 0 0 k))) 16 := by
  rw [step15, scan15]; rfl

theorem scan17 : state17 c a1 h1 a3 h3 a4 h4 x0 x2 x3 j = scan (laneR c a1 h1 x0 j) (fun k d => x2 (ix3 0 k d)) (fun k => FloatOps.sitofp (F := Ideal) .f32 (w := 32) (x3 (ix3 0 0 k))) 17 := by
  rw [step16, scan16]; rfl

theorem scan18 : state18 c a1 h1 a3 h3 a4 h4 x0 x2 x3 j = scan (laneR c a1 h1 x0 j) (fun k d => x2 (ix3 0 k d)) (fun k => FloatOps.sitofp (F := Ideal) .f32 (w := 32) (x3 (ix3 0 0 k))) 18 := by
  rw [step17, scan17]; rfl

theorem scan19 : state19 c a1 h1 a3 h3 a4 h4 x0 x2 x3 j = scan (laneR c a1 h1 x0 j) (fun k d => x2 (ix3 0 k d)) (fun k => FloatOps.sitofp (F := Ideal) .f32 (w := 32) (x3 (ix3 0 0 k))) 19 := by
  rw [step18, scan18]; rfl

theorem scan20 : state20 c a1 h1 a3 h3 a4 h4 x0 x2 x3 j = scan (laneR c a1 h1 x0 j) (fun k d => x2 (ix3 0 k d)) (fun k => FloatOps.sitofp (F := Ideal) .f32 (w := 32) (x3 (ix3 0 0 k))) 20 := by
  rw [step19, scan19]; rfl

theorem scan21 : state21 c a1 h1 a3 h3 a4 h4 x0 x2 x3 j = scan (laneR c a1 h1 x0 j) (fun k d => x2 (ix3 0 k d)) (fun k => FloatOps.sitofp (F := Ideal) .f32 (w := 32) (x3 (ix3 0 0 k))) 21 := by
  rw [step20, scan20]; rfl

theorem scan22 : state22 c a1 h1 a3 h3 a4 h4 x0 x2 x3 j = scan (laneR c a1 h1 x0 j) (fun k d => x2 (ix3 0 k d)) (fun k => FloatOps.sitofp (F := Ideal) .f32 (w := 32) (x3 (ix3 0 0 k))) 22 := by
  rw [step21, scan21]; rfl

theorem scan23 : state23 c a1 h1 a3 h3 a4 h4 x0 x2 x3 j = scan (laneR c a1 h1 x0 j) (fun k d => x2 (ix3 0 k d)) (fun k => FloatOps.sitofp (F := Ideal) .f32 (w := 32) (x3 (ix3 0 0 k))) 23 := by
  rw [step22, scan22]; rfl

theorem scan24 : state24 c a1 h1 a3 h3 a4 h4 x0 x2 x3 j = scan (laneR c a1 h1 x0 j) (fun k d => x2 (ix3 0 k d)) (fun k => FloatOps.sitofp (F := Ideal) .f32 (w := 32) (x3 (ix3 0 0 k))) 24 := by
  rw [step23, scan23]; rfl

theorem scan25 : state25 c a1 h1 a3 h3 a4 h4 x0 x2 x3 j = scan (laneR c a1 h1 x0 j) (fun k d => x2 (ix3 0 k d)) (fun k => FloatOps.sitofp (F := Ideal) .f32 (w := 32) (x3 (ix3 0 0 k))) 25 := by
  rw [step24, scan24]; rfl

theorem scan26 : state26 c a1 h1 a3 h3 a4 h4 x0 x2 x3 j = scan (laneR c a1 h1 x0 j) (fun k d => x2 (ix3 0 k d)) (fun k => FloatOps.sitofp (F := Ideal) .f32 (w := 32) (x3 (ix3 0 0 k))) 26 := by
  rw [step25, scan25]; rfl

theorem scan27 : state27 c a1 h1 a3 h3 a4 h4 x0 x2 x3 j = scan (laneR c a1 h1 x0 j) (fun k d => x2 (ix3 0 k d)) (fun k => FloatOps.sitofp (F := Ideal) .f32 (w := 32) (x3 (ix3 0 0 k))) 27 := by
  rw [step26, scan26]; rfl

theorem scan28 : state28 c a1 h1 a3 h3 a4 h4 x0 x2 x3 j = scan (laneR c a1 h1 x0 j) (fun k d => x2 (ix3 0 k d)) (fun k => FloatOps.sitofp (F := Ideal) .f32 (w := 32) (x3 (ix3 0 0 k))) 28 := by
  rw [step27, scan27]; rfl

theorem scan29 : state29 c a1 h1 a3 h3 a4 h4 x0 x2 x3 j = scan (laneR c a1 h1 x0 j) (fun k d => x2 (ix3 0 k d)) (fun k => FloatOps.sitofp (F := Ideal) .f32 (w := 32) (x3 (ix3 0 0 k))) 29 := by
  rw [step28, scan28]; rfl

theorem scan30 : state30 c a1 h1 a3 h3 a4 h4 x0 x2 x3 j = scan (laneR c a1 h1 x0 j) (fun k d => x2 (ix3 0 k d)) (fun k => FloatOps.sitofp (F := Ideal) .f32 (w := 32) (x3 (ix3 0 0 k))) 30 := by
  rw [step29, scan29]; rfl

theorem scan31 : state31 c a1 h1 a3 h3 a4 h4 x0 x2 x3 j = scan (laneR c a1 h1 x0 j) (fun k d => x2 (ix3 0 k d)) (fun k => FloatOps.sitofp (F := Ideal) .f32 (w := 32) (x3 (ix3 0 0 k))) 31 := by
  rw [step30, scan30]; rfl

theorem scan32 : state32 c a1 h1 a3 h3 a4 h4 x0 x2 x3 j = scan (laneR c a1 h1 x0 j) (fun k d => x2 (ix3 0 k d)) (fun k => FloatOps.sitofp (F := Ideal) .f32 (w := 32) (x3 (ix3 0 0 k))) 32 := by
  rw [step31, scan31]; rfl

end Cert.KernelIdeal.Hand

end
-- ==== Proof.AssignOut.lean ====
/-
What the first kernel's run stores, read at an index: the class word of every anchor, and the three sums over the
  rows of a block.
-/
module

public import proofs.«01_k».proof.Proof.AssignScan
public import Idealize.ShloMosaic.Lib.Pointwise

@[expose] public section

set_option maxRecDepth 16384

noncomputable section

namespace Cert.KernelIdeal.Hand

open Cert.KernelIdeal Cert.KernelIdeal.Gen Cert.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)

variable {F : FTy → Type} [FloatOps F]

local notation "𝕄" => MT nD τ sig Unit (Elt F) ℕ (UR sig nD τ) ℕ

open assignRun.sl Cert.Spec

theorem cast_up {α : Type} (v : S200x128.Idx → α) (r : Fin 200) (l : Fin 128) :
    shapeCast S1x200x128 v shapeCasts_S200x128_S1x200x128 (ix3 0 r l) = v (ix2 r l) := by pointwise

theorem cast_down {α : Type} (v : S1x1x200x128.Idx → α) (r : Fin 200) (l : Fin 128) :
    shapeCast S200x128 v shapeCasts_S1x1x200x128_S200x128 (ix2 r l) = v (ix4 0 0 r l) := by pointwise

theorem cast_row {α : Type} (v : S1x200x128.Idx → α) (r : Fin 200) (l : Fin 128) :
    shapeCast S200x128 v shapeCasts_S1x200x128_S200x128 (ix2 r l) = v (ix3 0 r l) := by pointwise

/-- The class word of a lane, at any registers. -/
theorem cls_raw (v33 : IVec S200x128 1) (v1393 v1403 v1429 v1432 : Vec Ideal S200x128 .f32) (v1409 cst : EReal) (r : Fin 200) (l : Fin 128) :
    k0_pay342 (F := Ideal) v33 v1393 v1403 v1409 v1429 v1432 cst (ix3 0 r l)
      = Scalar.select (v33 (ix2 r l)) (clsW (k0_pay333 (F := Ideal) v1393 v1429 v1432 cst (ix2 r l))
          ((select (k0_pay332 (F := Ideal) v1393 v1429 v1432 cst) (broadcast S200x128 v1409) v1403 : Vec Ideal S200x128 .f32) (ix2 r l))) 4294967295#32 := by
  unfold k0_pay342 k0_pay339 k0_pay338
  exact (cast_up _ r l).trans rfl

theorem valid_raw (v33 : IVec S200x128 1) (v1393 v1429 v1432 : Vec Ideal S200x128 .f32) (cst : EReal) (j : S200x128.Idx) :
    k0_pay341 (F := Ideal) v33 v1393 v1429 v1432 cst j
      = Scalar.select ((ignB (k0_pay333 (F := Ideal) v1393 v1429 v1432 cst j) ^^^ 1#1) &&& v33 j) (lit 0x3F800000#32) (lit 0x00000000#32) := by
  unfold k0_pay341 k0_pay339 k0_pay338
  rfl

theorem pos_raw (v33 : IVec S200x128 1) (v1393 v1429 v1432 : Vec Ideal S200x128 .f32) (cst : EReal) (j : S200x128.Idx) :
    k0_pay340 (F := Ideal) v33 v1393 v1429 v1432 cst j
      = Scalar.select (posB (k0_pay333 (F := Ideal) v1393 v1429 v1432 cst j) &&& v33 j) (lit 0x3F800000#32) (lit 0x00000000#32) := by
  unfold k0_pay340 k0_pay338
  rfl

theorem sl_raw (a0 a1 a2 a3 v1393 v1395 v1397 v1399 v1401 v1429 v1432 : Vec Ideal S200x128 .f32) (g0 g1 g2 g3 cst : EReal)
    (b0 b1 b2 b3 : Vec Ideal S1x1x200x128 .f32) (r : Fin 200) (l : Fin 128) :
    k0_pay351 (F := Ideal) (k0_pay345 a2 (k0_pay334 v1393 v1395 g0 v1429 v1432 cst) (k0_pay336 v1393 v1399 g2 v1429 v1432 cst))
        (k0_pay346 a3 (k0_pay335 v1393 v1397 g1 v1429 v1432 cst) (k0_pay337 v1393 v1401 g3 v1429 v1432 cst))
        (k0_pay347 a0 a2 (k0_pay343 v1393 v1395 v1399 g0 g2 v1429 v1432 cst) b0)
        (k0_pay348 a1 a3 (k0_pay344 v1393 v1397 v1401 g1 g3 v1429 v1432 cst) b1)
        (k0_pay349 a1 a3 (k0_pay344 v1393 v1397 v1401 g1 g3 v1429 v1432 cst) b1) k0_pay350 b2 b3 (ix2 r l)
      = slOf (a0 (ix2 r l)) (a1 (ix2 r l)) (a2 (ix2 r l)) (a3 (ix2 r l))
          (k0_pay334 (F := Ideal) v1393 v1395 g0 v1429 v1432 cst (ix2 r l)) (k0_pay335 (F := Ideal) v1393 v1397 g1 v1429 v1432 cst (ix2 r l))
          (k0_pay336 (F := Ideal) v1393 v1399 g2 v1429 v1432 cst (ix2 r l)) (k0_pay337 (F := Ideal) v1393 v1401 g3 v1429 v1432 cst (ix2 r l))
          (b0 (ix4 0 0 r l)) (b1 (ix4 0 0 r l)) (b2 (ix4 0 0 r l)) (b3 (ix4 0 0 r l)) := by
  rw [← cast_down b0, ← cast_down b1, ← cast_down b2, ← cast_down b3]
  unfold k0_pay351 k0_pay350 k0_pay349 k0_pay348 k0_pay347 k0_pay346 k0_pay345 k0_pay344 k0_pay343
  generalize k0_pay334 (F := Ideal) v1393 v1395 g0 v1429 v1432 cst = c0
  generalize k0_pay335 (F := Ideal) v1393 v1397 g1 v1429 v1432 cst = c1
  generalize k0_pay336 (F := Ideal) v1393 v1399 g2 v1429 v1432 cst = c2
  generalize k0_pay337 (F := Ideal) v1393 v1401 g3 v1429 v1432 cst = c3
  rfl

/-- A sum over the rows of a block, at a lane. -/
theorem rows_raw (v : Vec Ideal S200x128 .f32) (l : Fin 128) :
    k0_pay1 (F := Ideal) v (ix3 0 0 l) = ∑ r : Fin 200, v (ix2 r l) := by
  unfold k0_pay1
  pointwise

theorem rows_raw' (v : Vec Ideal S200x128 .f32) : k0_pay352 (F := Ideal) v = k0_pay1 (F := Ideal) v := rfl

theorem rows_mul (p s : Vec Ideal S200x128 .f32) : k0_pay2 (F := Ideal) p s = k0_pay1 (F := Ideal) (mulf s p) := rfl

/-- A row of the anchor block, read through a whole staging memref. -/
theorem anchor_read (a1 : Memref sig .tc .vmem S4x200x128 .f32) (h1 : a1.IsWhole) (x0 : Vec Ideal S4x200x128 .f32) (d : Fin 4)
    (hb : ∀ a, (![d.val, 0, 0] : Fin 3 → ℕ) a + S1x200x128.size a ≤ S4x200x128.size a) (r : Fin 200) (l : Fin 128) :
    View.readAt (Elt Ideal) a1.view (Rect.unit (s := S4x200x128) ![d.val, 0, 0] S1x200x128.size hb).toLoadRect (h1.unread x0) (ix3 0 r l) = x0 (ix3 d r l) := by
  rw [h1.readAt_unread]
  congr 1
  funext a; apply Fin.ext
  fin_cases a <;> simp [Rect.unit, LoadRect.idx, ix3]

/-- A row of the prediction block, read through a whole staging memref. -/
theorem pred_read (a2 : Memref sig .tc .vmem S1x4x200x128 .f32) (h2 : a2.IsWhole) (x1 : Vec Ideal S1x4x200x128 .f32) (d : Fin 4)
    (hb : ∀ a, (![0, d.val, 0, 0] : Fin 4 → ℕ) a + S1x1x200x128.size a ≤ S1x4x200x128.size a) (r : Fin 200) (l : Fin 128) :
    View.readAt (Elt Ideal) a2.view (Rect.unit (s := S1x4x200x128) ![0, d.val, 0, 0] S1x1x200x128.size hb).toLoadRect (h2.unread x1) (ix4 0 0 r l) = x1 (ix4 0 d r l) := by
  rw [h2.readAt_unread]
  congr 1
  funext a; apply Fin.ext
  fin_cases a <;> simp [Rect.unit, LoadRect.idx, ix4]

end Cert.KernelIdeal.Hand

end
-- ==== Proof.AssignVal.lean ====
/-
The first kernel's stores in terms of the scan: class words, and row sums of the valid mark, the positive mark and the
  positive anchors' box loss.
-/
module

public import proofs.«01_k».proof.Proof.AssignOut

@[expose] public section

set_option maxRecDepth 16384

noncomputable section

namespace Cert.KernelIdeal.Hand

open Cert.KernelIdeal Cert.KernelIdeal.Gen Cert.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)

variable {F : FTy → Type} [FloatOps F]

local notation "𝕄" => MT nD τ sig Unit (Elt F) ℕ (UR sig nD τ) ℕ

open assignRun.sl Cert.Spec

/-- The registers at row `r`, lane `l` of a block after all 32 boxes. -/
def bestOf (x0 : Vec Ideal S4x200x128 .f32) (x2 : Vec Ideal S1x32x4 .f32) (x3 : Vec Ideal S1x1x32 .i32) (r : Fin 200) (l : Fin 128) : Best :=
  scan (laneOf (x0 (ix3 0 r l)) (x0 (ix3 1 r l)) (x0 (ix3 2 r l)) (x0 (ix3 3 r l))) (fun k d => x2 (ix3 0 k d))
    (fun k => FloatOps.sitofp (F := Ideal) .f32 (w := 32) (x3 (ix3 0 0 k))) 32

/-- The box loss at row `r`, lane `l` of a block. -/
def slAt (x0 : Vec Ideal S4x200x128 .f32) (x1 : Vec Ideal S1x4x200x128 .f32) (x2 : Vec Ideal S1x32x4 .f32) (x3 : Vec Ideal S1x1x32 .i32) (r : Fin 200) (l : Fin 128) : EReal :=
  slOf (x0 (ix3 0 r l)) (x0 (ix3 1 r l)) (x0 (ix3 2 r l)) (x0 (ix3 3 r l)) (bestOf x0 x2 x3 r l).x1 (bestOf x0 x2 x3 r l).y1
    (bestOf x0 x2 x3 r l).x2 (bestOf x0 x2 x3 r l).y2 (x1 (ix4 0 0 r l)) (x1 (ix4 0 1 r l)) (x1 (ix4 0 2 r l)) (x1 (ix4 0 3 r l))

theorem lane_raw (v0 v2 v4 v6 : Vec Ideal S1x200x128 .f32) (r : Fin 200) (l : Fin 128) :
    (⟨k0_pay7 (F := Ideal) v0 v4 (ix2 r l), k0_pay8 (F := Ideal) v2 v6 (ix2 r l), k0_pay9 (F := Ideal) v0 v4 (ix2 r l), k0_pay10 (F := Ideal) v2 v6 (ix2 r l),
        k0_pay11 (F := Ideal) v0 v2 v4 v6 (ix2 r l)⟩ : Lane)
      = laneOf (v0 (ix3 0 r l)) (v2 (ix3 0 r l)) (v4 (ix3 0 r l)) (v6 (ix3 0 r l)) := by
  rw [← cast_row v0, ← cast_row v2, ← cast_row v4, ← cast_row v6]
  unfold k0_pay11 k0_pay10 k0_pay9 k0_pay8 k0_pay7 k0_pay6 k0_pay5 k0_pay4 k0_pay3
  rfl

variable (c : Dev nD) (i : grid0.Coords) (a1 : Memref sig .tc .vmem S4x200x128 .f32) (h1 : a1.IsWhole) (a2 : Memref sig .tc .vmem S1x4x200x128 .f32) (h2 : a2.IsWhole) (a3 : Memref sig .tc .smem S1x32x4 .f32) (h3 : a3.IsWhole) (a4 : Memref sig .tc .smem S1x1x32 .i32) (h4 : a4.IsWhole) (a5 : Memref sig .tc .vmem S1x200x128 .i32) (h5 : a5.IsWhole) (a6 : Memref sig .tc .vmem S1x1x128 .f32) (h6 : a6.IsWhole) (a7 : Memref sig .tc .vmem S1x1x128 .f32) (h7 : a7.IsWhole) (a8 : Memref sig .tc .vmem S1x1x128 .f32) (h8 : a8.IsWhole)
    (x0 : Vec Ideal S4x200x128 .f32) (x1 : Vec Ideal S1x4x200x128 .f32) (x2 : Vec Ideal S1x32x4 .f32) (x3 : Vec Ideal S1x1x32 .i32)

theorem row0 (r : Fin 200) (l : Fin 128) : assignRun.sl.r (F := Ideal) c a1 h1 x0 (ix2 r l) = x0 (ix3 0 r l) :=
  (cast_row _ r l).trans (anchor_read a1 h1 x0 0 (by decide) r l)
theorem row1 (r : Fin 200) (l : Fin 128) : r_1 (F := Ideal) c a1 h1 x0 (ix2 r l) = x0 (ix3 1 r l) :=
  (cast_row _ r l).trans (anchor_read a1 h1 x0 1 (by decide) r l)
theorem row2 (r : Fin 200) (l : Fin 128) : r_2 (F := Ideal) c a1 h1 x0 (ix2 r l) = x0 (ix3 2 r l) :=
  (cast_row _ r l).trans (anchor_read a1 h1 x0 2 (by decide) r l)
theorem row3 (r : Fin 200) (l : Fin 128) : r_3 (F := Ideal) c a1 h1 x0 (ix2 r l) = x0 (ix3 3 r l) :=
  (cast_row _ r l).trans (anchor_read a1 h1 x0 3 (by decide) r l)

theorem lane_val (r : Fin 200) (l : Fin 128) :
    laneR c a1 h1 x0 (ix2 r l) = laneOf (x0 (ix3 0 r l)) (x0 (ix3 1 r l)) (x0 (ix3 2 r l)) (x0 (ix3 3 r l)) := by
  unfold laneR r_4 r_5 r_6 r_7 r_8
  rw [lane_raw, ← anchor_read a1 h1 x0 0 (by decide) r l, ← anchor_read a1 h1 x0 1 (by decide) r l, ← anchor_read a1 h1 x0 2 (by decide) r l,
    ← anchor_read a1 h1 x0 3 (by decide) r l]
  rfl

theorem best_val (r : Fin 200) (l : Fin 128) : state32 c a1 h1 a3 h3 a4 h4 x0 x2 x3 (ix2 r l) = bestOf x0 x2 x3 r l := by
  rw [scan32, lane_val]; rfl

/-- The class words the run stores. -/
theorem cls_val (r : Fin 200) (l : Fin 128) :
    (assignRun (F := Ideal) c i a1 h1 a2 h2 a3 h3 a4 h4 a5 h5 a6 h6 a7 h7 a8 h8 x0 x1 x2 x3).1 (ix3 0 r l)
      = Scalar.select (k0_pay12 (ix2 r l)) (clsW (bestOf x0 x2 x3 r l).iou (bestOf x0 x2 x3 r l).lb) 4294967295#32 := by
  rw [← best_val c a1 h1 a3 h3 a4 h4 x0 x2 x3 r l]
  exact cls_raw _ _ _ _ _ _ _ r l

include a4 h4 in
theorem v_at (r : Fin 200) (l : Fin 128) :
    r_435 (F := Ideal) c a1 h1 a3 h3 x0 x2 (ix2 r l) = Scalar.select ((ignB (bestOf x0 x2 x3 r l).iou ^^^ 1#1) &&& k0_pay12 (ix2 r l)) (lit 0x3F800000#32) (lit 0x00000000#32) := by
  rw [← best_val c a1 h1 a3 h3 a4 h4 x0 x2 x3 r l]
  exact valid_raw _ _ _ _ _ _

include a4 h4 in
theorem p_at (r : Fin 200) (l : Fin 128) :
    r_434 (F := Ideal) c a1 h1 a3 h3 x0 x2 (ix2 r l) = Scalar.select (posB (bestOf x0 x2 x3 r l).iou &&& k0_pay12 (ix2 r l)) (lit 0x3F800000#32) (lit 0x00000000#32) := by
  rw [← best_val c a1 h1 a3 h3 a4 h4 x0 x2 x3 r l]
  exact pos_raw _ _ _ _ _ _

include a4 h4 in
theorem sl_at (r : Fin 200) (l : Fin 128) :
    r_443 (F := Ideal) c a1 h1 a2 h2 a3 h3 x0 x1 x2 (ix2 r l) = slAt x0 x1 x2 x3 r l := by
  unfold slAt
  rw [← best_val c a1 h1 a3 h3 a4 h4 x0 x2 x3 r l, ← row0 c a1 h1 x0 r l, ← row1 c a1 h1 x0 r l, ← row2 c a1 h1 x0 r l, ← row3 c a1 h1 x0 r l,
    ← pred_read a2 h2 x1 0 (by decide) r l, ← pred_read a2 h2 x1 1 (by decide) r l, ← pred_read a2 h2 x1 2 (by decide) r l, ← pred_read a2 h2 x1 3 (by decide) r l]
  unfold state32 r_443 r_442 r_441 r_440 r_439 r_438 r_437 r_436 r_433 r_432 r_431 r_430
  exact sl_raw _ _ _ _ _ _ _ _ _ _ _ _ _ _ _ _ _ _ _ _ r l

/-- The valid marks the run stores, summed over the rows. -/
theorem v_val (l : Fin 128) :
    (assignRun (F := Ideal) c i a1 h1 a2 h2 a3 h3 a4 h4 a5 h5 a6 h6 a7 h7 a8 h8 x0 x1 x2 x3).2.1 (ix3 0 0 l)
      = ∑ r : Fin 200, Scalar.select ((ignB (bestOf x0 x2 x3 r l).iou ^^^ 1#1) &&& k0_pay12 (ix2 r l)) (lit 0x3F800000#32) (lit 0x00000000#32) := by
  refine (rows_raw (r_435 (F := Ideal) c a1 h1 a3 h3 x0 x2) l).trans (Finset.sum_congr rfl fun r _ => ?_)
  exact v_at c a1 h1 a3 h3 a4 h4 x0 x2 x3 r l

/-- The positive marks the run stores, summed over the rows. -/
theorem p_val (l : Fin 128) :
    (assignRun (F := Ideal) c i a1 h1 a2 h2 a3 h3 a4 h4 a5 h5 a6 h6 a7 h7 a8 h8 x0 x1 x2 x3).2.2.1 (ix3 0 0 l)
      = ∑ r : Fin 200, Scalar.select (posB (bestOf x0 x2 x3 r l).iou &&& k0_pay12 (ix2 r l)) (lit 0x3F800000#32) (lit 0x00000000#32) := by
  refine (rows_raw (r_434 (F := Ideal) c a1 h1 a3 h3 x0 x2) l).trans (Finset.sum_congr rfl fun r _ => ?_)
  exact p_at c a1 h1 a3 h3 a4 h4 x0 x2 x3 r l

/-- The positive anchors' box losses the run stores, summed over the rows. -/
theorem sl_val (l : Fin 128) :
    (assignRun (F := Ideal) c i a1 h1 a2 h2 a3 h3 a4 h4 a5 h5 a6 h6 a7 h7 a8 h8 x0 x1 x2 x3).2.2.2.1 (ix3 0 0 l)
      = ∑ r : Fin 200, slAt x0 x1 x2 x3 r l
          * Scalar.select (posB (bestOf x0 x2 x3 r l).iou &&& k0_pay12 (ix2 r l)) (lit 0x3F800000#32) (lit 0x00000000#32) := by
  refine (rows_raw (mulf (r_443 (F := Ideal) c a1 h1 a2 h2 a3 h3 x0 x1 x2) (r_434 (F := Ideal) c a1 h1 a3 h3 x0 x2)) l).trans (Finset.sum_congr rfl fun r _ => ?_)
  rw [← p_at c a1 h1 a3 h3 a4 h4 x0 x2 x3 r l, ← sl_at c a1 h1 a2 h2 a3 h3 a4 h4 x0 x1 x2 x3 r l]
  rfl

end Cert.KernelIdeal.Hand

end
-- ==== Proof.Loss.lean ====
/-
What the loss is, written plainly: for every anchor the box of largest overlap, the class and the box loss it gives, and the means over
a batch entry. First, that scanning the boxes in order finds the first box of largest overlap.
-/
module

public import proofs.«01_k».proof.Proof.Visit
public import Idealize.ShloMosaic.Lib.IdealHost

@[expose] public section

set_option maxRecDepth 16384

noncomputable section

namespace Cert.Spec

open Idealize.ShloMosaic

/-- The pattern of minus one. -/
theorem lit_neg_one : lit 0xBF800000#32 = ((-1 : ℝ) : EReal) := by
  simp [lit, Ideal.ofBits, Ideal.ieee, -EReal.coe_mul, -EReal.coe_neg]; norm_num

theorem lit_one : lit 0x3F800000#32 = ((1 : ℝ) : EReal) := by
  simp [lit, Ideal.ofBits, Ideal.ieee, -EReal.coe_mul]; norm_num

theorem lit_zero : lit 0x00000000#32 = 0 := by
  simp [lit, Ideal.ofBits, Ideal.ieee]

/-- The pattern of two. -/
theorem lit_two : lit 0x40000000#32 = ((2 : ℝ) : EReal) := by
  simp [lit, Ideal.ofBits, Ideal.ieee, -EReal.coe_mul]; norm_num

/-- The pattern of one half. -/
theorem lit_half : lit 0x3F000000#32 = (((1 : ℝ) / 2 : ℝ) : EReal) := by
  simp [lit, Ideal.ofBits, Ideal.ieee, -EReal.coe_mul]; norm_num

/-- Minus one is below four tenths. -/
theorem neg_one_lt_ign : lit 0xBF800000#32 < lit 0x3ECCCCCD#32 := by
  rw [lit_neg_one]
  have : lit 0x3ECCCCCD#32 = (((13421773 : ℝ) / 33554432 : ℝ) : EReal) := by
    simp [lit, Ideal.ofBits, Ideal.ieee, -EReal.coe_mul]; norm_num
  rw [this, EReal.coe_lt_coe_iff]; norm_num

theorem neg_one_lt_half : lit 0xBF800000#32 < lit 0x3F000000#32 := by
  rw [lit_neg_one, lit_half, EReal.coe_lt_coe_iff]; norm_num

/-- Halving by division and by multiplication. -/
theorem div_two (x : EReal) : Ideal.div x (lit 0x40000000#32) = x * lit 0x3F000000#32 := by
  rw [lit_two, lit_half, Ideal.div_coe (by norm_num)]

theorem sel_one {α : Type} (x y : α) : Scalar.select 1#1 x y = x := rfl

theorem sel_zero {α : Type} (x y : α) : Scalar.select 0#1 x y = y := rfl

theorem ofBool_one {p : Prop} [Decidable p] (h : BitVec.ofBool (decide p) = 1#1) : p := by
  by_contra hp
  rw [decide_eq_false hp] at h
  exact absurd h (by decide)

section Scan

variable (a : Lane) (g : Fin 32 → Fin 4 → EReal) (lb : Fin 32 → EReal)

/-- The overlap with box `k`. -/
def ov (k : Fin 32) : EReal := iouOf a (g k 0) (g k 1) (g k 2) (g k 3)

/-- The registers hold box `k`. -/
def Holds (k : Fin 32) (s : Best) : Prop := s = ⟨ov a g k, g k 0, g k 1, g k 2, g k 3, lb k⟩

theorem scan_succ (m : ℕ) (k : Fin 32) (hk : Fin.ofNat 32 m = k) :
    (scan a g lb m).iou < ov a g k ∧ Holds a g lb k (scan a g lb (m + 1)) ∨
    ov a g k ≤ (scan a g lb m).iou ∧ scan a g lb (m + 1) = scan a g lb m := by
  subst hk
  by_cases h : (scan a g lb m).iou < ov a g (Fin.ofNat 32 m)
  · left
    refine ⟨h, ?_⟩
    have hu : Ideal.cmp .ogt (iouOf a (g (Fin.ofNat 32 m) 0) (g (Fin.ofNat 32 m) 1) (g (Fin.ofNat 32 m) 2) (g (Fin.ofNat 32 m) 3)) (scan a g lb m).iou = 1#1 := by
      exact congrArg BitVec.ofBool (decide_eq_true h)
    simp only [Holds, scan, visit, hu, sel_one, ov]
  · right
    refine ⟨not_lt.1 h, ?_⟩
    have hu : Ideal.cmp .ogt (iouOf a (g (Fin.ofNat 32 m) 0) (g (Fin.ofNat 32 m) 1) (g (Fin.ofNat 32 m) 2) (g (Fin.ofNat 32 m) 3)) (scan a g lb m).iou = 0#1 := by
      exact congrArg BitVec.ofBool (decide_eq_false h)
    simp only [scan, visit, hu, sel_zero]

theorem scan_ge (m : ℕ) : lit 0xBF800000#32 ≤ (scan a g lb m).iou := by
  induction m with
  | zero => exact le_refl _
  | succ m ih =>
    rcases scan_succ a g lb m _ rfl with ⟨h, e⟩ | ⟨h, e⟩
    · unfold Holds at e; rw [e]; exact ih.trans h.le
    · rw [e]; exact ih

/-- The scan of the first `m` boxes, against the first box `k` of largest overlap. -/
theorem scan_inv (k : Fin 32) (h1 : ∀ j, ov a g j ≤ ov a g k) (h2 : ∀ j, j < k → ov a g j < ov a g k) (m : ℕ) (hm : m ≤ 32) :
    (m ≤ k.val → (scan a g lb m).iou = lit 0xBF800000#32 ∨ (scan a g lb m).iou < ov a g k) ∧
    (k.val < m → (scan a g lb m).iou = max (lit 0xBF800000#32) (ov a g k) ∧
      (lit 0xBF800000#32 < ov a g k → Holds a g lb k (scan a g lb m))) := by
  induction m with
  | zero => exact ⟨fun _ => Or.inl rfl, fun h => absurd h (Nat.not_lt_zero _)⟩
  | succ m ih =>
    obtain ⟨i1, i2⟩ := ih (by omega)
    have hge := scan_ge a g lb m
    have hv : (Fin.ofNat 32 m).val = m := by simp [Fin.ofNat]; omega
    rcases scan_succ a g lb m _ rfl with ⟨h, e⟩ | ⟨h, e⟩
    · have eo : (scan a g lb (m + 1)).iou = ov a g (Fin.ofNat 32 m) := by unfold Holds at e; rw [e]
      refine ⟨fun hk => Or.inr ?_, fun hk => ?_⟩
      · rw [eo]; exact h2 _ (by rw [Fin.lt_def, hv]; omega)
      · by_cases hmk : k.val = m
        · have ek : Fin.ofNat 32 m = k := Fin.ext (hv.trans hmk.symm)
          rw [ek] at h eo e
          exact ⟨by rw [eo, max_eq_right (hge.trans h.le)], fun _ => e⟩
        · obtain ⟨j1, j2⟩ := i2 (by omega)
          exact absurd (h.trans_le (h1 _)) (not_lt.2 (by rw [j1]; exact le_max_right _ _))
    · rw [e]
      refine ⟨fun hk => i1 (by omega), fun hk => ?_⟩
      by_cases hmk : k.val = m
      · have ek : Fin.ofNat 32 m = k := Fin.ext (hv.trans hmk.symm)
        rw [ek] at h
        rcases i1 (by omega) with j | j
        · rw [j] at h ⊢
          exact ⟨(max_eq_left h).symm, fun hh => absurd hh (not_lt.2 h)⟩
        · exact absurd j (not_lt.2 h)
      · exact i2 (by omega)

/-- After all boxes the overlap kept is the largest one, or minus one. -/
theorem scan_iou (k : Fin 32) (h1 : ∀ j, ov a g j ≤ ov a g k) (h2 : ∀ j, j < k → ov a g j < ov a g k) :
    (scan a g lb 32).iou = max (lit 0xBF800000#32) (ov a g k) :=
  ((scan_inv a g lb k h1 h2 32 le_rfl).2 k.isLt).1

/-- A positive anchor keeps the first box of largest overlap. -/
theorem scan_holds (k : Fin 32) (h1 : ∀ j, ov a g j ≤ ov a g k) (h2 : ∀ j, j < k → ov a g j < ov a g k)
    (hp : posB (ov a g k) = 1#1) : Holds a g lb k (scan a g lb 32) := by
  refine ((scan_inv a g lb k h1 h2 32 le_rfl).2 k.isLt).2 (neg_one_lt_half.trans_le ?_)
  exact ofBool_one hp

theorem posB_max (q : EReal) : posB (max (lit 0xBF800000#32) q) = posB q := by
  simp only [posB, Ideal.cmp]
  congr 1; rw [decide_eq_decide, le_max_iff]
  exact ⟨fun h => h.resolve_left (not_le.2 neg_one_lt_half), Or.inr⟩

theorem ignB_max (q : EReal) : ignB (max (lit 0xBF800000#32) q) = ignB q := by
  unfold ignB
  rw [posB_max]
  congr 1
  simp only [Ideal.cmp]
  congr 1; rw [decide_eq_decide, lt_max_iff]
  exact ⟨fun h => h.resolve_left (not_lt.2 neg_one_lt_ign.le), Or.inr⟩

end Scan

/-- A label as a float, and back. -/
theorem fptosi_sitofp (w : BitVec 32) : Ideal.fptosi 32 (FloatOps.sitofp (F := Ideal) .f32 (w := 32) w) = w := by
  show BitVec.ofInt 32 (Ideal.toIntClamped _ _ ((w.toInt : ℝ) : EReal)) = w
  have h1 := w.toInt_lt
  have h2 := w.le_toInt
  have : Ideal.toIntClamped (-(2 ^ (32 - 1) : Nat)) ((2 ^ (32 - 1) : Nat) - 1) ((w.toInt : ℝ) : EReal) = w.toInt := by
    show max _ (min _ (if (0 : ℝ) ≤ (w.toInt : ℝ) then ⌊(w.toInt : ℝ)⌋ else ⌈(w.toInt : ℝ)⌉)) = _
    rw [Int.floor_intCast, Int.ceil_intCast, ite_self]
    norm_num at h1 h2 ⊢
    omega
  rw [this, BitVec.ofInt_toInt]

/-! ### The loss -/

/-- The inputs, by index. -/
structure Data where
  /-- The class logits. -/
  logit : Fin 16 → Fin 25000 → Fin 81 → EReal
  /-- The predicted box offsets. -/
  pred : Fin 16 → Fin 25000 → Fin 4 → EReal
  /-- The anchors: centre and size. -/
  anchor : Fin 25000 → Fin 4 → EReal
  /-- The true boxes' corners. -/
  box : Fin 16 → Fin 32 → Fin 4 → EReal
  /-- The true boxes' labels. -/
  label : Fin 16 → Fin 32 → BitVec 32

namespace Data

variable (D : Data)

/-- The anchor's corners. -/
def lane (n : Fin 25000) : Lane := laneOf (D.anchor n 0) (D.anchor n 1) (D.anchor n 2) (D.anchor n 3)

/-- The best box of an anchor. -/
def best (b : Fin 16) (n : Fin 25000) : Best :=
  scan (D.lane n) (D.box b) (fun k => FloatOps.sitofp (F := Ideal) .f32 (w := 32) (D.label b k)) 32

/-- The anchor's class, or minus one. -/
def cls (b : Fin 16) (n : Fin 25000) : BitVec 32 := clsW (D.best b n).iou (D.best b n).lb

/-- One for a positive anchor. -/
def pos (b : Fin 16) (n : Fin 25000) : EReal := Scalar.select (posB (D.best b n).iou) (lit 0x3F800000#32) (lit 0x00000000#32)

/-- One for an anchor not left out. -/
def valid (b : Fin 16) (n : Fin 25000) : EReal := Scalar.select (ignB (D.best b n).iou ^^^ 1#1) (lit 0x3F800000#32) (lit 0x00000000#32)

/-- The box loss of an anchor. -/
def sl (b : Fin 16) (n : Fin 25000) : EReal :=
  slOf (D.anchor n 0) (D.anchor n 1) (D.anchor n 2) (D.anchor n 3) (D.best b n).x1 (D.best b n).y1 (D.best b n).x2 (D.best b n).y2
    (D.pred b n 0) (D.pred b n 1) (D.pred b n 2) (D.pred b n 3)

end Data

/-- The class loss of one anchor: the logarithm of the sum of exponentials less the logit of its class; zero for an anchor left out. -/
def ceOf (x : Fin 81 → EReal) (w : BitVec 32) : EReal :=
  Scalar.select (IntOp.cmpi .sge w 0#32)
    (Ideal.log (∑ c, Ideal.exp (x c)) - ∑ c : Fin 81, Scalar.select (IntOp.cmpi .eq (BitVec.ofNat 32 c.val) (IntOp.maxsi w 0#32)) (x c) (lit 0x00000000#32))
    (lit 0x00000000#32)

/-- The mean class loss from its sum and the number of anchors kept. -/
def clsMean (s v : EReal) : EReal :=
  Scalar.select (Ideal.cmp .ogt v (lit 0x00000000#32)) (Ideal.div s (max v (lit 0x3F800000#32))) (lit 0x00000000#32)

/-- The mean box loss from its sum and the number of positive anchors. -/
def regMean (s p : EReal) : EReal :=
  Scalar.select (Ideal.cmp .ogt p (lit 0x00000000#32)) (Ideal.div s (max (p * lit 0x40800000#32) (lit 0x3F800000#32))) (lit 0x00000000#32)

namespace Data

variable (D : Data)

/-- The class loss of an anchor. -/
def ce (b : Fin 16) (n : Fin 25000) : EReal := ceOf (D.logit b n) (D.cls b n)

/-- The two means of a batch entry. -/
def loss (b : Fin 16) : EReal :=
  clsMean (∑ n, D.ce b n) (∑ n, D.valid b n) + lit 0x3F800000#32 * regMean (∑ n, D.sl b n * D.pos b n) (∑ n, D.pos b n)

/-- The loss. -/
def total : EReal := ∑ b, D.loss b

end Data

end Cert.Spec

end
-- ==== Proof.KerHost.lean ====
/-
The arrays the first kernel reads, at an index: the anchors and the predicted boxes laid out in rows of 128, the labels.
-/
module

public import proofs.«01_k».proof.Proof.Run
public import proofs.«01_k».proof.Proof.AssignVal
public import proofs.«01_k».proof.Proof.Loss
public import Idealize.ShloMosaic.Lib.StableHlo.RunRead
public import Idealize.ShloMosaic.Lib.Pipeline.ValueKit

@[expose] public section

set_option maxRecDepth 16384

noncomputable section

namespace Cert.KernelIdeal.Hand

open Cert.KernelIdeal Cert.KernelIdeal.Gen Cert.Hand Cert.Spec
open Idealize.ShloMosaic Idealize.ShloMosaic.TcCoe Idealize.ShloMosaic.Tactic
open Idealize.SL.Sem
open Idealize.ShloMosaic.Pipeline (Dat RDat Cfg Window)

theorem anchors_read (x : Vec Ideal S25000x4 .f32) (y : Vec Ideal S600x4 .f32) (d : Fin 4) (r : Fin 200) (l : Fin 128) (h : r.val * 128 + l.val < 25000) :
    shapeCast S4x200x128 (transpose S4x25600 [1, 0] (concatenate S25600x4 0 [⟨S25000x4, x⟩, ⟨S600x4, y⟩] concatenates_S25000x4_S600x4_S25600x4_d0) transposes_S25600x4_S4x25600_1_0)
      shapeCasts_S4x25600_S4x200x128 (ix3 d r l) = x (ix2 ⟨r.val * 128 + l.val, h⟩ d) := by
  pointwise []
  rw [dif_pos h]

theorem boxes_read (x : Vec Ideal S16x25000x4 .f32) (v : Vec Ideal S_ .f32) (b : Fin 16) (d : Fin 4) (r : Fin 200) (l : Fin 128) (h : r.val * 128 + l.val < 25000) :
    shapeCast S16x4x200x128 (transpose S16x4x25600 [0, 2, 1] (pad S16x25600x4 ![0, 0, 0] ![0, 600, 0] ![0, 0, 0] x v pads_S16x25000x4_S16x25600x4_000_06000_000 h_S_) transposes_S16x25600x4_S16x4x25600_0_2_1)
      shapeCasts_S16x4x25600_S16x4x200x128 (ix4 b d r l) = x (ix3 b ⟨r.val * 128 + l.val, h⟩ d) := by
  pointwise []
  rw [dif_pos h]

theorem labels_read (x : Vec Ideal S16x32 .i32) (b : Fin 16) (k : Fin 32) :
    shapeCast S16x1x32 x shapeCasts_S16x32_S16x1x32 (ix3 b 0 k) = x (ix2 b k) := by
  pointwise []

variable (m : (ℓ : Loc nD τ sig) → Buf (Elt Ideal) ℓ) (c : Dev nD)

theorem B1_anchors : B1 m c main_call0_v3 = shapeCast S4x200x128 (transpose S4x25600 [1, 0] (concatenate S25600x4 0 [⟨S25000x4, m ((c.tc : Thread nD τ).loc main_arg2)⟩, ⟨S600x4, broadcastInDim S600x4 ![0, 1] bcast_S1x4_S600x4_0_1 (fun i => FloatOps.ofBits (F := Ideal) .f32 (lit0 (S1x4.rowMajor i)))⟩] concatenates_S25000x4_S600x4_S25600x4_d0) transposes_S25600x4_S4x25600_1_0)
      shapeCasts_S4x25600_S4x200x128 := by
  unfold B1 E1
  after_reads_simp
  rfl

theorem B1_boxes : B1 m c main_call0_v6 = shapeCast S16x4x200x128 (transpose S16x4x25600 [0, 2, 1] (pad S16x25600x4 ![0, 0, 0] ![0, 600, 0] ![0, 0, 0] (m ((c.tc : Thread nD τ).loc main_arg1)) (sitofp (F := Ideal) .f32 (constantI S_ 32 0#32)) pads_S16x25000x4_S16x25600x4_000_06000_000 h_S_) transposes_S16x25600x4_S16x4x25600_0_2_1)
      shapeCasts_S16x4x25600_S16x4x200x128 := by
  unfold B1 E1
  after_reads_simp
  rfl

theorem B1_labels : B1 m c main_call0_v7 = shapeCast S16x1x32 (m ((c.tc : Thread nD τ).loc main_arg4)) shapeCasts_S16x32_S16x1x32 := by
  unfold B1 E1
  after_reads_simp
  rfl

end Cert.KernelIdeal.Hand

end
-- ==== Proof.Sums.lean ====
/-
Sums over anchors, taken in rows and lanes, or in blocks.
-/
module

public import proofs.«01_k».proof.Proof.Loss

@[expose] public section

noncomputable section

namespace Cert.Spec

open Idealize.ShloMosaic

/-- A family over the anchors, zero past the last anchor. -/
def ext (f : Fin 25000 → EReal) (n : ℕ) : EReal := if h : n < 25000 then f ⟨n, h⟩ else 0

theorem ext_lt (f : Fin 25000 → EReal) (n : ℕ) (h : n < 25000) : ext f n = f ⟨n, h⟩ := by unfold ext; rw [dif_pos h]

theorem ext_ge (f : Fin 25000 → EReal) (n : ℕ) (h : ¬ n < 25000) : ext f n = 0 := by unfold ext; rw [dif_neg h]

theorem sum_split (g : ℕ → EReal) (a b : ℕ) :
    ∑ j ∈ Finset.range b, ∑ i ∈ Finset.range a, g (i * b + j) = ∑ n ∈ Finset.range (a * b), g n := by
  rw [Finset.sum_comm]
  induction a with
  | zero => simp
  | succ a ih => rw [Finset.sum_range_succ, ih, Nat.succ_mul, Finset.sum_range_add]

theorem sum_ext (f : Fin 25000 → EReal) : ∑ n ∈ Finset.range 25600, ext f n = ∑ n, f n := by
  rw [show (25600 : ℕ) = 25000 + 600 from rfl, Finset.sum_range_add]
  have h : ∑ x ∈ Finset.range 600, ext f (25000 + x) = 0 :=
    Finset.sum_eq_zero fun x _ => ext_ge f _ (by omega)
  rw [h, add_zero, Finset.sum_range]
  exact Finset.sum_congr rfl fun n _ => ext_lt f n.val n.isLt

/-- A sum over lanes of sums over rows. -/
theorem sum_lanes (f : Fin 25000 → EReal) : ∑ l : Fin 128, ∑ r : Fin 200, ext f (r.val * 128 + l.val) = ∑ n, f n := by
  rw [← sum_ext f, ← sum_split (ext f) 200 128, Finset.sum_range]
  refine Finset.sum_congr rfl fun l _ => ?_
  rw [Finset.sum_range]

/-- A sum over the places of a block of sums over the blocks. -/
theorem sum_blocks (f : Fin 25000 → EReal) : ∑ j : Fin 5120, ∑ i ∈ Finset.range 5, ext f (i * 5120 + j.val) = ∑ n, f n := by
  rw [← sum_ext f, ← sum_split (ext f) 5 5120, Finset.sum_range]

end Cert.Spec

end
-- ==== Proof.KerAssign.lean ====
/-
What the first kernel leaves in its output arrays: the classes, and the counts and box losses by lane.
-/
module

public import proofs.«01_k».proof.Proof.KerHost
public import proofs.«01_k».proof.Proof.Sums

@[expose] public section

set_option maxRecDepth 16384

noncomputable section

namespace Cert.KernelIdeal.Hand

open Cert.KernelIdeal Cert.KernelIdeal.Gen Cert.Hand Cert.Spec
open Idealize.ShloMosaic Idealize.ShloMosaic.TcCoe Idealize.ShloMosaic.Tactic
open Idealize.SL.Sem
open Idealize.ShloMosaic.Pipeline (Dat RDat Cfg Window)

attribute [local irreducible] Cert.Spec.scan

variable (V : (c : Dev nD) → (b : Ref sig .tc) → Buf (Elt Ideal) ((c : Thread nD τ).loc b)) (m : (ℓ : Loc nD τ sig) → Buf (Elt Ideal) ℓ) (c : Dev nD)

/-- The data of the loss. -/
def dataK : Data where
  logit b n k := (m ((c.tc : Thread nD τ).loc main_arg0) : Vec Ideal S16x25000x81 .f32) (ix3 b n k)
  pred b n d := (m ((c.tc : Thread nD τ).loc main_arg1) : Vec Ideal S16x25000x4 .f32) (ix3 b n d)
  anchor n d := (m ((c.tc : Thread nD τ).loc main_arg2) : Vec Ideal S25000x4 .f32) (ix2 n d)
  box b k d := (m ((c.tc : Thread nD τ).loc main_arg3) : Vec Ideal S16x32x4 .f32) (ix3 b k d)
  label b k := (m ((c.tc : Thread nD τ).loc main_arg4) : Vec Ideal S16x32 .i32) (ix2 b k)

theorem index0 : ∀ t : Fin grid0.N, win0_0.index t = ![0, 0, 0] ∧ win0_1.index t = ![t.val, 0, 0, 0] ∧ win0_2.index t = ![t.val, 0, 0]
    ∧ win0_3.index t = ![t.val, 0, 0] ∧ win0_4.index t = ![t.val, 0, 0] ∧ win0_5.index t = ![t.val, 0, 0] ∧ win0_6.index t = ![t.val, 0, 0]
    ∧ win0_7.index t = ![t.val, 0, 0] := by decide +kernel

/-- The batch entry of a point of the first kernel. -/
def bat0 (t : Fin cfg0.N) : Fin 16 := ⟨t.val, lt_of_lt_of_eq t.isLt (show cfg0.N = 16 from N_0)⟩

theorem blk0_at (t : Fin cfg0.N) (d : Fin 4) (r : Fin 200) (l : Fin 128) :
    blkA V c 0 t (ix3 d r l) = (V c main_call0_v3 : Vec Ideal S4x200x128 .f32) (ix3 d r l) := by
  have e := (index0 t).1
  blk_ext [blkA, e]

theorem blk1_at (t : Fin cfg0.N) (d : Fin 4) (r : Fin 200) (l : Fin 128) :
    blkA V c 1 t (ix4 0 d r l) = (V c main_call0_v6 : Vec Ideal S16x4x200x128 .f32) (ix4 (bat0 t) d r l) := by
  have e := (index0 t).2.1
  blk_ext [blkA, e, bat0]

theorem blk2_at (t : Fin cfg0.N) (k : Fin 32) (d : Fin 4) :
    blkA V c 2 t (ix3 0 k d) = (V c main_arg3 : Vec Ideal S16x32x4 .f32) (ix3 (bat0 t) k d) := by
  have e := (index0 t).2.2.1
  blk_ext [blkA, e, bat0]

theorem blk3_at (t : Fin cfg0.N) (k : Fin 32) :
    blkA V c 3 t (ix3 0 0 k) = (V c main_call0_v7 : Vec Ideal S16x1x32 .i32) (ix3 (bat0 t) 0 k) := by
  have e := (index0 t).2.2.2.1
  blk_ext [blkA, e, bat0]

theorem anchor_at (t : Fin cfg0.N) (d : Fin 4) (r : Fin 200) (l : Fin 128) (h : r.val * 128 + l.val < 25000) :
    blkA (B1 m) c 0 t (ix3 d r l) = (dataK m c).anchor ⟨r.val * 128 + l.val, h⟩ d := by
  rw [blk0_at, B1_anchors, anchors_read _ _ d r l h]; rfl

theorem pred_at (t : Fin cfg0.N) (d : Fin 4) (r : Fin 200) (l : Fin 128) (h : r.val * 128 + l.val < 25000) :
    blkA (B1 m) c 1 t (ix4 0 d r l) = (dataK m c).pred (bat0 t) ⟨r.val * 128 + l.val, h⟩ d := by
  rw [blk1_at, B1_boxes, boxes_read _ _ (bat0 t) d r l h]; rfl

theorem box_at (t : Fin cfg0.N) (k : Fin 32) (d : Fin 4) : blkA (B1 m) c 2 t (ix3 0 k d) = (dataK m c).box (bat0 t) k d := by
  rw [blk2_at]
  exact congrFun (E1_of m c main_arg3 (hostOps0_args _ (by decide))) _

theorem label_at (t : Fin cfg0.N) (k : Fin 32) : blkA (B1 m) c 3 t (ix3 0 0 k) = (dataK m c).label (bat0 t) k := by
  rw [blk3_at, B1_labels, labels_read]; rfl

theorem best_at (t : Fin cfg0.N) (r : Fin 200) (l : Fin 128) (h : r.val * 128 + l.val < 25000) :
    bestOf (blkA (B1 m) c 0 t) (blkA (B1 m) c 2 t) (blkA (B1 m) c 3 t) r l = (dataK m c).best (bat0 t) ⟨r.val * 128 + l.val, h⟩ := by
  have e2 : (fun (k : Fin 32) (d : Fin 4) => blkA (B1 m) c 2 t (ix3 0 k d)) = (dataK m c).box (bat0 t) :=
    funext fun k => funext fun d => box_at m c t k d
  have e3 : (fun k : Fin 32 => FloatOps.sitofp (F := Ideal) .f32 (w := 32) (blkA (B1 m) c 3 t (ix3 0 0 k)))
      = fun k => FloatOps.sitofp (F := Ideal) .f32 (w := 32) ((dataK m c).label (bat0 t) k) :=
    funext fun k => congrArg (FloatOps.sitofp (F := Ideal) .f32 (w := 32)) (label_at m c t k)
  have e0 : laneOf (blkA (B1 m) c 0 t (ix3 0 r l)) (blkA (B1 m) c 0 t (ix3 1 r l)) (blkA (B1 m) c 0 t (ix3 2 r l)) (blkA (B1 m) c 0 t (ix3 3 r l))
      = (dataK m c).lane ⟨r.val * 128 + l.val, h⟩ := by
    rw [anchor_at m c t 0 r l h, anchor_at m c t 1 r l h, anchor_at m c t 2 r l h, anchor_at m c t 3 r l h, Data.lane]
  unfold bestOf Data.best
  exact congrArg₂ (fun (a : Lane) (g : (Fin 32 → Fin 4 → EReal) × (Fin 32 → EReal)) => scan a g.1 g.2 32) e0 (congrArg₂ Prod.mk e2 e3)

theorem slAt_at (t : Fin cfg0.N) (r : Fin 200) (l : Fin 128) (h : r.val * 128 + l.val < 25000) :
    slAt (blkA (B1 m) c 0 t) (blkA (B1 m) c 1 t) (blkA (B1 m) c 2 t) (blkA (B1 m) c 3 t) r l = (dataK m c).sl (bat0 t) ⟨r.val * 128 + l.val, h⟩ := by
  unfold slAt Data.sl
  rw [best_at m c t r l h, anchor_at m c t 0 r l h, anchor_at m c t 1 r l h, anchor_at m c t 2 r l h, anchor_at m c t 3 r l h,
    pred_at m c t 0 r l h, pred_at m c t 1 r l h, pred_at m c t 2 r l h, pred_at m c t 3 r l h]

/-- The kernel's mark of the lanes that hold an anchor. -/
theorem mark_at (r : Fin 200) (l : Fin 128) : k0_pay12 (ix2 r l) = if r.val * 128 + l.val < 25000 then 1#1 else 0#1 := by
  have e : k0_pay12 (ix2 r l) = IntOp.cmpi .slt (BitVec.ofNat 32 r.val * 128#32 + BitVec.ofNat 32 l.val) 25000#32 := by
    unfold k0_pay12
    pointwise
    rfl
  have e2 : BitVec.ofNat 32 r.val * 128#32 + BitVec.ofNat 32 l.val = BitVec.ofNat 32 (r.val * 128 + l.val) := by
    apply BitVec.eq_of_toNat_eq
    simp only [BitVec.toNat_add, BitVec.toNat_mul, BitVec.toNat_ofNat]
    omega
  have h1 : (BitVec.ofNat 32 (r.val * 128 + l.val)).toNat = r.val * 128 + l.val := by
    rw [BitVec.toNat_ofNat]; exact Nat.mod_eq_of_lt (by omega)
  have h2 : (BitVec.ofNat 32 (r.val * 128 + l.val)).toInt = ((r.val * 128 + l.val : ℕ) : ℤ) := by
    rw [BitVec.toInt_eq_toNat_of_lt (by rw [h1]; omega), h1]
  rw [e, e2]
  show BitVec.ofBool (BitVec.slt _ _) = _
  unfold BitVec.slt
  rw [h2]
  by_cases h : r.val * 128 + l.val < 25000
  · rw [if_pos h, decide_eq_true (by show ((r.val * 128 + l.val : ℕ) : ℤ) < 25000; omega)]; rfl
  · rw [if_neg h, decide_eq_false (by show ¬ ((r.val * 128 + l.val : ℕ) : ℤ) < 25000; omega)]; rfl

/-- The class of anchor number `n`, minus one past the last anchor. -/
def clsN (D : Data) (b : Fin 16) (n : ℕ) : BitVec 32 := if h : n < 25000 then D.cls b ⟨n, h⟩ else 4294967295#32

theorem and_one : ∀ x : BitVec 1, x &&& 1#1 = x := by decide

theorem and_zero : ∀ x : BitVec 1, x &&& 0#1 = 0#1 := by decide

theorem idxA (y : S1x200x128.Idx) : ∃ i1 i2, y = ix3 0 i1 i2 := by
  idx_vars y
  exact ⟨y1, y2, by rw [Subsingleton.elim y0 0]⟩

theorem idxB (y : S1x1x128.Idx) : ∃ i2, y = ix3 0 0 i2 := by
  idx_vars y
  exact ⟨y2, by rw [Subsingleton.elim y0 0, Subsingleton.elim y1 0]⟩

/-- The classes. -/
theorem cls_arr : (datA (B1 m) c).arrAt 4 cfg0.N = fun j : S16x200x128.Idx => clsN (dataK m c) (j 0) ((j 1).val * 128 + (j 2).val) := by
  refine (datA (B1 m) c).arrAt_eq_of_covers 4 _ (by decide +kernel) fun t hf (y : S1x200x128.Idx) => ?_
  have e := (index0 t).2.2.2.2.1
  obtain ⟨i1, i2, rfl⟩ := idxA y
  have p0 : (win0_4.blk t).view.emb (ix3 0 i1 i2) 0 = bat0 t := Fin.ext (by blk_simp [e, bat0]; exact Nat.add_zero _)
  blk_simp [e]
  rw [datA_after4, p0]
  refine (cls_val c (grid0.coords t) _ _ _ _ _ _ _ _ _ _ _ _ _ _ _ _ _ _ _ _ i1 i2).trans ?_
  show _ = clsN (dataK m c) (bat0 t) (i1.val * 128 + i2.val)
  rw [mark_at]
  unfold clsN
  by_cases h : i1.val * 128 + i2.val < 25000
  · rw [if_pos h, dif_pos h, sel_one, best_at m c t i1 i2 h, Data.cls]
  · rw [if_neg h, dif_neg h, sel_zero]

/-- The counts of the anchors kept, by lane. -/
theorem valid_arr : (datA (B1 m) c).arrAt 5 cfg0.N = fun j : S16x1x128.Idx => ∑ r : Fin 200, ext ((dataK m c).valid (j 0)) (r.val * 128 + (j 2).val) := by
  refine (datA (B1 m) c).arrAt_eq_of_covers 5 _ (by decide +kernel) fun t hf (y : S1x1x128.Idx) => ?_
  have e := (index0 t).2.2.2.2.2.1
  obtain ⟨i2, rfl⟩ := idxB y
  have p0 : (win0_5.blk t).view.emb (ix3 0 0 i2) 0 = bat0 t := Fin.ext (by blk_simp [e, bat0]; exact Nat.add_zero _)
  blk_simp [e]
  rw [datA_after5, p0]
  refine (v_val c (grid0.coords t) _ _ _ _ _ _ _ _ _ _ _ _ _ _ _ _ _ _ _ _ i2).trans ?_
  show _ = ∑ r : Fin 200, ext ((dataK m c).valid (bat0 t)) (r.val * 128 + i2.val)
  refine Finset.sum_congr rfl fun r _ => ?_
  rw [mark_at]
  by_cases h : r.val * 128 + i2.val < 25000
  · rw [if_pos h, ext_lt _ _ h, and_one, best_at m c t r i2 h, Data.valid]
  · rw [if_neg h, ext_ge _ _ h, and_zero, sel_zero, lit_zero]

/-- The counts of the positive anchors, by lane. -/
theorem pos_arr : (datA (B1 m) c).arrAt 6 cfg0.N = fun j : S16x1x128.Idx => ∑ r : Fin 200, ext ((dataK m c).pos (j 0)) (r.val * 128 + (j 2).val) := by
  refine (datA (B1 m) c).arrAt_eq_of_covers 6 _ (by decide +kernel) fun t hf (y : S1x1x128.Idx) => ?_
  have e := (index0 t).2.2.2.2.2.2.1
  obtain ⟨i2, rfl⟩ := idxB y
  have p0 : (win0_6.blk t).view.emb (ix3 0 0 i2) 0 = bat0 t := Fin.ext (by blk_simp [e, bat0]; exact Nat.add_zero _)
  blk_simp [e]
  rw [datA_after6, p0]
  refine (p_val c (grid0.coords t) _ _ _ _ _ _ _ _ _ _ _ _ _ _ _ _ _ _ _ _ i2).trans ?_
  show _ = ∑ r : Fin 200, ext ((dataK m c).pos (bat0 t)) (r.val * 128 + i2.val)
  refine Finset.sum_congr rfl fun r _ => ?_
  rw [mark_at]
  by_cases h : r.val * 128 + i2.val < 25000
  · rw [if_pos h, ext_lt _ _ h, and_one, best_at m c t r i2 h, Data.pos]
  · rw [if_neg h, ext_ge _ _ h, and_zero, sel_zero, lit_zero]

/-- The box losses of the positive anchors, by lane. -/
theorem sl_arr : (datA (B1 m) c).arrAt 7 cfg0.N = fun j : S16x1x128.Idx => ∑ r : Fin 200, ext (fun n => (dataK m c).sl (j 0) n * (dataK m c).pos (j 0) n) (r.val * 128 + (j 2).val) := by
  refine (datA (B1 m) c).arrAt_eq_of_covers 7 _ (by decide +kernel) fun t hf (y : S1x1x128.Idx) => ?_
  have e := (index0 t).2.2.2.2.2.2.2
  obtain ⟨i2, rfl⟩ := idxB y
  have p0 : (win0_7.blk t).view.emb (ix3 0 0 i2) 0 = bat0 t := Fin.ext (by blk_simp [e, bat0]; exact Nat.add_zero _)
  blk_simp [e]
  rw [datA_after7, p0]
  refine (sl_val c (grid0.coords t) _ _ _ _ _ _ _ _ _ _ _ _ _ _ _ _ _ _ _ _ i2).trans ?_
  show _ = ∑ r : Fin 200, ext (fun n => (dataK m c).sl (bat0 t) n * (dataK m c).pos (bat0 t) n) (r.val * 128 + i2.val)
  refine Finset.sum_congr rfl fun r _ => ?_
  rw [mark_at]
  by_cases h : r.val * 128 + i2.val < 25000
  · rw [if_pos h, ext_lt _ _ h, and_one, best_at m c t r i2 h, slAt_at m c t r i2 h, Data.pos]
  · rw [if_neg h, ext_ge _ _ h, and_zero, sel_zero, lit_zero, mul_zero]

end Cert.KernelIdeal.Hand

end
-- ==== Proof.KerCe.lean ====
/-
What the second kernel reads, and what one point of it adds: the class losses of a block, and a batch entry's two means.
-/
module

public import proofs.«01_k».proof.Proof.KerAssign
public import proofs.«01_k».proof.Proof.CeData

@[expose] public section

set_option maxRecDepth 16384

noncomputable section

namespace Cert.KernelIdeal.Hand

open Cert.KernelIdeal Cert.KernelIdeal.Gen Cert.Hand Cert.Spec
open Idealize.ShloMosaic Idealize.ShloMosaic.TcCoe Idealize.ShloMosaic.Tactic
open Idealize.SL.Sem
open Idealize.ShloMosaic.Pipeline (Dat RDat Cfg Window)

attribute [local irreducible] Cert.Spec.scan

/-- What one point leaves in the accumulator. -/
theorem acc_val (i : grid1.Coords) (v0 : Vec Ideal S1x5120x81 .f32) (v6 : Vec Ideal S1x1x1x5120 .i32) (a : Vec Ideal S5120x1 .f32) (j : Fin 5120) :
    k1_pay1 i v0 v6 a (ix2 j 0) = Scalar.select (Scalar.cmpi .eq (BitVec.ofNat 32 (i 1).val) 0#32) (lit 0x00000000#32) (a (ix2 j 0))
      + ceOf (fun k => v0 (ix3 0 j k)) (v6 (ix4 0 0 0 j)) := by
  unfold k1_pay1 ceOf
  pointwise

theorem lanes_sum (v : Vec Ideal S1x1x128 .f32) : k1_pay3 v (ix2 0 0) = ∑ l : Fin 128, v (ix3 0 0 l) := by
  unfold k1_pay3
  pointwise
  exact Fin.sum_univ_one _

theorem lanes_sum' (v : Vec Ideal S1x1x128 .f32) : k1_pay4 v (ix2 0 0) = ∑ l : Fin 128, v (ix3 0 0 l) := lanes_sum v

theorem cls_mean (a : Vec Ideal S5120x1 .f32) (v : Vec Ideal S1x1x128 .f32) :
    k1_pay5 a v (ix2 0 0) = clsMean (∑ j : Fin 5120, a (ix2 j 0)) (∑ l : Fin 128, v (ix3 0 0 l)) := by
  unfold k1_pay5 clsMean
  pointwise
  simp only [Fin.sum_univ_one]

theorem fold_read (x : Vec Ideal S16x200x128 .i32) (b : Fin 16) (q : Fin 5) (j : Fin 5120) :
    shapeCast S16x5x1x5120 x shapeCasts_S16x200x128_S16x5x1x5120 (ix4 b q 0 j)
      = x (ix3 b ⟨(q.val * 5120 + j.val) / 128, by omega⟩ ⟨(q.val * 5120 + j.val) % 128, by omega⟩) := by
  pointwise []
  exact congrArg₂ (fun r l => x (ix3 b r l)) (Fin.ext (by show q.val * 40 + j.val / 128 = (q.val * 5120 + j.val) / 128; omega))
    (Fin.ext (by show j.val % 128 = (q.val * 5120 + j.val) % 128; omega))

theorem ce_out (i : grid1.Coords) (x2 x3 x4 : Vec Ideal S1x1x128 .f32) (o : Vec Ideal S1x1 .f32) (a : Vec Ideal S5120x1 .f32) :
    ceOut i x2 x3 x4 o a (ix2 0 0) = Scalar.select (Scalar.cmpi .eq (BitVec.ofNat 32 (i 0).val) 0#32) (lit 0x00000000#32) (o (ix2 0 0))
      + (clsMean (∑ j : Fin 5120, a (ix2 j 0)) (∑ l : Fin 128, x2 (ix3 0 0 l))
        + lit 0x3F800000#32 * regMean (∑ l : Fin 128, x4 (ix3 0 0 l)) (∑ l : Fin 128, x3 (ix3 0 0 l))) := by
  rw [← cls_mean, ← lanes_sum x3, ← lanes_sum' x4]
  unfold ceOut k1_pay2 k1_pay6 k1_pay7 k1_pay8 regMean
  pointwise

theorem ceOf_none (x : Fin 81 → EReal) : ceOf x 4294967295#32 = 0 := by
  have h : IntOp.cmpi .sge 4294967295#32 0#32 = 0#1 := by decide
  unfold ceOf
  rw [h, sel_zero, lit_zero]

variable (m : (ℓ : Loc nD τ sig) → Buf (Elt Ideal) ℓ) (c : Dev nD)

theorem index1 : ∀ t : Fin grid1.N, win1_0.index t = ![t.val / 5, t.val % 5, 0] ∧ win1_1.index t = ![t.val / 5, t.val % 5, 0, 0]
    ∧ win1_2.index t = ![t.val / 5, 0, 0] ∧ win1_3.index t = ![t.val / 5, 0, 0] ∧ win1_4.index t = ![t.val / 5, 0, 0] := by decide +kernel

theorem coords1 : ∀ t : Fin grid1.N, (grid1.coords t 0).val = t.val / 5 ∧ (grid1.coords t 1).val = t.val % 5 := by decide +kernel

theorem xsize1 : ∀ t : Fin grid1.N, win1_0.xsize (grid1.coords t) = ![1, min 5120 (25000 - t.val % 5 * 5120), 81] := by decide +kernel

theorem lt1 (t : Fin cfg1.N) : t.val < 80 := lt_of_lt_of_eq t.isLt (show cfg1.N = 80 from N_1)

/-- The batch entry, and the block, of a point of the second kernel. -/
def bat1 (t : Fin cfg1.N) : Fin 16 := ⟨t.val / 5, by have := lt1 t; omega⟩
def chunk1 (t : Fin cfg1.N) : Fin 5 := ⟨t.val % 5, by omega⟩

variable (V : (c : Dev nD) → (b : Ref sig .tc) → Buf (Elt Ideal) ((c : Thread nD τ).loc b))

theorem blkC1_at (t : Fin cfg1.N) (j : Fin 5120) :
    blkC V c 1 t (ix4 0 0 0 j) = (V c main_call0_v9 : Vec Ideal S16x5x1x5120 .i32) (ix4 (bat1 t) (chunk1 t) 0 j) := by
  have e := (index1 t).2.1
  blk_ext [blkC, e, bat1, chunk1]

theorem blkC2_at (t : Fin cfg1.N) (l : Fin 128) :
    blkC V c 2 t (ix3 0 0 l) = (V c main_call0_v8_1 : Vec Ideal S16x1x128 .f32) (ix3 (bat1 t) 0 l) := by
  have e := (index1 t).2.2.1
  blk_ext [blkC, e, bat1]

theorem blkC3_at (t : Fin cfg1.N) (l : Fin 128) :
    blkC V c 3 t (ix3 0 0 l) = (V c main_call0_v8_2 : Vec Ideal S16x1x128 .f32) (ix3 (bat1 t) 0 l) := by
  have e := (index1 t).2.2.2.1
  blk_ext [blkC, e, bat1]

theorem blkC4_at (t : Fin cfg1.N) (l : Fin 128) :
    blkC V c 4 t (ix3 0 0 l) = (V c main_call0_v8_3 : Vec Ideal S16x1x128 .f32) (ix3 (bat1 t) 0 l) := by
  have e := (index1 t).2.2.2.2
  blk_ext [blkC, e, bat1]

/-- A row of the logits' buffer that an anchor has holds the anchor's logits. -/
theorem logits_at (t : Fin cfg1.N) (d : Vec Ideal S1x5120x81 .f32) (j : Fin 5120) (k : Fin 81) (h : t.val % 5 * 5120 + j.val < 25000) :
    logitsC V c t d (ix3 0 j k) = (V c main_arg0 : Vec Ideal S16x25000x81 .f32) (ix3 (bat1 t) ⟨t.val % 5 * 5120 + j.val, h⟩ k) := by
  have e := (index1 t).1
  have hm : (cfg1.win 0).moved (cfg1.grid.coords t) (ix3 0 j k) = true := by
    rw [Window.moved_iff]
    intro a
    have ha : (cfg1.win 0).xsize (cfg1.grid.coords t) a = (![1, min 5120 (25000 - t.val % 5 * 5120), 81] : Fin 3 → ℕ) a := congrFun (xsize1 t) a
    rw [ha]
    have hj := j.isLt
    have hk := k.isLt
    match a with
    | ⟨0, _⟩ => show 0 < 1; omega
    | ⟨1, _⟩ => show j.val < min 5120 (25000 - t.val % 5 * 5120); omega
    | ⟨2, _⟩ => show k.val < 81; omega
  unfold logitsC Window.fill
  rw [dif_pos hm]
  blk_simp [blkC, e]
  refine congrArg (V c main_arg0) (funext fun a => Fin.ext ?_)
  match a with
  | ⟨0, _⟩ => blk_simp [e, bat1]; exact Nat.add_zero _
  | ⟨1, _⟩ => blk_simp [e]
  | ⟨2, _⟩ => blk_simp [e]

end Cert.KernelIdeal.Hand

end
-- ==== Proof.KerKnown.lean ====
/-
What is known of the second kernel's accumulator and result at each point, and the kernel's result: the loss.
-/
module

public import proofs.«01_k».proof.Proof.KerCe
public import proofs.«01_k».proof.Proof.Run

@[expose] public section

set_option maxRecDepth 16384

noncomputable section

namespace Cert.KernelIdeal.Hand

open Cert.KernelIdeal Cert.KernelIdeal.Gen Cert.Hand Cert.Spec
open Idealize.ShloMosaic Idealize.ShloMosaic.TcCoe Idealize.ShloMosaic.Tactic
open Idealize.SL.Sem
open Idealize.ShloMosaic.Pipeline (Dat RDat Cfg Window)

attribute [local irreducible] Cert.Spec.scan

variable (m : (ℓ : Loc nD τ sig) → Buf (Elt Ideal) ℓ) (c : Dev nD)

theorem B3_v9 : B3 m c main_call0_v9 = shapeCast S16x5x1x5120 (E2 m c (Proc.devRef .tc main_call0_v8_0)) shapeCasts_S16x200x128_S16x5x1x5120 := by
  unfold B3 E3
  after_reads_simp
  rfl

theorem E2_cls : E2 m c (Proc.devRef .tc main_call0_v8_0) = fun j : S16x200x128.Idx => clsN (dataK m c) (j 0) ((j 1).val * 128 + (j 2).val) :=
  (E2_arr m c 4).trans (cls_arr m c)

theorem B3_valid : B3 m c main_call0_v8_1 = fun j : S16x1x128.Idx => ∑ r : Fin 200, ext ((dataK m c).valid (j 0)) (r.val * 128 + (j 2).val) :=
  (E3_of m c main_call0_v8_1 (by decide)).trans ((E2_arr m c 5).trans (valid_arr m c))

theorem B3_pos : B3 m c main_call0_v8_2 = fun j : S16x1x128.Idx => ∑ r : Fin 200, ext ((dataK m c).pos (j 0)) (r.val * 128 + (j 2).val) :=
  (E3_of m c main_call0_v8_2 (by decide)).trans ((E2_arr m c 6).trans (pos_arr m c))

theorem B3_sl : B3 m c main_call0_v8_3 = fun j : S16x1x128.Idx =>
    ∑ r : Fin 200, ext (fun n => (dataK m c).sl (j 0) n * (dataK m c).pos (j 0) n) (r.val * 128 + (j 2).val) :=
  (E3_of m c main_call0_v8_3 (by decide)).trans ((E2_arr m c 7).trans (sl_arr m c))

/-- The class the second kernel reads for anchor number `n`. -/
theorem cls_at (t : Fin cfg1.N) (j : Fin 5120) :
    blkC (B3 m) c 1 t (ix4 0 0 0 j) = clsN (dataK m c) (bat1 t) (t.val % 5 * 5120 + j.val) := by
  rw [blkC1_at, B3_v9, E2_cls, fold_read]
  show clsN (dataK m c) (bat1 t) ((t.val % 5 * 5120 + j.val) / 128 * 128 + (t.val % 5 * 5120 + j.val) % 128) = _
  exact congrArg (clsN (dataK m c) (bat1 t)) (by omega)

theorem valid_sum (t : Fin cfg1.N) : Finset.sum (M := EReal) Finset.univ (fun l : Fin 128 => blkC (B3 m) c 2 t (ix3 0 0 l)) = ∑ n, (dataK m c).valid (bat1 t) n := by
  rw [← sum_lanes]
  refine Finset.sum_congr rfl fun l _ => ?_
  rw [blkC2_at, B3_valid]; rfl

theorem pos_sum (t : Fin cfg1.N) : Finset.sum (M := EReal) Finset.univ (fun l : Fin 128 => blkC (B3 m) c 3 t (ix3 0 0 l)) = ∑ n, (dataK m c).pos (bat1 t) n := by
  rw [← sum_lanes]
  refine Finset.sum_congr rfl fun l _ => ?_
  rw [blkC3_at, B3_pos]; rfl

theorem sl_sum (t : Fin cfg1.N) : Finset.sum (M := EReal) Finset.univ (fun l : Fin 128 => blkC (B3 m) c 4 t (ix3 0 0 l)) = ∑ n, (dataK m c).sl (bat1 t) n * (dataK m c).pos (bat1 t) n := by
  rw [← sum_lanes]
  refine Finset.sum_congr rfl fun l _ => ?_
  rw [blkC4_at, B3_sl]; rfl

/-- The class loss the second kernel adds for anchor number `n`: the anchor's, or zero past the last one. -/
theorem ce_at (t : Fin cfg1.N) (d : Vec Ideal S1x5120x81 .f32) (j : Fin 5120) :
    ceOf (fun k => logitsC (B3 m) c t d (ix3 0 j k)) (blkC (B3 m) c 1 t (ix4 0 0 0 j))
      = ext ((dataK m c).ce (bat1 t)) (t.val % 5 * 5120 + j.val) := by
  rw [cls_at]
  by_cases h : t.val % 5 * 5120 + j.val < 25000
  · rw [ext_lt _ _ h, clsN, dif_pos h]
    have e : (fun k => logitsC (B3 m) c t d (ix3 0 j k)) = (dataK m c).logit (bat1 t) ⟨t.val % 5 * 5120 + j.val, h⟩ :=
      funext fun k => (logits_at c (B3 m) t d j k h).trans (congrFun (E3_args m c main_arg0 (by decide)) _)
    rw [e, Data.ce]
  · rw [ext_ge _ _ h, clsN, dif_neg h, ceOf_none]

/-- The class loss of anchor number `n` of batch entry number `b`, zero outside. -/
def ceN (D : Data) (b n : ℕ) : EReal := if h : b < 16 then ext (D.ce ⟨b, h⟩) n else 0

/-- The loss of batch entry number `b`, zero outside. -/
def lossN (D : Data) (b : ℕ) : EReal := if h : b < 16 then D.loss ⟨b, h⟩ else 0

theorem first_word (q : ℕ) (h : q < 16) : Scalar.cmpi .eq (BitVec.ofNat 32 q) 0#32 = if q = 0 then 1#1 else 0#1 := by
  have : ∀ q : Fin 16, Scalar.cmpi .eq (BitVec.ofNat 32 q.val) 0#32 = if q.val = 0 then 1#1 else 0#1 := by decide
  exact this ⟨q, h⟩

theorem last_word : ∀ t : Fin grid1.N, k1_cond1 (grid1.coords t) = 1#1 ↔ t.val % 5 = 4 := by decide +kernel

/-- Before point `n` the accumulator holds, at each place, the class losses of the batch entry's blocks done so far. -/
def accIs (D : Data) (n : ℕ) (a : Vec Ideal S5120x1 .f32) : Prop :=
  n = 0 ∨ ∀ j : Fin 5120, a (ix2 j 0) = ∑ i ∈ Finset.range ((n - 1) % 5 + 1), ceN D ((n - 1) / 5) (i * 5120 + j.val)

/-- Before point `n` the result is the sum of the losses of the batch entries done. -/
def outIs (D : Data) (n : ℕ) (o : Vec Ideal S1x1 .f32) : Prop :=
  n < 5 ∨ o (ix2 0 0) = ∑ b ∈ Finset.range (n / 5), lossN D b

theorem acc_step (t : Fin cfg1.N) (d : Vec Ideal S1x5120x81 .f32) (a : Vec Ideal S5120x1 .f32) (h : accIs (dataK m c) t.val a) :
    accIs (dataK m c) (t.val + 1) (k1_pay1 (grid1.coords t) (logitsC (B3 m) c t d) (blkC (B3 m) c 1 t) a) := by
  refine Or.inr fun j => ?_
  have hc : ceN (dataK m c) (t.val / 5) (t.val % 5 * 5120 + j.val) = ext ((dataK m c).ce (bat1 t)) (t.val % 5 * 5120 + j.val) := by
    have := lt1 t
    unfold ceN
    rw [dif_pos (by omega)]; rfl
  rw [acc_val, ce_at, ← hc, (coords1 t).2, first_word _ (by omega), Nat.add_sub_cancel, Finset.sum_range_succ]
  congr 1
  by_cases h0 : t.val % 5 = 0
  · rw [if_pos h0, sel_one, h0, Finset.sum_range_zero, lit_zero]
  · rw [if_neg h0, sel_zero]
    rcases h with h | h
    · omega
    · rw [h j, show (t.val - 1) % 5 + 1 = t.val % 5 by omega, show (t.val - 1) / 5 = t.val / 5 by omega]

theorem out_keep (t : Fin cfg1.N) (o : Vec Ideal S1x1 .f32) (hc : ¬ k1_cond1 (grid1.coords t) = 1#1) (h : outIs (dataK m c) t.val o) :
    outIs (dataK m c) (t.val + 1) o := by
  rw [last_word] at hc
  rcases h with h | h
  · exact Or.inl (by omega)
  · exact Or.inr (by rw [h, show (t.val + 1) / 5 = t.val / 5 by omega])

theorem out_last (t : Fin cfg1.N) (a : Vec Ideal S5120x1 .f32) (o : Vec Ideal S1x1 .f32) (hc : k1_cond1 (grid1.coords t) = 1#1)
    (ha : accIs (dataK m c) (t.val + 1) a) (h : outIs (dataK m c) t.val o) :
    outIs (dataK m c) (t.val + 1) (ceOut (grid1.coords t) (blkC (B3 m) c 2 t) (blkC (B3 m) c 3 t) (blkC (B3 m) c 4 t) o a) := by
  rw [last_word] at hc
  have ht := lt1 t
  refine Or.inr ?_
  have hs : ∑ j : Fin 5120, a (ix2 j 0) = ∑ n, (dataK m c).ce (bat1 t) n := by
    rw [← sum_blocks]
    refine Finset.sum_congr rfl fun j _ => ?_
    rcases ha with ha | ha
    · omega
    · rw [ha j, Nat.add_sub_cancel, hc]
      refine Finset.sum_congr rfl fun i _ => ?_
      unfold ceN
      rw [dif_pos (by omega)]; rfl
  have hl : lossN (dataK m c) (t.val / 5) = (dataK m c).loss (bat1 t) := by
    unfold lossN
    rw [dif_pos (by omega)]; rfl
  rw [ce_out, hs, valid_sum, pos_sum, sl_sum, (coords1 t).1, first_word _ (by omega), show (t.val + 1) / 5 = t.val / 5 + 1 by omega,
    Finset.sum_range_succ, hl, Data.loss]
  congr 1
  by_cases h0 : t.val / 5 = 0
  · rw [if_pos h0, sel_one, h0, Finset.sum_range_zero, lit_zero]
  · rw [if_neg h0, sel_zero]
    rcases h with h | h
    · omega
    · exact h

/-- What is known at each point of the second kernel. -/
def known : Known (B3 m) c where
  acc := accIs (dataK m c)
  out := outIs (dataK m c)
  acc_zero _ := Or.inl rfl
  out_zero _ := Or.inl (by decide)
  step := acc_step m c
  keep := out_keep m c
  last := out_last m c

/-- At the end the result is the loss. -/
theorem known_end (X : Vec Ideal S1x1 .f32) (h : (known m c).out 80 X) :
    shapeCast S_ X shapeCasts_S1x1_S_ = fun _ => (dataK m c).total := by
  have e : X (ix2 0 0) = (dataK m c).total := by
    rcases h with h | h
    · omega
    · rw [h, Data.total, show 80 / 5 = 16 from rfl, Finset.sum_range]
      refine Finset.sum_congr rfl fun b _ => ?_
      unfold lossN
      rw [dif_pos b.isLt]
  funext i
  rw [← e]
  exact congrArg X (funext fun a => by
    match a with
    | ⟨0, _⟩ => exact Subsingleton.elim (α := Fin 1) _ _
    | ⟨1, _⟩ => exact Subsingleton.elim (α := Fin 1) _ _)

end Cert.KernelIdeal.Hand

end
-- ==== Proof.RefPoint.lean ====
/-
The reference's overlaps at an index, and the box of largest overlap it picks for an anchor.
-/
module

public import proofs.«01_k».proof.Proof.RefVals
public import proofs.«01_k».proof.Proof.Loss
public import Idealize.ShloMosaic.Lib.Pointwise
public import Idealize.ShloMosaic.Lib.IdealHost

@[expose] public section

set_option maxRecDepth 16384

noncomputable section

namespace Cert.ReferenceIdeal.Hand

open Cert.ReferenceIdeal Cert.ReferenceIdeal.Gen Cert.Spec
open Idealize.ShloMosaic Idealize.ShloMosaic.TcCoe
open Idealize.SL.Sem

variable (A : Args Ideal)

/-- An anchor as the reference reads it. -/
def lane (n : Fin 25000) : Lane := laneOf (A.arg2 (ix2 n 0)) (A.arg2 (ix2 n 1)) (A.arg2 (ix2 n 2)) (A.arg2 (ix2 n 3))

/-- The overlap of anchor `n` with box `k` of batch entry `b`. -/
def iou (b : Fin 16) (n : Fin 25000) (k : Fin 32) : EReal :=
  iouOf (lane A n) (A.arg3 (ix3 b k 0)) (A.arg3 (ix3 b k 1)) (A.arg3 (ix3 b k 2)) (A.arg3 (ix3 b k 3))

theorem v1_at (n : Fin 25000) : Val.v1 A (ix1 n) = A.arg2 (ix2 n 0) := by
  pointwise [Val.v1, Val.v0]

theorem v3_at (n : Fin 25000) : Val.v3 A (ix1 n) = A.arg2 (ix2 n 1) := by
  pointwise [Val.v3, Val.v2]

theorem v5_at (n : Fin 25000) : Val.v5 A (ix1 n) = A.arg2 (ix2 n 2) := by
  pointwise [Val.v5, Val.v4]

theorem v7_at (n : Fin 25000) : Val.v7 A (ix1 n) = A.arg2 (ix2 n 3) := by
  pointwise [Val.v7, Val.v6]

theorem v9_at (b : Fin 16) (k : Fin 32) : Val.v9 A (ix2 b k) = A.arg3 (ix3 b k 0) := by
  pointwise [Val.v9, Val.v8]

theorem v11_at (b : Fin 16) (k : Fin 32) : Val.v11 A (ix2 b k) = A.arg3 (ix3 b k 1) := by
  pointwise [Val.v11, Val.v10]

theorem v13_at (b : Fin 16) (k : Fin 32) : Val.v13 A (ix2 b k) = A.arg3 (ix3 b k 2) := by
  pointwise [Val.v13, Val.v12]

theorem v15_at (b : Fin 16) (k : Fin 32) : Val.v15 A (ix2 b k) = A.arg3 (ix3 b k 3) := by
  pointwise [Val.v15, Val.v14]

theorem v18_at (n : Fin 25000) : Val.v18 A (ix1 n) = (lane A n).x1 := by
  show Val.v1 A (ix1 n) - Ideal.div (Val.v5 A (ix1 n)) (lit 0x40000000#32) = _
  rw [div_two, v1_at, v5_at]; rfl

theorem v21_at (n : Fin 25000) : Val.v21 A (ix1 n) = (lane A n).y1 := by
  show Val.v3 A (ix1 n) - Ideal.div (Val.v7 A (ix1 n)) (lit 0x40000000#32) = _
  rw [div_two, v3_at, v7_at]; rfl

theorem v24_at (n : Fin 25000) : Val.v24 A (ix1 n) = (lane A n).x2 := by
  show Val.v1 A (ix1 n) + Ideal.div (Val.v5 A (ix1 n)) (lit 0x40000000#32) = _
  rw [div_two, v1_at, v5_at]; rfl

theorem v27_at (n : Fin 25000) : Val.v27 A (ix1 n) = (lane A n).y2 := by
  show Val.v3 A (ix1 n) + Ideal.div (Val.v7 A (ix1 n)) (lit 0x40000000#32) = _
  rw [div_two, v3_at, v7_at]; rfl

theorem v28_at (n : Fin 25000) : Val.v28 A (ix3 0 n 0) = (lane A n).x1 := by
  rw [← v18_at]; pointwise [Val.v28]

theorem v29_at (n : Fin 25000) : Val.v29 A (ix3 0 n 0) = (lane A n).y1 := by
  rw [← v21_at]; pointwise [Val.v29]

theorem v30_at (n : Fin 25000) : Val.v30 A (ix3 0 n 0) = (lane A n).x2 := by
  rw [← v24_at]; pointwise [Val.v30]

theorem v31_at (n : Fin 25000) : Val.v31 A (ix3 0 n 0) = (lane A n).y2 := by
  rw [← v27_at]; pointwise [Val.v31]

theorem v32_at (b : Fin 16) (k : Fin 32) : Val.v32 A (ix3 b 0 k) = A.arg3 (ix3 b k 0) := by
  rw [← v9_at]; pointwise [Val.v32]

theorem v33_at (b : Fin 16) (k : Fin 32) : Val.v33 A (ix3 b 0 k) = A.arg3 (ix3 b k 1) := by
  rw [← v11_at]; pointwise [Val.v33]

theorem v34_at (b : Fin 16) (k : Fin 32) : Val.v34 A (ix3 b 0 k) = A.arg3 (ix3 b k 2) := by
  rw [← v13_at]; pointwise [Val.v34]

theorem v35_at (b : Fin 16) (k : Fin 32) : Val.v35 A (ix3 b 0 k) = A.arg3 (ix3 b k 3) := by
  rw [← v15_at]; pointwise [Val.v35]

theorem v36_at (b : Fin 16) (n : Fin 25000) (k : Fin 32) : Val.v36 A (ix3 b n k) = (lane A n).x2 := by
  rw [← v30_at]; pointwise [Val.v36]

theorem v39_at (b : Fin 16) (n : Fin 25000) (k : Fin 32) : Val.v39 A (ix3 b n k) = (lane A n).x1 := by
  rw [← v28_at]; pointwise [Val.v39]

theorem v45_at (b : Fin 16) (n : Fin 25000) (k : Fin 32) : Val.v45 A (ix3 b n k) = (lane A n).y2 := by
  rw [← v31_at]; pointwise [Val.v45]

theorem v48_at (b : Fin 16) (n : Fin 25000) (k : Fin 32) : Val.v48 A (ix3 b n k) = (lane A n).y1 := by
  rw [← v29_at]; pointwise [Val.v48]

theorem v37_at (b : Fin 16) (n : Fin 25000) (k : Fin 32) : Val.v37 A (ix3 b n k) = A.arg3 (ix3 b k 2) := by
  rw [← v34_at]; pointwise [Val.v37]

theorem v40_at (b : Fin 16) (n : Fin 25000) (k : Fin 32) : Val.v40 A (ix3 b n k) = A.arg3 (ix3 b k 0) := by
  rw [← v32_at]; pointwise [Val.v40]

theorem v46_at (b : Fin 16) (n : Fin 25000) (k : Fin 32) : Val.v46 A (ix3 b n k) = A.arg3 (ix3 b k 3) := by
  rw [← v35_at]; pointwise [Val.v46]

theorem v49_at (b : Fin 16) (n : Fin 25000) (k : Fin 32) : Val.v49 A (ix3 b n k) = A.arg3 (ix3 b k 1) := by
  rw [← v33_at]; pointwise [Val.v49]

theorem v54_at (b : Fin 16) (n : Fin 25000) (k : Fin 32) : Val.v54 A (ix3 b n k) = interOf (lane A n) (A.arg3 (ix3 b k 0)) (A.arg3 (ix3 b k 1)) (A.arg3 (ix3 b k 2)) (A.arg3 (ix3 b k 3)) := by
  show max (min (Val.v36 A (ix3 b n k)) (Val.v37 A (ix3 b n k)) - max (Val.v39 A (ix3 b n k)) (Val.v40 A (ix3 b n k))) (lit 0x00000000#32)
      * max (min (Val.v45 A (ix3 b n k)) (Val.v46 A (ix3 b n k)) - max (Val.v48 A (ix3 b n k)) (Val.v49 A (ix3 b n k))) (lit 0x00000000#32) = _
  rw [v36_at, v37_at, v39_at, v40_at, v45_at, v46_at, v48_at, v49_at]; rfl

theorem v61_at (n : Fin 25000) : Val.v61 A (ix3 0 n 0) = (lane A n).area := by
  show max (Val.v30 A (ix3 0 n 0) - Val.v28 A (ix3 0 n 0)) (lit 0x00000000#32)
      * max (Val.v31 A (ix3 0 n 0) - Val.v29 A (ix3 0 n 0)) (lit 0x00000000#32) = _
  rw [v28_at, v29_at, v30_at, v31_at]; rfl

theorem v68_at (b : Fin 16) (k : Fin 32) : Val.v68 A (ix3 b 0 k) = boxArea (A.arg3 (ix3 b k 0)) (A.arg3 (ix3 b k 1)) (A.arg3 (ix3 b k 2)) (A.arg3 (ix3 b k 3)) := by
  show max (Val.v34 A (ix3 b 0 k) - Val.v32 A (ix3 b 0 k)) (lit 0x00000000#32)
      * max (Val.v35 A (ix3 b 0 k) - Val.v33 A (ix3 b 0 k)) (lit 0x00000000#32) = _
  rw [v32_at, v33_at, v34_at, v35_at]; rfl

theorem v69_at (b : Fin 16) (n : Fin 25000) (k : Fin 32) : Val.v69 A (ix3 b n k) = (lane A n).area := by
  rw [← v61_at]; pointwise [Val.v69]

theorem v70_at (b : Fin 16) (n : Fin 25000) (k : Fin 32) : Val.v70 A (ix3 b n k) = boxArea (A.arg3 (ix3 b k 0)) (A.arg3 (ix3 b k 1)) (A.arg3 (ix3 b k 2)) (A.arg3 (ix3 b k 3)) := by
  rw [← v68_at]; pointwise [Val.v70]

/-- The reference's overlap. -/
theorem v75_at (b : Fin 16) (n : Fin 25000) (k : Fin 32) : Val.v75 A (ix3 b n k) = iou A b n k := by
  show Ideal.div (Val.v54 A (ix3 b n k))
    (Val.v69 A (ix3 b n k) + Val.v70 A (ix3 b n k) - Val.v54 A (ix3 b n k) + lit 0x3089705F#32) = _
  rw [v54_at, v69_at, v70_at]; rfl

/-! ### The box of largest overlap -/

/-- The index of the array that a reduction over the boxes folds at `(b, n)`. -/
theorem drop_boxes (b : Fin 16) (n : Fin 25000) (i : S16x25000x32.Idx)
    (h : (reducesTo_S16x25000x32_S16x25000_d2 : S16x25000x32.ReducesTo [2] S16x25000).drop i = ix2 b n) : ∃ k : Fin 32, i = ix3 b n k := by
  idx_vars i
  refine ⟨i2, ?_⟩
  have h0 : (reducesTo_S16x25000x32_S16x25000_d2.drop (ix3 i0 i1 i2) 0 : Nat) = i0 :=
    Shape.ReducesTo.drop_apply_val_of_eq (s := S16x25000x32) (axes := [2]) (t := S16x25000) reducesTo_S16x25000x32_S16x25000_d2 (ix3 i0 i1 i2) 0 0
  have h1 : (reducesTo_S16x25000x32_S16x25000_d2.drop (ix3 i0 i1 i2) 1 : Nat) = i1 :=
    Shape.ReducesTo.drop_apply_val_of_eq (s := S16x25000x32) (axes := [2]) (t := S16x25000) reducesTo_S16x25000x32_S16x25000_d2 (ix3 i0 i1 i2) 1 1
  rw [h] at h0 h1
  have e0 : i0 = b := Fin.ext h0.symm
  have e1 : i1 = n := Fin.ext h1.symm
  rw [e0, e1]

theorem drop_boxes' (b : Fin 16) (n : Fin 25000) (k : Fin 32) :
    (reducesTo_S16x25000x32_S16x25000_d2 : S16x25000x32.ReducesTo [2] S16x25000).drop (ix3 b n k) = ix2 b n := by
  funext a
  apply Fin.ext
  match a with
  | ⟨0, _⟩ => exact Shape.ReducesTo.drop_apply_val_of_eq (s := S16x25000x32) (axes := [2]) (t := S16x25000) reducesTo_S16x25000x32_S16x25000_d2 (ix3 b n k) 0 0
  | ⟨1, _⟩ => exact Shape.ReducesTo.drop_apply_val_of_eq (s := S16x25000x32) (axes := [2]) (t := S16x25000) reducesTo_S16x25000x32_S16x25000_d2 (ix3 b n k) 1 1

/-- A left fold of the maximum is at least every entry, and is the start or an entry. -/
theorem foldl_max (l : List EReal) : ∀ a : EReal,
    (a ≤ l.foldl max a ∧ ∀ x ∈ l, x ≤ l.foldl max a) ∧ (l.foldl max a = a ∨ l.foldl max a ∈ l) := by
  induction l with
  | nil => intro a; simp
  | cons x l ih =>
    intro a
    obtain ⟨⟨h1, h2⟩, h3⟩ := ih (max a x)
    refine ⟨⟨le_trans (le_max_left _ _) h1, ?_⟩, ?_⟩
    · intro y hy
      rcases List.mem_cons.1 hy with rfl | hy
      · exact le_trans (le_max_right _ _) h1
      · exact h2 y hy
    · rcases h3 with h3 | h3
      · simp only [List.foldl_cons, h3]
        rcases le_total a x with h | h
        · right; simp [max_eq_right h]
        · left; exact max_eq_left h
      · right; exact List.mem_cons_of_mem _ h3

/-- One step of the arg-max: it keeps the larger value, and of equal values the smaller index. -/
theorem argmax_step (a b : EReal × BitVec 32) :
    (reducer_argmax_f32_i32 (F := Ideal) a b = a ∧ b.1 ≤ a.1 ∧ (b.1 = a.1 → a.2.toInt ≤ b.2.toInt)) ∨
    (reducer_argmax_f32_i32 (F := Ideal) a b = b ∧ a.1 ≤ b.1 ∧ (a.1 = b.1 → b.2.toInt ≤ a.2.toInt)) := by
  obtain ⟨av, ai⟩ := a
  obtain ⟨bv, bi⟩ := b
  simp only [reducer_argmax_f32_i32, Ideal.cmpf_def, Ideal.cmp, IntOp.ori, IntOp.andi, IntOp.cmpi, Scalar.select]
  rcases lt_trichotomy av bv with h | h | h
  · right; simp [h, h.not_gt, h.ne, h.le]
  · subst h
    by_cases hi : ai.slt bi
    · left; simp [hi]; rw [BitVec.slt_iff_toInt_lt] at hi; omega
    · right; simp [hi]; rw [BitVec.slt_iff_toInt_lt] at hi; omega
  · left; simp [h, h.le, h.ne']; intro e; exact absurd e h.ne

/-- A left fold of the arg-max step is at least every entry, first among equals, and is the start or an entry. -/
theorem foldl_argmax (l : List (EReal × BitVec 32)) : ∀ a : EReal × BitVec 32, ∀ r, r = l.foldl (reducer_argmax_f32_i32 (F := Ideal)) a →
    (∀ x ∈ a :: l, x.1 ≤ r.1 ∧ (x.1 = r.1 → r.2.toInt ≤ x.2.toInt)) ∧ r ∈ a :: l := by
  induction l with
  | nil => intro a r hr; subst hr; simp
  | cons x l ih =>
    intro a r hr
    obtain ⟨h1, h2⟩ := ih _ r hr
    have h0 := h1 _ List.mem_cons_self
    rcases argmax_step a x with ⟨e, hle, heq⟩ | ⟨e, hle, heq⟩
    · rw [e] at h1 h2 h0
      refine ⟨?_, ?_⟩
      · intro y hy
        rcases List.mem_cons.1 hy with rfl | hy
        · exact h0
        rcases List.mem_cons.1 hy with rfl | hy
        · refine ⟨hle.trans h0.1, fun hyr => ?_⟩
          have e1 : a.1 = r.1 := le_antisymm h0.1 (hyr ▸ hle)
          exact (h0.2 e1).trans (heq (hyr.trans e1.symm))
        · exact h1 y (List.mem_cons_of_mem _ hy)
      · rcases List.mem_cons.1 h2 with h | h
        · rw [h]; exact List.mem_cons_self
        · exact List.mem_cons_of_mem _ (List.mem_cons_of_mem _ h)
    · rw [e] at h1 h2 h0
      refine ⟨?_, ?_⟩
      · intro y hy
        rcases List.mem_cons.1 hy with rfl | hy
        · refine ⟨hle.trans h0.1, fun hyr => ?_⟩
          have e1 : x.1 = r.1 := le_antisymm h0.1 (hyr ▸ hle)
          exact (h0.2 e1).trans (heq (hyr.trans e1.symm))
        · exact h1 y hy
      · exact List.mem_cons_of_mem _ h2

/-- The first box of largest overlap. -/
def IsArg (b : Fin 16) (n : Fin 25000) (k : Fin 32) : Prop :=
  (∀ j, iou A b n j ≤ iou A b n k) ∧ ∀ j, j < k → iou A b n j < iou A b n k

theorem lit_bot : lit 0xFF800000#32 = ⊥ := by
  simp [lit, Ideal.ofBits, Ideal.ieee]

/-- What the arg-max folds at `(b, n)`. -/
theorem mem_fiber (b : Fin 16) (n : Fin 25000) (p : EReal × BitVec 32) :
    p ∈ Host.argReduceFiber (Val.v75 A) (Val.call0_v0 A) reducesTo_S16x25000x32_S16x25000_d2 (ix2 b n)
      ↔ ∃ k : Fin 32, p = (iou A b n k, BitVec.ofNat 32 k.val) := by
  unfold Host.argReduceFiber
  simp only [List.mem_map, List.mem_filter, List.mem_finRange, true_and, decide_eq_true_eq]
  constructor
  · rintro ⟨m, hm, rfl⟩
    obtain ⟨k, hk⟩ := drop_boxes b n _ hm
    refine ⟨k, ?_⟩
    rw [hk, v75_at]; rfl
  · rintro ⟨k, rfl⟩
    refine ⟨S16x25000x32.rowMajor (ix3 b n k), ?_, ?_⟩
    · rw [Equiv.symm_apply_apply]; exact drop_boxes' b n k
    · rw [Equiv.symm_apply_apply, v75_at]; rfl

theorem argmax_fold (x : S16x25000x32.Idx → EReal) (y : S16x25000x32.Idx → BitVec 32) (ix : S_.Idx → EReal) (iy : S_.Idx → BitVec 32)
    (j : S16x25000.Idx) :
    Host.argReduce (F := Ideal) (φ := .f32) reducer_argmax_f32_i32 x y ix iy reducesTo_S16x25000x32_S16x25000_d2 h_S_ j
      = (Host.argReduceFiber x y reducesTo_S16x25000x32_S16x25000_d2 j).foldl (reducer_argmax_f32_i32 (F := Ideal))
        (ix (Shape.Idx.first h_S_), iy (Shape.Idx.first h_S_)) := by
  rw [Ideal.argReduce_eq_reduce2, Host.reduce2_eq_foldl_fiber]

theorem cst0 : Val.call0_cst A (Shape.Idx.first h_S_) = lit 0xFF800000#32 := rfl

theorem c0 : Val.call0_c A (Shape.Idx.first h_S_) = 0#32 := rfl

/-- The reference's arg-max is the first box of largest overlap. -/
theorem v77_at (b : Fin 16) (n : Fin 25000) : ∃ k : Fin 32, IsArg A b n k ∧ Val.v77 A (ix2 b n) = BitVec.ofNat 32 k.val := by
  have e : Val.v77 A (ix2 b n) = ((Host.argReduceFiber (Val.v75 A) (Val.call0_v0 A) reducesTo_S16x25000x32_S16x25000_d2 (ix2 b n)).foldl
      (reducer_argmax_f32_i32 (F := Ideal)) (lit 0xFF800000#32, 0#32)).2 := by
    have e1 : Val.v77 A = fun j => (Host.argReduce reducer_argmax_f32_i32 (Val.v75 A) (Val.call0_v0 A) (Val.call0_cst A) (Val.call0_c A)
      reducesTo_S16x25000x32_S16x25000_d2 h_S_ j).2 := by unfold Val.v77; rfl
    rw [e1]
    show (Host.argReduce reducer_argmax_f32_i32 (Val.v75 A) (Val.call0_v0 A) (Val.call0_cst A) (Val.call0_c A)
      reducesTo_S16x25000x32_S16x25000_d2 h_S_ (ix2 b n)).2 = _
    rw [argmax_fold, cst0, c0]
  rw [e]
  obtain ⟨h1, h2⟩ := foldl_argmax (Host.argReduceFiber (Val.v75 A) (Val.call0_v0 A) reducesTo_S16x25000x32_S16x25000_d2 (ix2 b n))
    (lit 0xFF800000#32, 0#32) _ rfl
  generalize (Host.argReduceFiber (Val.v75 A) (Val.call0_v0 A) reducesTo_S16x25000x32_S16x25000_d2 (ix2 b n)).foldl
      (reducer_argmax_f32_i32 (F := Ideal)) (lit 0xFF800000#32, 0#32) = r at h1 h2
  have hk : ∀ k : Fin 32, (BitVec.ofNat 32 k.val).toInt = (k.val : ℤ) := by decide
  have hall : ∀ k : Fin 32, iou A b n k ≤ r.1 ∧ (iou A b n k = r.1 → r.2.toInt ≤ (k.val : ℤ)) := fun k => by
    have := h1 _ (List.mem_cons_of_mem _ ((mem_fiber A b n _).2 ⟨k, rfl⟩))
    rwa [hk] at this
  have hr : ∃ k : Fin 32, r = (iou A b n k, BitVec.ofNat 32 k.val) := by
    rcases List.mem_cons.1 h2 with h | h
    · refine ⟨0, ?_⟩
      have h0 := (hall 0).1
      rw [h, lit_bot] at h0
      rw [h, lit_bot, le_bot_iff.1 h0]; rfl
    · exact (mem_fiber A b n _).1 h
  obtain ⟨k, rfl⟩ := hr
  refine ⟨k, ⟨fun j => (hall j).1, fun j hj => lt_of_le_of_ne (hall j).1 fun he => ?_⟩, rfl⟩
  have := (hall j).2 he
  rw [hk] at this
  have : j.val < k.val := hj
  omega

theorem max_fold (x : S16x25000x32.Idx → EReal) (ix : S_.Idx → EReal) (j : S16x25000.Idx) :
    Host.reduce max x ix reducesTo_S16x25000x32_S16x25000_d2 h_S_ j
      = (((List.finRange S16x25000x32.numel).filter fun m =>
      reducesTo_S16x25000x32_S16x25000_d2.drop (S16x25000x32.rowMajor.symm m) = j).map fun m => x (S16x25000x32.rowMajor.symm m)).foldl
      max (ix (Shape.Idx.first h_S_)) := by
  rw [List.foldl_map]; rfl

theorem cst10 : Val.cst_10 A (Shape.Idx.first h_S_) = lit 0xFF800000#32 := rfl

/-- The reference's largest overlap. -/
theorem v76_at (b : Fin 16) (n : Fin 25000) (k : Fin 32) (h : IsArg A b n k) : Val.v76 A (ix2 b n) = iou A b n k := by
  have e : Val.v76 A (ix2 b n) = (((List.finRange S16x25000x32.numel).filter fun m =>
      reducesTo_S16x25000x32_S16x25000_d2.drop (S16x25000x32.rowMajor.symm m) = ix2 b n).map fun m => Val.v75 A (S16x25000x32.rowMajor.symm m)).foldl
      max (lit 0xFF800000#32) := by
    have e1 : Val.v76 A = Host.reduce max (Val.v75 A) (Val.cst_10 A) reducesTo_S16x25000x32_S16x25000_d2 h_S_ := by unfold Val.v76; rfl
    rw [e1, max_fold, cst10]
  have hm : ∀ x, x ∈ (((List.finRange S16x25000x32.numel).filter fun m =>
      reducesTo_S16x25000x32_S16x25000_d2.drop (S16x25000x32.rowMajor.symm m) = ix2 b n).map fun m => Val.v75 A (S16x25000x32.rowMajor.symm m))
      ↔ ∃ k, x = iou A b n k := by
    intro x
    simp only [List.mem_map, List.mem_filter, List.mem_finRange, true_and, decide_eq_true_eq]
    constructor
    · rintro ⟨m, hm, rfl⟩
      obtain ⟨k, hk⟩ := drop_boxes b n _ hm
      exact ⟨k, by rw [hk, v75_at]⟩
    · rintro ⟨k, rfl⟩
      refine ⟨S16x25000x32.rowMajor (ix3 b n k), ?_, ?_⟩
      · rw [Equiv.symm_apply_apply]; exact drop_boxes' b n k
      · rw [Equiv.symm_apply_apply, v75_at]
  rw [e]
  generalize (((List.finRange S16x25000x32.numel).filter fun m =>
      reducesTo_S16x25000x32_S16x25000_d2.drop (S16x25000x32.rowMajor.symm m) = ix2 b n).map fun m => Val.v75 A (S16x25000x32.rowMajor.symm m)) = l at hm
  obtain ⟨⟨-, h2⟩, h3⟩ := foldl_max l (lit 0xFF800000#32)
  refine le_antisymm ?_ (h2 _ ((hm _).2 ⟨k, rfl⟩))
  rcases h3 with h3 | h3
  · rw [h3, lit_bot]; exact bot_le
  · obtain ⟨j, hj⟩ := (hm _).1 h3
    rw [hj]; exact h.1 j

end Cert.ReferenceIdeal.Hand

end
-- ==== Proof.RefTake.lean ====
/-
The reference's reads of the boxes and labels at the box an anchor picks, and of the log-probabilities at the anchor's class.
-/
module

public import proofs.«01_k».proof.Proof.RefPoint

@[expose] public section

set_option maxRecDepth 16384

noncomputable section

namespace Cert.ReferenceIdeal.Hand

open Cert.ReferenceIdeal Cert.ReferenceIdeal.Gen Cert.Spec
open Idealize.ShloMosaic Idealize.ShloMosaic.TcCoe
open Idealize.SL.Sem

/-- A read of one entry of each batch row: the operand at the start index, clamped to the row. -/
theorem gather_row {α : Type} (x : S16x32.Idx → α) (idx : IVec S16x25000x1 32) (b : Fin 16) (n : Fin 25000) :
    Host.gather gather_S16x32_S16x25000x1_S16x25000_n_1_0_0_1_2_11 x idx (ix2 b n)
      = x (ix2 b ⟨min (idx (ix3 b n 0)).toInt.toNat 31, by omega⟩) := by
  unfold Host.gather
  congr 1
  funext a
  refine Fin.ext ?_
  show gather_S16x32_S16x25000x1_S16x25000_n_1_0_0_1_2_11.start (ix2 b n) idx a + gather_S16x32_S16x25000x1_S16x25000_n_1_0_0_1_2_11.batchCoord (ix2 b n) a
      + gather_S16x32_S16x25000x1_S16x25000_n_1_0_0_1_2_11.offCoord (ix2 b n) a = _
  have h01 : a = 0 ∨ a = 1 := by
    match a with
    | ⟨0, _⟩ => exact Or.inl rfl
    | ⟨1, _⟩ => exact Or.inr rfl
  rcases h01 with rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ gather_S16x32_S16x25000x1_S16x25000_n_1_0_0_1_2_11.operandBatchingDims from List.mem_singleton.mpr rfl)]
    rfl
  · rw [GatherDims.batchCoord_eq_zero _ _ _ (fun h => by simp [gather_S16x32_S16x25000x1_S16x25000_n_1_0_0_1_2_11] at h),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S16x32_S16x25000x1_S16x25000_n_1_0_0_1_2_11.startIndexMap from List.mem_singleton.mpr rfl)]
    have hsi : gather_S16x32_S16x25000x1_S16x25000_n_1_0_0_1_2_11.siIdx (ix2 b n) ⟨List.idxOf (1 : Fin 2) gather_S16x32_S16x25000x1_S16x25000_n_1_0_0_1_2_11.startIndexMap,
        List.idxOf_lt_length_iff.2 (List.mem_singleton.mpr rfl)⟩ = ix3 b n 0 := by
      funext c; refine Fin.ext ?_
      match c with
      | ⟨0, _⟩ => rfl
      | ⟨1, _⟩ => rfl
      | ⟨2, _⟩ => rfl
    rw [hsi]
    rfl

/-- A read of one class of each anchor's row. -/
theorem gather_cls {α : Type} (x : S16x25000x81.Idx → α) (idx : IVec S16x25000x1x1 32) (b : Fin 16) (n : Fin 25000) :
    Host.gather gather_S16x25000x81_S16x25000x1x1_S16x25000x1_n_2_01_01_2_3_111 x idx (ix3 b n 0)
      = x (ix3 b n ⟨min (idx (ix4 b n 0 0)).toInt.toNat 80, by omega⟩) := by
  unfold Host.gather
  congr 1
  funext a
  refine Fin.ext ?_
  show gather_S16x25000x81_S16x25000x1x1_S16x25000x1_n_2_01_01_2_3_111.start (ix3 b n 0) idx a + gather_S16x25000x81_S16x25000x1x1_S16x25000x1_n_2_01_01_2_3_111.batchCoord (ix3 b n 0) a
      + gather_S16x25000x81_S16x25000x1x1_S16x25000x1_n_2_01_01_2_3_111.offCoord (ix3 b n 0) a = _
  have h01 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h01 with rfl | rfl | rfl
  · have hm : (0 : Fin 3) ∈ gather_S16x25000x81_S16x25000x1x1_S16x25000x1_n_2_01_01_2_3_111.operandBatchingDims := by
      show (0 : Fin 3) ∈ [0, 1]; decide
    rw [GatherDims.start_batching _ _ _ _ hm,
      GatherDims.offCoord_eq_zero _ _ _ (fun h => ((GatherDims.mem_sKept _ _).mp h).2 hm)]
    simp only [Nat.zero_add, Nat.add_zero]
    unfold GatherDims.batchCoord
    rw [dif_pos hm]
    rfl
  · have hm : (1 : Fin 3) ∈ gather_S16x25000x81_S16x25000x1x1_S16x25000x1_n_2_01_01_2_3_111.operandBatchingDims := by
      show (1 : Fin 3) ∈ [0, 1]; decide
    rw [GatherDims.start_batching _ _ _ _ hm,
      GatherDims.offCoord_eq_zero _ _ _ (fun h => ((GatherDims.mem_sKept _ _).mp h).2 hm)]
    simp only [Nat.zero_add, Nat.add_zero]
    unfold GatherDims.batchCoord
    rw [dif_pos hm]
    rfl
  · have hn : (2 : Fin 3) ∉ gather_S16x25000x81_S16x25000x1x1_S16x25000x1_n_2_01_01_2_3_111.operandBatchingDims := by
      show (2 : Fin 3) ∉ [0, 1]; decide
    rw [GatherDims.batchCoord_eq_zero _ _ _ hn,
      GatherDims.offCoord_eq_zero _ _ _ (fun h => ((GatherDims.mem_sKept _ _).mp h).1 (List.mem_singleton.mpr rfl))]
    simp only [Nat.add_zero]
    unfold GatherDims.start
    rw [dif_pos (show (2 : Fin 3) ∈ gather_S16x25000x81_S16x25000x1x1_S16x25000x1_n_2_01_01_2_3_111.startIndexMap from List.mem_singleton.mpr rfl)]
    have hsi : gather_S16x25000x81_S16x25000x1x1_S16x25000x1_n_2_01_01_2_3_111.siIdx (ix3 b n 0) ⟨List.idxOf (2 : Fin 3) gather_S16x25000x81_S16x25000x1x1_S16x25000x1_n_2_01_01_2_3_111.startIndexMap,
        List.idxOf_lt_length_iff.2 (List.mem_singleton.mpr rfl)⟩ = ix4 b n 0 0 := by
      funext c; refine Fin.ext ?_
      match c with
      | ⟨0, _⟩ => rfl
      | ⟨1, _⟩ => rfl
      | ⟨2, _⟩ => rfl
      | ⟨3, _⟩ => rfl
    rw [hsi]
    rfl

/-- A conjunction of trues. -/
theorem reduce_and {s t : Shape} {axes : List (Fin s.rank)} (h : s.ReducesTo axes t) (x : s.Idx → BitVec 1) (init : S_.Idx → BitVec 1)
    (hx : ∀ i, x i = 1#1) (hi : init (Shape.Idx.first h_S_) = 1#1) (j : t.Idx) : Host.reduce IntOp.andi x init h h_S_ j = 1#1 := by
  unfold Host.reduce
  rw [hi]
  induction ((List.finRange s.numel).filter fun n => h.drop (s.rowMajor.symm n) = j) with
  | nil => rfl
  | cons a l ih => rw [List.foldl_cons, hx]; exact ih

/-- The start index of a read at index `v`, a negative one counted from the end. -/
def rowIdx (v : IVec S16x25000 32) : IVec S16x25000x1 32 :=
  shapeCast S16x25000x1 (select (cmpi .slt v (broadcastInDim S16x25000 ![] bcast_S_S16x25000 (constantI S_ 32 0#32)))
    (addi v (broadcastInDim S16x25000 ![] bcast_S_S16x25000 (constantI S_ 32 32#32))) v) shapeCasts_S16x25000_S16x25000x1

/-- Whether every start index lies in the row. -/
def rowIn (v : IVec S16x25000 32) : IVec S16x25000x1 1 :=
  andi (cmpi .sge (rowIdx v) (broadcastInDim S16x25000x1 ![] bcast_S_S16x25000x1 (constantI S_ 32 0#32)))
    (cmpi .sle (rowIdx v) (broadcastInDim S16x25000x1 ![0, 1, 2] bcast_S1x1x1_S16x25000x1_0_1_2
      (broadcastInDim S1x1x1 ![2] bcast_S1_S1x1x1_2 (constantI S1 32 31#32))))

/-- A read of each batch row of `x` at the indices `v`, `fill` where an index lies outside. -/
def takeRow {α : Type} (v : IVec S16x25000 32) (x : S16x32.Idx → α) (fill : S16x25000.Idx → α) : S16x25000.Idx → α :=
  select (Host.reduce IntOp.andi (rowIn v) (constantI S_ 1 1#1) reducesTo_S16x25000x1_S16x25000_d2 h_S_)
    (Host.gather gather_S16x32_S16x25000x1_S16x25000_n_1_0_0_1_2_11 x (rowIdx v)) fill

theorem word_lo : ∀ k : Fin 32, IntOp.cmpi .slt (BitVec.ofNat 32 k.val) 0#32 = 0#1 := by decide

theorem word_in : ∀ k : Fin 32, IntOp.andi (IntOp.cmpi .sge (BitVec.ofNat 32 k.val) 0#32) (IntOp.cmpi .sle (BitVec.ofNat 32 k.val) 31#32) = 1#1 := by
  decide

theorem word_val : ∀ k : Fin 32, min (BitVec.ofNat 32 k.val).toInt.toNat 31 = k.val := by decide

theorem rowIdx_at (v : IVec S16x25000 32) (b : Fin 16) (n : Fin 25000) (k : Fin 32) (h : v (ix2 b n) = BitVec.ofNat 32 k.val) :
    rowIdx v (ix3 b n 0) = BitVec.ofNat 32 k.val := by
  have e : rowIdx v (ix3 b n 0) = Scalar.select (IntOp.cmpi .slt (v (ix2 b n)) 0#32) (v (ix2 b n) + 32#32) (v (ix2 b n)) := by
    rw [show rowIdx v (ix3 b n 0) = (select (cmpi .slt v (broadcastInDim S16x25000 ![] bcast_S_S16x25000 (constantI S_ 32 0#32)))
    (addi v (broadcastInDim S16x25000 ![] bcast_S_S16x25000 (constantI S_ 32 32#32))) v) (ix2 b n) from by
      unfold rowIdx
      generalize select (cmpi .slt v (broadcastInDim S16x25000 ![] bcast_S_S16x25000 (constantI S_ 32 0#32)))
        (addi v (broadcastInDim S16x25000 ![] bcast_S_S16x25000 (constantI S_ 32 32#32))) v = w
      pointwise]
    rfl
  rw [e, h, word_lo]; rfl

/-- The read at an index inside the row. -/
theorem takeRow_at {α : Type} (v : IVec S16x25000 32) (x : S16x32.Idx → α) (fill : S16x25000.Idx → α)
    (hv : ∀ b n, ∃ k : Fin 32, v (ix2 b n) = BitVec.ofNat 32 k.val) (b : Fin 16) (n : Fin 25000) (k : Fin 32)
    (h : v (ix2 b n) = BitVec.ofNat 32 k.val) : takeRow v x fill (ix2 b n) = x (ix2 b k) := by
  have hin : ∀ i, rowIn v i = 1#1 := by
    intro i
    idx_vars i
    obtain ⟨m, hm⟩ := hv i0 i1
    have e2 : i2 = 0 := Subsingleton.elim _ _
    subst e2
    show IntOp.andi (IntOp.cmpi .sge (rowIdx v (ix3 i0 i1 0)) 0#32) (IntOp.cmpi .sle (rowIdx v (ix3 i0 i1 0)) 31#32) = 1#1
    rw [rowIdx_at v i0 i1 m hm]; exact word_in m
  show Scalar.select (Host.reduce IntOp.andi (rowIn v) (constantI S_ 1 1#1) reducesTo_S16x25000x1_S16x25000_d2 h_S_ (ix2 b n))
    (Host.gather gather_S16x32_S16x25000x1_S16x25000_n_1_0_0_1_2_11 x (rowIdx v) (ix2 b n)) (fill (ix2 b n)) = _
  rw [reduce_and _ _ _ hin rfl, sel_one, gather_row]
  congr 2
  exact Fin.ext (by show min (rowIdx v (ix3 b n 0)).toInt.toNat 31 = k.val; rw [rowIdx_at v b n k h]; exact word_val k)

variable (A : Args Ideal)

theorem v77_all (b : Fin 16) (n : Fin 25000) : ∃ k : Fin 32, Val.v77 A (ix2 b n) = BitVec.ofNat 32 k.val := by
  obtain ⟨k, -, h⟩ := v77_at A b n; exact ⟨k, h⟩

theorem v84_take : Val.v84 A = takeRow (Val.v77 A) (Val.v9 A) (Val.call1_v14 A) := by
  unfold Val.v84 Val.call1_v12 Val.call1_v13 Val.call1_v11 Val.call1_v10 Val.call1_v9 Val.call1_v8 Val.call1_v7 Val.call1_v6 Val.call1_v5 Val.call1_v4 Val.call1_v3 Val.call1_v2 Val.call1_v1 Val.call1_v0
  rfl

theorem v84_at (b : Fin 16) (n : Fin 25000) (k : Fin 32) (h : Val.v77 A (ix2 b n) = BitVec.ofNat 32 k.val) : Val.v84 A (ix2 b n) = A.arg3 (ix3 b k 0) := by
  rw [v84_take, takeRow_at _ _ _ (v77_all A) b n k h, v9_at]

theorem v85_take : Val.v85 A = takeRow (Val.v77 A) (Val.v11 A) (Val.call2_v14 A) := by
  unfold Val.v85 Val.call2_v12 Val.call2_v13 Val.call2_v11 Val.call2_v10 Val.call2_v9 Val.call2_v8 Val.call2_v7 Val.call2_v6 Val.call2_v5 Val.call2_v4 Val.call2_v3 Val.call2_v2 Val.call2_v1 Val.call2_v0
  rfl

theorem v85_at (b : Fin 16) (n : Fin 25000) (k : Fin 32) (h : Val.v77 A (ix2 b n) = BitVec.ofNat 32 k.val) : Val.v85 A (ix2 b n) = A.arg3 (ix3 b k 1) := by
  rw [v85_take, takeRow_at _ _ _ (v77_all A) b n k h, v11_at]

theorem v86_take : Val.v86 A = takeRow (Val.v77 A) (Val.v13 A) (Val.call3_v14 A) := by
  unfold Val.v86 Val.call3_v12 Val.call3_v13 Val.call3_v11 Val.call3_v10 Val.call3_v9 Val.call3_v8 Val.call3_v7 Val.call3_v6 Val.call3_v5 Val.call3_v4 Val.call3_v3 Val.call3_v2 Val.call3_v1 Val.call3_v0
  rfl

theorem v86_at (b : Fin 16) (n : Fin 25000) (k : Fin 32) (h : Val.v77 A (ix2 b n) = BitVec.ofNat 32 k.val) : Val.v86 A (ix2 b n) = A.arg3 (ix3 b k 2) := by
  rw [v86_take, takeRow_at _ _ _ (v77_all A) b n k h, v13_at]

theorem v87_take : Val.v87 A = takeRow (Val.v77 A) (Val.v15 A) (Val.call4_v14 A) := by
  unfold Val.v87 Val.call4_v12 Val.call4_v13 Val.call4_v11 Val.call4_v10 Val.call4_v9 Val.call4_v8 Val.call4_v7 Val.call4_v6 Val.call4_v5 Val.call4_v4 Val.call4_v3 Val.call4_v2 Val.call4_v1 Val.call4_v0
  rfl

theorem v87_at (b : Fin 16) (n : Fin 25000) (k : Fin 32) (h : Val.v77 A (ix2 b n) = BitVec.ofNat 32 k.val) : Val.v87 A (ix2 b n) = A.arg3 (ix3 b k 3) := by
  rw [v87_take, takeRow_at _ _ _ (v77_all A) b n k h, v15_at]

theorem v88_take : Val.v88 A = takeRow (Val.v77 A) A.arg4 (Val.call5_v14 A) := by
  unfold Val.v88 Val.call5_v12 Val.call5_v13 Val.call5_v11 Val.call5_v10 Val.call5_v9 Val.call5_v8 Val.call5_v7 Val.call5_v6 Val.call5_v5 Val.call5_v4 Val.call5_v3 Val.call5_v2 Val.call5_v1 Val.call5_v0
  rfl

theorem v88_at (b : Fin 16) (n : Fin 25000) (k : Fin 32) (h : Val.v77 A (ix2 b n) = BitVec.ofNat 32 k.val) : Val.v88 A (ix2 b n) = A.arg4 (ix2 b k) := by
  rw [v88_take, takeRow_at _ _ _ (v77_all A) b n k h]

end Cert.ReferenceIdeal.Hand

end
-- ==== Proof.RefClass.lean ====
/-
The reference's classes, counts and class losses at an index.
-/
module

public import proofs.«01_k».proof.Proof.RefTake
public import Idealize.ShloMosaic.Lib.IndicatorCount

@[expose] public section

set_option maxRecDepth 16384

noncomputable section

namespace Cert.ReferenceIdeal.Hand

open Cert.ReferenceIdeal Cert.ReferenceIdeal.Gen Cert.Spec
open Idealize.ShloMosaic Idealize.ShloMosaic.TcCoe
open Idealize.SL.Sem

section At

variable {s : Shape} {w : ℕ} {α : Type}

theorem cmpf_at (p : CmpFPredicate) (x y : FVec Ideal s .f32) (j : s.Idx) : cmpf p x y j = Ideal.cmp p (x j) (y j) := rfl

theorem cmpi_at (p : CmpIPredicate) (x y : IVec s w) (j : s.Idx) : cmpi p x y j = IntOp.cmpi p (x j) (y j) := rfl

theorem andi_at (x y : IVec s w) (j : s.Idx) : andi x y j = x j &&& y j := rfl

theorem noti_at (x : IVec s w) (j : s.Idx) : noti x j = ~~~ (x j) := rfl

theorem maxsi_at (x y : IVec s w) (j : s.Idx) : maxsi x y j = IntOp.maxsi (x j) (y j) := rfl

theorem select_at (c : IVec s 1) (x y : s.Idx → α) (j : s.Idx) : select c x y j = Scalar.select (c j) (x j) (y j) := rfl

theorem mulf_at (x y : FVec Ideal s .f32) (j : s.Idx) : mulf x y j = x j * y j := rfl

theorem addf_at (x y : FVec Ideal s .f32) (j : s.Idx) : addf x y j = x j + y j := rfl

theorem subf_at (x y : FVec Ideal s .f32) (j : s.Idx) : subf x y j = x j - y j := rfl

theorem maximumf_at (x y : FVec Ideal s .f32) (j : s.Idx) : maximumf x y j = max (x j) (y j) := rfl

theorem hdivf_at (x y : FVec Ideal s .f32) (j : s.Idx) : Host.divf x y j = Ideal.div (x j) (y j) := rfl

theorem habsf_at (x : FVec Ideal s .f32) (j : s.Idx) : Host.absf x j = max (x j) (-(x j)) := rfl

theorem hnegf_at (x : FVec Ideal s .f32) (j : s.Idx) : Host.negf x j = -(x j) := rfl

theorem hlog_at (x : FVec Ideal s .f32) (j : s.Idx) : Host.log x j = Ideal.log (x j) := rfl

theorem hexp_at (x : FVec Ideal s .f32) (j : s.Idx) : Host.exp x j = Ideal.exp (x j) := rfl

theorem uitofp_at (x : IVec s w) (j : s.Idx) : uitofp (F := Ideal) .f32 x j = (((x j).toNat : ℝ) : EReal) := rfl

theorem sitofp_at (x : IVec s w) (j : s.Idx) : sitofp (F := Ideal) .f32 x j = FloatOps.sitofp (F := Ideal) .f32 (w := w) (x j) := rfl

theorem splat_f (b : BitVec 32) (h : S_.BroadcastsInDim s ![]) (j : s.Idx) :
    broadcastInDim s ![] h (constant (F := Ideal) S_ .f32 b) j = lit b := rfl

theorem splat_i (b : BitVec 32) (h : S_.BroadcastsInDim s ![]) (j : s.Idx) :
    broadcastInDim s ![] h (constantI S_ 32 b) j = b := rfl

end At

variable (A : Args Ideal)

attribute [local irreducible] Cert.Spec.scan

/-- The reference's arguments by index. -/
def dataOf : Data :=
  ⟨fun b n c => A.arg0 (ix3 b n c), fun b n d => A.arg1 (ix3 b n d), fun n d => A.arg2 (ix2 n d), fun b k d => A.arg3 (ix3 b k d),
    fun b k => A.arg4 (ix2 b k)⟩

theorem bv1 : ∀ p : BitVec 1, p = 0#1 ∨ p = 1#1 := by decide +kernel

/-- The reference's best box, as a scan. -/
theorem best_eq (b : Fin 16) (n : Fin 25000) : (dataOf A).best b n
    = scan (lane A n) (fun k d => A.arg3 (ix3 b k d)) (fun k => FloatOps.sitofp (F := Ideal) .f32 (w := 32) (A.arg4 (ix2 b k))) 32 := by
  unfold Data.best; rfl

theorem ov_eq (b : Fin 16) (n : Fin 25000) (k : Fin 32) : ov (lane A n) (fun k d => A.arg3 (ix3 b k d)) k = iou A b n k := by
  unfold ov iou; rfl

theorem best_iou (b : Fin 16) (n : Fin 25000) (k : Fin 32) (h : IsArg A b n k) :
    ((dataOf A).best b n).iou = max (lit 0xBF800000#32) (iou A b n k) := by
  rw [best_eq, scan_iou (lane A n) (fun k d => A.arg3 (ix3 b k d)) _ k, ov_eq]
  · intro j; rw [ov_eq, ov_eq]; exact h.1 j
  · intro j hj; rw [ov_eq, ov_eq]; exact h.2 j hj

theorem best_holds (b : Fin 16) (n : Fin 25000) (k : Fin 32) (h : IsArg A b n k) (hp : posB ((dataOf A).best b n).iou = 1#1) :
    (dataOf A).best b n = ⟨iou A b n k, A.arg3 (ix3 b k 0), A.arg3 (ix3 b k 1), A.arg3 (ix3 b k 2), A.arg3 (ix3 b k 3),
      FloatOps.sitofp (F := Ideal) .f32 (w := 32) (A.arg4 (ix2 b k))⟩ := by
  rw [best_iou A b n k h, posB_max] at hp
  have := scan_holds (lane A n) (fun k d => A.arg3 (ix3 b k d)) (fun k => FloatOps.sitofp (F := Ideal) .f32 (w := 32) (A.arg4 (ix2 b k))) k
    (fun j => by rw [ov_eq, ov_eq]; exact h.1 j) (fun j hj => by rw [ov_eq, ov_eq]; exact h.2 j hj) (by rw [ov_eq]; exact hp)
  unfold Holds at this
  rw [best_eq, this, ov_eq]

theorem v79_at (b : Fin 16) (n : Fin 25000) : Val.v79 A (ix2 b n) = posB ((dataOf A).best b n).iou := by
  obtain ⟨k, h, -⟩ := v77_at A b n
  have e : Val.v79 A (ix2 b n) = posB (Val.v76 A (ix2 b n)) := by
    have e1 : Val.v79 A (ix2 b n) = Ideal.cmp .oge (Val.v76 A (ix2 b n)) (Val.v78 A (ix2 b n)) := by
      unfold Val.v79; exact cmpf_at _ _ _ _
    have e2 : Val.v78 A (ix2 b n) = lit 0x3F000000#32 := by
      unfold Val.v78 Val.cst_11; exact splat_f _ _ _
    rw [e1, e2, posB]
  rw [best_iou A b n k h, posB_max, ← v76_at A b n k h, e]

theorem v83_at (b : Fin 16) (n : Fin 25000) : Val.v83 A (ix2 b n) = ignB ((dataOf A).best b n).iou := by
  have e : Val.v83 A (ix2 b n) = Ideal.cmp .ogt (Val.v76 A (ix2 b n)) (lit 0x3ECCCCCD#32) &&& ~~~ (Val.v79 A (ix2 b n)) := by
    have e1 : Val.v83 A (ix2 b n) = Val.v81 A (ix2 b n) &&& Val.v82 A (ix2 b n) := by
      unfold Val.v83; exact andi_at _ _ _
    have e2 : Val.v81 A (ix2 b n) = Ideal.cmp .ogt (Val.v76 A (ix2 b n)) (Val.v80 A (ix2 b n)) := by
      unfold Val.v81; exact cmpf_at _ _ _ _
    have e3 : Val.v80 A (ix2 b n) = lit 0x3ECCCCCD#32 := by
      unfold Val.v80 Val.cst_12; exact splat_f _ _ _
    have e4 : Val.v82 A (ix2 b n) = ~~~ (Val.v79 A (ix2 b n)) := by
      unfold Val.v82; exact noti_at _ _
    rw [e1, e2, e3, e4]
  rw [e, v79_at]
  obtain ⟨k, h, -⟩ := v77_at A b n
  rw [best_iou A b n k h, posB_max, ignB_max, v76_at A b n k h, ignB]
  congr 1
  rcases bv1 (posB (iou A b n k)) with h | h <;> rw [h] <;> rfl

/-- The reference's class. -/
theorem v135_at (b : Fin 16) (n : Fin 25000) : Val.v135 A (ix2 b n) = (dataOf A).cls b n := by
  have e : Val.v135 A (ix2 b n) = Scalar.select (Val.v79 A (ix2 b n)) (Val.v88 A (ix2 b n))
      (Scalar.select (Val.v83 A (ix2 b n)) 4294967295#32 0#32) := by
    have e1 : Val.v135 A (ix2 b n) = Scalar.select (Val.v79 A (ix2 b n)) (Val.v88 A (ix2 b n)) (Val.call7_v0 A (ix2 b n)) := by
      unfold Val.v135; exact select_at _ _ _ _
    have e2 : Val.v134 A (ix2 b n) = Scalar.select (Val.v83 A (ix2 b n)) (Val.call6_v0 A (ix2 b n)) (Val.call6_v1 A (ix2 b n)) := by
      unfold Val.v134; exact select_at _ _ _ _
    have e3 : Val.call6_v0 A (ix2 b n) = 4294967295#32 := by
      unfold Val.call6_v0 Val.c; exact splat_i _ _ _
    have e4 : Val.call6_v1 A (ix2 b n) = 0#32 := by
      unfold Val.call6_v1 Val.c_21; exact splat_i _ _ _
    have e5 : Val.call7_v0 A = Val.v134 A := by
      unfold Val.call7_v0; exact id_eq _
    rw [e1, e5, e2, e3, e4]
  rw [e, v79_at, v83_at]
  unfold Data.cls clsW
  rcases bv1 (posB ((dataOf A).best b n).iou) with hp | hp
  · rw [hp, sel_zero, sel_zero]
  · obtain ⟨k, h, h77⟩ := v77_at A b n
    rw [hp, sel_one, sel_one, v88_at A b n k h77, best_holds A b n k h hp, fptosi_sitofp]

/-- Every label is a class other than the background. -/
def Labels : Prop := ∀ b k, 1 ≤ (A.arg4 (ix2 b k)).toInt ∧ (A.arg4 (ix2 b k)).toInt ≤ 80

/-- Every logit is a real number. -/
def Finite : Prop := ∀ b n c, ∃ r : ℝ, A.arg0 (ix3 b n c) = (r : EReal)

theorem ign_of_pos (q : EReal) (h : posB q = 1#1) : ignB q = 0#1 := by
  unfold ignB; rw [h]
  rcases bv1 (Ideal.cmp .ogt q (lit 0x3ECCCCCD#32)) with h | h <;> rw [h] <;> rfl

theorem toInt_small (q : ℕ) (h : q < 2147483648) : (BitVec.ofNat 32 q).toInt = q := by
  have h1 : (BitVec.ofNat 32 q).toNat = q := by
    rw [BitVec.toNat_ofNat]; exact Nat.mod_eq_of_lt (by omega)
  rw [BitVec.toInt_eq_toNat_of_lt (by rw [h1]; omega), h1]

/-- A class is minus one exactly for an anchor left out, and otherwise between zero and eighty. -/
theorem cls_range (hl : Labels A) (b : Fin 16) (n : Fin 25000) :
    (ignB ((dataOf A).best b n).iou = 1#1 ∧ (dataOf A).cls b n = 4294967295#32) ∨
    (ignB ((dataOf A).best b n).iou = 0#1 ∧ ∃ t : Fin 81, (dataOf A).cls b n = BitVec.ofNat 32 t.val) := by
  obtain ⟨k, h, h77⟩ := v77_at A b n
  rcases bv1 (posB ((dataOf A).best b n).iou) with hp | hp
  · rcases bv1 (ignB ((dataOf A).best b n).iou) with hi | hi
    · right; refine ⟨hi, 0, ?_⟩
      unfold Data.cls clsW; rw [hp, hi, sel_zero, sel_zero]; decide
    · left; refine ⟨hi, ?_⟩
      unfold Data.cls clsW; rw [hp, hi, sel_zero, sel_one]
  · right
    refine ⟨ign_of_pos _ hp, ?_⟩
    obtain ⟨h1, h2⟩ := hl b k
    refine ⟨⟨(A.arg4 (ix2 b k)).toInt.toNat, by omega⟩, ?_⟩
    unfold Data.cls clsW
    rw [hp, sel_one, best_holds A b n k h hp, fptosi_sitofp]
    apply BitVec.eq_of_toInt_eq
    rw [toInt_small _ (by show (BitVec.toInt (A.arg4 (ix2 b k))).toNat < _; omega)]
    show _ = (((BitVec.toInt (A.arg4 (ix2 b k))).toNat : ℕ) : ℤ)
    rw [Int.toNat_of_nonneg (by omega)]

theorem sge_lit : ∀ t : Fin 81, IntOp.cmpi .sge (BitVec.ofNat 32 t.val) 0#32 = 1#1 := by decide +kernel

theorem max_lit : ∀ t : Fin 81, IntOp.maxsi (BitVec.ofNat 32 t.val) 0#32 = BitVec.ofNat 32 t.val := by decide +kernel

/-- The anchors kept. -/
theorem v139_at (hl : Labels A) (b : Fin 16) (n : Fin 25000) : Val.v139 A (ix2 b n) = ignB ((dataOf A).best b n).iou ^^^ 1#1 := by
  have e : Val.v139 A (ix2 b n) = IntOp.cmpi .sge (Val.v135 A (ix2 b n)) 0#32 := by
    unfold Val.v139 Val.v138 Val.c_23; refine (cmpi_at _ _ _ _).trans ?_; rw [splat_i]
  rw [e, v135_at]
  rcases cls_range A hl b n with ⟨h1, h2⟩ | ⟨h1, t, h2⟩
  · rw [h1, h2]; rfl
  · rw [h1, h2, sge_lit]; rfl

/-- The class index the reference reads. -/
theorem v142_at (hl : Labels A) (b : Fin 16) (n : Fin 25000) : ∃ t : Fin 81, Val.v142 A (ix2 b n) = BitVec.ofNat 32 t.val := by
  have e : Val.v142 A (ix2 b n) = IntOp.maxsi (Val.v135 A (ix2 b n)) 0#32 := by
    unfold Val.v142 Val.v141 Val.c_24; refine (maxsi_at _ _ _).trans ?_; rw [splat_i]
  rw [e, v135_at]
  rcases cls_range A hl b n with ⟨h1, h2⟩ | ⟨h1, t, h2⟩
  · exact ⟨0, by rw [h2]; rfl⟩
  · exact ⟨t, by rw [h2, max_lit]⟩

/-- A count of ones, as a float, is a sum of ones. -/
theorem count_at (m : S16x25000.Idx → BitVec 1) (init : S_.Idx → BitVec 32) (hi : init (Shape.Idx.first h_S_) = 0#32) (b : Fin 16) :
    FloatOps.sitofp (F := Ideal) .f32 (w := 32) (Host.reduce IntOp.addi (extui 32 m natLt_1_32) init reducesTo_S16x25000_S16_d1 h_S_ (ix1 b))
      = ∑ n, Scalar.select (m (ix2 b n)) (lit 0x3F800000#32) (lit 0x00000000#32) := by
  have hr : S16x25000.Reduces [1] S16 := by decide +kernel
  rw [Host.reduce_eq_fold_single IntOp.addi _ _ _ hr, hi]
  have hf : (extui 32 m natLt_1_32) ∘ hr.lift (ix1 b) = fun k : Fin 25000 => (m (ix2 b k)).setWidth 32 := by
    funext k
    show (m (hr.lift (ix1 b) k)).setWidth 32 = _
    congr 2
    funext c
    match c with
    | ⟨0, _⟩ => rfl
    | ⟨1, _⟩ => rfl
  rw [hf]
  refine (congrArg (FloatOps.sitofp (F := Ideal) .f32 (w := 32)) (IndicatorCount.fold_addi_setWidth_eq_card (fun k : Fin 25000 => m (ix2 b k)) Finset.univ)).trans ?_
  have hs : ∀ n : Fin 25000, Scalar.select (m (ix2 b n)) (lit 0x3F800000#32) (lit 0x00000000#32) = if m (ix2 b n) = 1#1 then (1 : EReal) else 0 := by
    intro n
    rw [lit_one, lit_zero]; rfl
  rw [Finset.sum_congr rfl fun n _ => hs n, Finset.sum_boole]
  have hc : (Finset.univ.filter fun k : Fin 25000 => m (ix2 b k) = 1#1).card ≤ 25000 := by
    refine (Finset.card_le_univ _).trans ?_
    rw [Fintype.card_fin]
  generalize (Finset.univ.filter fun k : Fin 25000 => m (ix2 b k) = 1#1).card = q at hc
  show (((BitVec.ofNat 32 q).toInt : ℝ) : EReal) = _
  rw [toInt_small _ (by omega)]
  norm_cast

/-- How many anchors are kept. -/
theorem v149_at (hl : Labels A) (b : Fin 16) : Val.v149 A (ix1 b) = ∑ n, (dataOf A).valid b n := by
  have e : Val.v149 A (ix1 b) = FloatOps.sitofp (F := Ideal) .f32 (w := 32) (Host.reduce IntOp.addi (extui 32 (Val.v139 A) natLt_1_32) (Val.c_25 A) reducesTo_S16x25000_S16_d1 h_S_ (ix1 b)) := by
    unfold Val.v149 Val.v148 Val.v147; exact sitofp_at _ _
  rw [e, count_at _ _ rfl]
  refine Finset.sum_congr rfl fun n _ => ?_
  rw [v139_at A hl]; rfl

/-- How many anchors are positive. -/
theorem v175_at (b : Fin 16) : Val.v175 A (ix1 b) = ∑ n, (dataOf A).pos b n := by
  have e : Val.v175 A (ix1 b) = FloatOps.sitofp (F := Ideal) .f32 (w := 32) (Host.reduce IntOp.addi (extui 32 (Val.v79 A) natLt_1_32) (Val.c_33 A) reducesTo_S16x25000_S16_d1 h_S_ (ix1 b)) := by
    unfold Val.v175 Val.v174 Val.v173; exact sitofp_at _ _
  rw [e, count_at _ _ rfl]
  refine Finset.sum_congr rfl fun n _ => ?_
  rw [v79_at]; rfl

/-! ### The class loss -/

/-- A sum of real numbers, read as extended reals. -/
theorem coe_sum {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The logarithm of a sum of exponentials does not depend on what is subtracted before. -/
theorem lse (x : Fin 81 → ℝ) (m : ℝ) (t : Fin 81) :
    -((((x t : ℝ) : EReal) - (m : EReal)) - Ideal.log (0 + ∑ c, Ideal.exp (((x c : ℝ) : EReal) - (m : EReal))))
      = Ideal.log (∑ c, Ideal.exp ((x c : ℝ) : EReal)) - ((x t : ℝ) : EReal) := by
  have h1 : (∑ c, Ideal.exp (((x c : ℝ) : EReal) - (m : EReal))) = ((∑ c, Real.exp (x c - m) : ℝ) : EReal) := by
    rw [← coe_sum]
    refine Finset.sum_congr rfl fun c _ => ?_
    rw [← EReal.coe_sub, Ideal.exp_coe]
  have h2 : (∑ c, Ideal.exp ((x c : ℝ) : EReal)) = ((∑ c, Real.exp (x c) : ℝ) : EReal) := by
    rw [← coe_sum]; rfl
  have p1 : 0 < ∑ c, Real.exp (x c) := Finset.sum_pos (fun c _ => Real.exp_pos _) Finset.univ_nonempty
  have e1 : ∑ c, Real.exp (x c - m) = (∑ c, Real.exp (x c)) * Real.exp (-m) := by
    rw [Finset.sum_mul]
    refine Finset.sum_congr rfl fun c _ => ?_
    rw [← Real.exp_add, sub_eq_add_neg]
  have p2 : 0 < ∑ c, Real.exp (x c - m) := by rw [e1]; exact mul_pos p1 (Real.exp_pos _)
  rw [zero_add, h1, h2, Ideal.log_coe, Ideal.log_coe, if_neg (not_le.2 p1), if_neg (not_le.2 p2), e1,
    Real.log_mul p1.ne' (Real.exp_pos _).ne', Real.log_exp]
  rw [← EReal.coe_sub, ← EReal.coe_sub, ← EReal.coe_sub, ← EReal.coe_neg]
  congr 1; ring

theorem drop_classes (b : Fin 16) (n : Fin 25000) (i : S16x25000x81.Idx)
    (h : (reducesTo_S16x25000x81_S16x25000_d2 : S16x25000x81.ReducesTo [2] S16x25000).drop i = ix2 b n) : ∃ k : Fin 81, i = ix3 b n k := by
  idx_vars i
  refine ⟨i2, ?_⟩
  have h0 : (reducesTo_S16x25000x81_S16x25000_d2.drop (ix3 i0 i1 i2) 0 : Nat) = i0 :=
    Shape.ReducesTo.drop_apply_val_of_eq (s := S16x25000x81) (axes := [2]) (t := S16x25000) reducesTo_S16x25000x81_S16x25000_d2 (ix3 i0 i1 i2) 0 0
  have h1 : (reducesTo_S16x25000x81_S16x25000_d2.drop (ix3 i0 i1 i2) 1 : Nat) = i1 :=
    Shape.ReducesTo.drop_apply_val_of_eq (s := S16x25000x81) (axes := [2]) (t := S16x25000) reducesTo_S16x25000x81_S16x25000_d2 (ix3 i0 i1 i2) 1 1
  rw [h] at h0 h1
  have e0 : i0 = b := Fin.ext h0.symm
  have e1 : i1 = n := Fin.ext h1.symm
  rw [e0, e1]

theorem drop_classes' (b : Fin 16) (n : Fin 25000) (k : Fin 81) :
    (reducesTo_S16x25000x81_S16x25000_d2 : S16x25000x81.ReducesTo [2] S16x25000).drop (ix3 b n k) = ix2 b n := by
  funext a
  apply Fin.ext
  match a with
  | ⟨0, _⟩ => exact Shape.ReducesTo.drop_apply_val_of_eq (s := S16x25000x81) (axes := [2]) (t := S16x25000) reducesTo_S16x25000x81_S16x25000_d2 (ix3 b n k) 0 0
  | ⟨1, _⟩ => exact Shape.ReducesTo.drop_apply_val_of_eq (s := S16x25000x81) (axes := [2]) (t := S16x25000) reducesTo_S16x25000x81_S16x25000_d2 (ix3 b n k) 1 1

theorem max_classes (x : S16x25000x81.Idx → EReal) (ix : S_.Idx → EReal) (j : S16x25000.Idx) :
    Host.reduce max x ix reducesTo_S16x25000x81_S16x25000_d2 h_S_ j
      = (((List.finRange S16x25000x81.numel).filter fun m =>
      reducesTo_S16x25000x81_S16x25000_d2.drop (S16x25000x81.rowMajor.symm m) = j).map fun m => x (S16x25000x81.rowMajor.symm m)).foldl
      max (ix (Shape.Idx.first h_S_)) := by
  rw [List.foldl_map]; rfl

theorem cst9 : Val.call9_cst A (Shape.Idx.first h_S_) = lit 0xFF800000#32 := rfl

/-- The largest logit of an anchor is a real number. -/
theorem call9_v2_at (hf : Finite A) (b : Fin 16) (n : Fin 25000) : ∃ m : ℝ, Val.call9_v2 A (ix2 b n) = (m : EReal) := by
  have e : Val.call9_v2 A (ix2 b n) = max (lit 0xFF800000#32) (Val.call9_v0 A (ix2 b n)) := by
    unfold Val.call9_v2 Val.call9_v1 Val.call9_cst_0; refine (maximumf_at _ _ _).trans ?_; rw [splat_f]
  have e0 : Val.call9_v0 A = Host.reduce max A.arg0 (Val.call9_cst A) reducesTo_S16x25000x81_S16x25000_d2 h_S_ := by unfold Val.call9_v0; rfl
  rw [e, lit_bot, max_eq_right bot_le, e0, max_classes, cst9, lit_bot]
  have hm : ∀ x, x ∈ (((List.finRange S16x25000x81.numel).filter fun m =>
      reducesTo_S16x25000x81_S16x25000_d2.drop (S16x25000x81.rowMajor.symm m) = ix2 b n).map fun m => A.arg0 (S16x25000x81.rowMajor.symm m))
      ↔ ∃ k, x = A.arg0 (ix3 b n k) := by
    intro x
    simp only [List.mem_map, List.mem_filter, List.mem_finRange, true_and, decide_eq_true_eq]
    constructor
    · rintro ⟨m, hm, rfl⟩
      obtain ⟨k, hk⟩ := drop_classes b n _ hm
      exact ⟨k, by rw [hk]⟩
    · rintro ⟨k, rfl⟩
      refine ⟨S16x25000x81.rowMajor (ix3 b n k), ?_, ?_⟩
      · rw [Equiv.symm_apply_apply]; exact drop_classes' b n k
      · rw [Equiv.symm_apply_apply]
  generalize (((List.finRange S16x25000x81.numel).filter fun m =>
      reducesTo_S16x25000x81_S16x25000_d2.drop (S16x25000x81.rowMajor.symm m) = ix2 b n).map fun m => A.arg0 (S16x25000x81.rowMajor.symm m)) = l at hm
  obtain ⟨⟨-, h2⟩, h3⟩ := foldl_max l ⊥
  rcases h3 with h3 | h3
  · obtain ⟨r, hr⟩ := hf b n 0
    have := h2 _ ((hm _).2 ⟨0, rfl⟩)
    rw [h3, hr] at this
    exact absurd (le_bot_iff.1 this) (EReal.coe_ne_bot r)
  · obtain ⟨k, hk⟩ := (hm _).1 h3
    obtain ⟨r, hr⟩ := hf b n k
    exact ⟨r, hk.trans hr⟩

/-- The reference's log-probability. -/
theorem v140_at (b : Fin 16) (n : Fin 25000) (c : Fin 81) :
    Val.v140 A (ix3 b n c) = (A.arg0 (ix3 b n c) - Val.call9_v2 A (ix2 b n))
      - Ideal.log (0 + ∑ c', Ideal.exp (A.arg0 (ix3 b n c') - Val.call9_v2 A (ix2 b n))) := by
  have h4 : ∀ c, Val.call9_v4 A (ix3 b n c) = Val.call9_v2 A (ix2 b n) := fun c => by pointwise [Val.call9_v4, Val.call9_v3]
  have h5 : ∀ c, Val.call9_v5 A (ix3 b n c) = A.arg0 (ix3 b n c) - Val.call9_v2 A (ix2 b n) := fun c => by
    rw [← h4 c]; unfold Val.call9_v5; exact subf_at _ _ _
  have h10 : Val.call9_v10 A (ix3 b n c) = Ideal.log (Val.call9_v8 A (ix3 b n 0)) := by
    have e9 : Val.call9_v9 A (ix3 b n 0) = Ideal.log (Val.call9_v8 A (ix3 b n 0)) := by
      unfold Val.call9_v9; exact hlog_at _ _
    rw [← e9]
    pointwise [Val.call9_v10]
  have h8 : Val.call9_v8 A (ix3 b n 0) = Val.call9_v7 A (ix2 b n) := by pointwise [Val.call9_v8]
  have h7 : Val.call9_v7 A (ix2 b n) = lit 0x00000000#32 + ∑ c', Val.call9_v6 A (ix3 b n c') := by
    have e7 : Val.call9_v7 A (ix2 b n) = Ideal.hostReduceAdd reducesTo_S16x25000x81_S16x25000_d2 (Val.call9_v6 A) (lit 0x00000000#32) (ix2 b n) := by
      unfold Val.call9_v7 Val.call9_cst_1; rfl
    rw [e7, Ideal.hostReduceAdd_r3_a2]; rfl
  have e : Val.v140 A (ix3 b n c) = Val.call9_v5 A (ix3 b n c) - Val.call9_v10 A (ix3 b n c) := by
    unfold Val.v140; exact subf_at _ _ _
  have h6 : ∀ c', Val.call9_v6 A (ix3 b n c') = Ideal.exp (A.arg0 (ix3 b n c') - Val.call9_v2 A (ix2 b n)) := fun c' => by
    rw [← h5 c']; unfold Val.call9_v6; exact hexp_at _ _
  rw [e, h5, h10, h8, h7, lit_zero, Finset.sum_congr rfl fun c' _ => h6 c']

theorem clsword_lo : ∀ k : Fin 81, IntOp.cmpi .slt (BitVec.ofNat 32 k.val) 0#32 = 0#1 := by decide +kernel

theorem clsword_in : ∀ k : Fin 81, IntOp.andi (IntOp.cmpi .sge (BitVec.ofNat 32 k.val) 0#32) (IntOp.cmpi .sle (BitVec.ofNat 32 k.val) 80#32) = 1#1 := by
  decide +kernel

theorem clsword_val : ∀ k : Fin 81, min (BitVec.ofNat 32 k.val).toInt.toNat 80 = k.val := by decide +kernel

theorem call10_v5_at (b : Fin 16) (n : Fin 25000) (t : Fin 81) (h : Val.v142 A (ix2 b n) = BitVec.ofNat 32 t.val) :
    Val.call10_v5 A (ix4 b n 0 0) = BitVec.ofNat 32 t.val := by
  have e5 : Val.call10_v5 A (ix4 b n 0 0) = Val.call10_v4 A (ix3 b n 0) := by pointwise [Val.call10_v5]
  have e4 : Val.call10_v4 A (ix3 b n 0) = Scalar.select (IntOp.cmpi .slt (Val.v143 A (ix3 b n 0)) 0#32) (Val.v143 A (ix3 b n 0) + 81#32) (Val.v143 A (ix3 b n 0)) := by
    unfold Val.call10_v4 Val.call10_v3 Val.call10_v2 Val.call10_v1 Val.call10_v0 Val.call10_c Val.call10_c_0
    generalize Val.v143 A = w; rfl
  have e3 : Val.v143 A (ix3 b n 0) = Val.v142 A (ix2 b n) := by pointwise [Val.v143]
  rw [e5, e4, e3, h, clsword_lo, sel_zero]

/-- The log-probability the reference reads. -/
theorem v145_at (hl : Labels A) (b : Fin 16) (n : Fin 25000) (t : Fin 81) (h : Val.v142 A (ix2 b n) = BitVec.ofNat 32 t.val) :
    Val.v145 A (ix2 b n) = Val.v140 A (ix3 b n t) := by
  have hin : ∀ i, Val.call10_v11 A i = 1#1 := by
    intro i
    idx_vars i
    obtain ⟨m, hm⟩ := v142_at A hl i0 i1
    have e2 : i2 = 0 := Subsingleton.elim _ _
    have e3 : i3 = 0 := Subsingleton.elim _ _
    subst e2 e3
    have e : Val.call10_v11 A (ix4 i0 i1 0 0) = IntOp.andi (IntOp.cmpi .sge (Val.call10_v5 A (ix4 i0 i1 0 0)) 0#32) (IntOp.cmpi .sle (Val.call10_v5 A (ix4 i0 i1 0 0)) 80#32) := by
      unfold Val.call10_v11 Val.call10_v10 Val.call10_v9 Val.call10_v8 Val.call10_v7 Val.call10_v6 Val.call10_c_1 Val.call10_c_2
      generalize Val.call10_v5 A = w; rfl
    rw [e, call10_v5_at A i0 i1 m hm]; exact clsword_in m
  have e5 : Val.v145 A (ix2 b n) = Val.v144 A (ix3 b n 0) := by pointwise [Val.v145]
  have e4 : Val.v144 A (ix3 b n 0) = Scalar.select (Val.call10_v12 A (ix3 b n 0)) (Val.call10_v13 A (ix3 b n 0)) (Val.call10_v14 A (ix3 b n 0)) := by
    unfold Val.v144; exact select_at _ _ _ _
  have e12 : Val.call10_v12 A (ix3 b n 0) = 1#1 := by
    unfold Val.call10_v12; exact reduce_and _ _ _ hin rfl _
  have e13 : Val.call10_v13 A (ix3 b n 0) = Host.gather gather_S16x25000x81_S16x25000x1x1_S16x25000x1_n_2_01_01_2_3_111 (Val.v140 A) (Val.call10_v5 A) (ix3 b n 0) := by
    unfold Val.call10_v13; rfl
  rw [e5, e4, e12, sel_one, e13, gather_cls]
  refine congrArg (fun k : Fin 81 => Val.v140 A (ix3 b n k)) ?_
  exact Fin.ext (by show min (Val.call10_v5 A (ix4 b n 0 0)).toInt.toNat 80 = t.val; rw [call10_v5_at A b n t h]; exact clsword_val t)

theorem eq_word : ∀ c t : Fin 81, IntOp.cmpi .eq (BitVec.ofNat 32 c.val) (BitVec.ofNat 32 t.val) = if c = t then 1#1 else 0#1 := by
  decide +kernel

/-- Selecting one class out of a sum. -/
theorem sum_pick (x : Fin 81 → EReal) (t : Fin 81) :
    (∑ c : Fin 81, Scalar.select (IntOp.cmpi .eq (BitVec.ofNat 32 c.val) (BitVec.ofNat 32 t.val)) (x c) (lit 0x00000000#32)) = x t := by
  rw [Finset.sum_eq_single t]
  · rw [eq_word, if_pos rfl, sel_one]
  · intro c _ hc
    rw [eq_word, if_neg hc, sel_zero, lit_zero]
  · intro h; exact absurd (Finset.mem_univ _) h

/-- The class loss of an anchor. -/
theorem v153_at (hf : Finite A) (hl : Labels A) (b : Fin 16) (n : Fin 25000) : Val.v153 A (ix2 b n) = (dataOf A).ce b n := by
  have e : Val.v153 A (ix2 b n) = -(Val.v145 A (ix2 b n)) * (((Val.v139 A (ix2 b n)).toNat : ℝ) : EReal) := by
    unfold Val.v153 Val.v152 Val.v146; refine (mulf_at _ _ _).trans ?_; rw [hnegf_at, uitofp_at]
  have e142 : Val.v142 A (ix2 b n) = IntOp.maxsi (Val.v135 A (ix2 b n)) 0#32 := by
    unfold Val.v142 Val.v141 Val.c_24; refine (maxsi_at _ _ _).trans ?_; rw [splat_i]
  rw [e, v139_at A hl]
  unfold Data.ce ceOf
  rcases cls_range A hl b n with ⟨h1, h2⟩ | ⟨h1, t, h2⟩
  · rw [h1, h2]
    have z : (((1#1 ^^^ 1#1 : BitVec 1).toNat : ℝ) : EReal) = 0 := by norm_num
    have s : IntOp.cmpi .sge 4294967295#32 0#32 = 0#1 := by decide +kernel
    rw [z, mul_zero, s, sel_zero, lit_zero]
  · rw [h1, h2]
    have z : (((0#1 ^^^ 1#1 : BitVec 1).toNat : ℝ) : EReal) = 1 := by norm_num
    rw [v135_at, h2, max_lit] at e142
    rw [z, mul_one, sge_lit, sel_one, max_lit, sum_pick, v145_at A hl b n t e142, v140_at]
    obtain ⟨m, hm⟩ := call9_v2_at A hf b n
    choose r hr using hf b n
    rw [hm]
    show -((A.arg0 (ix3 b n t) - (m : EReal)) - Ideal.log (0 + ∑ c', Ideal.exp (A.arg0 (ix3 b n c') - (m : EReal))))
      = Ideal.log (∑ c, Ideal.exp (A.arg0 (ix3 b n c))) - A.arg0 (ix3 b n t)
    simp only [hr]
    exact lse r m t

/-- The mean class loss of a batch entry. -/
theorem v158_at (hf : Finite A) (hl : Labels A) (b : Fin 16) :
    Val.v158 A (ix1 b) = clsMean (∑ n, (dataOf A).ce b n) (∑ n, (dataOf A).valid b n) := by
  have e : Val.v158 A (ix1 b) = clsMean (Val.v154 A (ix1 b)) (Val.v149 A (ix1 b)) := by
    unfold Val.v158 Val.v157 Val.v156 Val.v155 Val.v151 Val.v150 Val.call11_v1 Val.call11_v0 Val.cst_26 Val.cst_28 Val.cst_29 clsMean
    generalize Val.v154 A = u; generalize Val.v149 A = w
    refine (select_at _ _ _ _).trans ?_
    rw [cmpf_at, hdivf_at, maximumf_at, splat_f, splat_f]; rfl
  have e4 : Val.v154 A (ix1 b) = Ideal.hostReduceAdd reducesTo_S16x25000_S16_d1 (Val.v153 A) (lit 0x00000000#32) (ix1 b) := by
    unfold Val.v154 Val.cst_27; rfl
  have e5 : Val.v154 A (ix1 b) = lit 0x00000000#32 + ∑ n, Val.v153 A (ix2 b n) := by
    rw [e4, Ideal.hostReduceAdd_r2_a1]; rfl
  rw [e, v149_at A hl, e5, lit_zero, zero_add, Finset.sum_congr rfl fun n _ => v153_at A hf hl b n]

end Cert.ReferenceIdeal.Hand

end
-- ==== Proof.RefBox.lean ====
/-
The reference's box loss, and its result: the loss of the batch.
-/
module

public import proofs.«01_k».proof.Proof.RefClass

@[expose] public section

set_option maxRecDepth 16384

noncomputable section

namespace Cert.ReferenceIdeal.Hand

open Cert.ReferenceIdeal Cert.ReferenceIdeal.Gen Cert.Spec
open Idealize.ShloMosaic Idealize.ShloMosaic.TcCoe
open Idealize.SL.Sem

variable (A : Args Ideal)

theorem v90_at (b : Fin 16) (n : Fin 25000) : Val.v90 A (ix2 b n) = lit 0x40000000#32 := by
  unfold Val.v90 Val.cst_13; exact splat_f _ _ _

theorem v93_at (b : Fin 16) (n : Fin 25000) : Val.v93 A (ix2 b n) = lit 0x40000000#32 := by
  unfold Val.v93 Val.cst_14; exact splat_f _ _ _

theorem v91_at (b : Fin 16) (n : Fin 25000) : Val.v91 A (ix2 b n) = (Val.v84 A (ix2 b n) + Val.v86 A (ix2 b n)) * lit 0x3F000000#32 := by
  unfold Val.v91 Val.v89
  refine (hdivf_at _ _ _).trans ?_
  rw [v90_at, div_two, addf_at]

theorem v94_at (b : Fin 16) (n : Fin 25000) : Val.v94 A (ix2 b n) = (Val.v85 A (ix2 b n) + Val.v87 A (ix2 b n)) * lit 0x3F000000#32 := by
  unfold Val.v94 Val.v92
  refine (hdivf_at _ _ _).trans ?_
  rw [v93_at, div_two, addf_at]

theorem v96_at (b : Fin 16) (n : Fin 25000) : Val.v96 A (ix2 b n) = lit 0x358637BD#32 := by
  unfold Val.v96 Val.cst_15; exact splat_f _ _ _

theorem v99_at (b : Fin 16) (n : Fin 25000) : Val.v99 A (ix2 b n) = lit 0x358637BD#32 := by
  unfold Val.v99 Val.cst_16; exact splat_f _ _ _

theorem v97_at (b : Fin 16) (n : Fin 25000) : Val.v97 A (ix2 b n) = max (Val.v86 A (ix2 b n) - Val.v84 A (ix2 b n)) (lit 0x358637BD#32) := by
  unfold Val.v97 Val.v95
  refine (maximumf_at _ _ _).trans ?_
  rw [v96_at, subf_at]

theorem v100_at (b : Fin 16) (n : Fin 25000) : Val.v100 A (ix2 b n) = max (Val.v87 A (ix2 b n) - Val.v85 A (ix2 b n)) (lit 0x358637BD#32) := by
  unfold Val.v100 Val.v98
  refine (maximumf_at _ _ _).trans ?_
  rw [v99_at, subf_at]

theorem v102_at (b : Fin 16) (n : Fin 25000) : Val.v102 A (ix2 b n) = A.arg2 (ix2 n 0) := by
  rw [← v1_at]; pointwise [Val.v102, Val.v101]

theorem v110_at (b : Fin 16) (n : Fin 25000) : Val.v110 A (ix2 b n) = A.arg2 (ix2 n 1) := by
  rw [← v3_at]; pointwise [Val.v110, Val.v109]

theorem v118_at (b : Fin 16) (n : Fin 25000) : Val.v118 A (ix2 b n) = A.arg2 (ix2 n 2) := by
  rw [← v5_at]; pointwise [Val.v118, Val.v117]

theorem v124_at (b : Fin 16) (n : Fin 25000) : Val.v124 A (ix2 b n) = A.arg2 (ix2 n 3) := by
  rw [← v7_at]; pointwise [Val.v124, Val.v123]

theorem v107_at (b : Fin 16) (n : Fin 25000) : Val.v107 A (ix2 b n) = A.arg2 (ix2 n 2) * lit 0x3DCCCCCD#32 := by
  have e : Val.v105 A (ix1 n) = A.arg2 (ix2 n 2) * lit 0x3DCCCCCD#32 := by
    unfold Val.v105 Val.v104 Val.cst_17; refine (mulf_at _ _ _).trans ?_; rw [splat_f, v5_at]
  rw [← e]; pointwise [Val.v107, Val.v106]

theorem v115_at (b : Fin 16) (n : Fin 25000) : Val.v115 A (ix2 b n) = A.arg2 (ix2 n 3) * lit 0x3DCCCCCD#32 := by
  have e : Val.v113 A (ix1 n) = A.arg2 (ix2 n 3) * lit 0x3DCCCCCD#32 := by
    unfold Val.v113 Val.v112 Val.cst_18; refine (mulf_at _ _ _).trans ?_; rw [splat_f, v7_at]
  rw [← e]; pointwise [Val.v115, Val.v114]

theorem v108_at (b : Fin 16) (n : Fin 25000) : Val.v108 A (ix2 b n) = offC (Val.v84 A (ix2 b n)) (Val.v86 A (ix2 b n)) (A.arg2 (ix2 n 0)) (A.arg2 (ix2 n 2)) := by
  unfold Val.v108 Val.v103
  refine (hdivf_at _ _ _).trans ?_
  rw [subf_at, v91_at, v102_at, v107_at, offC]

theorem v116_at (b : Fin 16) (n : Fin 25000) : Val.v116 A (ix2 b n) = offC (Val.v85 A (ix2 b n)) (Val.v87 A (ix2 b n)) (A.arg2 (ix2 n 1)) (A.arg2 (ix2 n 3)) := by
  unfold Val.v116 Val.v111
  refine (hdivf_at _ _ _).trans ?_
  rw [subf_at, v94_at, v110_at, v115_at, offC]

theorem v122_at (b : Fin 16) (n : Fin 25000) : Val.v122 A (ix2 b n) = offW (Val.v84 A (ix2 b n)) (Val.v86 A (ix2 b n)) (A.arg2 (ix2 n 2)) := by
  unfold Val.v122 Val.v120 Val.v119 Val.v121 Val.cst_19
  refine (hdivf_at _ _ _).trans ?_
  rw [splat_f, hlog_at, hdivf_at, v97_at, v118_at, offW]

theorem v128_at (b : Fin 16) (n : Fin 25000) : Val.v128 A (ix2 b n) = offW (Val.v85 A (ix2 b n)) (Val.v87 A (ix2 b n)) (A.arg2 (ix2 n 3)) := by
  unfold Val.v128 Val.v126 Val.v125 Val.v127 Val.cst_20
  refine (hdivf_at _ _ _).trans ?_
  rw [splat_f, hlog_at, hdivf_at, v100_at, v124_at, offW]

theorem v133_0 (b : Fin 16) (n : Fin 25000) : Val.v133 A (ix3 b n 0) = Val.v108 A (ix2 b n) := by
  have e : Val.v129 A (ix3 b n 0) = Val.v108 A (ix2 b n) := by pointwise [Val.v129]
  rw [← e]
  unfold Val.v133
  generalize Val.v129 A = w0
  generalize Val.v130 A = w1
  generalize Val.v131 A = w2
  generalize Val.v132 A = w3
  pointwise []

theorem v133_1 (b : Fin 16) (n : Fin 25000) : Val.v133 A (ix3 b n 1) = Val.v116 A (ix2 b n) := by
  have e : Val.v130 A (ix3 b n 0) = Val.v116 A (ix2 b n) := by pointwise [Val.v130]
  rw [← e]
  unfold Val.v133
  generalize Val.v129 A = w0
  generalize Val.v130 A = w1
  generalize Val.v131 A = w2
  generalize Val.v132 A = w3
  pointwise []

theorem v133_2 (b : Fin 16) (n : Fin 25000) : Val.v133 A (ix3 b n 2) = Val.v122 A (ix2 b n) := by
  have e : Val.v131 A (ix3 b n 0) = Val.v122 A (ix2 b n) := by pointwise [Val.v131]
  rw [← e]
  unfold Val.v133
  generalize Val.v129 A = w0
  generalize Val.v130 A = w1
  generalize Val.v131 A = w2
  generalize Val.v132 A = w3
  pointwise []

theorem v133_3 (b : Fin 16) (n : Fin 25000) : Val.v133 A (ix3 b n 3) = Val.v128 A (ix2 b n) := by
  have e : Val.v132 A (ix3 b n 0) = Val.v128 A (ix2 b n) := by pointwise [Val.v132]
  rw [← e]
  unfold Val.v133
  generalize Val.v129 A = w0
  generalize Val.v130 A = w1
  generalize Val.v131 A = w2
  generalize Val.v132 A = w3
  pointwise []

/-- The offsets the reference aims at: those of the best box for a positive anchor, zero otherwise. -/
theorem v137_at (b : Fin 16) (n : Fin 25000) (d : Fin 4) :
    Val.v137 A (ix3 b n d) = Scalar.select (Val.v79 A (ix2 b n)) (Val.v133 A (ix3 b n d)) (lit 0x00000000#32) := by
  have e : Val.call8_v1 A (ix3 b n d) = Val.v79 A (ix2 b n) := by pointwise [Val.call8_v1, Val.v136]
  have e2 : Val.call8_v2 A (ix3 b n d) = lit 0x00000000#32 := by
    unfold Val.call8_v2 Val.call8_v0 Val.cst_22; rfl
  unfold Val.v137
  refine (select_at _ _ _ _).trans ?_
  rw [e, e2]

theorem v168_at (b : Fin 16) (n : Fin 25000) (d : Fin 4) :
    Val.v168 A (ix3 b n d) = huber (A.arg1 (ix3 b n d) - Val.v137 A (ix3 b n d)) := by
  have e1 : Val.v161 A (ix3 b n d) = lit 0x3F800000#32 := by unfold Val.v161 Val.cst_30; exact splat_f _ _ _
  have e2 : Val.v163 A (ix3 b n d) = lit 0x3F000000#32 := by unfold Val.v163 Val.cst_31; exact splat_f _ _ _
  have e3 : Val.v166 A (ix3 b n d) = lit 0x3F000000#32 := by unfold Val.v166 Val.cst_32; exact splat_f _ _ _
  have e4 : Val.v159 A (ix3 b n d) = A.arg1 (ix3 b n d) - Val.v137 A (ix3 b n d) := by unfold Val.v159; exact subf_at _ _ _
  have e5 : Val.v160 A (ix3 b n d) = max (Val.v159 A (ix3 b n d)) (-(Val.v159 A (ix3 b n d))) := by unfold Val.v160; exact habsf_at _ _
  unfold Val.v168 Val.v162 Val.v165 Val.v164 Val.v167
  refine (select_at _ _ _ _).trans ?_
  rw [cmpf_at, mulf_at, mulf_at, subf_at, e1, e2, e3, e5, e4, huber]

theorem v172_at (b : Fin 16) (n : Fin 25000) (d : Fin 4) :
    Val.v172 A (ix3 b n d) = huber (A.arg1 (ix3 b n d) - Val.v137 A (ix3 b n d)) * (((Val.v79 A (ix2 b n)).toNat : ℝ) : EReal) := by
  have e : Val.v171 A (ix3 b n d) = Val.v170 A (ix3 b n 0) := by pointwise [Val.v171]
  have e1 : Val.v170 A (ix3 b n 0) = (((Val.v169 A (ix3 b n 0)).toNat : ℝ) : EReal) := by unfold Val.v170; exact uitofp_at _ _
  have e2 : Val.v169 A (ix3 b n 0) = Val.v79 A (ix2 b n) := by pointwise [Val.v169]
  unfold Val.v172
  refine (mulf_at _ _ _).trans ?_
  rw [e, e1, e2, v168_at]

/-- The box loss of an anchor. -/
theorem sum_v172 (b : Fin 16) (n : Fin 25000) : (∑ d : Fin 4, Val.v172 A (ix3 b n d)) = (dataOf A).sl b n * (dataOf A).pos b n := by
  rw [Fin.sum_univ_four]
  simp only [v172_at, v137_at, v79_at]
  unfold Data.pos
  rcases bv1 (posB ((dataOf A).best b n).iou) with hp | hp
  · have z : (((0#1 : BitVec 1).toNat : ℝ) : EReal) = 0 := by norm_num
    rw [hp]; simp only [z, sel_zero, lit_zero, mul_zero, add_zero]
  · obtain ⟨k, h, h77⟩ := v77_at A b n
    have z : (((1#1 : BitVec 1).toNat : ℝ) : EReal) = 1 := by norm_num
    rw [Data.sl, best_holds A b n k h hp]
    rw [best_holds A b n k h hp] at hp
    simp only [hp, sel_one, z, lit_one, EReal.coe_one, mul_one]
    rw [v133_0, v133_1, v133_2, v133_3, v108_at, v116_at, v122_at, v128_at, v84_at A b n k h77, v85_at A b n k h77, v86_at A b n k h77, v87_at A b n k h77]
    rfl

theorem v178_at (b : Fin 16) : Val.v178 A (ix1 b) = ∑ n, (dataOf A).sl b n * (dataOf A).pos b n := by
  have e : Val.v178 A (ix1 b) = Ideal.hostReduceAdd reducesTo_S16x25000x4_S16_d1_2 (Val.v172 A) (lit 0x00000000#32) (ix1 b) := by
    unfold Val.v178 Val.cst_35; rfl
  have e2 : Val.v178 A (ix1 b) = lit 0x00000000#32 + ∑ n, ∑ d, Val.v172 A (ix3 b n d) := by
    rw [e, Ideal.hostReduceAdd_r3_a12]; rfl
  rw [e2, lit_zero, zero_add, Finset.sum_congr rfl fun n _ => sum_v172 A b n]

/-- The mean box loss of a batch entry. -/
theorem v184_at (b : Fin 16) :
    Val.v184 A (ix1 b) = regMean (∑ n, (dataOf A).sl b n * (dataOf A).pos b n) (∑ n, (dataOf A).pos b n) := by
  have e : Val.v184 A (ix1 b) = regMean (Val.v178 A (ix1 b)) (Val.v175 A (ix1 b)) := by
    unfold Val.v184 Val.v183 Val.v182 Val.v181 Val.v180 Val.v179 Val.v177 Val.v176 Val.call13_v1 Val.call13_v0 Val.cst_34 Val.cst_36 Val.cst_37 Val.cst_38 regMean
    generalize Val.v178 A = u; generalize Val.v175 A = w
    refine (select_at _ _ _ _).trans ?_
    rw [cmpf_at, hdivf_at, maximumf_at, mulf_at, splat_f, splat_f, splat_f]; rfl
  rw [e, v178_at, v175_at]

/-- The reference's result. -/
theorem v188_eq (hf : Finite A) (hl : Labels A) : Val.v188 A = fun _ => (dataOf A).total := by
  funext j
  have e5 : Val.v185 A j = lit 0x00000000#32 + ∑ b, Val.v158 A (ix1 b) := by
    have e : Val.v185 A j = Ideal.hostReduceAdd reducesTo_S16_S_d0 (Val.v158 A) (lit 0x00000000#32) j := by
      unfold Val.v185 Val.cst_39; rfl
    rw [e, Ideal.hostReduceAdd_r1_a0]
  have e6 : Val.v186 A j = lit 0x00000000#32 + ∑ b, Val.v184 A (ix1 b) := by
    have e : Val.v186 A j = Ideal.hostReduceAdd reducesTo_S16_S_d0 (Val.v184 A) (lit 0x00000000#32) j := by
      unfold Val.v186 Val.cst_40; rfl
    rw [e, Ideal.hostReduceAdd_r1_a0]
  have e7 : Val.v187 A j = lit 0x3F800000#32 * Val.v186 A j := by
    unfold Val.v187 Val.cst_41; exact mulf_at _ _ _
  have e8 : Val.v188 A j = Val.v185 A j + Val.v187 A j := by
    unfold Val.v188; exact addf_at _ _ _
  rw [e8, e7, e6, e5, lit_zero, zero_add, zero_add, lit_one, EReal.coe_one, one_mul, Data.total, ← Finset.sum_add_distrib]
  refine Finset.sum_congr rfl fun b _ => ?_
  rw [v158_at A hf hl, v184_at, Data.loss, lit_one, EReal.coe_one, one_mul]

end Cert.ReferenceIdeal.Hand

end
-- ==== Proof.Value.lean ====
/-
The idealized kernel and the reference compute the same loss, on finite logits and on labels from 1 to 80.
-/
module

public import proofs.«01_k».proof.Proof.KerKnown
public import proofs.«01_k».proof.Proof.RefBox
public import proofs.«01_k».proof.Proof.Frames
public import Idealize.ShloMosaic.Lib.ReduceAll

@[expose] public section

set_option maxRecDepth 16384

noncomputable section

namespace Cert.Value

open Idealize.ShloMosaic Idealize.ShloMosaic.TcCoe Idealize.ShloMosaic.Tactic Idealize.SL.Sem
open Cert.Spec

attribute [local irreducible] Cert.Spec.scan

/-- The side conditions of the precondition. -/
theorem facts : Cert.Pre_drawn.Facts where
  bcast_S_S16x25000x81 := by decide
  reducesTo_S16x25000x81_S_d0_1_2 := by decide
  h_S_ := by decide
  bcast_S_S16x32 := by decide
  reducesTo_S16x32_S_d0_1 := by decide

theorem both : ∀ x y : BitVec 1, IntOp.andi x y = 1#1 → x = 1#1 ∧ y = 1#1 := by decide

theorem lit_top : lit 0x7F800000#32 = ⊤ := by
  simp [lit, Ideal.ofBits, Ideal.ieee]

/-- A number whose absolute value is below infinity is real. -/
theorem real_of_lt (x : EReal) (h : Ideal.cmp .olt (max x (-x)) (lit 0x7F800000#32) = 1#1) : ∃ r : ℝ, x = (r : EReal) := by
  rw [lit_top] at h
  have hlt : max x (-x) < ⊤ := by
    by_contra hn
    have h0 : Ideal.cmp .olt (max x (-x)) ⊤ = 0#1 := by
      simp [Ideal.cmp, hn]
    rw [h0] at h
    exact absurd h (by decide)
  induction x with
  | bot => simp at hlt
  | top => simp at hlt
  | coe r => exact ⟨r, rfl⟩

/-- A label that passes the precondition is from 1 to 80. -/
theorem label_of (w : BitVec 32) (h : IntOp.andi (IntOp.cmpi .sge w 1#32) (IntOp.cmpi .slt w 81#32) = 1#1) : 1 ≤ w.toInt ∧ w.toInt ≤ 80 := by
  obtain ⟨h1, h2⟩ := both _ _ h
  have a : (1#32 : BitVec 32).toInt ≤ w.toInt := IntOp.cmpi_sge.1 h1
  have b : w.toInt < (81#32 : BitVec 32).toInt := IntOp.cmpi_slt.1 h2
  have e1 : (1#32 : BitVec 32).toInt = 1 := by decide
  have e2 : (81#32 : BitVec 32).toInt = 81 := by decide
  omega

section
variable (a0 : FVec Ideal Cert.Pre_drawn.S16x25000x81 .f32) (a1 : FVec Ideal Cert.Pre_drawn.S16x25000x4 .f32) (a2 : FVec Ideal Cert.Pre_drawn.S25000x4 .f32)
  (a3 : FVec Ideal Cert.Pre_drawn.S16x32x4 .f32) (a4 : IVec Cert.Pre_drawn.S16x32 32)

theorem pre_logits (h : @Cert.Pre_drawn.fn facts Ideal _ a0 a1 a2 a3 a4 = fun _ => 1#1) (i : Cert.Pre_drawn.S16x25000x81.Idx) : ∃ r : ℝ, a0 i = (r : EReal) := by
  have h0 := (both _ _ (congrFun h (fun a => a.elim0))).1
  haveI : Subsingleton Cert.Pre_drawn.S_.Idx := ⟨fun x y => funext fun a => a.elim0⟩
  exact real_of_lt (a0 i) (Host.reduce_andi_all _ _ _ _ _ h0 i)

theorem pre_labels (h : @Cert.Pre_drawn.fn facts Ideal _ a0 a1 a2 a3 a4 = fun _ => 1#1) (i : Cert.Pre_drawn.S16x32.Idx) : 1 ≤ (a4 i).toInt ∧ (a4 i).toInt ≤ 80 := by
  have h0 := (both _ _ (congrFun h (fun a => a.elim0))).2
  haveI : Subsingleton Cert.Pre_drawn.S_.Idx := ⟨fun x y => funext fun a => a.elim0⟩
  exact label_of (a4 i) (Host.reduce_andi_all _ _ _ _ _ h0 i)

end

open Cert.ReferenceIdeal.Hand in
/-- The reference's result on the kernel's arguments is the loss of the kernel's data. -/
theorem same (m : (ℓ : Loc Cert.KernelIdeal.nD Cert.KernelIdeal.τ Cert.KernelIdeal.sig) → Buf (Elt Ideal) ℓ) (c : Dev Cert.KernelIdeal.nD)
    (h : @Cert.Pre_KernelIdeal_drawn facts m) (A : Cert.ReferenceIdeal.Hand.Args Ideal)
    (e0 : A.arg0 = m ((c.tc : Thread Cert.KernelIdeal.nD Cert.KernelIdeal.τ).loc Cert.KernelIdeal.main_arg0))
    (e1 : A.arg1 = m ((c.tc : Thread Cert.KernelIdeal.nD Cert.KernelIdeal.τ).loc Cert.KernelIdeal.main_arg1))
    (e2 : A.arg2 = m ((c.tc : Thread Cert.KernelIdeal.nD Cert.KernelIdeal.τ).loc Cert.KernelIdeal.main_arg2))
    (e3 : A.arg3 = m ((c.tc : Thread Cert.KernelIdeal.nD Cert.KernelIdeal.τ).loc Cert.KernelIdeal.main_arg3))
    (e4 : A.arg4 = m ((c.tc : Thread Cert.KernelIdeal.nD Cert.KernelIdeal.τ).loc Cert.KernelIdeal.main_arg4)) :
    Val.v188 A = fun _ => (Cert.KernelIdeal.Hand.dataK m c).total := by
  obtain ⟨a0, a1, a2, a3, a4⟩ := A
  dsimp only at e0 e1 e2 e3 e4
  subst e0 e1 e2 e3 e4
  exact v188_eq _ (fun b n k => pre_logits _ _ _ _ _ (h c) (ix3 b n k)) (fun b k => pre_labels _ _ _ _ _ (h c) (ix2 b k))

/-- The value claim. -/
theorem value : @Cert.algebraic_KernelIdeal_ReferenceIdeal_pre_drawn Cert.KernelIdeal.Gen.facts Cert.ReferenceIdeal.Gen.facts facts := by
  intro m g m' g' hpre hargs
  refine ⟨fun c _ => (Cert.KernelIdeal.Hand.dataK m c).total, ?_, ?_⟩
  · refine (θ_run _ _ _).mono (fun r h c => ?_) (Cert.KernelIdeal.Hand.run (F := Ideal) m g (Cert.KernelIdeal.Hand.known m))
    obtain ⟨⟨X, hX, hv⟩, ha⟩ := h.1 c
    exact ⟨hv.trans (Cert.KernelIdeal.Hand.known_end m c X hX), ha⟩
  · refine (θ_run _ _ _).mono (fun r h c => ?_) (Cert.ReferenceIdeal.Hand.run_value (F := Ideal) m' g')
    obtain ⟨e0, e1, e2, e3, e4⟩ := hargs c
    exact ⟨(h c).1.trans (same m c hpre (Cert.ReferenceIdeal.Hand.args m' c) e0 e1 e2 e3 e4), (h c).2⟩

end Cert.Value

end
-- ==== Proof.lean ====
/- The certificate's claim from its parts: the frames, the ideal pass's ledger, and the equality of the results. -/
module

public import proofs.«01_k».proof.Defs
public import proofs.«01_k».proof.Proof.Frames
public import proofs.«01_k».proof.Proof.Value

@[expose] public section

noncomputable section

namespace Cert.Proof

open Idealize.ShloMosaic

/-- Everything the certificate claims. -/
theorem claim : Cert.Claim :=
  ⟨Cert.Kernel.Gen.facts, Cert.KernelIdeal.Gen.facts, Cert.ReferenceIdeal.Gen.facts, Cert.Value.facts, Cert.Kernel.Hand.frame,
    Cert.Frames.kernel, fun m g _ => Cert.Frames.kernel m g trivial, Cert.Frames.reference, fun m g _ => Cert.Frames.reference m g trivial,
    trivial, Cert.Value.value⟩

end Cert.Proof

end
